-- ==== Defs.lean ====
def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite [hPre_finite : Cert.Pre_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.1 = (fun _ => 1#1)
    ∧ (Cert.Pre_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5))).2.2.2.2.2 = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite [hPre_finite : Cert.Pre_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.1 = (fun _ => 1#1)
    ∧ (Cert.Pre_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5))).2.2.2.2.2 = (fun _ => 1#1)

def Pre_DwHid (m : (ℓ : Loc Cert.DwHid.nD Cert.DwHid.τ Cert.DwHid.sig) → Buf (Elt Bits) ℓ) : Prop :=
  True

def Pre_DwHidIdeal (m : (ℓ : Loc Cert.DwHidIdeal.nD Cert.DwHidIdeal.τ Cert.DwHidIdeal.sig) → Buf (Elt Ideal) ℓ) : Prop :=
  True

def Pre_DwHidGradIdeal (m : (ℓ : Loc Cert.DwHidGradIdeal.nD Cert.DwHidGradIdeal.τ Cert.DwHidGradIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownGradIdeal (m : (ℓ : Loc Cert.DwDownGradIdeal.nD Cert.DwDownGradIdeal.τ Cert.DwDownGradIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInGradIdeal (m : (ℓ : Loc Cert.DwInGradIdeal.nD Cert.DwInGradIdeal.τ Cert.DwInGradIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutGradIdeal (m : (ℓ : Loc Cert.DwOutGradIdeal.nD Cert.DwOutGradIdeal.τ Cert.DwOutGradIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossIdeal_loss_finite [hPre_loss_finite : Cert.Pre_loss_finite.Facts] (m : (ℓ : Loc Cert.FfnLossIdeal.nD Cert.FfnLossIdeal.τ Cert.FfnLossIdeal.sig) → Buf (Elt Ideal) ℓ) : Prop :=
  ∀ c : Dev Cert.FfnLossIdeal.nD,
    (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.2.1 = (fun _ => 1#1)
    ∧ (Cert.Pre_loss_finite.fn (F := Ideal) (m ((c.tc : Thread Cert.FfnLossIdeal.nD Cert.FfnLossIdeal.τ).loc Cert.FfnLossIdeal.main_arg0)) (m ((c.tc : Thread Cert.FfnLossIdeal.nD Cert.FfnLossIdeal.τ).loc Cert.FfnLossIdeal.main_arg1)) (m ((c.tc : Thread Cert.FfnLossIdeal.nD Cert.FfnLossIdeal.τ).loc Cert.FfnLossIdeal.main_arg2)) (m ((c.tc : Thread Cert.FfnLossIdeal.nD Cert.FfnLossIdeal.τ).loc Cert.FfnLossIdeal.main_arg3)) (m ((c.tc : Thread Cert.FfnLossIdeal.nD Cert.FfnLossIdeal.τ).loc Cert.FfnLossIdeal.main_arg4)) (m ((c.tc : Thread Cert.FfnLossIdeal.nD Cert.FfnLossIdeal.τ).loc Cert.FfnLossIdeal.main_arg5)) (m ((c.tc : Thread Cert.FfnLossIdeal.nD Cert.FfnLossIdeal.τ).loc Cert.FfnLossIdeal.main_arg6))).2.2.2.2.2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.2.2.2.2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5)) (m ((c.tc : Thread Cert.LossRefIdeal.nD Cert.LossRefIdeal.τ).loc Cert.LossRefIdeal.main_arg6))).2.2.2.2.2.2 = (fun _ => 1#1)

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddRefIdeal (m : (ℓ : Loc Cert.OddRefIdeal.nD Cert.OddRefIdeal.τ Cert.OddRefIdeal.sig) → Buf (Elt Ideal) ℓ) : Prop :=
  True

def Pre_OddBwd (m : (ℓ : Loc Cert.OddBwd.nD Cert.OddBwd.τ Cert.OddBwd.sig) → Buf (Elt Bits) ℓ) : Prop :=
  True

def Pre_OddBwdIdeal (m : (ℓ : Loc Cert.OddBwdIdeal.nD Cert.OddBwdIdeal.τ Cert.OddBwdIdeal.sig) → Buf (Elt Ideal) ℓ) : Prop :=
  True

def Pre_OddBwdIdeal_odd_finite [hPre_odd_finite : Cert.Pre_odd_finite.Facts] (m : (ℓ : Loc Cert.OddBwdIdeal.nD Cert.OddBwdIdeal.τ Cert.OddBwdIdeal.sig) → Buf (Elt Ideal) ℓ) : Prop :=
  ∀ c : Dev Cert.OddBwdIdeal.nD,
    (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.2.2.2.2.1 = (fun _ => 1#1)
    ∧ (Cert.Pre_odd_finite.fn (F := Ideal) (m ((c.tc : Thread Cert.OddBwdIdeal.nD Cert.OddBwdIdeal.τ).loc Cert.OddBwdIdeal.main_arg0)) (m ((c.tc : Thread Cert.OddBwdIdeal.nD Cert.OddBwdIdeal.τ).loc Cert.OddBwdIdeal.main_arg1)) (m ((c.tc : Thread Cert.OddBwdIdeal.nD Cert.OddBwdIdeal.τ).loc Cert.OddBwdIdeal.main_arg2)) (m ((c.tc : Thread Cert.OddBwdIdeal.nD Cert.OddBwdIdeal.τ).loc Cert.OddBwdIdeal.main_arg3)) (m ((c.tc : Thread Cert.OddBwdIdeal.nD Cert.OddBwdIdeal.τ).loc Cert.OddBwdIdeal.main_arg4)) (m ((c.tc : Thread Cert.OddBwdIdeal.nD Cert.OddBwdIdeal.τ).loc Cert.OddBwdIdeal.main_arg5)) (m ((c.tc : Thread Cert.OddBwdIdeal.nD Cert.OddBwdIdeal.τ).loc Cert.OddBwdIdeal.main_arg6)) (m ((c.tc : Thread Cert.OddBwdIdeal.nD Cert.OddBwdIdeal.τ).loc Cert.OddBwdIdeal.main_arg7)) (m ((c.tc : Thread Cert.OddBwdIdeal.nD Cert.OddBwdIdeal.τ).loc Cert.OddBwdIdeal.main_arg8)) (m ((c.tc : Thread Cert.OddBwdIdeal.nD Cert.OddBwdIdeal.τ).loc Cert.OddBwdIdeal.main_arg9))).2.2.2.2.2.2.2.2.2 = (fun _ => 1#1)

def Pre_OddGradIdeal (m : (ℓ : Loc Cert.OddGradIdeal.nD Cert.OddGradIdeal.τ Cert.OddGradIdeal.sig) → Buf (Elt Ideal) ℓ) : Prop :=
  True

def Pre_OddGradIdeal_odd_finite [hPre_odd_finite : Cert.Pre_odd_finite.Facts] (m : (ℓ : Loc Cert.OddGradIdeal.nD Cert.OddGradIdeal.τ Cert.OddGradIdeal.sig) → Buf (Elt Ideal) ℓ) : Prop :=
  ∀ c : Dev Cert.OddGradIdeal.nD,
    (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.2.2.2.2.1 = (fun _ => 1#1)
    ∧ (Cert.Pre_odd_finite.fn (F := Ideal) (m ((c.tc : Thread Cert.OddGradIdeal.nD Cert.OddGradIdeal.τ).loc Cert.OddGradIdeal.main_arg0)) (m ((c.tc : Thread Cert.OddGradIdeal.nD Cert.OddGradIdeal.τ).loc Cert.OddGradIdeal.main_arg1)) (m ((c.tc : Thread Cert.OddGradIdeal.nD Cert.OddGradIdeal.τ).loc Cert.OddGradIdeal.main_arg2)) (m ((c.tc : Thread Cert.OddGradIdeal.nD Cert.OddGradIdeal.τ).loc Cert.OddGradIdeal.main_arg3)) (m ((c.tc : Thread Cert.OddGradIdeal.nD Cert.OddGradIdeal.τ).loc Cert.OddGradIdeal.main_arg4)) (m ((c.tc : Thread Cert.OddGradIdeal.nD Cert.OddGradIdeal.τ).loc Cert.OddGradIdeal.main_arg5)) (m ((c.tc : Thread Cert.OddGradIdeal.nD Cert.OddGradIdeal.τ).loc Cert.OddGradIdeal.main_arg6)) (m ((c.tc : Thread Cert.OddGradIdeal.nD Cert.OddGradIdeal.τ).loc Cert.OddGradIdeal.main_arg7)) (m ((c.tc : Thread Cert.OddGradIdeal.nD Cert.OddGradIdeal.τ).loc Cert.OddGradIdeal.main_arg8)) (m ((c.tc : Thread Cert.OddGradIdeal.nD Cert.OddGradIdeal.τ).loc Cert.OddGradIdeal.main_arg9))).2.2.2.2.2.2.2.2.2 = (fun _ => 1#1)

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnBwdIdeal_pre_finite [hFfnBwdIdeal : Cert.FfnBwdIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_FfnGradIdeal_pre_finite [hFfnGradIdeal : Cert.FfnGradIdeal.Facts] [hPre_finite : Cert.Pre_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5))
      ∧ r.2.sem = fun _ => 0)

def quiescent_DwHid [hDwHid : Cert.DwHid.Facts] : Prop :=
  ∀ (m : (ℓ : Loc Cert.DwHid.nD Cert.DwHid.τ Cert.DwHid.sig) → Buf (Elt Bits) ℓ) (g : Dev Cert.DwHid.nD → PrngReg), Pre_DwHid m →
    θ_run (Cert.DwHid.defs (F := Bits)) (onTc (τ := Cert.DwHid.τ) (Cert.DwHid.main (F := Bits))) ⟨m, fun _ => 0, g⟩ (fun r => (∀ c : Dev Cert.DwHid.nD,
      r.2.mem ((c.tc : Thread Cert.DwHid.nD Cert.DwHid.τ).loc Cert.DwHid.main_arg0) = m ((c.tc : Thread Cert.DwHid.nD Cert.DwHid.τ).loc Cert.DwHid.main_arg0)
      ∧ r.2.mem ((c.tc : Thread Cert.DwHid.nD Cert.DwHid.τ).loc Cert.DwHid.main_arg1) = m ((c.tc : Thread Cert.DwHid.nD Cert.DwHid.τ).loc Cert.DwHid.main_arg1)
      ∧ r.2.mem ((c.tc : Thread Cert.DwHid.nD Cert.DwHid.τ).loc Cert.DwHid.main_arg2) = m ((c.tc : Thread Cert.DwHid.nD Cert.DwHid.τ).loc Cert.DwHid.main_arg2))
      ∧ r.2.sem = fun _ => 0)

def quiescent_DwHidIdeal [hDwHidIdeal : Cert.DwHidIdeal.Facts] : Prop :=
  ∀ (m : (ℓ : Loc Cert.DwHidIdeal.nD Cert.DwHidIdeal.τ Cert.DwHidIdeal.sig) → Buf (Elt Ideal) ℓ) (g : Dev Cert.DwHidIdeal.nD → PrngReg), Pre_DwHidIdeal m →
    θ_run (Cert.DwHidIdeal.defs (F := Ideal)) (onTc (τ := Cert.DwHidIdeal.τ) (Cert.DwHidIdeal.main (F := Ideal))) ⟨m, fun _ => 0, g⟩ (fun r => (∀ c : Dev Cert.DwHidIdeal.nD,
      r.2.mem ((c.tc : Thread Cert.DwHidIdeal.nD Cert.DwHidIdeal.τ).loc Cert.DwHidIdeal.main_arg0) = m ((c.tc : Thread Cert.DwHidIdeal.nD Cert.DwHidIdeal.τ).loc Cert.DwHidIdeal.main_arg0)
      ∧ r.2.mem ((c.tc : Thread Cert.DwHidIdeal.nD Cert.DwHidIdeal.τ).loc Cert.DwHidIdeal.main_arg1) = m ((c.tc : Thread Cert.DwHidIdeal.nD Cert.DwHidIdeal.τ).loc Cert.DwHidIdeal.main_arg1)
      ∧ r.2.mem ((c.tc : Thread Cert.DwHidIdeal.nD Cert.DwHidIdeal.τ).loc Cert.DwHidIdeal.main_arg2) = m ((c.tc : Thread Cert.DwHidIdeal.nD Cert.DwHidIdeal.τ).loc Cert.DwHidIdeal.main_arg2))
      ∧ r.2.sem = fun _ => 0)

def quiescent_DwHidGradIdeal [hDwHidGradIdeal : Cert.DwHidGradIdeal.Facts] : Prop :=
  ∀ (m : (ℓ : Loc Cert.DwHidGradIdeal.nD Cert.DwHidGradIdeal.τ Cert.DwHidGradIdeal.sig) → Buf (Elt Ideal) ℓ) (g : Dev Cert.DwHidGradIdeal.nD → PrngReg), Pre_DwHidGradIdeal m →
    θ_run (Cert.DwHidGradIdeal.defs (F := Ideal)) (onTc (τ := Cert.DwHidGradIdeal.τ) (Cert.DwHidGradIdeal.main (F := Ideal))) ⟨m, fun _ => 0, g⟩ (fun r => (∀ c : Dev Cert.DwHidGradIdeal.nD,
      r.2.mem ((c.tc : Thread Cert.DwHidGradIdeal.nD Cert.DwHidGradIdeal.τ).loc Cert.DwHidGradIdeal.main_arg0) = m ((c.tc : Thread Cert.DwHidGradIdeal.nD Cert.DwHidGradIdeal.τ).loc Cert.DwHidGradIdeal.main_arg0)
      ∧ r.2.mem ((c.tc : Thread Cert.DwHidGradIdeal.nD Cert.DwHidGradIdeal.τ).loc Cert.DwHidGradIdeal.main_arg1) = m ((c.tc : Thread Cert.DwHidGradIdeal.nD Cert.DwHidGradIdeal.τ).loc Cert.DwHidGradIdeal.main_arg1)
      ∧ r.2.mem ((c.tc : Thread Cert.DwHidGradIdeal.nD Cert.DwHidGradIdeal.τ).loc Cert.DwHidGradIdeal.main_arg2) = m ((c.tc : Thread Cert.DwHidGradIdeal.nD Cert.DwHidGradIdeal.τ).loc Cert.DwHidGradIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownGradIdeal [hDwDownGradIdeal : Cert.DwDownGradIdeal.Facts] : Prop :=
  ∀ (m : (ℓ : Loc Cert.DwDownGradIdeal.nD Cert.DwDownGradIdeal.τ Cert.DwDownGradIdeal.sig) → Buf (Elt Ideal) ℓ) (g : Dev Cert.DwDownGradIdeal.nD → PrngReg), Pre_DwDownGradIdeal m →
    θ_run (Cert.DwDownGradIdeal.defs (F := Ideal)) (onTc (τ := Cert.DwDownGradIdeal.τ) (Cert.DwDownGradIdeal.main (F := Ideal))) ⟨m, fun _ => 0, g⟩ (fun r => (∀ c : Dev Cert.DwDownGradIdeal.nD,
      r.2.mem ((c.tc : Thread Cert.DwDownGradIdeal.nD Cert.DwDownGradIdeal.τ).loc Cert.DwDownGradIdeal.main_arg0) = m ((c.tc : Thread Cert.DwDownGradIdeal.nD Cert.DwDownGradIdeal.τ).loc Cert.DwDownGradIdeal.main_arg0)
      ∧ r.2.mem ((c.tc : Thread Cert.DwDownGradIdeal.nD Cert.DwDownGradIdeal.τ).loc Cert.DwDownGradIdeal.main_arg1) = m ((c.tc : Thread Cert.DwDownGradIdeal.nD Cert.DwDownGradIdeal.τ).loc Cert.DwDownGradIdeal.main_arg1)
      ∧ r.2.mem ((c.tc : Thread Cert.DwDownGradIdeal.nD Cert.DwDownGradIdeal.τ).loc Cert.DwDownGradIdeal.main_arg2) = m ((c.tc : Thread Cert.DwDownGradIdeal.nD Cert.DwDownGradIdeal.τ).loc Cert.DwDownGradIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ r.2.sem = fun _ => 0)

def quiescent_DwInGradIdeal [hDwInGradIdeal : Cert.DwInGradIdeal.Facts] : Prop :=
  ∀ (m : (ℓ : Loc Cert.DwInGradIdeal.nD Cert.DwInGradIdeal.τ Cert.DwInGradIdeal.sig) → Buf (Elt Ideal) ℓ) (g : Dev Cert.DwInGradIdeal.nD → PrngReg), Pre_DwInGradIdeal m →
    θ_run (Cert.DwInGradIdeal.defs (F := Ideal)) (onTc (τ := Cert.DwInGradIdeal.τ) (Cert.DwInGradIdeal.main (F := Ideal))) ⟨m, fun _ => 0, g⟩ (fun r => (∀ c : Dev Cert.DwInGradIdeal.nD,
      r.2.mem ((c.tc : Thread Cert.DwInGradIdeal.nD Cert.DwInGradIdeal.τ).loc Cert.DwInGradIdeal.main_arg0) = m ((c.tc : Thread Cert.DwInGradIdeal.nD Cert.DwInGradIdeal.τ).loc Cert.DwInGradIdeal.main_arg0)
      ∧ r.2.mem ((c.tc : Thread Cert.DwInGradIdeal.nD Cert.DwInGradIdeal.τ).loc Cert.DwInGradIdeal.main_arg1) = m ((c.tc : Thread Cert.DwInGradIdeal.nD Cert.DwInGradIdeal.τ).loc Cert.DwInGradIdeal.main_arg1)
      ∧ r.2.mem ((c.tc : Thread Cert.DwInGradIdeal.nD Cert.DwInGradIdeal.τ).loc Cert.DwInGradIdeal.main_arg2) = m ((c.tc : Thread Cert.DwInGradIdeal.nD Cert.DwInGradIdeal.τ).loc Cert.DwInGradIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ r.2.sem = fun _ => 0)

def quiescent_DwOutGradIdeal [hDwOutGradIdeal : Cert.DwOutGradIdeal.Facts] : Prop :=
  ∀ (m : (ℓ : Loc Cert.DwOutGradIdeal.nD Cert.DwOutGradIdeal.τ Cert.DwOutGradIdeal.sig) → Buf (Elt Ideal) ℓ) (g : Dev Cert.DwOutGradIdeal.nD → PrngReg), Pre_DwOutGradIdeal m →
    θ_run (Cert.DwOutGradIdeal.defs (F := Ideal)) (onTc (τ := Cert.DwOutGradIdeal.τ) (Cert.DwOutGradIdeal.main (F := Ideal))) ⟨m, fun _ => 0, g⟩ (fun r => (∀ c : Dev Cert.DwOutGradIdeal.nD,
      r.2.mem ((c.tc : Thread Cert.DwOutGradIdeal.nD Cert.DwOutGradIdeal.τ).loc Cert.DwOutGradIdeal.main_arg0) = m ((c.tc : Thread Cert.DwOutGradIdeal.nD Cert.DwOutGradIdeal.τ).loc Cert.DwOutGradIdeal.main_arg0)
      ∧ r.2.mem ((c.tc : Thread Cert.DwOutGradIdeal.nD Cert.DwOutGradIdeal.τ).loc Cert.DwOutGradIdeal.main_arg1) = m ((c.tc : Thread Cert.DwOutGradIdeal.nD Cert.DwOutGradIdeal.τ).loc Cert.DwOutGradIdeal.main_arg1))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4)
      ∧ r.2.mem ((c.tc : Thread Cert.FfnLoss.nD Cert.FfnLoss.τ).loc Cert.FfnLoss.main_arg5) = m ((c.tc : Thread Cert.FfnLoss.nD Cert.FfnLoss.τ).loc Cert.FfnLoss.main_arg5)
      ∧ r.2.mem ((c.tc : Thread Cert.FfnLoss.nD Cert.FfnLoss.τ).loc Cert.FfnLoss.main_arg6) = m ((c.tc : Thread Cert.FfnLoss.nD Cert.FfnLoss.τ).loc Cert.FfnLoss.main_arg6))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_FfnLossIdeal_pre_loss_finite [hFfnLossIdeal : Cert.FfnLossIdeal.Facts] [hPre_loss_finite : Cert.Pre_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal_loss_finite m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
      ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
      ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2)
      ∧ r.2.mem ((c.tc : Thread Cert.OddFwd.nD Cert.OddFwd.τ).loc Cert.OddFwd.main_arg3) = m ((c.tc : Thread Cert.OddFwd.nD Cert.OddFwd.τ).loc Cert.OddFwd.main_arg3)
      ∧ r.2.mem ((c.tc : Thread Cert.OddFwd.nD Cert.OddFwd.τ).loc Cert.OddFwd.main_arg4) = m ((c.tc : Thread Cert.OddFwd.nD Cert.OddFwd.τ).loc Cert.OddFwd.main_arg4)
      ∧ r.2.mem ((c.tc : Thread Cert.OddFwd.nD Cert.OddFwd.τ).loc Cert.OddFwd.main_arg5) = m ((c.tc : Thread Cert.OddFwd.nD Cert.OddFwd.τ).loc Cert.OddFwd.main_arg5)
      ∧ r.2.mem ((c.tc : Thread Cert.OddFwd.nD Cert.OddFwd.τ).loc Cert.OddFwd.main_arg6) = m ((c.tc : Thread Cert.OddFwd.nD Cert.OddFwd.τ).loc Cert.OddFwd.main_arg6)
      ∧ r.2.mem ((c.tc : Thread Cert.OddFwd.nD Cert.OddFwd.τ).loc Cert.OddFwd.main_arg7) = m ((c.tc : Thread Cert.OddFwd.nD Cert.OddFwd.τ).loc Cert.OddFwd.main_arg7)
      ∧ r.2.mem ((c.tc : Thread Cert.OddFwd.nD Cert.OddFwd.τ).loc Cert.OddFwd.main_arg8) = m ((c.tc : Thread Cert.OddFwd.nD Cert.OddFwd.τ).loc Cert.OddFwd.main_arg8))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
      ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
      ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
      ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
      ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6)
      ∧ r.2.mem ((c.tc : Thread Cert.OddFwdIdeal.nD Cert.OddFwdIdeal.τ).loc Cert.OddFwdIdeal.main_arg7) = m ((c.tc : Thread Cert.OddFwdIdeal.nD Cert.OddFwdIdeal.τ).loc Cert.OddFwdIdeal.main_arg7)
      ∧ r.2.mem ((c.tc : Thread Cert.OddFwdIdeal.nD Cert.OddFwdIdeal.τ).loc Cert.OddFwdIdeal.main_arg8) = m ((c.tc : Thread Cert.OddFwdIdeal.nD Cert.OddFwdIdeal.τ).loc Cert.OddFwdIdeal.main_arg8))
      ∧ r.2.sem = fun _ => 0)

def quiescent_OddRefIdeal [hOddRefIdeal : Cert.OddRefIdeal.Facts] : Prop :=
  ∀ (m : (ℓ : Loc Cert.OddRefIdeal.nD Cert.OddRefIdeal.τ Cert.OddRefIdeal.sig) → Buf (Elt Ideal) ℓ) (g : Dev Cert.OddRefIdeal.nD → PrngReg), Pre_OddRefIdeal m →
    θ_run (Cert.OddRefIdeal.defs (F := Ideal)) (onTc (τ := Cert.OddRefIdeal.τ) (Cert.OddRefIdeal.main (F := Ideal))) ⟨m, fun _ => 0, g⟩ (fun r => (∀ c : Dev Cert.OddRefIdeal.nD,
      r.2.mem ((c.tc : Thread Cert.OddRefIdeal.nD Cert.OddRefIdeal.τ).loc Cert.OddRefIdeal.main_arg0) = m ((c.tc : Thread Cert.OddRefIdeal.nD Cert.OddRefIdeal.τ).loc Cert.OddRefIdeal.main_arg0)
      ∧ r.2.mem ((c.tc : Thread Cert.OddRefIdeal.nD Cert.OddRefIdeal.τ).loc Cert.OddRefIdeal.main_arg1) = m ((c.tc : Thread Cert.OddRefIdeal.nD Cert.OddRefIdeal.τ).loc Cert.OddRefIdeal.main_arg1)
      ∧ r.2.mem ((c.tc : Thread Cert.OddRefIdeal.nD Cert.OddRefIdeal.τ).loc Cert.OddRefIdeal.main_arg2) = m ((c.tc : Thread Cert.OddRefIdeal.nD Cert.OddRefIdeal.τ).loc Cert.OddRefIdeal.main_arg2)
      ∧ r.2.mem ((c.tc : Thread Cert.OddRefIdeal.nD Cert.OddRefIdeal.τ).loc Cert.OddRefIdeal.main_arg3) = m ((c.tc : Thread Cert.OddRefIdeal.nD Cert.OddRefIdeal.τ).loc Cert.OddRefIdeal.main_arg3)
      ∧ r.2.mem ((c.tc : Thread Cert.OddRefIdeal.nD Cert.OddRefIdeal.τ).loc Cert.OddRefIdeal.main_arg4) = m ((c.tc : Thread Cert.OddRefIdeal.nD Cert.OddRefIdeal.τ).loc Cert.OddRefIdeal.main_arg4)
      ∧ r.2.mem ((c.tc : Thread Cert.OddRefIdeal.nD Cert.OddRefIdeal.τ).loc Cert.OddRefIdeal.main_arg5) = m ((c.tc : Thread Cert.OddRefIdeal.nD Cert.OddRefIdeal.τ).loc Cert.OddRefIdeal.main_arg5)
      ∧ r.2.mem ((c.tc : Thread Cert.OddRefIdeal.nD Cert.OddRefIdeal.τ).loc Cert.OddRefIdeal.main_arg6) = m ((c.tc : Thread Cert.OddRefIdeal.nD Cert.OddRefIdeal.τ).loc Cert.OddRefIdeal.main_arg6)
      ∧ r.2.mem ((c.tc : Thread Cert.OddRefIdeal.nD Cert.OddRefIdeal.τ).loc Cert.OddRefIdeal.main_arg7) = m ((c.tc : Thread Cert.OddRefIdeal.nD Cert.OddRefIdeal.τ).loc Cert.OddRefIdeal.main_arg7)
      ∧ r.2.mem ((c.tc : Thread Cert.OddRefIdeal.nD Cert.OddRefIdeal.τ).loc Cert.OddRefIdeal.main_arg8) = m ((c.tc : Thread Cert.OddRefIdeal.nD Cert.OddRefIdeal.τ).loc Cert.OddRefIdeal.main_arg8))
      ∧ r.2.sem = fun _ => 0)

def quiescent_OddBwd [hOddBwd : Cert.OddBwd.Facts] : Prop :=
  ∀ (m : (ℓ : Loc Cert.OddBwd.nD Cert.OddBwd.τ Cert.OddBwd.sig) → Buf (Elt Bits) ℓ) (g : Dev Cert.OddBwd.nD → PrngReg), Pre_OddBwd m →
    θ_run (Cert.OddBwd.defs (F := Bits)) (onTc (τ := Cert.OddBwd.τ) (Cert.OddBwd.main (F := Bits))) ⟨m, fun _ => 0, g⟩ (fun r => (∀ c : Dev Cert.OddBwd.nD,
      r.2.mem ((c.tc : Thread Cert.OddBwd.nD Cert.OddBwd.τ).loc Cert.OddBwd.main_arg0) = m ((c.tc : Thread Cert.OddBwd.nD Cert.OddBwd.τ).loc Cert.OddBwd.main_arg0)
      ∧ r.2.mem ((c.tc : Thread Cert.OddBwd.nD Cert.OddBwd.τ).loc Cert.OddBwd.main_arg1) = m ((c.tc : Thread Cert.OddBwd.nD Cert.OddBwd.τ).loc Cert.OddBwd.main_arg1)
      ∧ r.2.mem ((c.tc : Thread Cert.OddBwd.nD Cert.OddBwd.τ).loc Cert.OddBwd.main_arg2) = m ((c.tc : Thread Cert.OddBwd.nD Cert.OddBwd.τ).loc Cert.OddBwd.main_arg2)
      ∧ r.2.mem ((c.tc : Thread Cert.OddBwd.nD Cert.OddBwd.τ).loc Cert.OddBwd.main_arg3) = m ((c.tc : Thread Cert.OddBwd.nD Cert.OddBwd.τ).loc Cert.OddBwd.main_arg3)
      ∧ r.2.mem ((c.tc : Thread Cert.OddBwd.nD Cert.OddBwd.τ).loc Cert.OddBwd.main_arg4) = m ((c.tc : Thread Cert.OddBwd.nD Cert.OddBwd.τ).loc Cert.OddBwd.main_arg4)
      ∧ r.2.mem ((c.tc : Thread Cert.OddBwd.nD Cert.OddBwd.τ).loc Cert.OddBwd.main_arg5) = m ((c.tc : Thread Cert.OddBwd.nD Cert.OddBwd.τ).loc Cert.OddBwd.main_arg5)
      ∧ r.2.mem ((c.tc : Thread Cert.OddBwd.nD Cert.OddBwd.τ).loc Cert.OddBwd.main_arg6) = m ((c.tc : Thread Cert.OddBwd.nD Cert.OddBwd.τ).loc Cert.OddBwd.main_arg6)
      ∧ r.2.mem ((c.tc : Thread Cert.OddBwd.nD Cert.OddBwd.τ).loc Cert.OddBwd.main_arg7) = m ((c.tc : Thread Cert.OddBwd.nD Cert.OddBwd.τ).loc Cert.OddBwd.main_arg7)
      ∧ r.2.mem ((c.tc : Thread Cert.OddBwd.nD Cert.OddBwd.τ).loc Cert.OddBwd.main_arg8) = m ((c.tc : Thread Cert.OddBwd.nD Cert.OddBwd.τ).loc Cert.OddBwd.main_arg8)
      ∧ r.2.mem ((c.tc : Thread Cert.OddBwd.nD Cert.OddBwd.τ).loc Cert.OddBwd.main_arg9) = m ((c.tc : Thread Cert.OddBwd.nD Cert.OddBwd.τ).loc Cert.OddBwd.main_arg9))
      ∧ r.2.sem = fun _ => 0)

def quiescent_OddBwdIdeal [hOddBwdIdeal : Cert.OddBwdIdeal.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
      ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
      ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
      ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
      ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ r.2.sem = fun _ => 0)

def quiescent_OddBwdIdeal_pre_odd_finite [hOddBwdIdeal : Cert.OddBwdIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg), Pre_OddBwdIdeal_odd_finite m →
    θ_run (Cert.OddBwdIdeal.defs (F := Ideal)) (onTc (τ := Cert.OddBwdIdeal.τ) (Cert.OddBwdIdeal.main (F := Ideal))) ⟨m, fun _ => 0, g⟩ (fun r => (∀ c : Dev Cert.OddBwdIdeal.nD,
      r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
      ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
      ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
      ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
      ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
      ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
      ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
      ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
      ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
      ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ r.2.sem = fun _ => 0)

def quiescent_OddGradIdeal [hOddGradIdeal : Cert.OddGradIdeal.Facts] : Prop :=
  ∀ (m : (ℓ : Loc Cert.OddGradIdeal.nD Cert.OddGradIdeal.τ Cert.OddGradIdeal.sig) → Buf (Elt Ideal) ℓ) (g : Dev Cert.OddGradIdeal.nD → PrngReg), Pre_OddGradIdeal m →
    θ_run (Cert.OddGradIdeal.defs (F := Ideal)) (onTc (τ := Cert.OddGradIdeal.τ) (Cert.OddGradIdeal.main (F := Ideal))) ⟨m, fun _ => 0, g⟩ (fun r => (∀ c : Dev Cert.OddGradIdeal.nD,
      r.2.mem ((c.tc : Thread Cert.OddGradIdeal.nD Cert.OddGradIdeal.τ).loc Cert.OddGradIdeal.main_arg0) = m ((c.tc : Thread Cert.OddGradIdeal.nD Cert.OddGradIdeal.τ).loc Cert.OddGradIdeal.main_arg0)
      ∧ r.2.mem ((c.tc : Thread Cert.OddGradIdeal.nD Cert.OddGradIdeal.τ).loc Cert.OddGradIdeal.main_arg1) = m ((c.tc : Thread Cert.OddGradIdeal.nD Cert.OddGradIdeal.τ).loc Cert.OddGradIdeal.main_arg1)
      ∧ r.2.mem ((c.tc : Thread Cert.OddGradIdeal.nD Cert.OddGradIdeal.τ).loc Cert.OddGradIdeal.main_arg2) = m ((c.tc : Thread Cert.OddGradIdeal.nD Cert.OddGradIdeal.τ).loc Cert.OddGradIdeal.main_arg2)
      ∧ r.2.mem ((c.tc : Thread Cert.OddGradIdeal.nD Cert.OddGradIdeal.τ).loc Cert.OddGradIdeal.main_arg3) = m ((c.tc : Thread Cert.OddGradIdeal.nD Cert.OddGradIdeal.τ).loc Cert.OddGradIdeal.main_arg3)
      ∧ r.2.mem ((c.tc : Thread Cert.OddGradIdeal.nD Cert.OddGradIdeal.τ).loc Cert.OddGradIdeal.main_arg4) = m ((c.tc : Thread Cert.OddGradIdeal.nD Cert.OddGradIdeal.τ).loc Cert.OddGradIdeal.main_arg4)
      ∧ r.2.mem ((c.tc : Thread Cert.OddGradIdeal.nD Cert.OddGradIdeal.τ).loc Cert.OddGradIdeal.main_arg5) = m ((c.tc : Thread Cert.OddGradIdeal.nD Cert.OddGradIdeal.τ).loc Cert.OddGradIdeal.main_arg5)
      ∧ r.2.mem ((c.tc : Thread Cert.OddGradIdeal.nD Cert.OddGradIdeal.τ).loc Cert.OddGradIdeal.main_arg6) = m ((c.tc : Thread Cert.OddGradIdeal.nD Cert.OddGradIdeal.τ).loc Cert.OddGradIdeal.main_arg6)
      ∧ r.2.mem ((c.tc : Thread Cert.OddGradIdeal.nD Cert.OddGradIdeal.τ).loc Cert.OddGradIdeal.main_arg7) = m ((c.tc : Thread Cert.OddGradIdeal.nD Cert.OddGradIdeal.τ).loc Cert.OddGradIdeal.main_arg7)
      ∧ r.2.mem ((c.tc : Thread Cert.OddGradIdeal.nD Cert.OddGradIdeal.τ).loc Cert.OddGradIdeal.main_arg8) = m ((c.tc : Thread Cert.OddGradIdeal.nD Cert.OddGradIdeal.τ).loc Cert.OddGradIdeal.main_arg8)
      ∧ r.2.mem ((c.tc : Thread Cert.OddGradIdeal.nD Cert.OddGradIdeal.τ).loc Cert.OddGradIdeal.main_arg9) = m ((c.tc : Thread Cert.OddGradIdeal.nD Cert.OddGradIdeal.τ).loc Cert.OddGradIdeal.main_arg9))
      ∧ r.2.sem = fun _ => 0)

def quiescent_OddGradIdeal_pre_odd_finite [hOddGradIdeal : Cert.OddGradIdeal.Facts] [hPre_odd_finite : Cert.Pre_odd_finite.Facts] : Prop :=
  ∀ (m : (ℓ : Loc Cert.OddGradIdeal.nD Cert.OddGradIdeal.τ Cert.OddGradIdeal.sig) → Buf (Elt Ideal) ℓ) (g : Dev Cert.OddGradIdeal.nD → PrngReg), Pre_OddGradIdeal_odd_finite m →
    θ_run (Cert.OddGradIdeal.defs (F := Ideal)) (onTc (τ := Cert.OddGradIdeal.τ) (Cert.OddGradIdeal.main (F := Ideal))) ⟨m, fun _ => 0, g⟩ (fun r => (∀ c : Dev Cert.OddGradIdeal.nD,
      r.2.mem ((c.tc : Thread Cert.OddGradIdeal.nD Cert.OddGradIdeal.τ).loc Cert.OddGradIdeal.main_arg0) = m ((c.tc : Thread Cert.OddGradIdeal.nD Cert.OddGradIdeal.τ).loc Cert.OddGradIdeal.main_arg0)
      ∧ r.2.mem ((c.tc : Thread Cert.OddGradIdeal.nD Cert.OddGradIdeal.τ).loc Cert.OddGradIdeal.main_arg1) = m ((c.tc : Thread Cert.OddGradIdeal.nD Cert.OddGradIdeal.τ).loc Cert.OddGradIdeal.main_arg1)
      ∧ r.2.mem ((c.tc : Thread Cert.OddGradIdeal.nD Cert.OddGradIdeal.τ).loc Cert.OddGradIdeal.main_arg2) = m ((c.tc : Thread Cert.OddGradIdeal.nD Cert.OddGradIdeal.τ).loc Cert.OddGradIdeal.main_arg2)
      ∧ r.2.mem ((c.tc : Thread Cert.OddGradIdeal.nD Cert.OddGradIdeal.τ).loc Cert.OddGradIdeal.main_arg3) = m ((c.tc : Thread Cert.OddGradIdeal.nD Cert.OddGradIdeal.τ).loc Cert.OddGradIdeal.main_arg3)
      ∧ r.2.mem ((c.tc : Thread Cert.OddGradIdeal.nD Cert.OddGradIdeal.τ).loc Cert.OddGradIdeal.main_arg4) = m ((c.tc : Thread Cert.OddGradIdeal.nD Cert.OddGradIdeal.τ).loc Cert.OddGradIdeal.main_arg4)
      ∧ r.2.mem ((c.tc : Thread Cert.OddGradIdeal.nD Cert.OddGradIdeal.τ).loc Cert.OddGradIdeal.main_arg5) = m ((c.tc : Thread Cert.OddGradIdeal.nD Cert.OddGradIdeal.τ).loc Cert.OddGradIdeal.main_arg5)
      ∧ r.2.mem ((c.tc : Thread Cert.OddGradIdeal.nD Cert.OddGradIdeal.τ).loc Cert.OddGradIdeal.main_arg6) = m ((c.tc : Thread Cert.OddGradIdeal.nD Cert.OddGradIdeal.τ).loc Cert.OddGradIdeal.main_arg6)
      ∧ r.2.mem ((c.tc : Thread Cert.OddGradIdeal.nD Cert.OddGradIdeal.τ).loc Cert.OddGradIdeal.main_arg7) = m ((c.tc : Thread Cert.OddGradIdeal.nD Cert.OddGradIdeal.τ).loc Cert.OddGradIdeal.main_arg7)
      ∧ r.2.mem ((c.tc : Thread Cert.OddGradIdeal.nD Cert.OddGradIdeal.τ).loc Cert.OddGradIdeal.main_arg8) = m ((c.tc : Thread Cert.OddGradIdeal.nD Cert.OddGradIdeal.τ).loc Cert.OddGradIdeal.main_arg8)
      ∧ r.2.mem ((c.tc : Thread Cert.OddGradIdeal.nD Cert.OddGradIdeal.τ).loc Cert.OddGradIdeal.main_arg9) = m ((c.tc : Thread Cert.OddGradIdeal.nD Cert.OddGradIdeal.τ).loc Cert.OddGradIdeal.main_arg9))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def preserves_FfnBwd_FfnBwdIdeal : Prop :=
  True

def algebraic_FfnBwdIdeal_FfnGradIdeal_pre_finite [hFfnBwdIdeal : Cert.FfnBwdIdeal.Facts] [hFfnGradIdeal : Cert.FfnGradIdeal.Facts] [hPre_finite : Cert.Pre_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_finite m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)) →
    ∃ (v0 : (c : Dev Cert.FfnBwdIdeal.nD) → Buf (Elt Ideal) ((c.tc : Thread Cert.FfnBwdIdeal.nD Cert.FfnBwdIdeal.τ).loc Cert.FfnBwdIdeal.main_v22_0)) (v1 : (c : Dev Cert.FfnBwdIdeal.nD) → Buf (Elt Ideal) ((c.tc : Thread Cert.FfnBwdIdeal.nD Cert.FfnBwdIdeal.τ).loc Cert.FfnBwdIdeal.main_v22_1)) (v2 : (c : Dev Cert.FfnBwdIdeal.nD) → Buf (Elt Ideal) ((c.tc : Thread Cert.FfnBwdIdeal.nD Cert.FfnBwdIdeal.τ).loc Cert.FfnBwdIdeal.main_v22_2)) (v3 : (c : Dev Cert.FfnBwdIdeal.nD) → Buf (Elt Ideal) ((c.tc : Thread Cert.FfnBwdIdeal.nD Cert.FfnBwdIdeal.τ).loc Cert.FfnBwdIdeal.main_v22_3)) (v4 : (c : Dev Cert.FfnBwdIdeal.nD) → Buf (Elt Ideal) ((c.tc : Thread Cert.FfnBwdIdeal.nD Cert.FfnBwdIdeal.τ).loc Cert.FfnBwdIdeal.main_v22_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v22_0) = v0 c
          ∧ r.2.mem ((c.tc : Thread Cert.FfnBwdIdeal.nD Cert.FfnBwdIdeal.τ).loc Cert.FfnBwdIdeal.main_v22_1) = v1 c
          ∧ r.2.mem ((c.tc : Thread Cert.FfnBwdIdeal.nD Cert.FfnBwdIdeal.τ).loc Cert.FfnBwdIdeal.main_v22_2) = v2 c
          ∧ r.2.mem ((c.tc : Thread Cert.FfnBwdIdeal.nD Cert.FfnBwdIdeal.τ).loc Cert.FfnBwdIdeal.main_v22_3) = v3 c
          ∧ r.2.mem ((c.tc : Thread Cert.FfnBwdIdeal.nD Cert.FfnBwdIdeal.τ).loc Cert.FfnBwdIdeal.main_v22_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v48) = v0 c
          ∧ r.2.mem ((c.tc : Thread Cert.FfnGradIdeal.nD Cert.FfnGradIdeal.τ).loc Cert.FfnGradIdeal.main_v72) = v1 c
          ∧ r.2.mem ((c.tc : Thread Cert.FfnGradIdeal.nD Cert.FfnGradIdeal.τ).loc Cert.FfnGradIdeal.main_v73) = v2 c
          ∧ r.2.mem ((c.tc : Thread Cert.FfnGradIdeal.nD Cert.FfnGradIdeal.τ).loc Cert.FfnGradIdeal.main_v74) = v3 c
          ∧ r.2.mem ((c.tc : Thread Cert.FfnGradIdeal.nD Cert.FfnGradIdeal.τ).loc Cert.FfnGradIdeal.main_v31) = v4 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5))

def preserves_DwHid_DwHidIdeal : Prop :=
  True

def algebraic_DwHidIdeal_DwHidGradIdeal [hDwHidIdeal : Cert.DwHidIdeal.Facts] [hDwHidGradIdeal : Cert.DwHidGradIdeal.Facts] : Prop :=
  ∀ (m : (ℓ : Loc Cert.DwHidIdeal.nD Cert.DwHidIdeal.τ Cert.DwHidIdeal.sig) → Buf (Elt Ideal) ℓ) (g : Dev Cert.DwHidIdeal.nD → PrngReg)
    (m' : (ℓ : Loc Cert.DwHidGradIdeal.nD Cert.DwHidGradIdeal.τ Cert.DwHidGradIdeal.sig) → Buf (Elt Ideal) ℓ) (g' : Dev Cert.DwHidGradIdeal.nD → PrngReg), Pre_DwHidIdeal m →
    (∀ c : Dev Cert.DwHidIdeal.nD,
      m' ((c.tc : Thread Cert.DwHidGradIdeal.nD Cert.DwHidGradIdeal.τ).loc Cert.DwHidGradIdeal.main_arg0) = m ((c.tc : Thread Cert.DwHidIdeal.nD Cert.DwHidIdeal.τ).loc Cert.DwHidIdeal.main_arg0)
      ∧ m' ((c.tc : Thread Cert.DwHidGradIdeal.nD Cert.DwHidGradIdeal.τ).loc Cert.DwHidGradIdeal.main_arg1) = m ((c.tc : Thread Cert.DwHidIdeal.nD Cert.DwHidIdeal.τ).loc Cert.DwHidIdeal.main_arg1)
      ∧ m' ((c.tc : Thread Cert.DwHidGradIdeal.nD Cert.DwHidGradIdeal.τ).loc Cert.DwHidGradIdeal.main_arg2) = m ((c.tc : Thread Cert.DwHidIdeal.nD Cert.DwHidIdeal.τ).loc Cert.DwHidIdeal.main_arg2)) →
    ∃ (v0 : (c : Dev Cert.DwHidIdeal.nD) → Buf (Elt Ideal) ((c.tc : Thread Cert.DwHidIdeal.nD Cert.DwHidIdeal.τ).loc Cert.DwHidIdeal.main_v14)),
      θ_run (Cert.DwHidIdeal.defs (F := Ideal)) (onTc (τ := Cert.DwHidIdeal.τ) (Cert.DwHidIdeal.main (F := Ideal))) ⟨m, fun _ => 0, g⟩ (fun r => ∀ c : Dev Cert.DwHidIdeal.nD,
          r.2.mem ((c.tc : Thread Cert.DwHidIdeal.nD Cert.DwHidIdeal.τ).loc Cert.DwHidIdeal.main_v14) = v0 c
          ∧ r.2.mem ((c.tc : Thread Cert.DwHidIdeal.nD Cert.DwHidIdeal.τ).loc Cert.DwHidIdeal.main_arg0) = m ((c.tc : Thread Cert.DwHidIdeal.nD Cert.DwHidIdeal.τ).loc Cert.DwHidIdeal.main_arg0)
          ∧ r.2.mem ((c.tc : Thread Cert.DwHidIdeal.nD Cert.DwHidIdeal.τ).loc Cert.DwHidIdeal.main_arg1) = m ((c.tc : Thread Cert.DwHidIdeal.nD Cert.DwHidIdeal.τ).loc Cert.DwHidIdeal.main_arg1)
          ∧ r.2.mem ((c.tc : Thread Cert.DwHidIdeal.nD Cert.DwHidIdeal.τ).loc Cert.DwHidIdeal.main_arg2) = m ((c.tc : Thread Cert.DwHidIdeal.nD Cert.DwHidIdeal.τ).loc Cert.DwHidIdeal.main_arg2))
      ∧ θ_run (Cert.DwHidGradIdeal.defs (F := Ideal)) (onTc (τ := Cert.DwHidGradIdeal.τ) (Cert.DwHidGradIdeal.main (F := Ideal))) ⟨m', fun _ => 0, g'⟩ (fun r => ∀ c : Dev Cert.DwHidGradIdeal.nD,
          r.2.mem ((c.tc : Thread Cert.DwHidGradIdeal.nD Cert.DwHidGradIdeal.τ).loc Cert.DwHidGradIdeal.main_v17) = v0 c
          ∧ r.2.mem ((c.tc : Thread Cert.DwHidGradIdeal.nD Cert.DwHidGradIdeal.τ).loc Cert.DwHidGradIdeal.main_arg0) = m' ((c.tc : Thread Cert.DwHidGradIdeal.nD Cert.DwHidGradIdeal.τ).loc Cert.DwHidGradIdeal.main_arg0)
          ∧ r.2.mem ((c.tc : Thread Cert.DwHidGradIdeal.nD Cert.DwHidGradIdeal.τ).loc Cert.DwHidGradIdeal.main_arg1) = m' ((c.tc : Thread Cert.DwHidGradIdeal.nD Cert.DwHidGradIdeal.τ).loc Cert.DwHidGradIdeal.main_arg1)
          ∧ r.2.mem ((c.tc : Thread Cert.DwHidGradIdeal.nD Cert.DwHidGradIdeal.τ).loc Cert.DwHidGradIdeal.main_arg2) = m' ((c.tc : Thread Cert.DwHidGradIdeal.nD Cert.DwHidGradIdeal.τ).loc Cert.DwHidGradIdeal.main_arg2))

def preserves_DwDown_DwDownIdeal : Prop :=
  True

def algebraic_DwDownIdeal_DwDownGradIdeal [hDwDownIdeal : Cert.DwDownIdeal.Facts] [hDwDownGradIdeal : Cert.DwDownGradIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownGradIdeal.nD Cert.DwDownGradIdeal.τ Cert.DwDownGradIdeal.sig) → Buf (Elt Ideal) ℓ) (g' : Dev Cert.DwDownGradIdeal.nD → PrngReg), Pre_DwDownIdeal m →
    (∀ c : Dev Cert.DwDownIdeal.nD,
      m' ((c.tc : Thread Cert.DwDownGradIdeal.nD Cert.DwDownGradIdeal.τ).loc Cert.DwDownGradIdeal.main_arg0) = m ((c.tc : Thread Cert.DwDownIdeal.nD Cert.DwDownIdeal.τ).loc Cert.DwDownIdeal.main_arg0)
      ∧ m' ((c.tc : Thread Cert.DwDownGradIdeal.nD Cert.DwDownGradIdeal.τ).loc Cert.DwDownGradIdeal.main_arg1) = m ((c.tc : Thread Cert.DwDownIdeal.nD Cert.DwDownIdeal.τ).loc Cert.DwDownIdeal.main_arg1)
      ∧ m' ((c.tc : Thread Cert.DwDownGradIdeal.nD Cert.DwDownGradIdeal.τ).loc Cert.DwDownGradIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v3)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v3) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownGradIdeal.defs (F := Ideal)) (onTc (τ := Cert.DwDownGradIdeal.τ) (Cert.DwDownGradIdeal.main (F := Ideal))) ⟨m', fun _ => 0, g'⟩ (fun r => ∀ c : Dev Cert.DwDownGradIdeal.nD,
          r.2.mem ((c.tc : Thread Cert.DwDownGradIdeal.nD Cert.DwDownGradIdeal.τ).loc Cert.DwDownGradIdeal.main_v6) = v0 c
          ∧ r.2.mem ((c.tc : Thread Cert.DwDownGradIdeal.nD Cert.DwDownGradIdeal.τ).loc Cert.DwDownGradIdeal.main_arg0) = m' ((c.tc : Thread Cert.DwDownGradIdeal.nD Cert.DwDownGradIdeal.τ).loc Cert.DwDownGradIdeal.main_arg0)
          ∧ r.2.mem ((c.tc : Thread Cert.DwDownGradIdeal.nD Cert.DwDownGradIdeal.τ).loc Cert.DwDownGradIdeal.main_arg1) = m' ((c.tc : Thread Cert.DwDownGradIdeal.nD Cert.DwDownGradIdeal.τ).loc Cert.DwDownGradIdeal.main_arg1)
          ∧ r.2.mem ((c.tc : Thread Cert.DwDownGradIdeal.nD Cert.DwDownGradIdeal.τ).loc Cert.DwDownGradIdeal.main_arg2) = m' ((c.tc : Thread Cert.DwDownGradIdeal.nD Cert.DwDownGradIdeal.τ).loc Cert.DwDownGradIdeal.main_arg2))

def preserves_DwIn_DwInIdeal : Prop :=
  True

def algebraic_DwInIdeal_DwInGradIdeal [hDwInIdeal : Cert.DwInIdeal.Facts] [hDwInGradIdeal : Cert.DwInGradIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInGradIdeal.nD Cert.DwInGradIdeal.τ Cert.DwInGradIdeal.sig) → Buf (Elt Ideal) ℓ) (g' : Dev Cert.DwInGradIdeal.nD → PrngReg), Pre_DwInIdeal m →
    (∀ c : Dev Cert.DwInIdeal.nD,
      m' ((c.tc : Thread Cert.DwInGradIdeal.nD Cert.DwInGradIdeal.τ).loc Cert.DwInGradIdeal.main_arg0) = m ((c.tc : Thread Cert.DwInIdeal.nD Cert.DwInIdeal.τ).loc Cert.DwInIdeal.main_arg0)
      ∧ m' ((c.tc : Thread Cert.DwInGradIdeal.nD Cert.DwInGradIdeal.τ).loc Cert.DwInGradIdeal.main_arg1) = m ((c.tc : Thread Cert.DwInIdeal.nD Cert.DwInIdeal.τ).loc Cert.DwInIdeal.main_arg1)
      ∧ m' ((c.tc : Thread Cert.DwInGradIdeal.nD Cert.DwInGradIdeal.τ).loc Cert.DwInGradIdeal.main_arg2) = m ((c.tc : Thread Cert.DwInIdeal.nD Cert.DwInIdeal.τ).loc Cert.DwInIdeal.main_arg2)) →
    ∃ (v0 : (c : Dev Cert.DwInIdeal.nD) → Buf (Elt Ideal) ((c.tc : Thread Cert.DwInIdeal.nD Cert.DwInIdeal.τ).loc Cert.DwInIdeal.main_v14)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v14) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2))
      ∧ θ_run (Cert.DwInGradIdeal.defs (F := Ideal)) (onTc (τ := Cert.DwInGradIdeal.τ) (Cert.DwInGradIdeal.main (F := Ideal))) ⟨m', fun _ => 0, g'⟩ (fun r => ∀ c : Dev Cert.DwInGradIdeal.nD,
          r.2.mem ((c.tc : Thread Cert.DwInGradIdeal.nD Cert.DwInGradIdeal.τ).loc Cert.DwInGradIdeal.main_v17) = v0 c
          ∧ r.2.mem ((c.tc : Thread Cert.DwInGradIdeal.nD Cert.DwInGradIdeal.τ).loc Cert.DwInGradIdeal.main_arg0) = m' ((c.tc : Thread Cert.DwInGradIdeal.nD Cert.DwInGradIdeal.τ).loc Cert.DwInGradIdeal.main_arg0)
          ∧ r.2.mem ((c.tc : Thread Cert.DwInGradIdeal.nD Cert.DwInGradIdeal.τ).loc Cert.DwInGradIdeal.main_arg1) = m' ((c.tc : Thread Cert.DwInGradIdeal.nD Cert.DwInGradIdeal.τ).loc Cert.DwInGradIdeal.main_arg1)
          ∧ r.2.mem ((c.tc : Thread Cert.DwInGradIdeal.nD Cert.DwInGradIdeal.τ).loc Cert.DwInGradIdeal.main_arg2) = m' ((c.tc : Thread Cert.DwInGradIdeal.nD Cert.DwInGradIdeal.τ).loc Cert.DwInGradIdeal.main_arg2))

def preserves_DwOut_DwOutIdeal : Prop :=
  True

def algebraic_DwOutIdeal_DwOutGradIdeal [hDwOutIdeal : Cert.DwOutIdeal.Facts] [hDwOutGradIdeal : Cert.DwOutGradIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutGradIdeal.nD Cert.DwOutGradIdeal.τ Cert.DwOutGradIdeal.sig) → Buf (Elt Ideal) ℓ) (g' : Dev Cert.DwOutGradIdeal.nD → PrngReg), Pre_DwOutIdeal m →
    (∀ c : Dev Cert.DwOutIdeal.nD,
      m' ((c.tc : Thread Cert.DwOutGradIdeal.nD Cert.DwOutGradIdeal.τ).loc Cert.DwOutGradIdeal.main_arg0) = m ((c.tc : Thread Cert.DwOutIdeal.nD Cert.DwOutIdeal.τ).loc Cert.DwOutIdeal.main_arg0)
      ∧ m' ((c.tc : Thread Cert.DwOutGradIdeal.nD Cert.DwOutGradIdeal.τ).loc Cert.DwOutGradIdeal.main_arg1) = m ((c.tc : Thread Cert.DwOutIdeal.nD Cert.DwOutIdeal.τ).loc Cert.DwOutIdeal.main_arg1)) →
    ∃ (v0 : (c : Dev Cert.DwOutIdeal.nD) → Buf (Elt Ideal) ((c.tc : Thread Cert.DwOutIdeal.nD Cert.DwOutIdeal.τ).loc Cert.DwOutIdeal.main_v1)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v1) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1))
      ∧ θ_run (Cert.DwOutGradIdeal.defs (F := Ideal)) (onTc (τ := Cert.DwOutGradIdeal.τ) (Cert.DwOutGradIdeal.main (F := Ideal))) ⟨m', fun _ => 0, g'⟩ (fun r => ∀ c : Dev Cert.DwOutGradIdeal.nD,
          r.2.mem ((c.tc : Thread Cert.DwOutGradIdeal.nD Cert.DwOutGradIdeal.τ).loc Cert.DwOutGradIdeal.main_v4) = v0 c
          ∧ r.2.mem ((c.tc : Thread Cert.DwOutGradIdeal.nD Cert.DwOutGradIdeal.τ).loc Cert.DwOutGradIdeal.main_arg0) = m' ((c.tc : Thread Cert.DwOutGradIdeal.nD Cert.DwOutGradIdeal.τ).loc Cert.DwOutGradIdeal.main_arg0)
          ∧ r.2.mem ((c.tc : Thread Cert.DwOutGradIdeal.nD Cert.DwOutGradIdeal.τ).loc Cert.DwOutGradIdeal.main_arg1) = m' ((c.tc : Thread Cert.DwOutGradIdeal.nD Cert.DwOutGradIdeal.τ).loc Cert.DwOutGradIdeal.main_arg1))

def preserves_FfnLoss_FfnLossIdeal : Prop :=
  True

def algebraic_FfnLossIdeal_LossRefIdeal_pre_loss_finite [hFfnLossIdeal : Cert.FfnLossIdeal.Facts] [hLossRefIdeal : Cert.LossRefIdeal.Facts] [hPre_loss_finite : Cert.Pre_loss_finite.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_FfnLossIdeal_loss_finite m →
    (∀ c : Dev Cert.FfnLossIdeal.nD,
      m' ((c.tc : Thread Cert.LossRefIdeal.nD Cert.LossRefIdeal.τ).loc Cert.LossRefIdeal.main_arg0) = m ((c.tc : Thread Cert.FfnLossIdeal.nD Cert.FfnLossIdeal.τ).loc Cert.FfnLossIdeal.main_arg0)
      ∧ m' ((c.tc : Thread Cert.LossRefIdeal.nD Cert.LossRefIdeal.τ).loc Cert.LossRefIdeal.main_arg1) = m ((c.tc : Thread Cert.FfnLossIdeal.nD Cert.FfnLossIdeal.τ).loc Cert.FfnLossIdeal.main_arg1)
      ∧ m' ((c.tc : Thread Cert.LossRefIdeal.nD Cert.LossRefIdeal.τ).loc Cert.LossRefIdeal.main_arg2) = m ((c.tc : Thread Cert.FfnLossIdeal.nD Cert.FfnLossIdeal.τ).loc Cert.FfnLossIdeal.main_arg2)
      ∧ m' ((c.tc : Thread Cert.LossRefIdeal.nD Cert.LossRefIdeal.τ).loc Cert.LossRefIdeal.main_arg3) = m ((c.tc : Thread Cert.FfnLossIdeal.nD Cert.FfnLossIdeal.τ).loc Cert.FfnLossIdeal.main_arg3)
      ∧ m' ((c.tc : Thread Cert.LossRefIdeal.nD Cert.LossRefIdeal.τ).loc Cert.LossRefIdeal.main_arg4) = m ((c.tc : Thread Cert.FfnLossIdeal.nD Cert.FfnLossIdeal.τ).loc Cert.FfnLossIdeal.main_arg4)
      ∧ m' ((c.tc : Thread Cert.LossRefIdeal.nD Cert.LossRefIdeal.τ).loc Cert.LossRefIdeal.main_arg5) = m ((c.tc : Thread Cert.FfnLossIdeal.nD Cert.FfnLossIdeal.τ).loc Cert.FfnLossIdeal.main_arg5)
      ∧ m' ((c.tc : Thread Cert.LossRefIdeal.nD Cert.LossRefIdeal.τ).loc Cert.LossRefIdeal.main_arg6) = m ((c.tc : Thread Cert.FfnLossIdeal.nD Cert.FfnLossIdeal.τ).loc Cert.FfnLossIdeal.main_arg6)) →
    ∃ (v0 : (c : Dev Cert.FfnLossIdeal.nD) → Buf (Elt Ideal) ((c.tc : Thread Cert.FfnLossIdeal.nD Cert.FfnLossIdeal.τ).loc Cert.FfnLossIdeal.main_v5_0)) (v1 : (c : Dev Cert.FfnLossIdeal.nD) → Buf (Elt Ideal) ((c.tc : Thread Cert.FfnLossIdeal.nD Cert.FfnLossIdeal.τ).loc Cert.FfnLossIdeal.main_v5_1)) (v2 : (c : Dev Cert.FfnLossIdeal.nD) → Buf (Elt Ideal) ((c.tc : Thread Cert.FfnLossIdeal.nD Cert.FfnLossIdeal.τ).loc Cert.FfnLossIdeal.main_v5_2)) (v3 : (c : Dev Cert.FfnLossIdeal.nD) → Buf (Elt Ideal) ((c.tc : Thread Cert.FfnLossIdeal.nD Cert.FfnLossIdeal.τ).loc Cert.FfnLossIdeal.main_v5_3)) (v4 : (c : Dev Cert.FfnLossIdeal.nD) → Buf (Elt Ideal) ((c.tc : Thread Cert.FfnLossIdeal.nD Cert.FfnLossIdeal.τ).loc Cert.FfnLossIdeal.main_v5_4)) (v5 : (c : Dev Cert.FfnLossIdeal.nD) → Buf (Elt Ideal) ((c.tc : Thread Cert.FfnLossIdeal.nD Cert.FfnLossIdeal.τ).loc Cert.FfnLossIdeal.main_v5_5)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v5_0) = v0 c
          ∧ r.2.mem ((c.tc : Thread Cert.FfnLossIdeal.nD Cert.FfnLossIdeal.τ).loc Cert.FfnLossIdeal.main_v5_1) = v1 c
          ∧ r.2.mem ((c.tc : Thread Cert.FfnLossIdeal.nD Cert.FfnLossIdeal.τ).loc Cert.FfnLossIdeal.main_v5_2) = v2 c
          ∧ r.2.mem ((c.tc : Thread Cert.FfnLossIdeal.nD Cert.FfnLossIdeal.τ).loc Cert.FfnLossIdeal.main_v5_3) = v3 c
          ∧ r.2.mem ((c.tc : Thread Cert.FfnLossIdeal.nD Cert.FfnLossIdeal.τ).loc Cert.FfnLossIdeal.main_v5_4) = v4 c
          ∧ r.2.mem ((c.tc : Thread Cert.FfnLossIdeal.nD Cert.FfnLossIdeal.τ).loc Cert.FfnLossIdeal.main_v5_5) = v5 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4)
          ∧ r.2.mem ((c.tc : Thread Cert.FfnLossIdeal.nD Cert.FfnLossIdeal.τ).loc Cert.FfnLossIdeal.main_arg5) = m ((c.tc : Thread Cert.FfnLossIdeal.nD Cert.FfnLossIdeal.τ).loc Cert.FfnLossIdeal.main_arg5)
          ∧ r.2.mem ((c.tc : Thread Cert.FfnLossIdeal.nD Cert.FfnLossIdeal.τ).loc Cert.FfnLossIdeal.main_arg6) = m ((c.tc : Thread Cert.FfnLossIdeal.nD Cert.FfnLossIdeal.τ).loc Cert.FfnLossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v66) = v0 c
          ∧ r.2.mem ((c.tc : Thread Cert.LossRefIdeal.nD Cert.LossRefIdeal.τ).loc Cert.LossRefIdeal.main_v79) = v1 c
          ∧ r.2.mem ((c.tc : Thread Cert.LossRefIdeal.nD Cert.LossRefIdeal.τ).loc Cert.LossRefIdeal.main_v81) = v2 c
          ∧ r.2.mem ((c.tc : Thread Cert.LossRefIdeal.nD Cert.LossRefIdeal.τ).loc Cert.LossRefIdeal.main_v83) = v3 c
          ∧ r.2.mem ((c.tc : Thread Cert.LossRefIdeal.nD Cert.LossRefIdeal.τ).loc Cert.LossRefIdeal.main_v84) = v4 c
          ∧ r.2.mem ((c.tc : Thread Cert.LossRefIdeal.nD Cert.LossRefIdeal.τ).loc Cert.LossRefIdeal.main_v50) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_OddFwd_OddFwdIdeal : Prop :=
  True

def algebraic_OddFwdIdeal_OddRefIdeal [hOddFwdIdeal : Cert.OddFwdIdeal.Facts] [hOddRefIdeal : Cert.OddRefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddRefIdeal.nD Cert.OddRefIdeal.τ Cert.OddRefIdeal.sig) → Buf (Elt Ideal) ℓ) (g' : Dev Cert.OddRefIdeal.nD → PrngReg), Pre_OddFwdIdeal m →
    (∀ c : Dev Cert.OddFwdIdeal.nD,
      m' ((c.tc : Thread Cert.OddRefIdeal.nD Cert.OddRefIdeal.τ).loc Cert.OddRefIdeal.main_arg0) = m ((c.tc : Thread Cert.OddFwdIdeal.nD Cert.OddFwdIdeal.τ).loc Cert.OddFwdIdeal.main_arg0)
      ∧ m' ((c.tc : Thread Cert.OddRefIdeal.nD Cert.OddRefIdeal.τ).loc Cert.OddRefIdeal.main_arg1) = m ((c.tc : Thread Cert.OddFwdIdeal.nD Cert.OddFwdIdeal.τ).loc Cert.OddFwdIdeal.main_arg1)
      ∧ m' ((c.tc : Thread Cert.OddRefIdeal.nD Cert.OddRefIdeal.τ).loc Cert.OddRefIdeal.main_arg2) = m ((c.tc : Thread Cert.OddFwdIdeal.nD Cert.OddFwdIdeal.τ).loc Cert.OddFwdIdeal.main_arg2)
      ∧ m' ((c.tc : Thread Cert.OddRefIdeal.nD Cert.OddRefIdeal.τ).loc Cert.OddRefIdeal.main_arg3) = m ((c.tc : Thread Cert.OddFwdIdeal.nD Cert.OddFwdIdeal.τ).loc Cert.OddFwdIdeal.main_arg3)
      ∧ m' ((c.tc : Thread Cert.OddRefIdeal.nD Cert.OddRefIdeal.τ).loc Cert.OddRefIdeal.main_arg4) = m ((c.tc : Thread Cert.OddFwdIdeal.nD Cert.OddFwdIdeal.τ).loc Cert.OddFwdIdeal.main_arg4)
      ∧ m' ((c.tc : Thread Cert.OddRefIdeal.nD Cert.OddRefIdeal.τ).loc Cert.OddRefIdeal.main_arg5) = m ((c.tc : Thread Cert.OddFwdIdeal.nD Cert.OddFwdIdeal.τ).loc Cert.OddFwdIdeal.main_arg5)
      ∧ m' ((c.tc : Thread Cert.OddRefIdeal.nD Cert.OddRefIdeal.τ).loc Cert.OddRefIdeal.main_arg6) = m ((c.tc : Thread Cert.OddFwdIdeal.nD Cert.OddFwdIdeal.τ).loc Cert.OddFwdIdeal.main_arg6)
      ∧ m' ((c.tc : Thread Cert.OddRefIdeal.nD Cert.OddRefIdeal.τ).loc Cert.OddRefIdeal.main_arg7) = m ((c.tc : Thread Cert.OddFwdIdeal.nD Cert.OddFwdIdeal.τ).loc Cert.OddFwdIdeal.main_arg7)
      ∧ m' ((c.tc : Thread Cert.OddRefIdeal.nD Cert.OddRefIdeal.τ).loc Cert.OddRefIdeal.main_arg8) = m ((c.tc : Thread Cert.OddFwdIdeal.nD Cert.OddFwdIdeal.τ).loc Cert.OddFwdIdeal.main_arg8)) →
    ∃ (v0 : (c : Dev Cert.OddFwdIdeal.nD) → Buf (Elt Ideal) ((c.tc : Thread Cert.OddFwdIdeal.nD Cert.OddFwdIdeal.τ).loc Cert.OddFwdIdeal.main_v3_0)) (v1 : (c : Dev Cert.OddFwdIdeal.nD) → Buf (Elt Ideal) ((c.tc : Thread Cert.OddFwdIdeal.nD Cert.OddFwdIdeal.τ).loc Cert.OddFwdIdeal.main_v3_1)) (v2 : (c : Dev Cert.OddFwdIdeal.nD) → Buf (Elt Ideal) ((c.tc : Thread Cert.OddFwdIdeal.nD Cert.OddFwdIdeal.τ).loc Cert.OddFwdIdeal.main_v3_2)) (v3 : (c : Dev Cert.OddFwdIdeal.nD) → Buf (Elt Ideal) ((c.tc : Thread Cert.OddFwdIdeal.nD Cert.OddFwdIdeal.τ).loc Cert.OddFwdIdeal.main_v3_3)) (v4 : (c : Dev Cert.OddFwdIdeal.nD) → Buf (Elt Ideal) ((c.tc : Thread Cert.OddFwdIdeal.nD Cert.OddFwdIdeal.τ).loc Cert.OddFwdIdeal.main_v3_4)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v3_0) = v0 c
          ∧ r.2.mem ((c.tc : Thread Cert.OddFwdIdeal.nD Cert.OddFwdIdeal.τ).loc Cert.OddFwdIdeal.main_v3_1) = v1 c
          ∧ r.2.mem ((c.tc : Thread Cert.OddFwdIdeal.nD Cert.OddFwdIdeal.τ).loc Cert.OddFwdIdeal.main_v3_2) = v2 c
          ∧ r.2.mem ((c.tc : Thread Cert.OddFwdIdeal.nD Cert.OddFwdIdeal.τ).loc Cert.OddFwdIdeal.main_v3_3) = v3 c
          ∧ r.2.mem ((c.tc : Thread Cert.OddFwdIdeal.nD Cert.OddFwdIdeal.τ).loc Cert.OddFwdIdeal.main_v3_4) = v4 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
          ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2)
          ∧ r.2.mem ((c.tc : Thread Cert.OddFwdIdeal.nD Cert.OddFwdIdeal.τ).loc Cert.OddFwdIdeal.main_arg3) = m ((c.tc : Thread Cert.OddFwdIdeal.nD Cert.OddFwdIdeal.τ).loc Cert.OddFwdIdeal.main_arg3)
          ∧ r.2.mem ((c.tc : Thread Cert.OddFwdIdeal.nD Cert.OddFwdIdeal.τ).loc Cert.OddFwdIdeal.main_arg4) = m ((c.tc : Thread Cert.OddFwdIdeal.nD Cert.OddFwdIdeal.τ).loc Cert.OddFwdIdeal.main_arg4)
          ∧ r.2.mem ((c.tc : Thread Cert.OddFwdIdeal.nD Cert.OddFwdIdeal.τ).loc Cert.OddFwdIdeal.main_arg5) = m ((c.tc : Thread Cert.OddFwdIdeal.nD Cert.OddFwdIdeal.τ).loc Cert.OddFwdIdeal.main_arg5)
          ∧ r.2.mem ((c.tc : Thread Cert.OddFwdIdeal.nD Cert.OddFwdIdeal.τ).loc Cert.OddFwdIdeal.main_arg6) = m ((c.tc : Thread Cert.OddFwdIdeal.nD Cert.OddFwdIdeal.τ).loc Cert.OddFwdIdeal.main_arg6)
          ∧ r.2.mem ((c.tc : Thread Cert.OddFwdIdeal.nD Cert.OddFwdIdeal.τ).loc Cert.OddFwdIdeal.main_arg7) = m ((c.tc : Thread Cert.OddFwdIdeal.nD Cert.OddFwdIdeal.τ).loc Cert.OddFwdIdeal.main_arg7)
          ∧ r.2.mem ((c.tc : Thread Cert.OddFwdIdeal.nD Cert.OddFwdIdeal.τ).loc Cert.OddFwdIdeal.main_arg8) = m ((c.tc : Thread Cert.OddFwdIdeal.nD Cert.OddFwdIdeal.τ).loc Cert.OddFwdIdeal.main_arg8))
      ∧ θ_run (Cert.OddRefIdeal.defs (F := Ideal)) (onTc (τ := Cert.OddRefIdeal.τ) (Cert.OddRefIdeal.main (F := Ideal))) ⟨m', fun _ => 0, g'⟩ (fun r => ∀ c : Dev Cert.OddRefIdeal.nD,
          r.2.mem ((c.tc : Thread Cert.OddRefIdeal.nD Cert.OddRefIdeal.τ).loc Cert.OddRefIdeal.main_v529) = v0 c
          ∧ r.2.mem ((c.tc : Thread Cert.OddRefIdeal.nD Cert.OddRefIdeal.τ).loc Cert.OddRefIdeal.main_v530) = v1 c
          ∧ r.2.mem ((c.tc : Thread Cert.OddRefIdeal.nD Cert.OddRefIdeal.τ).loc Cert.OddRefIdeal.main_v531) = v2 c
          ∧ r.2.mem ((c.tc : Thread Cert.OddRefIdeal.nD Cert.OddRefIdeal.τ).loc Cert.OddRefIdeal.main_v532) = v3 c
          ∧ r.2.mem ((c.tc : Thread Cert.OddRefIdeal.nD Cert.OddRefIdeal.τ).loc Cert.OddRefIdeal.main_v243) = v4 c
          ∧ r.2.mem ((c.tc : Thread Cert.OddRefIdeal.nD Cert.OddRefIdeal.τ).loc Cert.OddRefIdeal.main_arg0) = m' ((c.tc : Thread Cert.OddRefIdeal.nD Cert.OddRefIdeal.τ).loc Cert.OddRefIdeal.main_arg0)
          ∧ r.2.mem ((c.tc : Thread Cert.OddRefIdeal.nD Cert.OddRefIdeal.τ).loc Cert.OddRefIdeal.main_arg1) = m' ((c.tc : Thread Cert.OddRefIdeal.nD Cert.OddRefIdeal.τ).loc Cert.OddRefIdeal.main_arg1)
          ∧ r.2.mem ((c.tc : Thread Cert.OddRefIdeal.nD Cert.OddRefIdeal.τ).loc Cert.OddRefIdeal.main_arg2) = m' ((c.tc : Thread Cert.OddRefIdeal.nD Cert.OddRefIdeal.τ).loc Cert.OddRefIdeal.main_arg2)
          ∧ r.2.mem ((c.tc : Thread Cert.OddRefIdeal.nD Cert.OddRefIdeal.τ).loc Cert.OddRefIdeal.main_arg3) = m' ((c.tc : Thread Cert.OddRefIdeal.nD Cert.OddRefIdeal.τ).loc Cert.OddRefIdeal.main_arg3)
          ∧ r.2.mem ((c.tc : Thread Cert.OddRefIdeal.nD Cert.OddRefIdeal.τ).loc Cert.OddRefIdeal.main_arg4) = m' ((c.tc : Thread Cert.OddRefIdeal.nD Cert.OddRefIdeal.τ).loc Cert.OddRefIdeal.main_arg4)
          ∧ r.2.mem ((c.tc : Thread Cert.OddRefIdeal.nD Cert.OddRefIdeal.τ).loc Cert.OddRefIdeal.main_arg5) = m' ((c.tc : Thread Cert.OddRefIdeal.nD Cert.OddRefIdeal.τ).loc Cert.OddRefIdeal.main_arg5)
          ∧ r.2.mem ((c.tc : Thread Cert.OddRefIdeal.nD Cert.OddRefIdeal.τ).loc Cert.OddRefIdeal.main_arg6) = m' ((c.tc : Thread Cert.OddRefIdeal.nD Cert.OddRefIdeal.τ).loc Cert.OddRefIdeal.main_arg6)
          ∧ r.2.mem ((c.tc : Thread Cert.OddRefIdeal.nD Cert.OddRefIdeal.τ).loc Cert.OddRefIdeal.main_arg7) = m' ((c.tc : Thread Cert.OddRefIdeal.nD Cert.OddRefIdeal.τ).loc Cert.OddRefIdeal.main_arg7)
          ∧ r.2.mem ((c.tc : Thread Cert.OddRefIdeal.nD Cert.OddRefIdeal.τ).loc Cert.OddRefIdeal.main_arg8) = m' ((c.tc : Thread Cert.OddRefIdeal.nD Cert.OddRefIdeal.τ).loc Cert.OddRefIdeal.main_arg8))

def preserves_OddBwd_OddBwdIdeal : Prop :=
  True

def algebraic_OddBwdIdeal_OddGradIdeal_pre_odd_finite [hOddBwdIdeal : Cert.OddBwdIdeal.Facts] [hOddGradIdeal : Cert.OddGradIdeal.Facts] [hPre_odd_finite : Cert.Pre_odd_finite.Facts] : Prop :=
  ∀ (m : (ℓ : Loc Cert.OddBwdIdeal.nD Cert.OddBwdIdeal.τ Cert.OddBwdIdeal.sig) → Buf (Elt Ideal) ℓ) (g : Dev Cert.OddBwdIdeal.nD → PrngReg)
    (m' : (ℓ : Loc Cert.OddGradIdeal.nD Cert.OddGradIdeal.τ Cert.OddGradIdeal.sig) → Buf (Elt Ideal) ℓ) (g' : Dev Cert.OddGradIdeal.nD → PrngReg), Pre_OddBwdIdeal_odd_finite m →
    (∀ c : Dev Cert.OddBwdIdeal.nD,
      m' ((c.tc : Thread Cert.OddGradIdeal.nD Cert.OddGradIdeal.τ).loc Cert.OddGradIdeal.main_arg0) = m ((c.tc : Thread Cert.OddBwdIdeal.nD Cert.OddBwdIdeal.τ).loc Cert.OddBwdIdeal.main_arg0)
      ∧ m' ((c.tc : Thread Cert.OddGradIdeal.nD Cert.OddGradIdeal.τ).loc Cert.OddGradIdeal.main_arg1) = m ((c.tc : Thread Cert.OddBwdIdeal.nD Cert.OddBwdIdeal.τ).loc Cert.OddBwdIdeal.main_arg1)
      ∧ m' ((c.tc : Thread Cert.OddGradIdeal.nD Cert.OddGradIdeal.τ).loc Cert.OddGradIdeal.main_arg2) = m ((c.tc : Thread Cert.OddBwdIdeal.nD Cert.OddBwdIdeal.τ).loc Cert.OddBwdIdeal.main_arg2)
      ∧ m' ((c.tc : Thread Cert.OddGradIdeal.nD Cert.OddGradIdeal.τ).loc Cert.OddGradIdeal.main_arg3) = m ((c.tc : Thread Cert.OddBwdIdeal.nD Cert.OddBwdIdeal.τ).loc Cert.OddBwdIdeal.main_arg3)
      ∧ m' ((c.tc : Thread Cert.OddGradIdeal.nD Cert.OddGradIdeal.τ).loc Cert.OddGradIdeal.main_arg4) = m ((c.tc : Thread Cert.OddBwdIdeal.nD Cert.OddBwdIdeal.τ).loc Cert.OddBwdIdeal.main_arg4)
      ∧ m' ((c.tc : Thread Cert.OddGradIdeal.nD Cert.OddGradIdeal.τ).loc Cert.OddGradIdeal.main_arg5) = m ((c.tc : Thread Cert.OddBwdIdeal.nD Cert.OddBwdIdeal.τ).loc Cert.OddBwdIdeal.main_arg5)
      ∧ m' ((c.tc : Thread Cert.OddGradIdeal.nD Cert.OddGradIdeal.τ).loc Cert.OddGradIdeal.main_arg6) = m ((c.tc : Thread Cert.OddBwdIdeal.nD Cert.OddBwdIdeal.τ).loc Cert.OddBwdIdeal.main_arg6)
      ∧ m' ((c.tc : Thread Cert.OddGradIdeal.nD Cert.OddGradIdeal.τ).loc Cert.OddGradIdeal.main_arg7) = m ((c.tc : Thread Cert.OddBwdIdeal.nD Cert.OddBwdIdeal.τ).loc Cert.OddBwdIdeal.main_arg7)
      ∧ m' ((c.tc : Thread Cert.OddGradIdeal.nD Cert.OddGradIdeal.τ).loc Cert.OddGradIdeal.main_arg8) = m ((c.tc : Thread Cert.OddBwdIdeal.nD Cert.OddBwdIdeal.τ).loc Cert.OddBwdIdeal.main_arg8)
      ∧ m' ((c.tc : Thread Cert.OddGradIdeal.nD Cert.OddGradIdeal.τ).loc Cert.OddGradIdeal.main_arg9) = m ((c.tc : Thread Cert.OddBwdIdeal.nD Cert.OddBwdIdeal.τ).loc Cert.OddBwdIdeal.main_arg9)) →
    ∃ (v0 : (c : Dev Cert.OddBwdIdeal.nD) → Buf (Elt Ideal) ((c.tc : Thread Cert.OddBwdIdeal.nD Cert.OddBwdIdeal.τ).loc Cert.OddBwdIdeal.main_v250_0)) (v1 : (c : Dev Cert.OddBwdIdeal.nD) → Buf (Elt Ideal) ((c.tc : Thread Cert.OddBwdIdeal.nD Cert.OddBwdIdeal.τ).loc Cert.OddBwdIdeal.main_v250_1)) (v2 : (c : Dev Cert.OddBwdIdeal.nD) → Buf (Elt Ideal) ((c.tc : Thread Cert.OddBwdIdeal.nD Cert.OddBwdIdeal.τ).loc Cert.OddBwdIdeal.main_v250_2)) (v3 : (c : Dev Cert.OddBwdIdeal.nD) → Buf (Elt Ideal) ((c.tc : Thread Cert.OddBwdIdeal.nD Cert.OddBwdIdeal.τ).loc Cert.OddBwdIdeal.main_v250_3)) (v4 : (c : Dev Cert.OddBwdIdeal.nD) → Buf (Elt Ideal) ((c.tc : Thread Cert.OddBwdIdeal.nD Cert.OddBwdIdeal.τ).loc Cert.OddBwdIdeal.main_v250_4)) (v5 : (c : Dev Cert.OddBwdIdeal.nD) → Buf (Elt Ideal) ((c.tc : Thread Cert.OddBwdIdeal.nD Cert.OddBwdIdeal.τ).loc Cert.OddBwdIdeal.main_v250_5)) (v6 : (c : Dev Cert.OddBwdIdeal.nD) → Buf (Elt Ideal) ((c.tc : Thread Cert.OddBwdIdeal.nD Cert.OddBwdIdeal.τ).loc Cert.OddBwdIdeal.main_v250_6)) (v7 : (c : Dev Cert.OddBwdIdeal.nD) → Buf (Elt Ideal) ((c.tc : Thread Cert.OddBwdIdeal.nD Cert.OddBwdIdeal.τ).loc Cert.OddBwdIdeal.main_v250_7)),
      θ_run (Cert.OddBwdIdeal.defs (F := Ideal)) (onTc (τ := Cert.OddBwdIdeal.τ) (Cert.OddBwdIdeal.main (F := Ideal))) ⟨m, fun _ => 0, g⟩ (fun r => ∀ c : Dev Cert.OddBwdIdeal.nD,
          r.2.mem ((c.tc : Thread Cert.OddBwdIdeal.nD Cert.OddBwdIdeal.τ).loc Cert.OddBwdIdeal.main_v250_0) = v0 c
          ∧ r.2.mem ((c.tc : Thread Cert.OddBwdIdeal.nD Cert.OddBwdIdeal.τ).loc Cert.OddBwdIdeal.main_v250_1) = v1 c
          ∧ r.2.mem ((c.tc : Thread Cert.OddBwdIdeal.nD Cert.OddBwdIdeal.τ).loc Cert.OddBwdIdeal.main_v250_2) = v2 c
          ∧ r.2.mem ((c.tc : Thread Cert.OddBwdIdeal.nD Cert.OddBwdIdeal.τ).loc Cert.OddBwdIdeal.main_v250_3) = v3 c
          ∧ r.2.mem ((c.tc : Thread Cert.OddBwdIdeal.nD Cert.OddBwdIdeal.τ).loc Cert.OddBwdIdeal.main_v250_4) = v4 c
          ∧ r.2.mem ((c.tc : Thread Cert.OddBwdIdeal.nD Cert.OddBwdIdeal.τ).loc Cert.OddBwdIdeal.main_v250_5) = v5 c
          ∧ r.2.mem ((c.tc : Thread Cert.OddBwdIdeal.nD Cert.OddBwdIdeal.τ).loc Cert.OddBwdIdeal.main_v250_6) = v6 c
          ∧ r.2.mem ((c.tc : Thread Cert.OddBwdIdeal.nD Cert.OddBwdIdeal.τ).loc Cert.OddBwdIdeal.main_v250_7) = v7 c
          ∧ r.2.mem ((c.tc : Thread Cert.OddBwdIdeal.nD Cert.OddBwdIdeal.τ).loc Cert.OddBwdIdeal.main_arg0) = m ((c.tc : Thread Cert.OddBwdIdeal.nD Cert.OddBwdIdeal.τ).loc Cert.OddBwdIdeal.main_arg0)
          ∧ r.2.mem ((c.tc : Thread Cert.OddBwdIdeal.nD Cert.OddBwdIdeal.τ).loc Cert.OddBwdIdeal.main_arg1) = m ((c.tc : Thread Cert.OddBwdIdeal.nD Cert.OddBwdIdeal.τ).loc Cert.OddBwdIdeal.main_arg1)
          ∧ r.2.mem ((c.tc : Thread Cert.OddBwdIdeal.nD Cert.OddBwdIdeal.τ).loc Cert.OddBwdIdeal.main_arg2) = m ((c.tc : Thread Cert.OddBwdIdeal.nD Cert.OddBwdIdeal.τ).loc Cert.OddBwdIdeal.main_arg2)
          ∧ r.2.mem ((c.tc : Thread Cert.OddBwdIdeal.nD Cert.OddBwdIdeal.τ).loc Cert.OddBwdIdeal.main_arg3) = m ((c.tc : Thread Cert.OddBwdIdeal.nD Cert.OddBwdIdeal.τ).loc Cert.OddBwdIdeal.main_arg3)
          ∧ r.2.mem ((c.tc : Thread Cert.OddBwdIdeal.nD Cert.OddBwdIdeal.τ).loc Cert.OddBwdIdeal.main_arg4) = m ((c.tc : Thread Cert.OddBwdIdeal.nD Cert.OddBwdIdeal.τ).loc Cert.OddBwdIdeal.main_arg4)
          ∧ r.2.mem ((c.tc : Thread Cert.OddBwdIdeal.nD Cert.OddBwdIdeal.τ).loc Cert.OddBwdIdeal.main_arg5) = m ((c.tc : Thread Cert.OddBwdIdeal.nD Cert.OddBwdIdeal.τ).loc Cert.OddBwdIdeal.main_arg5)
          ∧ r.2.mem ((c.tc : Thread Cert.OddBwdIdeal.nD Cert.OddBwdIdeal.τ).loc Cert.OddBwdIdeal.main_arg6) = m ((c.tc : Thread Cert.OddBwdIdeal.nD Cert.OddBwdIdeal.τ).loc Cert.OddBwdIdeal.main_arg6)
          ∧ r.2.mem ((c.tc : Thread Cert.OddBwdIdeal.nD Cert.OddBwdIdeal.τ).loc Cert.OddBwdIdeal.main_arg7) = m ((c.tc : Thread Cert.OddBwdIdeal.nD Cert.OddBwdIdeal.τ).loc Cert.OddBwdIdeal.main_arg7)
          ∧ r.2.mem ((c.tc : Thread Cert.OddBwdIdeal.nD Cert.OddBwdIdeal.τ).loc Cert.OddBwdIdeal.main_arg8) = m ((c.tc : Thread Cert.OddBwdIdeal.nD Cert.OddBwdIdeal.τ).loc Cert.OddBwdIdeal.main_arg8)
          ∧ r.2.mem ((c.tc : Thread Cert.OddBwdIdeal.nD Cert.OddBwdIdeal.τ).loc Cert.OddBwdIdeal.main_arg9) = m ((c.tc : Thread Cert.OddBwdIdeal.nD Cert.OddBwdIdeal.τ).loc Cert.OddBwdIdeal.main_arg9))
      ∧ θ_run (Cert.OddGradIdeal.defs (F := Ideal)) (onTc (τ := Cert.OddGradIdeal.τ) (Cert.OddGradIdeal.main (F := Ideal))) ⟨m', fun _ => 0, g'⟩ (fun r => ∀ c : Dev Cert.OddGradIdeal.nD,
          r.2.mem ((c.tc : Thread Cert.OddGradIdeal.nD Cert.OddGradIdeal.τ).loc Cert.OddGradIdeal.main_v762) = v0 c
          ∧ r.2.mem ((c.tc : Thread Cert.OddGradIdeal.nD Cert.OddGradIdeal.τ).loc Cert.OddGradIdeal.main_v763) = v1 c
          ∧ r.2.mem ((c.tc : Thread Cert.OddGradIdeal.nD Cert.OddGradIdeal.τ).loc Cert.OddGradIdeal.main_v732) = v2 c
          ∧ r.2.mem ((c.tc : Thread Cert.OddGradIdeal.nD Cert.OddGradIdeal.τ).loc Cert.OddGradIdeal.main_v393) = v3 c
          ∧ r.2.mem ((c.tc : Thread Cert.OddGradIdeal.nD Cert.OddGradIdeal.τ).loc Cert.OddGradIdeal.main_v365) = v4 c
          ∧ r.2.mem ((c.tc : Thread Cert.OddGradIdeal.nD Cert.OddGradIdeal.τ).loc Cert.OddGradIdeal.main_v362) = v5 c
          ∧ r.2.mem ((c.tc : Thread Cert.OddGradIdeal.nD Cert.OddGradIdeal.τ).loc Cert.OddGradIdeal.main_v350) = v6 c
          ∧ r.2.mem ((c.tc : Thread Cert.OddGradIdeal.nD Cert.OddGradIdeal.τ).loc Cert.OddGradIdeal.main_v745) = v7 c
          ∧ r.2.mem ((c.tc : Thread Cert.OddGradIdeal.nD Cert.OddGradIdeal.τ).loc Cert.OddGradIdeal.main_arg0) = m' ((c.tc : Thread Cert.OddGradIdeal.nD Cert.OddGradIdeal.τ).loc Cert.OddGradIdeal.main_arg0)
          ∧ r.2.mem ((c.tc : Thread Cert.OddGradIdeal.nD Cert.OddGradIdeal.τ).loc Cert.OddGradIdeal.main_arg1) = m' ((c.tc : Thread Cert.OddGradIdeal.nD Cert.OddGradIdeal.τ).loc Cert.OddGradIdeal.main_arg1)
          ∧ r.2.mem ((c.tc : Thread Cert.OddGradIdeal.nD Cert.OddGradIdeal.τ).loc Cert.OddGradIdeal.main_arg2) = m' ((c.tc : Thread Cert.OddGradIdeal.nD Cert.OddGradIdeal.τ).loc Cert.OddGradIdeal.main_arg2)
          ∧ r.2.mem ((c.tc : Thread Cert.OddGradIdeal.nD Cert.OddGradIdeal.τ).loc Cert.OddGradIdeal.main_arg3) = m' ((c.tc : Thread Cert.OddGradIdeal.nD Cert.OddGradIdeal.τ).loc Cert.OddGradIdeal.main_arg3)
          ∧ r.2.mem ((c.tc : Thread Cert.OddGradIdeal.nD Cert.OddGradIdeal.τ).loc Cert.OddGradIdeal.main_arg4) = m' ((c.tc : Thread Cert.OddGradIdeal.nD Cert.OddGradIdeal.τ).loc Cert.OddGradIdeal.main_arg4)
          ∧ r.2.mem ((c.tc : Thread Cert.OddGradIdeal.nD Cert.OddGradIdeal.τ).loc Cert.OddGradIdeal.main_arg5) = m' ((c.tc : Thread Cert.OddGradIdeal.nD Cert.OddGradIdeal.τ).loc Cert.OddGradIdeal.main_arg5)
          ∧ r.2.mem ((c.tc : Thread Cert.OddGradIdeal.nD Cert.OddGradIdeal.τ).loc Cert.OddGradIdeal.main_arg6) = m' ((c.tc : Thread Cert.OddGradIdeal.nD Cert.OddGradIdeal.τ).loc Cert.OddGradIdeal.main_arg6)
          ∧ r.2.mem ((c.tc : Thread Cert.OddGradIdeal.nD Cert.OddGradIdeal.τ).loc Cert.OddGradIdeal.main_arg7) = m' ((c.tc : Thread Cert.OddGradIdeal.nD Cert.OddGradIdeal.τ).loc Cert.OddGradIdeal.main_arg7)
          ∧ r.2.mem ((c.tc : Thread Cert.OddGradIdeal.nD Cert.OddGradIdeal.τ).loc Cert.OddGradIdeal.main_arg8) = m' ((c.tc : Thread Cert.OddGradIdeal.nD Cert.OddGradIdeal.τ).loc Cert.OddGradIdeal.main_arg8)
          ∧ r.2.mem ((c.tc : Thread Cert.OddGradIdeal.nD Cert.OddGradIdeal.τ).loc Cert.OddGradIdeal.main_arg9) = m' ((c.tc : Thread Cert.OddGradIdeal.nD Cert.OddGradIdeal.τ).loc Cert.OddGradIdeal.main_arg9))

def preserves_FfnFwd_FfnFwdIdeal : Prop :=
  True

def algebraic_FfnFwdIdeal_FwdRefIdeal [hFfnFwdIdeal : Cert.FfnFwdIdeal.Facts] [hFwdRefIdeal : Cert.FwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FfnFwdIdeal m →
    (∀ c : Dev Cert.FfnFwdIdeal.nD,
      m' ((c.tc : Thread Cert.FwdRefIdeal.nD Cert.FwdRefIdeal.τ).loc Cert.FwdRefIdeal.main_arg0) = m ((c.tc : Thread Cert.FfnFwdIdeal.nD Cert.FfnFwdIdeal.τ).loc Cert.FfnFwdIdeal.main_arg0)
      ∧ m' ((c.tc : Thread Cert.FwdRefIdeal.nD Cert.FwdRefIdeal.τ).loc Cert.FwdRefIdeal.main_arg1) = m ((c.tc : Thread Cert.FfnFwdIdeal.nD Cert.FfnFwdIdeal.τ).loc Cert.FfnFwdIdeal.main_arg1)
      ∧ m' ((c.tc : Thread Cert.FwdRefIdeal.nD Cert.FwdRefIdeal.τ).loc Cert.FwdRefIdeal.main_arg2) = m ((c.tc : Thread Cert.FfnFwdIdeal.nD Cert.FfnFwdIdeal.τ).loc Cert.FfnFwdIdeal.main_arg2)
      ∧ m' ((c.tc : Thread Cert.FwdRefIdeal.nD Cert.FwdRefIdeal.τ).loc Cert.FwdRefIdeal.main_arg3) = m ((c.tc : Thread Cert.FfnFwdIdeal.nD Cert.FfnFwdIdeal.τ).loc Cert.FfnFwdIdeal.main_arg3)
      ∧ m' ((c.tc : Thread Cert.FwdRefIdeal.nD Cert.FwdRefIdeal.τ).loc Cert.FwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v5_0)) (v1 : (c : Dev Cert.FfnFwdIdeal.nD) → Buf (Elt Ideal) ((c.tc : Thread Cert.FfnFwdIdeal.nD Cert.FfnFwdIdeal.τ).loc Cert.FfnFwdIdeal.main_v5_1)) (v2 : (c : Dev Cert.FfnFwdIdeal.nD) → Buf (Elt Ideal) ((c.tc : Thread Cert.FfnFwdIdeal.nD Cert.FfnFwdIdeal.τ).loc Cert.FfnFwdIdeal.main_v5_2)) (v3 : (c : Dev Cert.FfnFwdIdeal.nD) → Buf (Elt Ideal) ((c.tc : Thread Cert.FfnFwdIdeal.nD Cert.FfnFwdIdeal.τ).loc Cert.FfnFwdIdeal.main_v5_3)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v5_0) = v0 c
          ∧ r.2.mem ((c.tc : Thread Cert.FfnFwdIdeal.nD Cert.FfnFwdIdeal.τ).loc Cert.FfnFwdIdeal.main_v5_1) = v1 c
          ∧ r.2.mem ((c.tc : Thread Cert.FfnFwdIdeal.nD Cert.FfnFwdIdeal.τ).loc Cert.FfnFwdIdeal.main_v5_2) = v2 c
          ∧ r.2.mem ((c.tc : Thread Cert.FfnFwdIdeal.nD Cert.FfnFwdIdeal.τ).loc Cert.FfnFwdIdeal.main_v5_3) = v3 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v29) = v0 c
          ∧ r.2.mem ((c.tc : Thread Cert.FwdRefIdeal.nD Cert.FwdRefIdeal.τ).loc Cert.FwdRefIdeal.main_v30) = v1 c
          ∧ r.2.mem ((c.tc : Thread Cert.FwdRefIdeal.nD Cert.FwdRefIdeal.τ).loc Cert.FwdRefIdeal.main_v32) = v2 c
          ∧ r.2.mem ((c.tc : Thread Cert.FwdRefIdeal.nD Cert.FwdRefIdeal.τ).loc Cert.FwdRefIdeal.main_v34) = v3 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def Claim : Prop :=
  ∃ (hFfnBwd : Cert.FfnBwd.Facts) (hFfnBwdIdeal : Cert.FfnBwdIdeal.Facts) (hFfnGradIdeal : Cert.FfnGradIdeal.Facts) (hDwHid : Cert.DwHid.Facts) (hDwHidIdeal : Cert.DwHidIdeal.Facts) (hDwHidGradIdeal : Cert.DwHidGradIdeal.Facts) (hDwDown : Cert.DwDown.Facts) (hDwDownIdeal : Cert.DwDownIdeal.Facts) (hDwDownGradIdeal : Cert.DwDownGradIdeal.Facts) (hDwIn : Cert.DwIn.Facts) (hDwInIdeal : Cert.DwInIdeal.Facts) (hDwInGradIdeal : Cert.DwInGradIdeal.Facts) (hDwOut : Cert.DwOut.Facts) (hDwOutIdeal : Cert.DwOutIdeal.Facts) (hDwOutGradIdeal : Cert.DwOutGradIdeal.Facts) (hFfnLoss : Cert.FfnLoss.Facts) (hFfnLossIdeal : Cert.FfnLossIdeal.Facts) (hLossRefIdeal : Cert.LossRefIdeal.Facts) (hOddFwd : Cert.OddFwd.Facts) (hOddFwdIdeal : Cert.OddFwdIdeal.Facts) (hOddRefIdeal : Cert.OddRefIdeal.Facts) (hOddBwd : Cert.OddBwd.Facts) (hOddBwdIdeal : Cert.OddBwdIdeal.Facts) (hOddGradIdeal : Cert.OddGradIdeal.Facts) (hFfnFwd : Cert.FfnFwd.Facts) (hFfnFwdIdeal : Cert.FfnFwdIdeal.Facts) (hFwdRefIdeal : Cert.FwdRefIdeal.Facts) (hPre_finite : Cert.Pre_finite.Facts) (hPre_loss_finite : Cert.Pre_loss_finite.Facts) (hPre_odd_finite : Cert.Pre_odd_finite.Facts),
    quiescent_FfnBwd (hFfnBwd := hFfnBwd)
    ∧ quiescent_FfnBwdIdeal (hFfnBwdIdeal := hFfnBwdIdeal)
    ∧ quiescent_FfnBwdIdeal_pre_finite (hFfnBwdIdeal := hFfnBwdIdeal) (hPre_finite := hPre_finite)
    ∧ quiescent_FfnGradIdeal (hFfnGradIdeal := hFfnGradIdeal)
    ∧ quiescent_FfnGradIdeal_pre_finite (hFfnGradIdeal := hFfnGradIdeal) (hPre_finite := hPre_finite)
    ∧ quiescent_DwHid (hDwHid := hDwHid)
    ∧ quiescent_DwHidIdeal (hDwHidIdeal := hDwHidIdeal)
    ∧ quiescent_DwHidGradIdeal (hDwHidGradIdeal := hDwHidGradIdeal)
    ∧ quiescent_DwDown (hDwDown := hDwDown)
    ∧ quiescent_DwDownIdeal (hDwDownIdeal := hDwDownIdeal)
    ∧ quiescent_DwDownGradIdeal (hDwDownGradIdeal := hDwDownGradIdeal)
    ∧ quiescent_DwIn (hDwIn := hDwIn)
    ∧ quiescent_DwInIdeal (hDwInIdeal := hDwInIdeal)
    ∧ quiescent_DwInGradIdeal (hDwInGradIdeal := hDwInGradIdeal)
    ∧ quiescent_DwOut (hDwOut := hDwOut)
    ∧ quiescent_DwOutIdeal (hDwOutIdeal := hDwOutIdeal)
    ∧ quiescent_DwOutGradIdeal (hDwOutGradIdeal := hDwOutGradIdeal)
    ∧ quiescent_FfnLoss (hFfnLoss := hFfnLoss)
    ∧ quiescent_FfnLossIdeal (hFfnLossIdeal := hFfnLossIdeal)
    ∧ quiescent_FfnLossIdeal_pre_loss_finite (hFfnLossIdeal := hFfnLossIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_OddFwd (hOddFwd := hOddFwd)
    ∧ quiescent_OddFwdIdeal (hOddFwdIdeal := hOddFwdIdeal)
    ∧ quiescent_OddRefIdeal (hOddRefIdeal := hOddRefIdeal)
    ∧ quiescent_OddBwd (hOddBwd := hOddBwd)
    ∧ quiescent_OddBwdIdeal (hOddBwdIdeal := hOddBwdIdeal)
    ∧ quiescent_OddBwdIdeal_pre_odd_finite (hOddBwdIdeal := hOddBwdIdeal) (hPre_odd_finite := hPre_odd_finite)
    ∧ quiescent_OddGradIdeal (hOddGradIdeal := hOddGradIdeal)
    ∧ quiescent_OddGradIdeal_pre_odd_finite (hOddGradIdeal := hOddGradIdeal) (hPre_odd_finite := hPre_odd_finite)
    ∧ quiescent_FfnFwd (hFfnFwd := hFfnFwd)
    ∧ quiescent_FfnFwdIdeal (hFfnFwdIdeal := hFfnFwdIdeal)
    ∧ quiescent_FwdRefIdeal (hFwdRefIdeal := hFwdRefIdeal)
    ∧ preserves_FfnBwd_FfnBwdIdeal
    ∧ algebraic_FfnBwdIdeal_FfnGradIdeal_pre_finite (hFfnBwdIdeal := hFfnBwdIdeal) (hFfnGradIdeal := hFfnGradIdeal) (hPre_finite := hPre_finite)
    ∧ preserves_DwHid_DwHidIdeal
    ∧ algebraic_DwHidIdeal_DwHidGradIdeal (hDwHidIdeal := hDwHidIdeal) (hDwHidGradIdeal := hDwHidGradIdeal)
    ∧ preserves_DwDown_DwDownIdeal
    ∧ algebraic_DwDownIdeal_DwDownGradIdeal (hDwDownIdeal := hDwDownIdeal) (hDwDownGradIdeal := hDwDownGradIdeal)
    ∧ preserves_DwIn_DwInIdeal
    ∧ algebraic_DwInIdeal_DwInGradIdeal (hDwInIdeal := hDwInIdeal) (hDwInGradIdeal := hDwInGradIdeal)
    ∧ preserves_DwOut_DwOutIdeal
    ∧ algebraic_DwOutIdeal_DwOutGradIdeal (hDwOutIdeal := hDwOutIdeal) (hDwOutGradIdeal := hDwOutGradIdeal)
    ∧ preserves_FfnLoss_FfnLossIdeal
    ∧ algebraic_FfnLossIdeal_LossRefIdeal_pre_loss_finite (hFfnLossIdeal := hFfnLossIdeal) (hLossRefIdeal := hLossRefIdeal) (hPre_loss_finite := hPre_loss_finite)
    ∧ preserves_OddFwd_OddFwdIdeal
    ∧ algebraic_OddFwdIdeal_OddRefIdeal (hOddFwdIdeal := hOddFwdIdeal) (hOddRefIdeal := hOddRefIdeal)
    ∧ preserves_OddBwd_OddBwdIdeal
    ∧ algebraic_OddBwdIdeal_OddGradIdeal_pre_odd_finite (hOddBwdIdeal := hOddBwdIdeal) (hOddGradIdeal := hOddGradIdeal) (hPre_odd_finite := hPre_odd_finite)
    ∧ preserves_FfnFwd_FfnFwdIdeal
    ∧ algebraic_FfnFwdIdeal_FwdRefIdeal (hFfnFwdIdeal := hFfnFwdIdeal) (hFwdRefIdeal := hFwdRefIdeal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) : IVec S8192x1024 1 × IVec S1x1024 1 × IVec S1024x2816 1 × IVec S1024x2816 1 × IVec S2816x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  (main_v2, main_v5, main_v8, main_v11, main_v14, main_v17)
-- ==== Pre_loss_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg6 : FVec F S1x1024 .f32) (main_v2 : IVec S8192x1024 1) (main_v5 : IVec S1x1024 1) (main_v8 : IVec S1024x2816 1) (main_v11 : IVec S1024x2816 1) (main_v14 : IVec S2816x1024 1) (main_v17 : IVec S8192x1024 1) : IVec S8192x1024 1 × IVec S1x1024 1 × IVec S1024x2816 1 × IVec S1024x2816 1 × IVec S2816x1024 1 × IVec S8192x1024 1 × IVec S1x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  (main_v2, main_v5, main_v8, main_v11, main_v14, main_v17, main_v20)

def fn {F : FTy → Type} [FloatOps F] (main_arg0 : FVec F S8192x1024 .f32) (main_arg1 : FVec F S1x1024 .f32) (main_arg2 : FVec F S1024x2816 .f32) (main_arg3 : FVec F S1024x2816 .f32) (main_arg4 : FVec F S2816x1024 .f32) (main_arg5 : FVec F S8192x1024 .f32) (main_arg6 : FVec F S1x1024 .f32) : IVec S8192x1024 1 × IVec S1x1024 1 × IVec S1024x2816 1 × IVec S1024x2816 1 × IVec S2816x1024 1 × IVec S8192x1024 1 × IVec S1x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S8192x1024 .f32 := Host.absf main_arg5
  let main_cst_4 : FVec F S_ .f32 := constant S_ .f32 0x7F800000#32
  let main_v16 : FVec F S8192x1024 .f32 := broadcastInDim S8192x1024 ![] bcast_S_S8192x1024 main_cst_4
  let main_v17 : IVec S8192x1024 1 := cmpf .olt main_v15 main_v16
  fn_part1 (F := F) main_arg6 main_v2 main_v5 main_v8 main_v11 main_v14 main_v17
-- ==== Pre_odd_finite.lean ====
abbrev S8192x1024 : Shape := ⟨2, ![8192, 1024]⟩
abbrev S1024x2560 : Shape := ⟨2, ![1024, 2560]⟩
abbrev S1024x1024 : Shape := ⟨2, ![1024, 1024]⟩
abbrev S31x512 : Shape := ⟨2, ![31, 512]⟩
abbrev S1x512 : Shape := ⟨2, ![1, 512]⟩
abbrev S3x512 : Shape := ⟨2, ![3, 512]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  bcast_S_S1024x2560 : S_.BroadcastsInDim S1024x2560 (![] : Fin 0 → Fin S1024x2560.rank)
  bcast_S_S1024x1024 : S_.BroadcastsInDim S1024x1024 (![] : Fin 0 → Fin S1024x1024.rank)
  bcast_S_S31x512 : S_.BroadcastsInDim S31x512 (![] : Fin 0 → Fin S31x512.rank)
  bcast_S_S1x512 : S_.BroadcastsInDim S1x512 (![] : Fin 0 → Fin S1x512.rank)
  bcast_S_S3x512 : S_.BroadcastsInDim S3x512 (![] : Fin 0 → Fin S3x512.rank)
  bcast_S_S1x1024 : S_.BroadcastsInDim S1x1024 (![] : Fin 0 → Fin S1x1024.rank)

variable [Facts]

def fn_part1 {F : FTy → Type} [FloatOps F] (main_arg6 : FVec F S1x512 .f32) (main_arg7 : FVec F S3x512 .f32) (main_arg8 : FVec F S1x1024 .f32) (main_arg9 : FVec F S8192x1024 .f32) (main_v2 : IVec S8192x1024 1) (main_v5 : IVec S1024x2560 1) (main_v8 : IVec S1024x1024 1) (main_v11 : IVec S31x512 1) (main_v14 : IVec S1x512 1) (main_v17 : IVec S1x512 1) : IVec S8192x1024 1 × IVec S1024x2560 1 × IVec S1024x1024 1 × IVec S31x512 1 × IVec S1x512 1 × IVec S1x512 1 × IVec S1x512 1 × IVec S3x512 1 × IVec S1x1024 1 × IVec S8192x1024 1 :=
  let main_v18 : FVec F S1x512 .f32 := Host.absf main_arg6
  let main_cst_5 : FVec F S_ .f32 := constant S_ .f32 0x7F800000#32
  let main_v19 : FVec F S1x512 .f32 := broadcastInDim S1x512 ![] bcast_S_S1x512 main_cst_5
  let main_v20 : IVec S1x512 1 := cmpf .olt main_v18 main_v19
  let main_v21 : FVec F S3x512 .f32 := Host.absf main_arg7
  let main_cst_6 : FVec F S_ .f32 := constant S_ .f32 0x7F800000#32
  let main_v22 : FVec F S3x512 .f32 := broadcastInDim S3x512 ![] bcast_S_S3x512 main_cst_6
  let main_v23 : IVec S3x512 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x1024 .f32) (main_arg1 : FVec F S1024x2560 .f32) (main_arg2 : FVec F S1024x1024 .f32) (main_arg3 : FVec F S31x512 .f32) (main_arg4 : FVec F S1x512 .f32) (main_arg5 : FVec F S1x512 .f32) (main_arg6 : FVec F S1x512 .f32) (main_arg7 : FVec F S3x512 .f32) (main_arg8 : FVec F S1x1024 .f32) (main_arg9 : FVec F S8192x1024 .f32) : IVec S8192x1024 1 × IVec S1024x2560 1 × IVec S1024x1024 1 × IVec S31x512 1 × IVec S1x512 1 × IVec S1x512 1 × IVec S1x512 1 × IVec S3x512 1 × IVec S1x1024 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x2560 .f32 := Host.absf main_arg1
  let main_cst_0 : FVec F S_ .f32 := constant S_ .f32 0x7F800000#32
  let main_v4 : FVec F S1024x2560 .f32 := broadcastInDim S1024x2560 ![] bcast_S_S1024x2560 main_cst_0
  let main_v5 : IVec S1024x2560 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S31x512 .f32 := Host.absf main_arg3
  let main_cst_2 : FVec F S_ .f32 := constant S_ .f32 0x7F800000#32
  let main_v10 : FVec F S31x512 .f32 := broadcastInDim S31x512 ![] bcast_S_S31x512 main_cst_2
  let main_v11 : IVec S31x512 1 := cmpf .olt main_v9 main_v10
  let main_v12 : FVec F S1x512 .f32 := Host.absf main_arg4
  let main_cst_3 : FVec F S_ .f32 := constant S_ .f32 0x7F800000#32
  let main_v13 : FVec F S1x512 .f32 := broadcastInDim S1x512 ![] bcast_S_S1x512 main_cst_3
  let main_v14 : IVec S1x512 1 := cmpf .olt main_v12 main_v13
  let main_v15 : FVec F S1x512 .f32 := Host.absf main_arg5
  let main_cst_4 : FVec F S_ .f32 := constant S_ .f32 0x7F800000#32
  let main_v16 : FVec F S1x512 .f32 := broadcastInDim S1x512 ![] bcast_S_S1x512 main_cst_4
  let main_v17 : IVec S1x512 1 := cmpf .olt main_v15 main_v16
  fn_part1 (F := F) main_arg6 main_arg7 main_arg8 main_arg9 main_v2 main_v5 main_v8 main_v11 main_v14 main_v17
-- ==== FfnBwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S256x1024 : Shape := ⟨2, ![256, 1024]⟩
abbrev S256x2816 : Shape := ⟨2, ![256, 2816]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S256 : Shape := ⟨1, ![256]⟩
abbrev S256x1 : Shape := ⟨2, ![256, 1]⟩
abbrev S1024 : Shape := ⟨1, ![1024]⟩

abbrev nBuf : Space → Nat
  | .hbm => 36
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S2816x1024, .f32⟩
  | .hbm, ⟨23, _⟩ => ⟨S2816x1024, .bf16⟩
  | .hbm, ⟨24, _⟩ => ⟨S2816x1024, .f32⟩
  | .hbm, ⟨25, _⟩ => ⟨S2816x1024, .bf16⟩
  | .hbm, ⟨26, _⟩ => ⟨S2816x1024, .bf16⟩
  | .hbm, ⟨27, _⟩ => ⟨S8192x2816, .f32⟩
  | .hbm, ⟨28, _⟩ => ⟨S8192x2816, .bf16⟩
  | .hbm, ⟨29, _⟩ => ⟨S8192x2816, .f32⟩
  | .hbm, ⟨30, _⟩ => ⟨S8192x2816, .bf16⟩
  | .hbm, ⟨31, _⟩ => ⟨S8192x1024, .f32⟩
  | .hbm, ⟨32, _⟩ => ⟨S8192x2816, .bf16⟩
  | .hbm, ⟨33, _⟩ => ⟨S8192x2816, .bf16⟩
  | .hbm, ⟨34, _⟩ => ⟨S8192x2816, .bf16⟩
  | .hbm, ⟨35, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S2816x1024, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev main_v22_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnGradIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩

abbrev nBuf : Space → Nat
  | .hbm => 130
  | .vmem => 0
  | .smem => 0
  | _ => 0

abbrev hbmTy0_0 (i : Nat) : BufTy := match i % 128 with
  | 0 => ⟨S8192x1024, .f32⟩
  | 1 => ⟨S1x1024, .f32⟩
  | 2 => ⟨S1024x2816, .f32⟩
  | 3 => ⟨S1024x2816, .f32⟩
  | 4 => ⟨S2816x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x2816, .f32⟩
  | 26 => ⟨S8192x2816, .f32⟩
  | 27 => ⟨S8192x2816, .f32⟩
  | 28 => ⟨S_, .f32⟩
  | 29 => ⟨S8192x2816, .f32⟩
  | 30 => ⟨S8192x2816, .f32⟩
  | 31 => ⟨S_, .f32⟩
  | 32 => ⟨S8192x2816, .f32⟩
  | 33 => ⟨S8192x2816, .f32⟩
  | 34 => ⟨S_, .f32⟩
  | 35 => ⟨S8192x2816, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S8192x1024, .f32⟩
  | 42 => ⟨S8192x1024, .f32⟩
  | 43 => ⟨S8192x1024, .f32⟩
  | 44 => ⟨S8192x2816, .f32⟩
  | 45 => ⟨S8192x2816, .f32⟩
  | 46 => ⟨S8192x2816, .f32⟩
  | 47 => ⟨S8192x1024, .f32⟩
  | 48 => ⟨S8192x2816, .f32⟩
  | 49 => ⟨S8192x2816, .f32⟩
  | 50 => ⟨S8192x2816, .f32⟩
  | 51 => ⟨S8192x2816, .f32⟩
  | 52 => ⟨S8192x1024, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S8192x1024, .f32⟩
  | 65 => ⟨S8192x1024, .f32⟩
  | 66 => ⟨S8192x1024, .f32⟩
  | 67 => ⟨S8192x1, .f32⟩
  | 68 => ⟨S_, .f32⟩
  | 69 => ⟨S8192x1, .f32⟩
  | 70 => ⟨S8192x1, .f32⟩
  | 71 => ⟨S_, .f32⟩
  | 72 => ⟨S8192, .f32⟩
  | 73 => ⟨S8192x1024, .f32⟩
  | 74 => ⟨S8192x1024, .f32⟩
  | 75 => ⟨S8192x1024, .f32⟩
  | 76 => ⟨S8192x1024, .f32⟩
  | 77 => ⟨S8192x1024, .f32⟩
  | 78 => ⟨S8192x1024, .f32⟩
  | 79 => ⟨S_, .f32⟩
  | 80 => ⟨S8192, .f32⟩
  | 81 => ⟨S8192x1, .f32⟩
  | 82 => ⟨S_, .f32⟩
  | 83 => ⟨S8192x1, .f32⟩
  | 84 => ⟨S8192x1, .f32⟩
  | 85 => ⟨S_, .f32⟩
  | 86 => ⟨S8192x1, .f32⟩
  | 87 => ⟨S8192x1, .f32⟩
  | 88 => ⟨S8192x1, .f32⟩
  | 89 => ⟨S8192x1024, .f32⟩
  | 90 => ⟨S8192x1024, .f32⟩
  | 91 => ⟨S8192x1024, .f32⟩
  | 92 => ⟨S8192x1024, .f32⟩
  | 93 => ⟨S8192x2816, .f32⟩
  | 94 => ⟨S8192x2816, .f32⟩
  | 95 => ⟨S8192x2816, .f32⟩
  | 96 => ⟨S8192x2816, .f32⟩
  | 97 => ⟨S_, .f32⟩
  | 98 => ⟨S8192x2816, .f32⟩
  | 99 => ⟨S8192x2816, .f32⟩
  | 100 => ⟨S_, .f32⟩
  | 101 => ⟨S8192x2816, .f32⟩
  | 102 => ⟨S8192x2816, .f32⟩
  | 103 => ⟨S_, .f32⟩
  | 104 => ⟨S8192x2816, .f32⟩
  | 105 => ⟨S8192x2816, .f32⟩
  | 106 => ⟨S8192x2816, .f32⟩
  | 107 => ⟨S8192x2816, .f32⟩
  | 108 => ⟨S8192x2816, .f32⟩
  | 109 => ⟨S8192x1024, .f32⟩
  | 110 => ⟨S8192x2816, .f32⟩
  | 111 => ⟨S8192x2816, .f32⟩
  | 112 => ⟨S8192x2816, .f32⟩
  | 113 => ⟨S8192x2816, .f32⟩
  | 114 => ⟨S8192x2816, .f32⟩
  | 115 => ⟨S8192x2816, .f32⟩
  | 116 => ⟨S8192x2816, .f32⟩
  | 117 => ⟨S8192x2816, .f32⟩
  | 118 => ⟨S8192x2816, .f32⟩
  | 119 => ⟨S_, .f32⟩
  | 120 => ⟨S8192x2816, .f32⟩
  | 121 => ⟨S8192x2816, .f32⟩
  | 122 => ⟨S_, .f32⟩
  | 123 => ⟨S8192x2816, .f32⟩
  | 124 => ⟨S8192x2816, .f32⟩
  | 125 => ⟨S8192x2816, .f32⟩
  | 126 => ⟨S8192x2816, .f32⟩
  | 127 => ⟨S8192x2816, .bf16⟩
  | _ => ⟨S8192x1024, .f32⟩

abbrev hbmTy0_1 (i : Nat) : BufTy := match i % 128 with
  | 0 => ⟨S8192x2816, .bf16⟩
  | 1 => ⟨S8192x2816, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_v16_2 : Ref sig .tc := ⟨.hbm, 33, rfl⟩
abbrev main_call0_cst_1 : Ref sig .tc := ⟨.hbm, 34, rfl⟩
abbrev main_call0_v6 : Ref sig .tc := ⟨.hbm, 35, rfl⟩
abbrev main_call0_v7 : Ref sig .tc := ⟨.hbm, 36, rfl⟩
abbrev main_v16_1 : Ref sig .tc := ⟨.hbm, 37, rfl⟩
abbrev main_v16_0 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_cst_6 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_7 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_call2_v0 : Ref sig .tc := ⟨.hbm, 95, rfl⟩
abbrev main_call2_v1 : Ref sig .tc := ⟨.hbm, 96, rfl⟩
abbrev main_call2_cst : Ref sig .tc := ⟨.hbm, 97, rfl⟩
abbrev main_call2_v2 : Ref sig .tc := ⟨.hbm, 98, rfl⟩
abbrev main_call2_v3 : Ref sig .tc := ⟨.hbm, 99, rfl⟩
abbrev main_call2_cst_0 : Ref sig .tc := ⟨.hbm, 100, rfl⟩
abbrev main_call2_v4 : Ref sig .tc := ⟨.hbm, 101, rfl⟩
abbrev main_v63_2 : Ref sig .tc := ⟨.hbm, 102, rfl⟩
abbrev main_call2_cst_1 : Ref sig .tc := ⟨.hbm, 103, rfl⟩
abbrev main_call2_v6 : Ref sig .tc := ⟨.hbm, 104, rfl⟩
abbrev main_call2_v7 : Ref sig .tc := ⟨.hbm, 105, rfl⟩
abbrev main_v63_1 : Ref sig .tc := ⟨.hbm, 106, rfl⟩
abbrev main_v63_0 : Ref sig .tc := ⟨.hbm, 107, rfl⟩
abbrev main_v64 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v69 : Ref sig .tc := ⟨.hbm, 116, rfl⟩
abbrev main_call4_v0 : Ref sig .tc := ⟨.hbm, 117, rfl⟩
abbrev main_call4_v1 : Ref sig .tc := ⟨.hbm, 118, rfl⟩
abbrev main_call4_cst : Ref sig .tc := ⟨.hbm, 119, rfl⟩
abbrev main_call4_v2 : Ref sig .tc := ⟨.hbm, 120, rfl⟩
abbrev main_call4_v3 : Ref sig .tc := ⟨.hbm, 121, rfl⟩
abbrev main_call4_cst_0 : Ref sig .tc := ⟨.hbm, 122, rfl⟩
abbrev main_call4_v4 : Ref sig .tc := ⟨.hbm, 123, rfl⟩
abbrev main_call4_v5 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩

abbrev nD : Nat := 1
abbrev τ : Topo := Topo.v7x

variable {F : FTy → Type} [FloatOps F]
-- ==== DwHid.lean ====
abbrev S8192x1024 : Shape := ⟨2, ![8192, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .f32⟩
  | .hbm, ⟨3, _⟩ => ⟨S8192x2816, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwHidGradIdeal.lean ====
abbrev S8192x1024 : Shape := ⟨2, ![8192, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S2816x1024 : Shape := ⟨2, ![2816, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S1024x2816, .f32⟩
  | .hbm, ⟨20, _⟩ => ⟨S8192x2816, .f32⟩
  | .hbm, ⟨21, _⟩ => ⟨S2816x1024, .f32⟩
  | .hbm, ⟨22, _⟩ => ⟨S1024x2816, .f32⟩
  | .hbm, ⟨23, _⟩ => ⟨S2816x1024, .f32⟩
  | .hbm, ⟨24, _⟩ => ⟨S2816x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwDown.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 15
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S_, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S8192x2816, .bf16⟩
  | .hbm, ⟨14, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwDownGradIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S8192x1024, .f32⟩
  | .hbm, ⟨3, _⟩ => ⟨S_, .f32⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S8192x2816, .f32⟩
  | .hbm, ⟨15, _⟩ => ⟨S8192x1024, .f32⟩
  | .hbm, ⟨16, _⟩ => ⟨S1024x2816, .f32⟩
  | .hbm, ⟨17, _⟩ => ⟨S2816x1024, .f32⟩
  | .hbm, ⟨18, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩

abbrev nD : Nat := 1
abbrev τ : Topo := Topo.v7x

variable {F : FTy → Type} [FloatOps F]
-- ==== DwIn.lean ====
abbrev S8192x1024 : Shape := ⟨2, ![8192, 1024]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S2560x1024 : Shape := ⟨2, ![2560, 1024]⟩
abbrev S2048x1280 : Shape := ⟨2, ![2048, 1280]⟩
abbrev S2048x1024 : Shape := ⟨2, ![2048, 1024]⟩
abbrev S1280x1024 : Shape := ⟨2, ![1280, 1024]⟩

abbrev nBuf : Space → Nat
  | .hbm => 21
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2560, .f32⟩
  | .hbm, ⟨3, _⟩ => ⟨S8192x2560, .bf16⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S2560x1024, .bf16⟩
  | .local _ .vmem, ⟨0, _⟩ => ⟨S2048x1280, .bf16⟩
  | .local _ .vmem, ⟨1, _⟩ => ⟨S2048x1280, .bf16⟩
  | .local _ .vmem, ⟨2, _⟩ => ⟨S2048x1024, .bf16⟩
  | .local _ .vmem, ⟨3, _⟩ => ⟨S2048x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInGradIdeal.lean ====
abbrev S8192x1024 : Shape := ⟨2, ![8192, 1024]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024x2560 : Shape := ⟨2, ![1024, 2560]⟩
abbrev S2560x1024 : Shape := ⟨2, ![2560, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S1024x2560, .f32⟩
  | .hbm, ⟨20, _⟩ => ⟨S8192x2560, .f32⟩
  | .hbm, ⟨21, _⟩ => ⟨S2560x1024, .f32⟩
  | .hbm, ⟨22, _⟩ => ⟨S1024x2560, .f32⟩
  | .hbm, ⟨23, _⟩ => ⟨S2560x1024, .f32⟩
  | .hbm, ⟨24, _⟩ => ⟨S2560x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== DwOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutGradIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnLoss.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S1x1 : Shape := ⟨2, ![1, 1]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩
abbrev S1 : Shape := ⟨1, ![1]⟩
abbrev S1024 : Shape := ⟨1, ![1024]⟩

abbrev nBuf : Space → Nat
  | .hbm => 18
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S1x1, .f32⟩
  | .hbm, ⟨17, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x2816, .bf16⟩
  | .local _ .vmem, ⟨17, _⟩ => ⟨S1x1, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev main_v5_4 : Ref sig .tc := ⟨.hbm, 16, rfl⟩
abbrev main_v5_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== LossRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S1024 : Shape := ⟨1, ![1024]⟩
abbrev S1x1 : Shape := ⟨2, ![1, 1]⟩

abbrev nBuf : Space → Nat
  | .hbm => 122
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S_, .f32⟩
  | .hbm, ⟨26, _⟩ => ⟨S8192x2816, .f32⟩
  | .hbm, ⟨27, _⟩ => ⟨S8192x2816, .f32⟩
  | .hbm, ⟨28, _⟩ => ⟨S_, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192x1, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S8192, .f32⟩
  | .hbm, ⟨62, _⟩ => ⟨S_, .f32⟩
  | .hbm, ⟨63, _⟩ => ⟨S8192, .f32⟩
  | .hbm, ⟨64, _⟩ => ⟨S8192, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S8192, .f32⟩
  | .hbm, ⟨73, _⟩ => ⟨S_, .f32⟩
  | .hbm, ⟨74, _⟩ => ⟨S8192, .f32⟩
  | .hbm, ⟨75, _⟩ => ⟨S8192, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1, .f32⟩
  | .hbm, ⟨91, _⟩ => ⟨S_, .f32⟩
  | .hbm, ⟨92, _⟩ => ⟨S8192x1, .f32⟩
  | .hbm, ⟨93, _⟩ => ⟨S8192x1, .f32⟩
  | .hbm, ⟨94, _⟩ => ⟨S_, .f32⟩
  | .hbm, ⟨95, _⟩ => ⟨S8192, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S_, .f32⟩
  | .hbm, ⟨103, _⟩ => ⟨S8192, .f32⟩
  | .hbm, ⟨104, _⟩ => ⟨S8192x1, .f32⟩
  | .hbm, ⟨105, _⟩ => ⟨S_, .f32⟩
  | .hbm, ⟨106, _⟩ => ⟨S8192x1, .f32⟩
  | .hbm, ⟨107, _⟩ => ⟨S8192x1, .f32⟩
  | .hbm, ⟨108, _⟩ => ⟨S_, .f32⟩
  | .hbm, ⟨109, _⟩ => ⟨S8192x1, .f32⟩
  | .hbm, ⟨110, _⟩ => ⟨S8192x1, .f32⟩
  | .hbm, ⟨111, _⟩ => ⟨S8192x1, .f32⟩
  | .hbm, ⟨112, _⟩ => ⟨S8192x1024, .f32⟩
  | .hbm, ⟨113, _⟩ => ⟨S8192x1024, .f32⟩
  | .hbm, ⟨114, _⟩ => ⟨S8192x1024, .f32⟩
  | .hbm, ⟨115, _⟩ => ⟨S8192x1024, .f32⟩
  | .hbm, ⟨116, _⟩ => ⟨S8192x1024, .bf16⟩
  | .hbm, ⟨117, _⟩ => ⟨S8192x2816, .f32⟩
  | .hbm, ⟨118, _⟩ => ⟨S8192x2816, .bf16⟩
  | .hbm, ⟨119, _⟩ => ⟨S8192x2816, .f32⟩
  | .hbm, ⟨120, _⟩ => ⟨S8192x2816, .bf16⟩
  | .hbm, ⟨121, _⟩ => ⟨S1x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_2 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_cst_8 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_cst_10 : Ref sig .tc := ⟨.hbm, 67, rfl⟩
abbrev main_v41 : Ref sig .tc := ⟨.hbm, 68, rfl⟩
abbrev main_cst_11 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_cst_13 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_cst_14 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_15 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_cst_16 : Ref sig .tc := ⟨.hbm, 91, rfl⟩
abbrev main_v59 : Ref sig .tc := ⟨.hbm, 92, rfl⟩
abbrev main_v60 : Ref sig .tc := ⟨.hbm, 93, rfl⟩
abbrev main_cst_17 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_cst_18 : Ref sig .tc := ⟨.hbm, 102, rfl⟩
abbrev main_v68 : Ref sig .tc := ⟨.hbm, 103, rfl⟩
abbrev main_v69 : Ref sig .tc := ⟨.hbm, 104, rfl⟩
abbrev main_cst_19 : Ref sig .tc := ⟨.hbm, 105, rfl⟩
abbrev main_v70 : Ref sig .tc := ⟨.hbm, 106, rfl⟩
abbrev main_v71 : Ref sig .tc := ⟨.hbm, 107, rfl⟩
abbrev main_cst_20 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩

abbrev nD : Nat := 1
abbrev τ : Topo := Topo.v7x

variable {F : FTy → Type} [FloatOps F]
-- ==== OddFwd.lean ====
abbrev S8192x1024 : Shape := ⟨2, ![8192, 1024]⟩
abbrev S1024x2560 : Shape := ⟨2, ![1024, 2560]⟩
abbrev S1024x1024 : Shape := ⟨2, ![1024, 1024]⟩
abbrev S31x512 : Shape := ⟨2, ![31, 512]⟩
abbrev S1x512 : Shape := ⟨2, ![1, 512]⟩
abbrev S3x512 : Shape := ⟨2, ![3, 512]⟩
abbrev S1x1024 : Shape := ⟨2, ![1, 1024]⟩
abbrev S2560x1024 : Shape := ⟨2, ![2560, 1024]⟩
abbrev S8192x2560 : Shape := ⟨2, ![8192, 2560]⟩
abbrev S8192x512 : Shape := ⟨2, ![8192, 512]⟩
abbrev S32x1024 : Shape := ⟨2, ![32, 1024]⟩
abbrev S1024x512 : Shape := ⟨2, ![1024, 512]⟩
abbrev S1024 : Shape := ⟨1, ![1024]⟩
abbrev S1024x1 : Shape := ⟨2, ![1024, 1]⟩
abbrev S32 : Shape := ⟨1, ![32]⟩
abbrev S32x1 : Shape := ⟨2, ![32, 1]⟩
abbrev S32x2560 : Shape := ⟨2, ![32, 2560]⟩
abbrev S1056x2560 : Shape := ⟨2, ![1056, 2560]⟩
abbrev S1056x512 : Shape := ⟨2, ![1056, 512]⟩

abbrev nBuf : Space → Nat
  | .hbm => 17
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S1024x2560, .f32⟩
  | .hbm, ⟨2, _⟩ => ⟨S1024x1024, .f32⟩
  | .hbm, ⟨3, _⟩ => ⟨S31x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S3x512, .f32⟩
  | .hbm, ⟨8, _⟩ => ⟨S1x1024, .f32⟩
  | .hbm, ⟨9, _⟩ => ⟨S2560x1024, .f32⟩
  | .hbm, ⟨10, _⟩ => ⟨S2560x1024, .bf16⟩
  | .hbm, ⟨11, _⟩ => ⟨S1024x1024, .bf16⟩
  | .hbm, ⟨12, _⟩ => ⟨S8192x1024, .f32⟩
  | .hbm, ⟨13, _⟩ => ⟨S8192x1024, .bf16⟩
  | .hbm, ⟨14, _⟩ => ⟨S8192x2560, .bf16⟩
  | .hbm, ⟨15, _⟩ => ⟨S8192x1024, .bf16⟩
  | .hbm, ⟨16, _⟩ => ⟨S8192x512, .f32⟩
  | .local _ .vmem, ⟨0, _⟩ => ⟨S1024x1024, .f32⟩
  | .local _ .vmem, ⟨1, _⟩ => ⟨S1024x1024, .f32⟩
  | .local _ .vmem, ⟨2, _⟩ => ⟨S32x1024, .f32⟩
  | .local _ .vmem, ⟨3, _⟩ => ⟨S32x1024, .f32⟩
  | .local _ .vmem, ⟨4, _⟩ => ⟨S2560x1024, .bf16⟩
  | .local _ .vmem, ⟨5, _⟩ => ⟨S1024x1024, .bf16⟩
  | .local _ .vmem, ⟨6, _⟩ => ⟨S31x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S3x512, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024x1024, .bf16⟩
  | .local _ .vmem, ⟨16, _⟩ => ⟨S1024x2560, .bf16⟩
  | .local _ .vmem, ⟨17, _⟩ => ⟨S1024x2560, .bf16⟩
  | .local _ .vmem, ⟨18, _⟩ => ⟨S1024x1024, .bf16⟩
  | .local _ .vmem, ⟨19, _⟩ => ⟨S1024x1024, .bf16⟩
  | .local _ .vmem, ⟨20, _⟩ => ⟨S1024x512, .f32⟩
  | .local _ .vmem, ⟨21, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x2560 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== OddRefIdeal.lean ====
abbrev S8192x1024 : Shape := ⟨2, ![8192, 1024]⟩
abbrev S1024x2560 : Shape := ⟨2, ![1024, 2560]⟩
abbrev S1024x1024 : Shape := ⟨2, ![1024, 1024]⟩
abbrev S31x512 : Shape := ⟨2, ![31, 512]⟩
abbrev S1x512 : Shape := ⟨2, ![1, 512]⟩
abbrev S3x512 : Shape := ⟨2, ![3, 512]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S30x512 : Shape := ⟨2, ![30, 512]⟩
abbrev S8222x512 : Shape := ⟨2, ![8222, 512]⟩
abbrev S512 : Shape := ⟨1, ![512]⟩
abbrev S2x512 : Shape := ⟨2, ![2, 512]⟩
abbrev S8194x512 : Shape := ⟨2, ![8194, 512]⟩

abbrev nBuf : Space → Nat
  | .hbm => 568
  | .vmem => 0
  | .smem => 0
  | _ => 0

abbrev hbmTy0_0 (i : Nat) : BufTy := match i % 128 with
  | 0 => ⟨S8192x1024, .f32⟩
  | 1 => ⟨S1024x2560, .f32⟩
  | 2 => ⟨S1024x1024, .f32⟩
  | 3 => ⟨S31x512, .f32⟩
  | 4 => ⟨S1x512, .f32⟩
  | 5 => ⟨S1x512, .f32⟩
  | 6 => ⟨S1x512, .f32⟩
  | 7 => ⟨S3x512, .f32⟩
  | 8 => ⟨S1x1024, .f32⟩
  | 9 => ⟨S8192x1024, .f32⟩
  | 10 => ⟨S_, .f32⟩
  | 11 => ⟨S8192, .f32⟩
  | 12 => ⟨S8192x1, .f32⟩
  | 13 => ⟨S_, .f32⟩
  | 14 => ⟨S8192x1, .f32⟩
  | 15 => ⟨S8192x1, .f32⟩
  | 16 => ⟨S_, .f32⟩
  | 17 => ⟨S8192x1, .f32⟩
  | 18 => ⟨S8192x1, .f32⟩
  | 19 => ⟨S8192x1, .f32⟩
  | 20 => ⟨S8192x1024, .f32⟩
  | 21 => ⟨S8192x1024, .f32⟩
  | 22 => ⟨S8192x1024, .f32⟩
  | 23 => ⟨S8192x1024, .f32⟩
  | 24 => ⟨S8192x2560, .f32⟩
  | 25 => ⟨S8192x512, .f32⟩
  | 26 => ⟨S8192x512, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S_, .f32⟩
  | 37 => ⟨S30x512, .f32⟩
  | 38 => ⟨S8222x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S_, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_1 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S1x512, .f32⟩
  | 110 => ⟨S512, .f32⟩
  | 111 => ⟨S8192x512, .f32⟩
  | 112 => ⟨S1x512, .f32⟩
  | 113 => ⟨S8192x512, .f32⟩
  | 114 => ⟨S8192x512, .f32⟩
  | 115 => ⟨S8192x512, .f32⟩
  | 116 => ⟨S1x512, .f32⟩
  | 117 => ⟨S512, .f32⟩
  | 118 => ⟨S8192x512, .f32⟩
  | 119 => ⟨S1x512, .f32⟩
  | 120 => ⟨S8192x512, .f32⟩
  | 121 => ⟨S8192x512, .f32⟩
  | 122 => ⟨S8192x512, .f32⟩
  | 123 => ⟨S1x512, .f32⟩
  | 124 => ⟨S512, .f32⟩
  | 125 => ⟨S8192x512, .f32⟩
  | 126 => ⟨S1x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S_, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S8192x512, .f32⟩
  | 15 => ⟨S_, .f32⟩
  | 16 => ⟨S30x512, .f32⟩
  | 17 => ⟨S8222x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S1x512, .f32⟩
  | 28 => ⟨S512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S1x512, .f32⟩
  | 35 => ⟨S512, .f32⟩
  | 36 => ⟨S8192x512, .f32⟩
  | 37 => ⟨S1x512, .f32⟩
  | 38 => ⟨S8192x512, .f32⟩
  | 39 => ⟨S8192x512, .f32⟩
  | 40 => ⟨S8192x512, .f32⟩
  | 41 => ⟨S1x512, .f32⟩
  | 42 => ⟨S512, .f32⟩
  | 43 => ⟨S8192x512, .f32⟩
  | 44 => ⟨S1x512, .f32⟩
  | 45 => ⟨S8192x512, .f32⟩
  | 46 => ⟨S8192x512, .f32⟩
  | 47 => ⟨S8192x512, .f32⟩
  | 48 => ⟨S1x512, .f32⟩
  | 49 => ⟨S512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_3 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S8192x512, .f32⟩
  | 118 => ⟨S8192x512, .f32⟩
  | 119 => ⟨S8192x512, .f32⟩
  | 120 => ⟨S_, .f32⟩
  | 121 => ⟨S8192, .f32⟩
  | 122 => ⟨S8192x1, .f32⟩
  | 123 => ⟨S_, .f32⟩
  | 124 => ⟨S8192x1, .f32⟩
  | 125 => ⟨S8192x1, .f32⟩
  | 126 => ⟨S8192x512, .f32⟩
  | 127 => ⟨S8192x512, .f32⟩
  | _ => ⟨S8192x1024, .f32⟩

abbrev hbmTy0_4 (i : Nat) : BufTy := match i % 128 with
  | 0 => ⟨S_, .f32⟩
  | 1 => ⟨S8192x1, .f32⟩
  | 2 => ⟨S8192x1, .f32⟩
  | 3 => ⟨S8192x1, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S8192x512, .f32⟩
  | 21 => ⟨S8192x512, .f32⟩
  | 22 => ⟨S8192x512, .f32⟩
  | 23 => ⟨S_, .f32⟩
  | 24 => ⟨S2x512, .f32⟩
  | 25 => ⟨S8194x512, .f32⟩
  | 26 => ⟨S1x512, .f32⟩
  | 27 => ⟨S512, .f32⟩
  | 28 => ⟨S8192x512, .f32⟩
  | 29 => ⟨S1x512, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S1x512, .f32⟩
  | 36 => ⟨S512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S1x512, .f32⟩
  | 43 => ⟨S512, .f32⟩
  | 44 => ⟨S8192x512, .f32⟩
  | 45 => ⟨S1x512, .f32⟩
  | 46 => ⟨S8192x512, .f32⟩
  | 47 => ⟨S8192x512, .f32⟩
  | 48 => ⟨S8192x512, .f32⟩
  | 49 => ⟨S8192x512, .f32⟩
  | 50 => ⟨S8192x1024, .f32⟩
  | 51 => ⟨S8192x1024, .f32⟩
  | 52 => ⟨S8192x1024, .f32⟩
  | 53 => ⟨S8192x1024, .bf16⟩
  | 54 => ⟨S8192x2560, .bf16⟩
  | 55 => ⟨S8192x1024, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_v239 : Ref sig .tc := ⟨.hbm, 255, rfl⟩
abbrev main_v240 : Ref sig .tc := ⟨.hbm, 256, rfl⟩
abbrev main_v241 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_v246 : Ref sig .tc := ⟨.hbm, 262, rfl⟩
abbrev main_v247 : Ref sig .tc := ⟨.hbm, 263, rfl⟩
abbrev main_cst_6 : Ref sig .tc := ⟨.hbm, 264, rfl⟩
abbrev main_v248 : Ref sig .tc := ⟨.hbm, 265, rfl⟩
abbrev main_v249 : Ref sig .tc := ⟨.hbm, 266, rfl⟩
abbrev main_cst_7 : Ref sig .tc := ⟨.hbm, 267, rfl⟩
abbrev main_v250 : Ref sig .tc := ⟨.hbm, 268, rfl⟩
abbrev main_v251 : Ref sig .tc := ⟨.hbm, 269, rfl⟩
abbrev main_v252 : Ref sig .tc := ⟨.hbm, 270, rfl⟩
abbrev main_cst_8 : Ref sig .tc := ⟨.hbm, 271, rfl⟩
abbrev main_v253 : Ref sig .tc := ⟨.hbm, 272, rfl⟩
abbrev main_v254 : Ref sig .tc := ⟨.hbm, 273, rfl⟩
abbrev main_v255 : Ref sig .tc := ⟨.hbm, 274, rfl⟩
abbrev main_v256 : Ref sig .tc := ⟨.hbm, 275, rfl⟩
abbrev main_v257 : Ref sig .tc := ⟨.hbm, 276, rfl⟩
abbrev main_v258 : Ref sig .tc := ⟨.hbm, 277, rfl⟩
abbrev main_v259 : Ref sig .tc := ⟨.hbm, 278, rfl⟩
abbrev main_v260 : Ref sig .tc := ⟨.hbm, 279, rfl⟩
abbrev main_cst_9 : Ref sig .tc := ⟨.hbm, 280, rfl⟩
abbrev main_v261 : Ref sig .tc := ⟨.hbm, 281, rfl⟩
abbrev main_v262 : Ref sig .tc := ⟨.hbm, 282, rfl⟩
abbrev main_v263 : Ref sig .tc := ⟨.hbm, 283, rfl⟩
abbrev main_v264 : Ref sig .tc := ⟨.hbm, 284, rfl⟩
abbrev main_v265 : Ref sig .tc := ⟨.hbm, 285, rfl⟩
abbrev main_v266 : Ref sig .tc := ⟨.hbm, 286, rfl⟩
abbrev main_v267 : Ref sig .tc := ⟨.hbm, 287, rfl⟩
abbrev main_v268 : Ref sig .tc := ⟨.hbm, 288, rfl⟩
abbrev main_v269 : Ref sig .tc := ⟨.hbm, 289, rfl⟩
abbrev main_v270 : Ref sig .tc := ⟨.hbm, 290, rfl⟩
abbrev main_v271 : Ref sig .tc := ⟨.hbm, 291, rfl⟩
abbrev main_v272 : Ref sig .tc := ⟨.hbm, 292, rfl⟩
abbrev main_v273 : Ref sig .tc := ⟨.hbm, 293, rfl⟩
abbrev main_v274 : Ref sig .tc := ⟨.hbm, 294, rfl⟩
abbrev main_v275 : Ref sig .tc := ⟨.hbm, 295, rfl⟩
abbrev main_v276 : Ref sig .tc := ⟨.hbm, 296, rfl⟩
abbrev main_v277 : Ref sig .tc := ⟨.hbm, 297, rfl⟩
abbrev main_v278 : Ref sig .tc := ⟨.hbm, 298, rfl⟩
abbrev main_v279 : Ref sig .tc := ⟨.hbm, 299, rfl⟩
abbrev main_v280 : Ref sig .tc := ⟨.hbm, 300, rfl⟩
abbrev main_v281 : Ref sig .tc := ⟨.hbm, 301, rfl⟩
abbrev main_v282 : Ref sig .tc := ⟨.hbm, 302, rfl⟩
abbrev main_v283 : Ref sig .tc := ⟨.hbm, 303, rfl⟩
abbrev main_v284 : Ref sig .tc := ⟨.hbm, 304, rfl⟩
abbrev main_v285 : Ref sig .tc := ⟨.hbm, 305, rfl⟩
abbrev main_v286 : Ref sig .tc := ⟨.hbm, 306, rfl⟩
abbrev main_v287 : Ref sig .tc := ⟨.hbm, 307, rfl⟩
abbrev main_v288 : Ref sig .tc := ⟨.hbm, 308, rfl⟩
abbrev main_v289 : Ref sig .tc := ⟨.hbm, 309, rfl⟩
abbrev main_v290 : Ref sig .tc := ⟨.hbm, 310, rfl⟩
abbrev main_v291 : Ref sig .tc := ⟨.hbm, 311, rfl⟩
abbrev main_v292 : Ref sig .tc := ⟨.hbm, 312, rfl⟩
abbrev main_v293 : Ref sig .tc := ⟨.hbm, 313, rfl⟩
abbrev main_v294 : Ref sig .tc := ⟨.hbm, 314, rfl⟩
abbrev main_v295 : Ref sig .tc := ⟨.hbm, 315, rfl⟩
abbrev main_v296 : Ref sig .tc := ⟨.hbm, 316, rfl⟩
abbrev main_v297 : Ref sig .tc := ⟨.hbm, 317, rfl⟩
abbrev main_v298 : Ref sig .tc := ⟨.hbm, 318, rfl⟩
abbrev main_v299 : Ref sig .tc := ⟨.hbm, 319, rfl⟩
abbrev main_v300 : Ref sig .tc := ⟨.hbm, 320, rfl⟩
abbrev main_v301 : Ref sig .tc := ⟨.hbm, 321, rfl⟩
abbrev main_v302 : Ref sig .tc := ⟨.hbm, 322, rfl⟩
abbrev main_v303 : Ref sig .tc := ⟨.hbm, 323, rfl⟩
abbrev main_v304 : Ref sig .tc := ⟨.hbm, 324, rfl⟩
abbrev main_v305 : Ref sig .tc := ⟨.hbm, 325, rfl⟩
abbrev main_v306 : Ref sig .tc := ⟨.hbm, 326, rfl⟩
abbrev main_v307 : Ref sig .tc := ⟨.hbm, 327, rfl⟩
abbrev main_v308 : Ref sig .tc := ⟨.hbm, 328, rfl⟩
abbrev main_v309 : Ref sig .tc := ⟨.hbm, 329, rfl⟩
abbrev main_v310 : Ref sig .tc := ⟨.hbm, 330, rfl⟩
abbrev main_v311 : Ref sig .tc := ⟨.hbm, 331, rfl⟩
abbrev main_v312 : Ref sig .tc := ⟨.hbm, 332, rfl⟩
abbrev main_v313 : Ref sig .tc := ⟨.hbm, 333, rfl⟩
abbrev main_v314 : Ref sig .tc := ⟨.hbm, 334, rfl⟩
abbrev main_v315 : Ref sig .tc := ⟨.hbm, 335, rfl⟩
abbrev main_v316 : Ref sig .tc := ⟨.hbm, 336, rfl⟩
abbrev main_v317 : Ref sig .tc := ⟨.hbm, 337, rfl⟩
abbrev main_v318 : Ref sig .tc := ⟨.hbm, 338, rfl⟩
abbrev main_v319 : Ref sig .tc := ⟨.hbm, 339, rfl⟩
abbrev main_v320 : Ref sig .tc := ⟨.hbm, 340, rfl⟩
abbrev main_v321 : Ref sig .tc := ⟨.hbm, 341, rfl⟩
abbrev main_v322 : Ref sig .tc := ⟨.hbm, 342, rfl⟩
abbrev main_v323 : Ref sig .tc := ⟨.hbm, 343, rfl⟩
abbrev main_v324 : Ref sig .tc := ⟨.hbm, 344, rfl⟩
abbrev main_v325 : Ref sig .tc := ⟨.hbm, 345, rfl⟩
abbrev main_v326 : Ref sig .tc := ⟨.hbm, 346, rfl⟩
abbrev main_v327 : Ref sig .tc := ⟨.hbm, 347, rfl⟩
abbrev main_v328 : Ref sig .tc := ⟨.hbm, 348, rfl⟩
abbrev main_v329 : Ref sig .tc := ⟨.hbm, 349, rfl⟩
abbrev main_v330 : Ref sig .tc := ⟨.hbm, 350, rfl⟩
abbrev main_v331 : Ref sig .tc := ⟨.hbm, 351, rfl⟩
abbrev main_v332 : Ref sig .tc := ⟨.hbm, 352, rfl⟩
abbrev main_v333 : Ref sig .tc := ⟨.hbm, 353, rfl⟩
abbrev main_v334 : Ref sig .tc := ⟨.hbm, 354, rfl⟩
abbrev main_v335 : Ref sig .tc := ⟨.hbm, 355, rfl⟩
abbrev main_v336 : Ref sig .tc := ⟨.hbm, 356, rfl⟩
abbrev main_v337 : Ref sig .tc := ⟨.hbm, 357, rfl⟩
abbrev main_v338 : Ref sig .tc := ⟨.hbm, 358, rfl⟩
abbrev main_v339 : Ref sig .tc := ⟨.hbm, 359, rfl⟩
abbrev main_v340 : Ref sig .tc := ⟨.hbm, 360, rfl⟩
abbrev main_v341 : Ref sig .tc := ⟨.hbm, 361, rfl⟩
abbrev main_v342 : Ref sig .tc := ⟨.hbm, 362, rfl⟩
abbrev main_v343 : Ref sig .tc := ⟨.hbm, 363, rfl⟩
abbrev main_v344 : Ref sig .tc := ⟨.hbm, 364, rfl⟩
abbrev main_v345 : Ref sig .tc := ⟨.hbm, 365, rfl⟩
abbrev main_v346 : Ref sig .tc := ⟨.hbm, 366, rfl⟩
abbrev main_v347 : Ref sig .tc := ⟨.hbm, 367, rfl⟩
abbrev main_v348 : Ref sig .tc := ⟨.hbm, 368, rfl⟩
abbrev main_v349 : Ref sig .tc := ⟨.hbm, 369, rfl⟩
abbrev main_v350 : Ref sig .tc := ⟨.hbm, 370, rfl⟩
abbrev main_v351 : Ref sig .tc := ⟨.hbm, 371, rfl⟩
abbrev main_v352 : Ref sig .tc := ⟨.hbm, 372, rfl⟩
abbrev main_v353 : Ref sig .tc := ⟨.hbm, 373, rfl⟩
abbrev main_v354 : Ref sig .tc := ⟨.hbm, 374, rfl⟩
abbrev main_v355 : Ref sig .tc := ⟨.hbm, 375, rfl⟩
abbrev main_v356 : Ref sig .tc := ⟨.hbm, 376, rfl⟩
abbrev main_v357 : Ref sig .tc := ⟨.hbm, 377, rfl⟩
abbrev main_v358 : Ref sig .tc := ⟨.hbm, 378, rfl⟩
abbrev main_v359 : Ref sig .tc := ⟨.hbm, 379, rfl⟩
abbrev main_v360 : Ref sig .tc := ⟨.hbm, 380, rfl⟩
abbrev main_v361 : Ref sig .tc := ⟨.hbm, 381, rfl⟩
abbrev main_v362 : Ref sig .tc := ⟨.hbm, 382, rfl⟩
abbrev main_v363 : Ref sig .tc := ⟨.hbm, 383, rfl⟩
abbrev main_v364 : Ref sig .tc := ⟨.hbm, 384, rfl⟩
abbrev main_v365 : Ref sig .tc := ⟨.hbm, 385, rfl⟩
abbrev main_v366 : Ref sig .tc := ⟨.hbm, 386, rfl⟩
abbrev main_v367 : Ref sig .tc := ⟨.hbm, 387, rfl⟩
abbrev main_v368 : Ref sig .tc := ⟨.hbm, 388, rfl⟩
abbrev main_v369 : Ref sig .tc := ⟨.hbm, 389, rfl⟩
abbrev main_v370 : Ref sig .tc := ⟨.hbm, 390, rfl⟩
abbrev main_v371 : Ref sig .tc := ⟨.hbm, 391, rfl⟩
abbrev main_v372 : Ref sig .tc := ⟨.hbm, 392, rfl⟩
abbrev main_v373 : Ref sig .tc := ⟨.hbm, 393, rfl⟩
abbrev main_v374 : Ref sig .tc := ⟨.hbm, 394, rfl⟩
abbrev main_v375 : Ref sig .tc := ⟨.hbm, 395, rfl⟩
abbrev main_v376 : Ref sig .tc := ⟨.hbm, 396, rfl⟩
abbrev main_v377 : Ref sig .tc := ⟨.hbm, 397, rfl⟩
abbrev main_v378 : Ref sig .tc := ⟨.hbm, 398, rfl⟩
abbrev main_v379 : Ref sig .tc := ⟨.hbm, 399, rfl⟩
abbrev main_v380 : Ref sig .tc := ⟨.hbm, 400, rfl⟩
abbrev main_v381 : Ref sig .tc := ⟨.hbm, 401, rfl⟩
abbrev main_v382 : Ref sig .tc := ⟨.hbm, 402, rfl⟩
abbrev main_v383 : Ref sig .tc := ⟨.hbm, 403, rfl⟩
abbrev main_v384 : Ref sig .tc := ⟨.hbm, 404, rfl⟩
abbrev main_v385 : Ref sig .tc := ⟨.hbm, 405, rfl⟩
abbrev main_v386 : Ref sig .tc := ⟨.hbm, 406, rfl⟩
abbrev main_v387 : Ref sig .tc := ⟨.hbm, 407, rfl⟩
abbrev main_v388 : Ref sig .tc := ⟨.hbm, 408, rfl⟩
abbrev main_v389 : Ref sig .tc := ⟨.hbm, 409, rfl⟩
abbrev main_v390 : Ref sig .tc := ⟨.hbm, 410, rfl⟩
abbrev main_v391 : Ref sig .tc := ⟨.hbm, 411, rfl⟩
abbrev main_v392 : Ref sig .tc := ⟨.hbm, 412, rfl⟩
abbrev main_v393 : Ref sig .tc := ⟨.hbm, 413, rfl⟩
abbrev main_v394 : Ref sig .tc := ⟨.hbm, 414, rfl⟩
abbrev main_v395 : Ref sig .tc := ⟨.hbm, 415, rfl⟩
abbrev main_v396 : Ref sig .tc := ⟨.hbm, 416, rfl⟩
abbrev main_v397 : Ref sig .tc := ⟨.hbm, 417, rfl⟩
abbrev main_v398 : Ref sig .tc := ⟨.hbm, 418, rfl⟩
abbrev main_v399 : Ref sig .tc := ⟨.hbm, 419, rfl⟩
abbrev main_v400 : Ref sig .tc := ⟨.hbm, 420, rfl⟩
abbrev main_v401 : Ref sig .tc := ⟨.hbm, 421, rfl⟩
abbrev main_v402 : Ref sig .tc := ⟨.hbm, 422, rfl⟩
abbrev main_v403 : Ref sig .tc := ⟨.hbm, 423, rfl⟩
abbrev main_v404 : Ref sig .tc := ⟨.hbm, 424, rfl⟩
abbrev main_v405 : Ref sig .tc := ⟨.hbm, 425, rfl⟩
abbrev main_v406 : Ref sig .tc := ⟨.hbm, 426, rfl⟩
abbrev main_v407 : Ref sig .tc := ⟨.hbm, 427, rfl⟩
abbrev main_v408 : Ref sig .tc := ⟨.hbm, 428, rfl⟩
abbrev main_v409 : Ref sig .tc := ⟨.hbm, 429, rfl⟩
abbrev main_v410 : Ref sig .tc := ⟨.hbm, 430, rfl⟩
abbrev main_v411 : Ref sig .tc := ⟨.hbm, 431, rfl⟩
abbrev main_v412 : Ref sig .tc := ⟨.hbm, 432, rfl⟩
abbrev main_v413 : Ref sig .tc := ⟨.hbm, 433, rfl⟩
abbrev main_v414 : Ref sig .tc := ⟨.hbm, 434, rfl⟩
abbrev main_v415 : Ref sig .tc := ⟨.hbm, 435, rfl⟩
abbrev main_v416 : Ref sig .tc := ⟨.hbm, 436, rfl⟩
abbrev main_v417 : Ref sig .tc := ⟨.hbm, 437, rfl⟩
abbrev main_v418 : Ref sig .tc := ⟨.hbm, 438, rfl⟩
abbrev main_v419 : Ref sig .tc := ⟨.hbm, 439, rfl⟩
abbrev main_v420 : Ref sig .tc := ⟨.hbm, 440, rfl⟩
abbrev main_v421 : Ref sig .tc := ⟨.hbm, 441, rfl⟩
abbrev main_v422 : Ref sig .tc := ⟨.hbm, 442, rfl⟩
abbrev main_v423 : Ref sig .tc := ⟨.hbm, 443, rfl⟩
abbrev main_v424 : Ref sig .tc := ⟨.hbm, 444, rfl⟩
abbrev main_v425 : Ref sig .tc := ⟨.hbm, 445, rfl⟩
abbrev main_v426 : Ref sig .tc := ⟨.hbm, 446, rfl⟩
abbrev main_v427 : Ref sig .tc := ⟨.hbm, 447, rfl⟩
abbrev main_v428 : Ref sig .tc := ⟨.hbm, 448, rfl⟩
abbrev main_v429 : Ref sig .tc := ⟨.hbm, 449, rfl⟩
abbrev main_v430 : Ref sig .tc := ⟨.hbm, 450, rfl⟩
abbrev main_v431 : Ref sig .tc := ⟨.hbm, 451, rfl⟩
abbrev main_v432 : Ref sig .tc := ⟨.hbm, 452, rfl⟩
abbrev main_v433 : Ref sig .tc := ⟨.hbm, 453, rfl⟩
abbrev main_v434 : Ref sig .tc := ⟨.hbm, 454, rfl⟩
abbrev main_v435 : Ref sig .tc := ⟨.hbm, 455, rfl⟩
abbrev main_v436 : Ref sig .tc := ⟨.hbm, 456, rfl⟩
abbrev main_v437 : Ref sig .tc := ⟨.hbm, 457, rfl⟩
abbrev main_v438 : Ref sig .tc := ⟨.hbm, 458, rfl⟩
abbrev main_v439 : Ref sig .tc := ⟨.hbm, 459, rfl⟩
abbrev main_v440 : Ref sig .tc := ⟨.hbm, 460, rfl⟩
abbrev main_v441 : Ref sig .tc := ⟨.hbm, 461, rfl⟩
abbrev main_v442 : Ref sig .tc := ⟨.hbm, 462, rfl⟩
abbrev main_v443 : Ref sig .tc := ⟨.hbm, 463, rfl⟩
abbrev main_v444 : Ref sig .tc := ⟨.hbm, 464, rfl⟩
abbrev main_v445 : Ref sig .tc := ⟨.hbm, 465, rfl⟩
abbrev main_v446 : Ref sig .tc := ⟨.hbm, 466, rfl⟩
abbrev main_v447 : Ref sig .tc := ⟨.hbm, 467, rfl⟩
abbrev main_v448 : Ref sig .tc := ⟨.hbm, 468, rfl⟩
abbrev main_v449 : Ref sig .tc := ⟨.hbm, 469, rfl⟩
abbrev main_v450 : Ref sig .tc := ⟨.hbm, 470, rfl⟩
abbrev main_v451 : Ref sig .tc := ⟨.hbm, 471, rfl⟩
abbrev main_v452 : Ref sig .tc := ⟨.hbm, 472, rfl⟩
abbrev main_v453 : Ref sig .tc := ⟨.hbm, 473, rfl⟩
abbrev main_v454 : Ref sig .tc := ⟨.hbm, 474, rfl⟩
abbrev main_v455 : Ref sig .tc := ⟨.hbm, 475, rfl⟩
abbrev main_v456 : Ref sig .tc := ⟨.hbm, 476, rfl⟩
abbrev main_v457 : Ref sig .tc := ⟨.hbm, 477, rfl⟩
abbrev main_v458 : Ref sig .tc := ⟨.hbm, 478, rfl⟩
abbrev main_v459 : Ref sig .tc := ⟨.hbm, 479, rfl⟩
abbrev main_v460 : Ref sig .tc := ⟨.hbm, 480, rfl⟩
abbrev main_v461 : Ref sig .tc := ⟨.hbm, 481, rfl⟩
abbrev main_v462 : Ref sig .tc := ⟨.hbm, 482, rfl⟩
abbrev main_v463 : Ref sig .tc := ⟨.hbm, 483, rfl⟩
abbrev main_v464 : Ref sig .tc := ⟨.hbm, 484, rfl⟩
abbrev main_v465 : Ref sig .tc := ⟨.hbm, 485, rfl⟩
abbrev main_v466 : Ref sig .tc := ⟨.hbm, 486, rfl⟩
abbrev main_v467 : Ref sig .tc := ⟨.hbm, 487, rfl⟩
abbrev main_v468 : Ref sig .tc := ⟨.hbm, 488, rfl⟩
abbrev main_v469 : Ref sig .tc := ⟨.hbm, 489, rfl⟩
abbrev main_v470 : Ref sig .tc := ⟨.hbm, 490, rfl⟩
abbrev main_v471 : Ref sig .tc := ⟨.hbm, 491, rfl⟩
abbrev main_v472 : Ref sig .tc := ⟨.hbm, 492, rfl⟩
abbrev main_v473 : Ref sig .tc := ⟨.hbm, 493, rfl⟩
abbrev main_v474 : Ref sig .tc := ⟨.hbm, 494, rfl⟩
abbrev main_cst_10 : Ref sig .tc := ⟨.hbm, 495, rfl⟩
abbrev main_v475 : Ref sig .tc := ⟨.hbm, 496, rfl⟩
abbrev main_v476 : Ref sig .tc := ⟨.hbm, 497, rfl⟩
abbrev main_cst_11 : Ref sig .tc := ⟨.hbm, 498, rfl⟩
abbrev main_v477 : Ref sig .tc := ⟨.hbm, 499, rfl⟩
abbrev main_v478 : Ref sig .tc := ⟨.hbm, 500, rfl⟩
abbrev main_v479 : Ref sig .tc := ⟨.hbm, 501, rfl⟩
abbrev main_v480 : Ref sig .tc := ⟨.hbm, 502, rfl⟩
abbrev main_v481 : Ref sig .tc := ⟨.hbm, 503, rfl⟩
abbrev main_cst_12 : Ref sig .tc := ⟨.hbm, 504, rfl⟩
abbrev main_v482 : Ref sig .tc := ⟨.hbm, 505, rfl⟩
abbrev main_v483 : Ref sig .tc := ⟨.hbm, 506, rfl⟩
abbrev main_cst_13 : Ref sig .tc := ⟨.hbm, 507, rfl⟩
abbrev main_v484 : Ref sig .tc := ⟨.hbm, 508, rfl⟩
abbrev main_v485 : Ref sig .tc := ⟨.hbm, 509, rfl⟩
abbrev main_v486 : Ref sig .tc := ⟨.hbm, 510, rfl⟩
abbrev main_v487 : Ref sig .tc := ⟨.hbm, 511, rfl⟩
abbrev main_cst_14 : Ref sig .tc := ⟨.hbm, 512, rfl⟩
abbrev main_v488 : Ref sig .tc := ⟨.hbm, 513, rfl⟩
abbrev main_v489 : Ref sig .tc := ⟨.hbm, 514, rfl⟩
abbrev main_v490 : Ref sig .tc := ⟨.hbm, 515, rfl⟩
abbrev main_v491 : Ref sig .tc := ⟨.hbm, 516, rfl⟩
abbrev main_v492 : Ref sig .tc := ⟨.hbm, 517, rfl⟩
abbrev main_v493 : Ref sig .tc := ⟨.hbm, 518, rfl⟩
abbrev main_v494 : Ref sig .tc := ⟨.hbm, 519, rfl⟩
abbrev main_v495 : Ref sig .tc := ⟨.hbm, 520, rfl⟩
abbrev main_v496 : Ref sig .tc := ⟨.hbm, 521, rfl⟩
abbrev main_call0_v0 : Ref sig .tc := ⟨.hbm, 522, rfl⟩
abbrev main_call0_v1 : Ref sig .tc := ⟨.hbm, 523, rfl⟩
abbrev main_call0_cst : Ref sig .tc := ⟨.hbm, 524, rfl⟩
abbrev main_call0_v2 : Ref sig .tc := ⟨.hbm, 525, rfl⟩
abbrev main_call0_v3 : Ref sig .tc := ⟨.hbm, 526, rfl⟩
abbrev main_call0_cst_0 : Ref sig .tc := ⟨.hbm, 527, rfl⟩
abbrev main_call0_v4 : Ref sig .tc := ⟨.hbm, 528, rfl⟩
abbrev main_call0_v5 : Ref sig .tc := ⟨.hbm, 529, rfl⟩
abbrev main_v497 : Ref sig .tc := ⟨.hbm, 530, rfl⟩
abbrev main_v498 : Ref sig .tc := ⟨.hbm, 531, rfl⟩
abbrev main_v499 : Ref sig .tc := ⟨.hbm, 532, rfl⟩
abbrev main_v500 : Ref sig .tc := ⟨.hbm, 533, rfl⟩
abbrev main_v501 : Ref sig .tc := ⟨.hbm, 534, rfl⟩
abbrev main_cst_15 : Ref sig .tc := ⟨.hbm, 535, rfl⟩
abbrev main_v502 : Ref sig .tc := ⟨.hbm, 536, rfl⟩
abbrev main_v503 : Ref sig .tc := ⟨.hbm, 537, rfl⟩
abbrev main_v504 : Ref sig .tc := ⟨.hbm, 538, rfl⟩
abbrev main_v505 : Ref sig .tc := ⟨.hbm, 539, rfl⟩
abbrev main_v506 : Ref sig .tc := ⟨.hbm, 540, rfl⟩
abbrev main_v507 : Ref sig .tc := ⟨.hbm, 541, rfl⟩
abbrev main_v508 : Ref sig .tc := ⟨.hbm, 542, rfl⟩
abbrev main_v509 : Ref sig .tc := ⟨.hbm, 543, rfl⟩
abbrev main_cst_16 : Ref sig .tc := ⟨.hbm, 544, rfl⟩
abbrev main_v510 : Ref sig .tc := ⟨.hbm, 545, rfl⟩
abbrev main_v511 : Ref sig .tc := ⟨.hbm, 546, rfl⟩
abbrev main_v512 : Ref sig .tc := ⟨.hbm, 547, rfl⟩
abbrev main_v513 : Ref sig .tc := ⟨.hbm, 548, rfl⟩
abbrev main_v514 : Ref sig .tc := ⟨.hbm, 549, rfl⟩
abbrev main_v515 : Ref sig .tc := ⟨.hbm, 550, rfl⟩
abbrev main_v516 : Ref sig .tc := ⟨.hbm, 551, rfl⟩
abbrev main_v517 : Ref sig .tc := ⟨.hbm, 552, rfl⟩
abbrev main_v518 : Ref sig .tc := ⟨.hbm, 553, rfl⟩
abbrev main_v519 : Ref sig .tc := ⟨.hbm, 554, rfl⟩
abbrev main_v520 : Ref sig .tc := ⟨.hbm, 555, rfl⟩
abbrev main_v521 : Ref sig .tc := ⟨.hbm, 556, rfl⟩
abbrev main_v522 : Ref sig .tc := ⟨.hbm, 557, rfl⟩
abbrev main_v523 : Ref sig .tc := ⟨.hbm, 558, rfl⟩
abbrev main_v524 : Ref sig .tc := ⟨.hbm, 559, rfl⟩
abbrev main_v525 : Ref sig .tc := ⟨.hbm, 560, rfl⟩
abbrev main_v526 : Ref sig .tc := ⟨.hbm, 561, rfl⟩
abbrev main_v527 : Ref sig .tc := ⟨.hbm, 562, rfl⟩
abbrev main_v528 : Ref sig .tc := ⟨.hbm, 563, rfl⟩
abbrev main_v529 : Ref sig .tc := ⟨.hbm, 564, rfl⟩
abbrev main_v530 : Ref sig .tc := ⟨.hbm, 565, rfl⟩
abbrev main_v531 : Ref sig .tc := ⟨.hbm, 566, rfl⟩
abbrev main_v532 : Ref sig .tc := ⟨.hbm, 567, rfl⟩

abbrev nD : Nat := 1
abbrev τ : Topo := Topo.v7x

variable {F : FTy → Type} [FloatOps F]
-- ==== OddBwd.lean ====
abbrev S8192x1024 : Shape := ⟨2, ![8192, 1024]⟩
abbrev S1024x2560 : Shape := ⟨2, ![1024, 2560]⟩
abbrev S1024x1024 : Shape := ⟨2, ![1024, 1024]⟩
abbrev S31x512 : Shape := ⟨2, ![31, 512]⟩
abbrev S1x512 : Shape := ⟨2, ![1, 512]⟩
abbrev S3x512 : Shape := ⟨2, ![3, 512]⟩
abbrev S1x1024 : Shape := ⟨2, ![1, 1024]⟩
abbrev S2560x1024 : Shape := ⟨2, ![2560, 1024]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x512 : Shape := ⟨2, ![8192, 512]⟩
abbrev S30x512 : Shape := ⟨2, ![30, 512]⟩
abbrev S8222x512 : Shape := ⟨2, ![8222, 512]⟩
abbrev S512 : Shape := ⟨1, ![512]⟩
abbrev S512x1024 : Shape := ⟨2, ![512, 1024]⟩
abbrev S32x1024 : Shape := ⟨2, ![32, 1024]⟩
abbrev S512x2560 : Shape := ⟨2, ![512, 2560]⟩
abbrev S32x2560 : Shape := ⟨2, ![32, 2560]⟩
abbrev S512x512 : Shape := ⟨2, ![512, 512]⟩
abbrev S32x512 : Shape := ⟨2, ![32, 512]⟩
abbrev S544x1024 : Shape := ⟨2, ![544, 1024]⟩
abbrev S576x2560 : Shape := ⟨2, ![576, 2560]⟩
abbrev S576x512 : Shape := ⟨2, ![576, 512]⟩
abbrev S544x512 : Shape := ⟨2, ![544, 512]⟩
abbrev S544 : Shape := ⟨1, ![544]⟩
abbrev S544x1 : Shape := ⟨2, ![544, 1]⟩
abbrev S512x1 : Shape := ⟨2, ![512, 1]⟩
abbrev S1024 : Shape := ⟨1, ![1024]⟩

abbrev nBuf : Space → Nat
  | .hbm => 275
  | .vmem => 33
  | .smem => 0
  | _ => 0

abbrev hbmTy0_0 (i : Nat) : BufTy := match i % 128 with
  | 0 => ⟨S8192x1024, .f32⟩
  | 1 => ⟨S1024x2560, .f32⟩
  | 2 => ⟨S1024x1024, .f32⟩
  | 3 => ⟨S31x512, .f32⟩
  | 4 => ⟨S1x512, .f32⟩
  | 5 => ⟨S1x512, .f32⟩
  | 6 => ⟨S1x512, .f32⟩
  | 7 => ⟨S3x512, .f32⟩
  | 8 => ⟨S1x1024, .f32⟩
  | 9 => ⟨S8192x1024, .f32⟩
  | 10 => ⟨S2560x1024, .f32⟩
  | 11 => ⟨S2560x1024, .bf16⟩
  | 12 => ⟨S1024x1024, .bf16⟩
  | 13 => ⟨S8192x1024, .f32⟩
  | 14 => ⟨S_, .f32⟩
  | 15 => ⟨S8192, .f32⟩
  | 16 => ⟨S8192x1, .f32⟩
  | 17 => ⟨S_, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1, .f32⟩
  | 24 => ⟨S8192x1024, .f32⟩
  | 25 => ⟨S8192x1024, .f32⟩
  | 26 => ⟨S8192x1024, .f32⟩
  | 27 => ⟨S8192x1024, .f32⟩
  | 28 => ⟨S8192x1024, .bf16⟩
  | 29 => ⟨S8192x2560, .f32⟩
  | 30 => ⟨S8192x2560, .bf16⟩
  | 31 => ⟨S8192x2560, .f32⟩
  | 32 => ⟨S8192x512, .f32⟩
  | 33 => ⟨S8192x512, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S_, .f32⟩
  | 40 => ⟨S8192x512, .f32⟩
  | 41 => ⟨S8192x512, .f32⟩
  | 42 => ⟨S8192x512, .f32⟩
  | 43 => ⟨S_, .f32⟩
  | 44 => ⟨S30x512, .f32⟩
  | 45 => ⟨S8222x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S_, .f32⟩
  | 53 => ⟨S8192x512, .f32⟩
  | 54 => ⟨S8192x512, .f32⟩
  | 55 => ⟨S1x512, .f32⟩
  | 56 => ⟨S512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_1 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S1x512, .f32⟩
  | 110 => ⟨S512, .f32⟩
  | 111 => ⟨S8192x512, .f32⟩
  | 112 => ⟨S1x512, .f32⟩
  | 113 => ⟨S8192x512, .f32⟩
  | 114 => ⟨S8192x512, .f32⟩
  | 115 => ⟨S8192x512, .f32⟩
  | 116 => ⟨S1x512, .f32⟩
  | 117 => ⟨S512, .f32⟩
  | 118 => ⟨S8192x512, .f32⟩
  | 119 => ⟨S1x512, .f32⟩
  | 120 => ⟨S8192x512, .f32⟩
  | 121 => ⟨S8192x512, .f32⟩
  | 122 => ⟨S8192x512, .f32⟩
  | 123 => ⟨S1x512, .f32⟩
  | 124 => ⟨S512, .f32⟩
  | 125 => ⟨S8192x512, .f32⟩
  | 126 => ⟨S1x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S1x512, .f32⟩
  | 3 => ⟨S512, .f32⟩
  | 4 => ⟨S8192x512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x1024, .f32⟩
  | 12 => ⟨S8192x2560, .bf16⟩
  | 13 => ⟨S31x512, .f32⟩
  | 14 => ⟨S1x512, .f32⟩
  | 15 => ⟨S1x512, .f32⟩
  | 16 => ⟨S1x512, .f32⟩
  | 17 => ⟨S3x512, .f32⟩
  | 18 => ⟨S1x1024, .f32⟩
  | _ => ⟨S8192x1024, .f32⟩

abbrev hbmTy (i : Nat) : BufTy := match i / 128 with
  | 0 => hbmTy0_0 i
  | 1 => hbmTy0_1 i
  | 2 => hbmTy0_2 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S32x1024, .f32⟩
  | .local _ .vmem, ⟨3, _⟩ => ⟨S32x1024, .f32⟩
  | .local _ .vmem, ⟨4, _⟩ => ⟨S512x1024, .f32⟩
  | .local _ .vmem, ⟨5, _⟩ => ⟨S512x1024, .f32⟩
  | .local _ .vmem, ⟨6, _⟩ => ⟨S512x2560, .bf16⟩
  | .local _ .vmem, ⟨7, _⟩ => ⟨S512x2560, .bf16⟩
  | .local _ .vmem, ⟨8, _⟩ => ⟨S32x2560, .bf16⟩
  | .local _ .vmem, ⟨9, _⟩ => ⟨S32x2560, .bf16⟩
  | .local _ .vmem, ⟨10, _⟩ => ⟨S32x2560, .bf16⟩
  | .local _ .vmem, ⟨11, _⟩ => ⟨S32x2560, .bf16⟩
  | .local _ .vmem, ⟨12, _⟩ => ⟨S512x512, .f32⟩
  | .local _ .vmem, ⟨13, _⟩ => ⟨S512x512, .f32⟩
  | .local _ .vmem, ⟨14, _⟩ => ⟨S32x512, .f32⟩
  | .local _ .vmem, ⟨15, _⟩ => ⟨S32x512, .f32⟩
  | .local _ .vmem, ⟨16, _⟩ => ⟨S2560x1024, .bf16⟩
  | .local _ .vmem, ⟨17, _⟩ => ⟨S1024x1024, .bf16⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S3x512, .f32⟩
  | .local _ .vmem, ⟨22, _⟩ => ⟨S1x1024, .f32⟩
  | .local _ .vmem, ⟨23, _⟩ => ⟨S512x1024, .f32⟩
  | .local _ .vmem, ⟨24, _⟩ => ⟨S512x1024, .f32⟩
  | .local _ .vmem, ⟨25, _⟩ => ⟨S512x2560, .bf16⟩
  | .local _ .vmem, ⟨26, _⟩ => ⟨S512x2560, .bf16⟩
  | .local _ .vmem, ⟨27, _⟩ => ⟨S31x512, .f32⟩
  | .local _ .vmem, ⟨28, _⟩ => ⟨S1x512, .f32⟩
  | .local _ .vmem, ⟨29, _⟩ => ⟨S1x512, .f32⟩
  | .local _ .vmem, ⟨30, _⟩ => ⟨S1x512, .f32⟩
  | .local _ .vmem, ⟨31, _⟩ => ⟨S3x512, .f32⟩
  | .local _ .vmem, ⟨32, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_cst_3 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_v161 : Ref sig .tc := ⟨.hbm, 178, rfl⟩
abbrev main_v162 : Ref sig .tc := ⟨.hbm, 179, rfl⟩
abbrev main_v163 : Ref sig .tc := ⟨.hbm, 180, rfl⟩
abbrev main_v164 : Ref sig .tc := ⟨.hbm, 181, rfl⟩
abbrev main_v165 : Ref sig .tc := ⟨.hbm, 182, rfl⟩
abbrev main_v166 : Ref sig .tc := ⟨.hbm, 183, rfl⟩
abbrev main_v167 : Ref sig .tc := ⟨.hbm, 184, rfl⟩
abbrev main_v168 : Ref sig .tc := ⟨.hbm, 185, rfl⟩
abbrev main_v169 : Ref sig .tc := ⟨.hbm, 186, rfl⟩
abbrev main_v170 : Ref sig .tc := ⟨.hbm, 187, rfl⟩
abbrev main_v171 : Ref sig .tc := ⟨.hbm, 188, rfl⟩
abbrev main_v172 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩
abbrev main_v209 : Ref sig .tc := ⟨.hbm, 226, rfl⟩
abbrev main_v210 : Ref sig .tc := ⟨.hbm, 227, rfl⟩
abbrev main_v211 : Ref sig .tc := ⟨.hbm, 228, rfl⟩
abbrev main_v212 : Ref sig .tc := ⟨.hbm, 229, rfl⟩
abbrev main_v213 : Ref sig .tc := ⟨.hbm, 230, rfl⟩
abbrev main_v214 : Ref sig .tc := ⟨.hbm, 231, rfl⟩
abbrev main_v215 : Ref sig .tc := ⟨.hbm, 232, rfl⟩
abbrev main_v216 : Ref sig .tc := ⟨.hbm, 233, rfl⟩
abbrev main_v217 : Ref sig .tc := ⟨.hbm, 234, rfl⟩
abbrev main_v218 : Ref sig .tc := ⟨.hbm, 235, rfl⟩
abbrev main_v219 : Ref sig .tc := ⟨.hbm, 236, rfl⟩
abbrev main_v220 : Ref sig .tc := ⟨.hbm, 237, rfl⟩
abbrev main_v221 : Ref sig .tc := ⟨.hbm, 238, rfl⟩
abbrev main_v222 : Ref sig .tc := ⟨.hbm, 239, rfl⟩
abbrev main_v223 : Ref sig .tc := ⟨.hbm, 240, rfl⟩
abbrev main_v224 : Ref sig .tc := ⟨.hbm, 241, rfl⟩
abbrev main_v225 : Ref sig .tc := ⟨.hbm, 242, rfl⟩
abbrev main_v226 : Ref sig .tc := ⟨.hbm, 243, rfl⟩
abbrev main_v227 : Ref sig .tc := ⟨.hbm, 244, rfl⟩
abbrev main_v228 : Ref sig .tc := ⟨.hbm, 245, rfl⟩
abbrev main_v229 : Ref sig .tc := ⟨.hbm, 246, rfl⟩
abbrev main_v230 : Ref sig .tc := ⟨.hbm, 247, rfl⟩
abbrev main_v231 : Ref sig .tc := ⟨.hbm, 248, rfl⟩
abbrev main_v232 : Ref sig .tc := ⟨.hbm, 249, rfl⟩
abbrev main_v233 : Ref sig .tc := ⟨.hbm, 250, rfl⟩
abbrev main_v234 : Ref sig .tc := ⟨.hbm, 251, rfl⟩
abbrev main_v235 : Ref sig .tc := ⟨.hbm, 252, rfl⟩
abbrev main_v236 : Ref sig .tc := ⟨.hbm, 253, rfl⟩
abbrev main_v237 : Ref sig .tc := ⟨.hbm, 254, rfl⟩
abbrev main_v238 : Ref sig .tc := ⟨.hbm, 255, rfl⟩
abbrev main_v239 : Ref sig .tc := ⟨.hbm, 256, rfl⟩
abbrev main_v240 : Ref sig .tc := ⟨.hbm, 257, rfl⟩
abbrev main_v241 : Ref sig .tc := ⟨.hbm, 258, rfl⟩
abbrev main_v242 : Ref sig .tc := ⟨.hbm, 259, rfl⟩
abbrev main_v243 : Ref sig .tc := ⟨.hbm, 260, rfl⟩
abbrev main_v244 : Ref sig .tc := ⟨.hbm, 261, rfl⟩
abbrev main_v245 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250_0 : Ref sig .tc := ⟨.hbm, 267, rfl⟩
abbrev main_v250_1 : Ref sig .tc := ⟨.hbm, 268, rfl⟩
abbrev main_v250_2 : Ref sig .tc := ⟨.hbm, 269, rfl⟩
abbrev main_v250_3 : Ref sig .tc := ⟨.hbm, 270, rfl⟩
abbrev main_v250_4 : Ref sig .tc := ⟨.hbm, 271, rfl⟩
abbrev main_v250_5 : Ref sig .tc := ⟨.hbm, 272, rfl⟩
abbrev main_v250_6 : Ref sig .tc := ⟨.hbm, 273, rfl⟩
abbrev main_v250_7 : Ref sig .tc := ⟨.hbm, 274, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_stg21_0 : Ref sig .tc := ⟨.vmem, 31, rfl⟩
abbrev cc0_stg22_0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem22_0 : DmaSem sig := 32

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2560x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S31x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x2560 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S31x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S3x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== OddGradIdeal.lean ====
abbrev S8192x1024 : Shape := ⟨2, ![8192, 1024]⟩
abbrev S1024x2560 : Shape := ⟨2, ![1024, 2560]⟩
abbrev S1024x1024 : Shape := ⟨2, ![1024, 1024]⟩
abbrev S31x512 : Shape := ⟨2, ![31, 512]⟩
abbrev S1x512 : Shape := ⟨2, ![1, 512]⟩
abbrev S3x512 : Shape := ⟨2, ![3, 512]⟩
abbrev S1x1024 : Shape := ⟨2, ![1, 1024]⟩
abbrev S_ : Shape := ⟨0, ![]⟩
abbrev S8192x2560 : Shape := ⟨2, ![8192, 2560]⟩
abbrev S8192 : Shape := ⟨1, ![8192]⟩
abbrev S8192x1 : Shape := ⟨2, ![8192, 1]⟩
abbrev S8192x512 : Shape := ⟨2, ![8192, 512]⟩
abbrev S30x512 : Shape := ⟨2, ![30, 512]⟩
abbrev S8222x512 : Shape := ⟨2, ![8222, 512]⟩
abbrev S512 : Shape := ⟨1, ![512]⟩
abbrev S2x512 : Shape := ⟨2, ![2, 512]⟩
abbrev S8194x512 : Shape := ⟨2, ![8194, 512]⟩
abbrev S1024 : Shape := ⟨1, ![1024]⟩

abbrev nBuf : Space → Nat
  | .hbm => 965
  | .vmem => 0
  | .smem => 0
  | _ => 0

abbrev hbmTy0_0 (i : Nat) : BufTy := match i % 128 with
  | 0 => ⟨S8192x1024, .f32⟩
  | 1 => ⟨S1024x2560, .f32⟩
  | 2 => ⟨S1024x1024, .f32⟩
  | 3 => ⟨S31x512, .f32⟩
  | 4 => ⟨S1x512, .f32⟩
  | 5 => ⟨S1x512, .f32⟩
  | 6 => ⟨S1x512, .f32⟩
  | 7 => ⟨S3x512, .f32⟩
  | 8 => ⟨S1x1024, .f32⟩
  | 9 => ⟨S8192x1024, .f32⟩
  | 10 => ⟨S_, .f32⟩
  | 11 => ⟨S8192x2560, .f32⟩
  | 12 => ⟨S8192x1024, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1, .f32⟩
  | 23 => ⟨S8192x1, .f32⟩
  | 24 => ⟨S_, .f32⟩
  | 25 => ⟨S8192x1, .f32⟩
  | 26 => ⟨S8192x1, .f32⟩
  | 27 => ⟨S8192x1024, .f32⟩
  | 28 => ⟨S8192x1024, .f32⟩
  | 29 => ⟨S8192x1024, .f32⟩
  | 30 => ⟨S8192x1024, .f32⟩
  | 31 => ⟨S8192x2560, .f32⟩
  | 32 => ⟨S8192x2560, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S8192x512, .f32⟩
  | 39 => ⟨S8192x512, .f32⟩
  | 40 => ⟨S_, .f32⟩
  | 41 => ⟨S8192x512, .f32⟩
  | 42 => ⟨S8192x512, .f32⟩
  | 43 => ⟨S_, .f32⟩
  | 44 => ⟨S8192x512, .f32⟩
  | 45 => ⟨S8192x512, .f32⟩
  | 46 => ⟨S8192x512, .f32⟩
  | 47 => ⟨S8192x512, .f32⟩
  | 48 => ⟨S_, .f32⟩
  | 49 => ⟨S30x512, .f32⟩
  | 50 => ⟨S8222x512, .f32⟩
  | 51 => ⟨S_, .f32⟩
  | 52 => ⟨S30x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S_, .f32⟩
  | 60 => ⟨S8192x512, .f32⟩
  | 61 => ⟨S8192x512, .f32⟩
  | 62 => ⟨S1x512, .f32⟩
  | 63 => ⟨S512, .f32⟩
  | 64 => ⟨S8192x512, .f32⟩
  | 65 => ⟨S1x512, .f32⟩
  | 66 => ⟨S8192x512, .f32⟩
  | 67 => ⟨S8192x512, .f32⟩
  | 68 => ⟨S8192x512, .f32⟩
  | 69 => ⟨S1x512, .f32⟩
  | 70 => ⟨S512, .f32⟩
  | 71 => ⟨S8192x512, .f32⟩
  | 72 => ⟨S1x512, .f32⟩
  | 73 => ⟨S8192x512, .f32⟩
  | 74 => ⟨S8192x512, .f32⟩
  | 75 => ⟨S8192x512, .f32⟩
  | 76 => ⟨S1x512, .f32⟩
  | 77 => ⟨S512, .f32⟩
  | 78 => ⟨S8192x512, .f32⟩
  | 79 => ⟨S1x512, .f32⟩
  | 80 => ⟨S8192x512, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S1x512, .f32⟩
  | 98 => ⟨S512, .f32⟩
  | 99 => ⟨S8192x512, .f32⟩
  | 100 => ⟨S1x512, .f32⟩
  | 101 => ⟨S8192x512, .f32⟩
  | 102 => ⟨S8192x512, .f32⟩
  | 103 => ⟨S8192x512, .f32⟩
  | 104 => ⟨S1x512, .f32⟩
  | 105 => ⟨S512, .f32⟩
  | 106 => ⟨S8192x512, .f32⟩
  | 107 => ⟨S1x512, .f32⟩
  | 108 => ⟨S8192x512, .f32⟩
  | 109 => ⟨S8192x512, .f32⟩
  | 110 => ⟨S8192x512, .f32⟩
  | 111 => ⟨S1x512, .f32⟩
  | 112 => ⟨S512, .f32⟩
  | 113 => ⟨S8192x512, .f32⟩
  | 114 => ⟨S1x512, .f32⟩
  | 115 => ⟨S8192x512, .f32⟩
  | 116 => ⟨S8192x512, .f32⟩
  | 117 => ⟨S8192x512, .f32⟩
  | 118 => ⟨S1x512, .f32⟩
  | 119 => ⟨S512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S1x512, .f32⟩
  | 126 => ⟨S512, .f32⟩
  | 127 => ⟨S8192x512, .f32⟩
  | _ => ⟨S8192x1024, .f32⟩

abbrev hbmTy0_1 (i : Nat) : BufTy := match i % 128 with
  | 0 => ⟨S1x512, .f32⟩
  | 1 => ⟨S8192x512, .f32⟩
  | 2 => ⟨S8192x512, .f32⟩
  | 3 => ⟨S8192x512, .f32⟩
  | 4 => ⟨S1x512, .f32⟩
  | 5 => ⟨S512, .f32⟩
  | 6 => ⟨S8192x512, .f32⟩
  | 7 => ⟨S1x512, .f32⟩
  | 8 => ⟨S8192x512, .f32⟩
  | 9 => ⟨S8192x512, .f32⟩
  | 10 => ⟨S8192x512, .f32⟩
  | 11 => ⟨S1x512, .f32⟩
  | 12 => ⟨S512, .f32⟩
  | 13 => ⟨S8192x512, .f32⟩
  | 14 => ⟨S1x512, .f32⟩
  | 15 => ⟨S8192x512, .f32⟩
  | 16 => ⟨S8192x512, .f32⟩
  | 17 => ⟨S8192x512, .f32⟩
  | 18 => ⟨S1x512, .f32⟩
  | 19 => ⟨S512, .f32⟩
  | 20 => ⟨S8192x512, .f32⟩
  | 21 => ⟨S1x512, .f32⟩
  | 22 => ⟨S8192x512, .f32⟩
  | 23 => ⟨S8192x512, .f32⟩
  | 24 => ⟨S8192x512, .f32⟩
  | 25 => ⟨S1x512, .f32⟩
  | 26 => ⟨S512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S1x512, .f32⟩
  | 33 => ⟨S512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S1x512, .f32⟩
  | 40 => ⟨S512, .f32⟩
  | 41 => ⟨S8192x512, .f32⟩
  | 42 => ⟨S1x512, .f32⟩
  | 43 => ⟨S8192x512, .f32⟩
  | 44 => ⟨S8192x512, .f32⟩
  | 45 => ⟨S8192x512, .f32⟩
  | 46 => ⟨S1x512, .f32⟩
  | 47 => ⟨S512, .f32⟩
  | 48 => ⟨S8192x512, .f32⟩
  | 49 => ⟨S1x512, .f32⟩
  | 50 => ⟨S8192x512, .f32⟩
  | 51 => ⟨S8192x512, .f32⟩
  | 52 => ⟨S8192x512, .f32⟩
  | 53 => ⟨S1x512, .f32⟩
  | 54 => ⟨S512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S1x512, .f32⟩
  | 61 => ⟨S512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S1x512, .f32⟩
  | 68 => ⟨S512, .f32⟩
  | 69 => ⟨S8192x512, .f32⟩
  | 70 => ⟨S1x512, .f32⟩
  | 71 => ⟨S8192x512, .f32⟩
  | 72 => ⟨S8192x512, .f32⟩
  | 73 => ⟨S8192x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S8192x512, .f32⟩
  | 81 => ⟨S1x512, .f32⟩
  | 82 => ⟨S512, .f32⟩
  | 83 => ⟨S8192x512, .f32⟩
  | 84 => ⟨S1x512, .f32⟩
  | 85 => ⟨S8192x512, .f32⟩
  | 86 => ⟨S8192x512, .f32⟩
  | 87 => ⟨S8192x512, .f32⟩
  | 88 => ⟨S1x512, .f32⟩
  | 89 => ⟨S512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S1x512, .f32⟩
  | 96 => ⟨S512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S1x512, .f32⟩
  | 103 => ⟨S512, .f32⟩
  | 104 => ⟨S8192x512, .f32⟩
  | 105 => ⟨S1x512, .f32⟩
  | 106 => ⟨S8192x512, .f32⟩
  | 107 => ⟨S8192x512, .f32⟩
  | 108 => ⟨S8192x512, .f32⟩
  | 109 => ⟨S1x512, .f32⟩
  | 110 => ⟨S512, .f32⟩
  | 111 => ⟨S8192x512, .f32⟩
  | 112 => ⟨S1x512, .f32⟩
  | 113 => ⟨S8192x512, .f32⟩
  | 114 => ⟨S8192x512, .f32⟩
  | 115 => ⟨S8192x512, .f32⟩
  | 116 => ⟨S1x512, .f32⟩
  | 117 => ⟨S512, .f32⟩
  | 118 => ⟨S8192x512, .f32⟩
  | 119 => ⟨S1x512, .f32⟩
  | 120 => ⟨S8192x512, .f32⟩
  | 121 => ⟨S8192x512, .f32⟩
  | 122 => ⟨S8192x512, .f32⟩
  | 123 => ⟨S1x512, .f32⟩
  | 124 => ⟨S512, .f32⟩
  | 125 => ⟨S8192x512, .f32⟩
  | 126 => ⟨S1x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S1x512, .f32⟩
  | 3 => ⟨S512, .f32⟩
  | 4 => ⟨S8192x512, .f32⟩
  | 5 => ⟨S1x512, .f32⟩
  | 6 => ⟨S8192x512, .f32⟩
  | 7 => ⟨S8192x512, .f32⟩
  | 8 => ⟨S8192x512, .f32⟩
  | 9 => ⟨S1x512, .f32⟩
  | 10 => ⟨S512, .f32⟩
  | 11 => ⟨S8192x512, .f32⟩
  | 12 => ⟨S1x512, .f32⟩
  | 13 => ⟨S8192x512, .f32⟩
  | 14 => ⟨S8192x512, .f32⟩
  | 15 => ⟨S8192x512, .f32⟩
  | 16 => ⟨S8192x512, .f32⟩
  | 17 => ⟨S8192x512, .f32⟩
  | 18 => ⟨S_, .f32⟩
  | 19 => ⟨S8192, .f32⟩
  | 20 => ⟨S8192x1, .f32⟩
  | 21 => ⟨S_, .f32⟩
  | 22 => ⟨S8192x1, .f32⟩
  | 23 => ⟨S8192x1, .f32⟩
  | 24 => ⟨S8192x512, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S_, .f32⟩
  | 31 => ⟨S8192, .f32⟩
  | 32 => ⟨S8192x1, .f32⟩
  | 33 => ⟨S_, .f32⟩
  | 34 => ⟨S8192x1, .f32⟩
  | 35 => ⟨S8192x1, .f32⟩
  | 36 => ⟨S8192x512, .f32⟩
  | 37 => ⟨S8192x512, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x512, .f32⟩
  | 47 => ⟨S8192x512, .f32⟩
  | 48 => ⟨S8192x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S_, .f32⟩
  | 55 => ⟨S8192x512, .f32⟩
  | 56 => ⟨S8192x512, .f32⟩
  | 57 => ⟨S_, .f32⟩
  | 58 => ⟨S8192x512, .f32⟩
  | 59 => ⟨S8192x512, .f32⟩
  | 60 => ⟨S_, .f32⟩
  | 61 => ⟨S8192x512, .f32⟩
  | 62 => ⟨S8192x512, .f32⟩
  | 63 => ⟨S8192x512, .f32⟩
  | 64 => ⟨S8192x512, .f32⟩
  | 65 => ⟨S8192x512, .f32⟩
  | 66 => ⟨S8192x512, .f32⟩
  | 67 => ⟨S8192x512, .f32⟩
  | 68 => ⟨S8192x512, .f32⟩
  | 69 => ⟨S_, .f32⟩
  | 70 => ⟨S2x512, .f32⟩
  | 71 => ⟨S8194x512, .f32⟩
  | 72 => ⟨S_, .f32⟩
  | 73 => ⟨S2x512, .f32⟩
  | 74 => ⟨S1x512, .f32⟩
  | 75 => ⟨S512, .f32⟩
  | 76 => ⟨S8192x512, .f32⟩
  | 77 => ⟨S1x512, .f32⟩
  | 78 => ⟨S8192x512, .f32⟩
  | 79 => ⟨S8192x512, .f32⟩
  | 80 => ⟨S_, .f32⟩
  | 81 => ⟨S8192x512, .f32⟩
  | 82 => ⟨S8192x512, .f32⟩
  | 83 => ⟨S1x512, .f32⟩
  | 84 => ⟨S512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S1x512, .f32⟩
  | 91 => ⟨S512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S8192x512, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x512, .f32⟩
  | 104 => ⟨S8192x512, .f32⟩
  | 105 => ⟨S8192x512, .f32⟩
  | 106 => ⟨S8192x512, .f32⟩
  | 107 => ⟨S8192x512, .f32⟩
  | 108 => ⟨S8192x512, .f32⟩
  | 109 => ⟨S8192x512, .f32⟩
  | 110 => ⟨S_, .f32⟩
  | 111 => ⟨S512, .f32⟩
  | 112 => ⟨S1x512, .f32⟩
  | 113 => ⟨S_, .f32⟩
  | 114 => ⟨S512, .f32⟩
  | 115 => ⟨S_, .f32⟩
  | 116 => ⟨S8194x512, .f32⟩
  | 117 => ⟨S1x512, .f32⟩
  | 118 => ⟨S_, .f32⟩
  | 119 => ⟨S3x512, .f32⟩
  | 120 => ⟨S8192x512, .f32⟩
  | 121 => ⟨S8192x512, .f32⟩
  | 122 => ⟨S8192x512, .f32⟩
  | 123 => ⟨S_, .f32⟩
  | 124 => ⟨S512, .f32⟩
  | 125 => ⟨S1x512, .f32⟩
  | 126 => ⟨S_, .f32⟩
  | 127 => ⟨S512, .f32⟩
  | _ => ⟨S8192x1024, .f32⟩

abbrev hbmTy0_3 (i : Nat) : BufTy := match i % 128 with
  | 0 => ⟨S_, .f32⟩
  | 1 => ⟨S8194x512, .f32⟩
  | 2 => ⟨S8194x512, .f32⟩
  | 3 => ⟨S1x512, .f32⟩
  | 4 => ⟨S_, .f32⟩
  | 5 => ⟨S3x512, .f32⟩
  | 6 => ⟨S3x512, .f32⟩
  | 7 => ⟨S8192x512, .f32⟩
  | 8 => ⟨S8192x512, .f32⟩
  | 9 => ⟨S8192x512, .f32⟩
  | 10 => ⟨S_, .f32⟩
  | 11 => ⟨S512, .f32⟩
  | 12 => ⟨S1x512, .f32⟩
  | 13 => ⟨S_, .f32⟩
  | 14 => ⟨S512, .f32⟩
  | 15 => ⟨S_, .f32⟩
  | 16 => ⟨S8194x512, .f32⟩
  | 17 => ⟨S8194x512, .f32⟩
  | 18 => ⟨S1x512, .f32⟩
  | 19 => ⟨S_, .f32⟩
  | 20 => ⟨S3x512, .f32⟩
  | 21 => ⟨S3x512, .f32⟩
  | 22 => ⟨S2x512, .f32⟩
  | 23 => ⟨S8192x512, .f32⟩
  | 24 => ⟨S8192x512, .f32⟩
  | 25 => ⟨S8192x512, .f32⟩
  | 26 => ⟨S_, .f32⟩
  | 27 => ⟨S8192x2560, .f32⟩
  | 28 => ⟨S_, .f32⟩
  | 29 => ⟨S8192x2560, .f32⟩
  | 30 => ⟨S8192x2560, .f32⟩
  | 31 => ⟨S_, .f32⟩
  | 32 => ⟨S8192x2560, .f32⟩
  | 33 => ⟨S8192x2560, .f32⟩
  | 34 => ⟨S8192x512, .f32⟩
  | 35 => ⟨S8192x512, .f32⟩
  | 36 => ⟨S8192x512, .f32⟩
  | 37 => ⟨S8192x512, .f32⟩
  | 38 => ⟨S_, .f32⟩
  | 39 => ⟨S512, .f32⟩
  | 40 => ⟨S1x512, .f32⟩
  | 41 => ⟨S8192x512, .f32⟩
  | 42 => ⟨S_, .f32⟩
  | 43 => ⟨S512, .f32⟩
  | 44 => ⟨S1x512, .f32⟩
  | 45 => ⟨S8192x512, .f32⟩
  | 46 => ⟨S8192x512, .f32⟩
  | 47 => ⟨S8192x512, .f32⟩
  | 48 => ⟨S_, .f32⟩
  | 49 => ⟨S8192, .f32⟩
  | 50 => ⟨S8192x1, .f32⟩
  | 51 => ⟨S8192x512, .f32⟩
  | 52 => ⟨S8192x512, .f32⟩
  | 53 => ⟨S8192x1, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x512, .f32⟩
  | 64 => ⟨S8192x512, .f32⟩
  | 65 => ⟨S8192x512, .f32⟩
  | 66 => ⟨S_, .f32⟩
  | 67 => ⟨S8192, .f32⟩
  | 68 => ⟨S8192x1, .f32⟩
  | 69 => ⟨S8192x512, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192, .f32⟩
  | 76 => ⟨S8192x512, .f32⟩
  | 77 => ⟨S8192x512, .f32⟩
  | 78 => ⟨S_, .f32⟩
  | 79 => ⟨S512, .f32⟩
  | 80 => ⟨S1x512, .f32⟩
  | 81 => ⟨S8192x512, .f32⟩
  | 82 => ⟨S8192x512, .f32⟩
  | 83 => ⟨S8192x512, .f32⟩
  | 84 => ⟨S_, .f32⟩
  | 85 => ⟨S512, .f32⟩
  | 86 => ⟨S1x512, .f32⟩
  | 87 => ⟨S_, .f32⟩
  | 88 => ⟨S512, .f32⟩
  | 89 => ⟨S_, .f32⟩
  | 90 => ⟨S8222x512, .f32⟩
  | 91 => ⟨S1x512, .f32⟩
  | 92 => ⟨S_, .f32⟩
  | 93 => ⟨S31x512, .f32⟩
  | 94 => ⟨S8192x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S512, .f32⟩
  | 102 => ⟨S_, .f32⟩
  | 103 => ⟨S8222x512, .f32⟩
  | 104 => ⟨S8222x512, .f32⟩
  | 105 => ⟨S1x512, .f32⟩
  | 106 => ⟨S_, .f32⟩
  | 107 => ⟨S31x512, .f32⟩
  | 108 => ⟨S31x512, .f32⟩
  | 109 => ⟨S8192x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S_, .f32⟩
  | 116 => ⟨S512, .f32⟩
  | 117 => ⟨S_, .f32⟩
  | 118 => ⟨S8222x512, .f32⟩
  | 119 => ⟨S8222x512, .f32⟩
  | 120 => ⟨S1x512, .f32⟩
  | 121 => ⟨S_, .f32⟩
  | 122 => ⟨S31x512, .f32⟩
  | 123 => ⟨S31x512, .f32⟩
  | 124 => ⟨S8192x512, .f32⟩
  | 125 => ⟨S8192x512, .f32⟩
  | 126 => ⟨S8192x512, .f32⟩
  | 127 => ⟨S_, .f32⟩
  | _ => ⟨S8192x1024, .f32⟩

abbrev hbmTy0_4 (i : Nat) : BufTy := match i % 128 with
  | 0 => ⟨S512, .f32⟩
  | 1 => ⟨S1x512, .f32⟩
  | 2 => ⟨S_, .f32⟩
  | 3 => ⟨S512, .f32⟩
  | 4 => ⟨S_, .f32⟩
  | 5 => ⟨S8222x512, .f32⟩
  | 6 => ⟨S8222x512, .f32⟩
  | 7 => ⟨S1x512, .f32⟩
  | 8 => ⟨S_, .f32⟩
  | 9 => ⟨S31x512, .f32⟩
  | 10 => ⟨S31x512, .f32⟩
  | 11 => ⟨S8192x512, .f32⟩
  | 12 => ⟨S8192x512, .f32⟩
  | 13 => ⟨S8192x512, .f32⟩
  | 14 => ⟨S_, .f32⟩
  | 15 => ⟨S512, .f32⟩
  | 16 => ⟨S1x512, .f32⟩
  | 17 => ⟨S_, .f32⟩
  | 18 => ⟨S512, .f32⟩
  | 19 => ⟨S_, .f32⟩
  | 20 => ⟨S8222x512, .f32⟩
  | 21 => ⟨S8222x512, .f32⟩
  | 22 => ⟨S1x512, .f32⟩
  | 23 => ⟨S_, .f32⟩
  | 24 => ⟨S31x512, .f32⟩
  | 25 => ⟨S31x512, .f32⟩
  | 26 => ⟨S8192x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S512, .f32⟩
  | 34 => ⟨S_, .f32⟩
  | 35 => ⟨S8222x512, .f32⟩
  | 36 => ⟨S8222x512, .f32⟩
  | 37 => ⟨S1x512, .f32⟩
  | 38 => ⟨S_, .f32⟩
  | 39 => ⟨S31x512, .f32⟩
  | 40 => ⟨S31x512, .f32⟩
  | 41 => ⟨S8192x512, .f32⟩
  | 42 => ⟨S8192x512, .f32⟩
  | 43 => ⟨S8192x512, .f32⟩
  | 44 => ⟨S_, .f32⟩
  | 45 => ⟨S512, .f32⟩
  | 46 => ⟨S1x512, .f32⟩
  | 47 => ⟨S_, .f32⟩
  | 48 => ⟨S512, .f32⟩
  | 49 => ⟨S_, .f32⟩
  | 50 => ⟨S8222x512, .f32⟩
  | 51 => ⟨S8222x512, .f32⟩
  | 52 => ⟨S1x512, .f32⟩
  | 53 => ⟨S_, .f32⟩
  | 54 => ⟨S31x512, .f32⟩
  | 55 => ⟨S31x512, .f32⟩
  | 56 => ⟨S8192x512, .f32⟩
  | 57 => ⟨S8192x512, .f32⟩
  | 58 => ⟨S8192x512, .f32⟩
  | 59 => ⟨S_, .f32⟩
  | 60 => ⟨S512, .f32⟩
  | 61 => ⟨S1x512, .f32⟩
  | 62 => ⟨S_, .f32⟩
  | 63 => ⟨S512, .f32⟩
  | 64 => ⟨S_, .f32⟩
  | 65 => ⟨S8222x512, .f32⟩
  | 66 => ⟨S8222x512, .f32⟩
  | 67 => ⟨S1x512, .f32⟩
  | 68 => ⟨S_, .f32⟩
  | 69 => ⟨S31x512, .f32⟩
  | 70 => ⟨S31x512, .f32⟩
  | 71 => ⟨S8192x512, .f32⟩
  | 72 => ⟨S8192x512, .f32⟩
  | 73 => ⟨S8192x512, .f32⟩
  | 74 => ⟨S_, .f32⟩
  | 75 => ⟨S512, .f32⟩
  | 76 => ⟨S1x512, .f32⟩
  | 77 => ⟨S_, .f32⟩
  | 78 => ⟨S512, .f32⟩
  | 79 => ⟨S_, .f32⟩
  | 80 => ⟨S8222x512, .f32⟩
  | 81 => ⟨S8222x512, .f32⟩
  | 82 => ⟨S1x512, .f32⟩
  | 83 => ⟨S_, .f32⟩
  | 84 => ⟨S31x512, .f32⟩
  | 85 => ⟨S31x512, .f32⟩
  | 86 => ⟨S8192x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S_, .f32⟩
  | 93 => ⟨S512, .f32⟩
  | 94 => ⟨S_, .f32⟩
  | 95 => ⟨S8222x512, .f32⟩
  | 96 => ⟨S8222x512, .f32⟩
  | 97 => ⟨S1x512, .f32⟩
  | 98 => ⟨S_, .f32⟩
  | 99 => ⟨S31x512, .f32⟩
  | 100 => ⟨S31x512, .f32⟩
  | 101 => ⟨S8192x512, .f32⟩
  | 102 => ⟨S8192x512, .f32⟩
  | 103 => ⟨S8192x512, .f32⟩
  | 104 => ⟨S_, .f32⟩
  | 105 => ⟨S512, .f32⟩
  | 106 => ⟨S1x512, .f32⟩
  | 107 => ⟨S_, .f32⟩
  | 108 => ⟨S512, .f32⟩
  | 109 => ⟨S_, .f32⟩
  | 110 => ⟨S8222x512, .f32⟩
  | 111 => ⟨S8222x512, .f32⟩
  | 112 => ⟨S1x512, .f32⟩
  | 113 => ⟨S_, .f32⟩
  | 114 => ⟨S31x512, .f32⟩
  | 115 => ⟨S31x512, .f32⟩
  | 116 => ⟨S8192x512, .f32⟩
  | 117 => ⟨S8192x512, .f32⟩
  | 118 => ⟨S8192x512, .f32⟩
  | 119 => ⟨S_, .f32⟩
  | 120 => ⟨S512, .f32⟩
  | 121 => ⟨S1x512, .f32⟩
  | 122 => ⟨S_, .f32⟩
  | 123 => ⟨S512, .f32⟩
  | 124 => ⟨S_, .f32⟩
  | 125 => ⟨S8222x512, .f32⟩
  | 126 => ⟨S8222x512, .f32⟩
  | 127 => ⟨S1x512, .f32⟩
  | _ => ⟨S8192x1024, .f32⟩

abbrev hbmTy0_5 (i : Nat) : BufTy := match i % 128 with
  | 0 => ⟨S_, .f32⟩
  | 1 => ⟨S31x512, .f32⟩
  | 2 => ⟨S31x512, .f32⟩
  | 3 => ⟨S8192x512, .f32⟩
  | 4 => ⟨S8192x512, .f32⟩
  | 5 => ⟨S8192x512, .f32⟩
  | 6 => ⟨S_, .f32⟩
  | 7 => ⟨S512, .f32⟩
  | 8 => ⟨S1x512, .f32⟩
  | 9 => ⟨S_, .f32⟩
  | 10 => ⟨S512, .f32⟩
  | 11 => ⟨S_, .f32⟩
  | 12 => ⟨S8222x512, .f32⟩
  | 13 => ⟨S8222x512, .f32⟩
  | 14 => ⟨S1x512, .f32⟩
  | 15 => ⟨S_, .f32⟩
  | 16 => ⟨S31x512, .f32⟩
  | 17 => ⟨S31x512, .f32⟩
  | 18 => ⟨S8192x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S512, .f32⟩
  | 26 => ⟨S_, .f32⟩
  | 27 => ⟨S8222x512, .f32⟩
  | 28 => ⟨S8222x512, .f32⟩
  | 29 => ⟨S1x512, .f32⟩
  | 30 => ⟨S_, .f32⟩
  | 31 => ⟨S31x512, .f32⟩
  | 32 => ⟨S31x512, .f32⟩
  | 33 => ⟨S8192x512, .f32⟩
  | 34 => ⟨S8192x512, .f32⟩
  | 35 => ⟨S8192x512, .f32⟩
  | 36 => ⟨S_, .f32⟩
  | 37 => ⟨S512, .f32⟩
  | 38 => ⟨S1x512, .f32⟩
  | 39 => ⟨S_, .f32⟩
  | 40 => ⟨S512, .f32⟩
  | 41 => ⟨S_, .f32⟩
  | 42 => ⟨S8222x512, .f32⟩
  | 43 => ⟨S8222x512, .f32⟩
  | 44 => ⟨S1x512, .f32⟩
  | 45 => ⟨S_, .f32⟩
  | 46 => ⟨S31x512, .f32⟩
  | 47 => ⟨S31x512, .f32⟩
  | 48 => ⟨S8192x512, .f32⟩
  | 49 => ⟨S8192x512, .f32⟩
  | 50 => ⟨S8192x512, .f32⟩
  | 51 => ⟨S_, .f32⟩
  | 52 => ⟨S512, .f32⟩
  | 53 => ⟨S1x512, .f32⟩
  | 54 => ⟨S_, .f32⟩
  | 55 => ⟨S512, .f32⟩
  | 56 => ⟨S_, .f32⟩
  | 57 => ⟨S8222x512, .f32⟩
  | 58 => ⟨S8222x512, .f32⟩
  | 59 => ⟨S1x512, .f32⟩
  | 60 => ⟨S_, .f32⟩
  | 61 => ⟨S31x512, .f32⟩
  | 62 => ⟨S31x512, .f32⟩
  | 63 => ⟨S8192x512, .f32⟩
  | 64 => ⟨S8192x512, .f32⟩
  | 65 => ⟨S8192x512, .f32⟩
  | 66 => ⟨S_, .f32⟩
  | 67 => ⟨S512, .f32⟩
  | 68 => ⟨S1x512, .f32⟩
  | 69 => ⟨S_, .f32⟩
  | 70 => ⟨S512, .f32⟩
  | 71 => ⟨S_, .f32⟩
  | 72 => ⟨S8222x512, .f32⟩
  | 73 => ⟨S8222x512, .f32⟩
  | 74 => ⟨S1x512, .f32⟩
  | 75 => ⟨S_, .f32⟩
  | 76 => ⟨S31x512, .f32⟩
  | 77 => ⟨S31x512, .f32⟩
  | 78 => ⟨S8192x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S_, .f32⟩
  | 85 => ⟨S512, .f32⟩
  | 86 => ⟨S_, .f32⟩
  | 87 => ⟨S8222x512, .f32⟩
  | 88 => ⟨S8222x512, .f32⟩
  | 89 => ⟨S1x512, .f32⟩
  | 90 => ⟨S_, .f32⟩
  | 91 => ⟨S31x512, .f32⟩
  | 92 => ⟨S31x512, .f32⟩
  | 93 => ⟨S8192x512, .f32⟩
  | 94 => ⟨S8192x512, .f32⟩
  | 95 => ⟨S8192x512, .f32⟩
  | 96 => ⟨S_, .f32⟩
  | 97 => ⟨S512, .f32⟩
  | 98 => ⟨S1x512, .f32⟩
  | 99 => ⟨S_, .f32⟩
  | 100 => ⟨S512, .f32⟩
  | 101 => ⟨S_, .f32⟩
  | 102 => ⟨S8222x512, .f32⟩
  | 103 => ⟨S8222x512, .f32⟩
  | 104 => ⟨S1x512, .f32⟩
  | 105 => ⟨S_, .f32⟩
  | 106 => ⟨S31x512, .f32⟩
  | 107 => ⟨S31x512, .f32⟩
  | 108 => ⟨S8192x512, .f32⟩
  | 109 => ⟨S8192x512, .f32⟩
  | 110 => ⟨S8192x512, .f32⟩
  | 111 => ⟨S_, .f32⟩
  | 112 => ⟨S512, .f32⟩
  | 113 => ⟨S1x512, .f32⟩
  | 114 => ⟨S_, .f32⟩
  | 115 => ⟨S512, .f32⟩
  | 116 => ⟨S_, .f32⟩
  | 117 => ⟨S8222x512, .f32⟩
  | 118 => ⟨S8222x512, .f32⟩
  | 119 => ⟨S1x512, .f32⟩
  | 120 => ⟨S_, .f32⟩
  | 121 => ⟨S31x512, .f32⟩
  | 122 => ⟨S31x512, .f32⟩
  | 123 => ⟨S8192x512, .f32⟩
  | 124 => ⟨S8192x512, .f32⟩
  | 125 => ⟨S8192x512, .f32⟩
  | 126 => ⟨S_, .f32⟩
  | 127 => ⟨S512, .f32⟩
  | _ => ⟨S8192x1024, .f32⟩

abbrev hbmTy0_6 (i : Nat) : BufTy := match i % 128 with
  | 0 => ⟨S1x512, .f32⟩
  | 1 => ⟨S_, .f32⟩
  | 2 => ⟨S512, .f32⟩
  | 3 => ⟨S_, .f32⟩
  | 4 => ⟨S8222x512, .f32⟩
  | 5 => ⟨S8222x512, .f32⟩
  | 6 => ⟨S1x512, .f32⟩
  | 7 => ⟨S_, .f32⟩
  | 8 => ⟨S31x512, .f32⟩
  | 9 => ⟨S31x512, .f32⟩
  | 10 => ⟨S8192x512, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S_, .f32⟩
  | 17 => ⟨S512, .f32⟩
  | 18 => ⟨S_, .f32⟩
  | 19 => ⟨S8222x512, .f32⟩
  | 20 => ⟨S8222x512, .f32⟩
  | 21 => ⟨S1x512, .f32⟩
  | 22 => ⟨S_, .f32⟩
  | 23 => ⟨S31x512, .f32⟩
  | 24 => ⟨S31x512, .f32⟩
  | 25 => ⟨S8192x512, .f32⟩
  | 26 => ⟨S8192x512, .f32⟩
  | 27 => ⟨S8192x512, .f32⟩
  | 28 => ⟨S_, .f32⟩
  | 29 => ⟨S512, .f32⟩
  | 30 => ⟨S1x512, .f32⟩
  | 31 => ⟨S_, .f32⟩
  | 32 => ⟨S512, .f32⟩
  | 33 => ⟨S_, .f32⟩
  | 34 => ⟨S8222x512, .f32⟩
  | 35 => ⟨S8222x512, .f32⟩
  | 36 => ⟨S1x512, .f32⟩
  | 37 => ⟨S_, .f32⟩
  | 38 => ⟨S31x512, .f32⟩
  | 39 => ⟨S31x512, .f32⟩
  | 40 => ⟨S8192x512, .f32⟩
  | 41 => ⟨S8192x512, .f32⟩
  | 42 => ⟨S8192x512, .f32⟩
  | 43 => ⟨S_, .f32⟩
  | 44 => ⟨S512, .f32⟩
  | 45 => ⟨S1x512, .f32⟩
  | 46 => ⟨S_, .f32⟩
  | 47 => ⟨S512, .f32⟩
  | 48 => ⟨S_, .f32⟩
  | 49 => ⟨S8222x512, .f32⟩
  | 50 => ⟨S8222x512, .f32⟩
  | 51 => ⟨S1x512, .f32⟩
  | 52 => ⟨S_, .f32⟩
  | 53 => ⟨S31x512, .f32⟩
  | 54 => ⟨S31x512, .f32⟩
  | 55 => ⟨S8192x512, .f32⟩
  | 56 => ⟨S8192x512, .f32⟩
  | 57 => ⟨S8192x512, .f32⟩
  | 58 => ⟨S_, .f32⟩
  | 59 => ⟨S512, .f32⟩
  | 60 => ⟨S1x512, .f32⟩
  | 61 => ⟨S_, .f32⟩
  | 62 => ⟨S512, .f32⟩
  | 63 => ⟨S_, .f32⟩
  | 64 => ⟨S8222x512, .f32⟩
  | 65 => ⟨S8222x512, .f32⟩
  | 66 => ⟨S1x512, .f32⟩
  | 67 => ⟨S_, .f32⟩
  | 68 => ⟨S31x512, .f32⟩
  | 69 => ⟨S31x512, .f32⟩
  | 70 => ⟨S8192x512, .f32⟩
  | 71 => ⟨S8192x512, .f32⟩
  | 72 => ⟨S8192x512, .f32⟩
  | 73 => ⟨S_, .f32⟩
  | 74 => ⟨S512, .f32⟩
  | 75 => ⟨S1x512, .f32⟩
  | 76 => ⟨S_, .f32⟩
  | 77 => ⟨S512, .f32⟩
  | 78 => ⟨S_, .f32⟩
  | 79 => ⟨S8222x512, .f32⟩
  | 80 => ⟨S8222x512, .f32⟩
  | 81 => ⟨S1x512, .f32⟩
  | 82 => ⟨S_, .f32⟩
  | 83 => ⟨S31x512, .f32⟩
  | 84 => ⟨S31x512, .f32⟩
  | 85 => ⟨S8192x512, .f32⟩
  | 86 => ⟨S8192x512, .f32⟩
  | 87 => ⟨S8192x512, .f32⟩
  | 88 => ⟨S_, .f32⟩
  | 89 => ⟨S512, .f32⟩
  | 90 => ⟨S1x512, .f32⟩
  | 91 => ⟨S_, .f32⟩
  | 92 => ⟨S512, .f32⟩
  | 93 => ⟨S_, .f32⟩
  | 94 => ⟨S8222x512, .f32⟩
  | 95 => ⟨S8222x512, .f32⟩
  | 96 => ⟨S1x512, .f32⟩
  | 97 => ⟨S_, .f32⟩
  | 98 => ⟨S31x512, .f32⟩
  | 99 => ⟨S31x512, .f32⟩
  | 100 => ⟨S8192x512, .f32⟩
  | 101 => ⟨S8192x512, .f32⟩
  | 102 => ⟨S8192x512, .f32⟩
  | 103 => ⟨S_, .f32⟩
  | 104 => ⟨S512, .f32⟩
  | 105 => ⟨S1x512, .f32⟩
  | 106 => ⟨S_, .f32⟩
  | 107 => ⟨S512, .f32⟩
  | 108 => ⟨S_, .f32⟩
  | 109 => ⟨S8222x512, .f32⟩
  | 110 => ⟨S8222x512, .f32⟩
  | 111 => ⟨S1x512, .f32⟩
  | 112 => ⟨S_, .f32⟩
  | 113 => ⟨S31x512, .f32⟩
  | 114 => ⟨S31x512, .f32⟩
  | 115 => ⟨S8192x512, .f32⟩
  | 116 => ⟨S8192x512, .f32⟩
  | 117 => ⟨S8192x512, .f32⟩
  | 118 => ⟨S_, .f32⟩
  | 119 => ⟨S512, .f32⟩
  | 120 => ⟨S1x512, .f32⟩
  | 121 => ⟨S_, .f32⟩
  | 122 => ⟨S512, .f32⟩
  | 123 => ⟨S_, .f32⟩
  | 124 => ⟨S8222x512, .f32⟩
  | 125 => ⟨S8222x512, .f32⟩
  | 126 => ⟨S1x512, .f32⟩
  | 127 => ⟨S_, .f32⟩
  | _ => ⟨S8192x1024, .f32⟩

abbrev hbmTy0_7 (i : Nat) : BufTy := match i % 128 with
  | 0 => ⟨S31x512, .f32⟩
  | 1 => ⟨S31x512, .f32⟩
  | 2 => ⟨S8192x512, .f32⟩
  | 3 => ⟨S8192x512, .f32⟩
  | 4 => ⟨S8192x512, .f32⟩
  | 5 => ⟨S_, .f32⟩
  | 6 => ⟨S512, .f32⟩
  | 7 => ⟨S1x512, .f32⟩
  | 8 => ⟨S_, .f32⟩
  | 9 => ⟨S512, .f32⟩
  | 10 => ⟨S_, .f32⟩
  | 11 => ⟨S8222x512, .f32⟩
  | 12 => ⟨S8222x512, .f32⟩
  | 13 => ⟨S1x512, .f32⟩
  | 14 => ⟨S_, .f32⟩
  | 15 => ⟨S31x512, .f32⟩
  | 16 => ⟨S31x512, .f32⟩
  | 17 => ⟨S8192x512, .f32⟩
  | 18 => ⟨S8192x512, .f32⟩
  | 19 => ⟨S8192x512, .f32⟩
  | 20 => ⟨S_, .f32⟩
  | 21 => ⟨S512, .f32⟩
  | 22 => ⟨S1x512, .f32⟩
  | 23 => ⟨S_, .f32⟩
  | 24 => ⟨S512, .f32⟩
  | 25 => ⟨S_, .f32⟩
  | 26 => ⟨S8222x512, .f32⟩
  | 27 => ⟨S8222x512, .f32⟩
  | 28 => ⟨S1x512, .f32⟩
  | 29 => ⟨S_, .f32⟩
  | 30 => ⟨S31x512, .f32⟩
  | 31 => ⟨S31x512, .f32⟩
  | 32 => ⟨S30x512, .f32⟩
  | 33 => ⟨S8192x512, .f32⟩
  | 34 => ⟨S8192x512, .f32⟩
  | 35 => ⟨S8192x512, .f32⟩
  | 36 => ⟨S8192x512, .f32⟩
  | 37 => ⟨S_, .f32⟩
  | 38 => ⟨S8192x2560, .f32⟩
  | 39 => ⟨S8192x2560, .f32⟩
  | 40 => ⟨S_, .f32⟩
  | 41 => ⟨S8192x2560, .f32⟩
  | 42 => ⟨S8192x2560, .f32⟩
  | 43 => ⟨S8192x1024, .f32⟩
  | 44 => ⟨S8192x1024, .f32⟩
  | 45 => ⟨S_, .f32⟩
  | 46 => ⟨S1024, .f32⟩
  | 47 => ⟨S1x1024, .f32⟩
  | 48 => ⟨S8192x1024, .f32⟩
  | 49 => ⟨S8192x1024, .f32⟩
  | 50 => ⟨S8192x1024, .f32⟩
  | 51 => ⟨S_, .f32⟩
  | 52 => ⟨S8192, .f32⟩
  | 53 => ⟨S8192x1, .f32⟩
  | 54 => ⟨S8192x1024, .f32⟩
  | 55 => ⟨S8192x1024, .f32⟩
  | 56 => ⟨S8192x1024, .f32⟩
  | 57 => ⟨S8192x1, .f32⟩
  | 58 => ⟨S_, .f32⟩
  | 59 => ⟨S8192x1, .f32⟩
  | 60 => ⟨S8192x1, .f32⟩
  | 61 => ⟨S_, .f32⟩
  | 62 => ⟨S8192, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S8192x2560, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_0 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_cst_2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_v248 : Ref sig .tc := ⟨.hbm, 269, rfl⟩
abbrev main_v249 : Ref sig .tc := ⟨.hbm, 270, rfl⟩
abbrev main_v250 : Ref sig .tc := ⟨.hbm, 271, rfl⟩
abbrev main_v251 : Ref sig .tc := ⟨.hbm, 272, rfl⟩
abbrev main_v252 : Ref sig .tc := ⟨.hbm, 273, rfl⟩
abbrev main_cst_10 : Ref sig .tc := ⟨.hbm, 274, rfl⟩
abbrev main_v253 : Ref sig .tc := ⟨.hbm, 275, rfl⟩
abbrev main_v254 : Ref sig .tc := ⟨.hbm, 276, rfl⟩
abbrev main_cst_11 : Ref sig .tc := ⟨.hbm, 277, rfl⟩
abbrev main_v255 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩
abbrev main_v259 : Ref sig .tc := ⟨.hbm, 282, rfl⟩
abbrev main_cst_12 : Ref sig .tc := ⟨.hbm, 283, rfl⟩
abbrev main_v260 : Ref sig .tc := ⟨.hbm, 284, rfl⟩
abbrev main_v261 : Ref sig .tc := ⟨.hbm, 285, rfl⟩
abbrev main_cst_13 : Ref sig .tc := ⟨.hbm, 286, rfl⟩
abbrev main_v262 : Ref sig .tc := ⟨.hbm, 287, rfl⟩
abbrev main_v263 : Ref sig .tc := ⟨.hbm, 288, rfl⟩
abbrev main_cst_14 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_cst_15 : Ref sig .tc := ⟨.hbm, 294, rfl⟩
abbrev main_v268 : Ref sig .tc := ⟨.hbm, 295, rfl⟩
abbrev main_v269 : Ref sig .tc := ⟨.hbm, 296, rfl⟩
abbrev main_v270 : Ref sig .tc := ⟨.hbm, 297, rfl⟩
abbrev main_v271 : Ref sig .tc := ⟨.hbm, 298, rfl⟩
abbrev main_cst_16 : Ref sig .tc := ⟨.hbm, 299, rfl⟩
abbrev main_v272 : Ref sig .tc := ⟨.hbm, 300, rfl⟩
abbrev main_v273 : Ref sig .tc := ⟨.hbm, 301, rfl⟩
abbrev main_v274 : Ref sig .tc := ⟨.hbm, 302, rfl⟩
abbrev main_v275 : Ref sig .tc := ⟨.hbm, 303, rfl⟩
abbrev main_v276 : Ref sig .tc := ⟨.hbm, 304, rfl⟩
abbrev main_v277 : Ref sig .tc := ⟨.hbm, 305, rfl⟩
abbrev main_v278 : Ref sig .tc := ⟨.hbm, 306, rfl⟩
abbrev main_v279 : Ref sig .tc := ⟨.hbm, 307, rfl⟩
abbrev main_call0_v0 : Ref sig .tc := ⟨.hbm, 308, rfl⟩
abbrev main_call0_v1 : Ref sig .tc := ⟨.hbm, 309, rfl⟩
abbrev main_call0_cst : Ref sig .tc := ⟨.hbm, 310, rfl⟩
abbrev main_call0_v2 : Ref sig .tc := ⟨.hbm, 311, rfl⟩
abbrev main_call0_v3 : Ref sig .tc := ⟨.hbm, 312, rfl⟩
abbrev main_call0_cst_0 : Ref sig .tc := ⟨.hbm, 313, rfl⟩
abbrev main_call0_v4 : Ref sig .tc := ⟨.hbm, 314, rfl⟩
abbrev main_v280_2 : Ref sig .tc := ⟨.hbm, 315, rfl⟩
abbrev main_call0_cst_1 : Ref sig .tc := ⟨.hbm, 316, rfl⟩
abbrev main_call0_v6 : Ref sig .tc := ⟨.hbm, 317, rfl⟩
abbrev main_call0_v7 : Ref sig .tc := ⟨.hbm, 318, rfl⟩
abbrev main_v280_1 : Ref sig .tc := ⟨.hbm, 319, rfl⟩
abbrev main_v280_0 : Ref sig .tc := ⟨.hbm, 320, rfl⟩
abbrev main_v281 : Ref sig .tc := ⟨.hbm, 321, rfl⟩
abbrev main_v282 : Ref sig .tc := ⟨.hbm, 322, rfl⟩
abbrev main_v283 : Ref sig .tc := ⟨.hbm, 323, rfl⟩
abbrev main_v284 : Ref sig .tc := ⟨.hbm, 324, rfl⟩
abbrev main_cst_17 : Ref sig .tc := ⟨.hbm, 325, rfl⟩
abbrev main_v285 : Ref sig .tc := ⟨.hbm, 326, rfl⟩
abbrev main_v286 : Ref sig .tc := ⟨.hbm, 327, rfl⟩
abbrev main_cst_18 : Ref sig .tc := ⟨.hbm, 328, rfl⟩
abbrev main_v287 : Ref sig .tc := ⟨.hbm, 329, rfl⟩
abbrev main_v288 : Ref sig .tc := ⟨.hbm, 330, rfl⟩
abbrev main_v289 : Ref sig .tc := ⟨.hbm, 331, rfl⟩
abbrev main_v290 : Ref sig .tc := ⟨.hbm, 332, rfl⟩
abbrev main_v291 : Ref sig .tc := ⟨.hbm, 333, rfl⟩
abbrev main_v292 : Ref sig .tc := ⟨.hbm, 334, rfl⟩
abbrev main_v293 : Ref sig .tc := ⟨.hbm, 335, rfl⟩
abbrev main_cst_19 : Ref sig .tc := ⟨.hbm, 336, rfl⟩
abbrev main_v294 : Ref sig .tc := ⟨.hbm, 337, rfl⟩
abbrev main_v295 : Ref sig .tc := ⟨.hbm, 338, rfl⟩
abbrev main_v296 : Ref sig .tc := ⟨.hbm, 339, rfl⟩
abbrev main_v297 : Ref sig .tc := ⟨.hbm, 340, rfl⟩
abbrev main_v298 : Ref sig .tc := ⟨.hbm, 341, rfl⟩
abbrev main_v299 : Ref sig .tc := ⟨.hbm, 342, rfl⟩
abbrev main_v300 : Ref sig .tc := ⟨.hbm, 343, rfl⟩
abbrev main_v301 : Ref sig .tc := ⟨.hbm, 344, rfl⟩
abbrev main_v302 : Ref sig .tc := ⟨.hbm, 345, rfl⟩
abbrev main_v303 : Ref sig .tc := ⟨.hbm, 346, rfl⟩
abbrev main_v304 : Ref sig .tc := ⟨.hbm, 347, rfl⟩
abbrev main_v305 : Ref sig .tc := ⟨.hbm, 348, rfl⟩
abbrev main_v306 : Ref sig .tc := ⟨.hbm, 349, rfl⟩
abbrev main_v307 : Ref sig .tc := ⟨.hbm, 350, rfl⟩
abbrev main_v308 : Ref sig .tc := ⟨.hbm, 351, rfl⟩
abbrev main_v309 : Ref sig .tc := ⟨.hbm, 352, rfl⟩
abbrev main_v310 : Ref sig .tc := ⟨.hbm, 353, rfl⟩
abbrev main_v311 : Ref sig .tc := ⟨.hbm, 354, rfl⟩
abbrev main_v312 : Ref sig .tc := ⟨.hbm, 355, rfl⟩
abbrev main_v313 : Ref sig .tc := ⟨.hbm, 356, rfl⟩
abbrev main_v314 : Ref sig .tc := ⟨.hbm, 357, rfl⟩
abbrev main_v315 : Ref sig .tc := ⟨.hbm, 358, rfl⟩
abbrev main_v316 : Ref sig .tc := ⟨.hbm, 359, rfl⟩
abbrev main_v317 : Ref sig .tc := ⟨.hbm, 360, rfl⟩
abbrev main_v318 : Ref sig .tc := ⟨.hbm, 361, rfl⟩
abbrev main_v319 : Ref sig .tc := ⟨.hbm, 362, rfl⟩
abbrev main_v320 : Ref sig .tc := ⟨.hbm, 363, rfl⟩
abbrev main_v321 : Ref sig .tc := ⟨.hbm, 364, rfl⟩
abbrev main_v322 : Ref sig .tc := ⟨.hbm, 365, rfl⟩
abbrev main_cst_20 : Ref sig .tc := ⟨.hbm, 366, rfl⟩
abbrev main_v323 : Ref sig .tc := ⟨.hbm, 367, rfl⟩
abbrev main_v324 : Ref sig .tc := ⟨.hbm, 368, rfl⟩
abbrev main_cst_21 : Ref sig .tc := ⟨.hbm, 369, rfl⟩
abbrev main_v325 : Ref sig .tc := ⟨.hbm, 370, rfl⟩
abbrev main_cst_22 : Ref sig .tc := ⟨.hbm, 371, rfl⟩
abbrev main_v326 : Ref sig .tc := ⟨.hbm, 372, rfl⟩
abbrev main_v327 : Ref sig .tc := ⟨.hbm, 373, rfl⟩
abbrev main_cst_23 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_cst_24 : Ref sig .tc := ⟨.hbm, 379, rfl⟩
abbrev main_v332 : Ref sig .tc := ⟨.hbm, 380, rfl⟩
abbrev main_v333 : Ref sig .tc := ⟨.hbm, 381, rfl⟩
abbrev main_cst_25 : Ref sig .tc := ⟨.hbm, 382, rfl⟩
abbrev main_v334 : Ref sig .tc := ⟨.hbm, 383, rfl⟩
abbrev main_cst_26 : Ref sig .tc := ⟨.hbm, 384, rfl⟩
abbrev main_v335 : Ref sig .tc := ⟨.hbm, 385, rfl⟩
abbrev main_v336 : Ref sig .tc := ⟨.hbm, 386, rfl⟩
abbrev main_v337 : Ref sig .tc := ⟨.hbm, 387, rfl⟩
abbrev main_cst_27 : Ref sig .tc := ⟨.hbm, 388, rfl⟩
abbrev main_v338 : Ref sig .tc := ⟨.hbm, 389, rfl⟩
abbrev main_v339 : Ref sig .tc := ⟨.hbm, 390, rfl⟩
abbrev main_v340 : Ref sig .tc := ⟨.hbm, 391, rfl⟩
abbrev main_v341 : Ref sig .tc := ⟨.hbm, 392, rfl⟩
abbrev main_v342 : Ref sig .tc := ⟨.hbm, 393, rfl⟩
abbrev main_cst_28 : Ref sig .tc := ⟨.hbm, 394, rfl⟩
abbrev main_v343 : Ref sig .tc := ⟨.hbm, 395, rfl⟩
abbrev main_v344 : Ref sig .tc := ⟨.hbm, 396, rfl⟩
abbrev main_cst_29 : Ref sig .tc := ⟨.hbm, 397, rfl⟩
abbrev main_v345 : Ref sig .tc := ⟨.hbm, 398, rfl⟩
abbrev main_cst_30 : Ref sig .tc := ⟨.hbm, 399, rfl⟩
abbrev main_v346 : Ref sig .tc := ⟨.hbm, 400, rfl⟩
abbrev main_v347 : Ref sig .tc := ⟨.hbm, 401, rfl⟩
abbrev main_v348 : Ref sig .tc := ⟨.hbm, 402, rfl⟩
abbrev main_cst_31 : Ref sig .tc := ⟨.hbm, 403, rfl⟩
abbrev main_v349 : Ref sig .tc := ⟨.hbm, 404, rfl⟩
abbrev main_v350 : Ref sig .tc := ⟨.hbm, 405, rfl⟩
abbrev main_v351 : Ref sig .tc := ⟨.hbm, 406, rfl⟩
abbrev main_v352 : Ref sig .tc := ⟨.hbm, 407, rfl⟩
abbrev main_v353 : Ref sig .tc := ⟨.hbm, 408, rfl⟩
abbrev main_v354 : Ref sig .tc := ⟨.hbm, 409, rfl⟩
abbrev main_cst_32 : Ref sig .tc := ⟨.hbm, 410, rfl⟩
abbrev main_v355 : Ref sig .tc := ⟨.hbm, 411, rfl⟩
abbrev main_cst_33 : Ref sig .tc := ⟨.hbm, 412, rfl⟩
abbrev main_v356 : Ref sig .tc := ⟨.hbm, 413, rfl⟩
abbrev main_v357 : Ref sig .tc := ⟨.hbm, 414, rfl⟩
abbrev main_cst_34 : Ref sig .tc := ⟨.hbm, 415, rfl⟩
abbrev main_v358 : Ref sig .tc := ⟨.hbm, 416, rfl⟩
abbrev main_v359 : Ref sig .tc := ⟨.hbm, 417, rfl⟩
abbrev main_call1_v0 : Ref sig .tc := ⟨.hbm, 418, rfl⟩
abbrev main_call1_v1 : Ref sig .tc := ⟨.hbm, 419, rfl⟩
abbrev main_call1_v2 : Ref sig .tc := ⟨.hbm, 420, rfl⟩
abbrev main_v360 : Ref sig .tc := ⟨.hbm, 421, rfl⟩
abbrev main_cst_35 : Ref sig .tc := ⟨.hbm, 422, rfl⟩
abbrev main_v361 : Ref sig .tc := ⟨.hbm, 423, rfl⟩
abbrev main_v362 : Ref sig .tc := ⟨.hbm, 424, rfl⟩
abbrev main_v363 : Ref sig .tc := ⟨.hbm, 425, rfl⟩
abbrev main_cst_36 : Ref sig .tc := ⟨.hbm, 426, rfl⟩
abbrev main_v364 : Ref sig .tc := ⟨.hbm, 427, rfl⟩
abbrev main_v365 : Ref sig .tc := ⟨.hbm, 428, rfl⟩
abbrev main_v366 : Ref sig .tc := ⟨.hbm, 429, rfl⟩
abbrev main_v367 : Ref sig .tc := ⟨.hbm, 430, rfl⟩
abbrev main_v368 : Ref sig .tc := ⟨.hbm, 431, rfl⟩
abbrev main_cst_37 : Ref sig .tc := ⟨.hbm, 432, rfl⟩
abbrev main_v369 : Ref sig .tc := ⟨.hbm, 433, rfl⟩
abbrev main_v370 : Ref sig .tc := ⟨.hbm, 434, rfl⟩
abbrev main_v371 : Ref sig .tc := ⟨.hbm, 435, rfl⟩
abbrev main_v372 : Ref sig .tc := ⟨.hbm, 436, rfl⟩
abbrev main_v373 : Ref sig .tc := ⟨.hbm, 437, rfl⟩
abbrev main_v374 : Ref sig .tc := ⟨.hbm, 438, rfl⟩
abbrev main_cst_38 : Ref sig .tc := ⟨.hbm, 439, rfl⟩
abbrev main_v375 : Ref sig .tc := ⟨.hbm, 440, rfl⟩
abbrev main_v376 : Ref sig .tc := ⟨.hbm, 441, rfl⟩
abbrev main_cst_39 : Ref sig .tc := ⟨.hbm, 442, rfl⟩
abbrev main_v377 : Ref sig .tc := ⟨.hbm, 443, rfl⟩
abbrev main_v378 : Ref sig .tc := ⟨.hbm, 444, rfl⟩
abbrev main_cst_40 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_cst_41 : Ref sig .tc := ⟨.hbm, 450, rfl⟩
abbrev main_v383 : Ref sig .tc := ⟨.hbm, 451, rfl⟩
abbrev main_v384 : Ref sig .tc := ⟨.hbm, 452, rfl⟩
abbrev main_v385 : Ref sig .tc := ⟨.hbm, 453, rfl⟩
abbrev main_v386 : Ref sig .tc := ⟨.hbm, 454, rfl⟩
abbrev main_cst_42 : Ref sig .tc := ⟨.hbm, 455, rfl⟩
abbrev main_v387 : Ref sig .tc := ⟨.hbm, 456, rfl⟩
abbrev main_v388 : Ref sig .tc := ⟨.hbm, 457, rfl⟩
abbrev main_cst_43 : Ref sig .tc := ⟨.hbm, 458, rfl⟩
abbrev main_v389 : Ref sig .tc := ⟨.hbm, 459, rfl⟩
abbrev main_v390 : Ref sig .tc := ⟨.hbm, 460, rfl⟩
abbrev main_v391 : Ref sig .tc := ⟨.hbm, 461, rfl⟩
abbrev main_cst_44 : Ref sig .tc := ⟨.hbm, 462, rfl⟩
abbrev main_v392 : Ref sig .tc := ⟨.hbm, 463, rfl⟩
abbrev main_v393 : Ref sig .tc := ⟨.hbm, 464, rfl⟩
abbrev main_v394 : Ref sig .tc := ⟨.hbm, 465, rfl⟩
abbrev main_v395 : Ref sig .tc := ⟨.hbm, 466, rfl⟩
abbrev main_v396 : Ref sig .tc := ⟨.hbm, 467, rfl⟩
abbrev main_cst_45 : Ref sig .tc := ⟨.hbm, 468, rfl⟩
abbrev main_v397 : Ref sig .tc := ⟨.hbm, 469, rfl⟩
abbrev main_v398 : Ref sig .tc := ⟨.hbm, 470, rfl⟩
abbrev main_cst_46 : Ref sig .tc := ⟨.hbm, 471, rfl⟩
abbrev main_v399 : Ref sig .tc := ⟨.hbm, 472, rfl⟩
abbrev main_cst_47 : Ref sig .tc := ⟨.hbm, 473, rfl⟩
abbrev main_v400 : Ref sig .tc := ⟨.hbm, 474, rfl⟩
abbrev main_v401 : Ref sig .tc := ⟨.hbm, 475, rfl⟩
abbrev main_cst_48 : Ref sig .tc := ⟨.hbm, 476, rfl⟩
abbrev main_v402 : Ref sig .tc := ⟨.hbm, 477, rfl⟩
abbrev main_v403 : Ref sig .tc := ⟨.hbm, 478, rfl⟩
abbrev main_v404 : Ref sig .tc := ⟨.hbm, 479, rfl⟩
abbrev main_v405 : Ref sig .tc := ⟨.hbm, 480, rfl⟩
abbrev main_cst_49 : Ref sig .tc := ⟨.hbm, 481, rfl⟩
abbrev main_v406 : Ref sig .tc := ⟨.hbm, 482, rfl⟩
abbrev main_v407 : Ref sig .tc := ⟨.hbm, 483, rfl⟩
abbrev main_cst_50 : Ref sig .tc := ⟨.hbm, 484, rfl⟩
abbrev main_v408 : Ref sig .tc := ⟨.hbm, 485, rfl⟩
abbrev main_cst_51 : Ref sig .tc := ⟨.hbm, 486, rfl⟩
abbrev main_v409 : Ref sig .tc := ⟨.hbm, 487, rfl⟩
abbrev main_v410 : Ref sig .tc := ⟨.hbm, 488, rfl⟩
abbrev main_v411 : Ref sig .tc := ⟨.hbm, 489, rfl⟩
abbrev main_cst_52 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_v415 : Ref sig .tc := ⟨.hbm, 494, rfl⟩
abbrev main_v416 : Ref sig .tc := ⟨.hbm, 495, rfl⟩
abbrev main_cst_53 : Ref sig .tc := ⟨.hbm, 496, rfl⟩
abbrev main_v417 : Ref sig .tc := ⟨.hbm, 497, rfl⟩
abbrev main_v418 : Ref sig .tc := ⟨.hbm, 498, rfl⟩
abbrev main_cst_54 : Ref sig .tc := ⟨.hbm, 499, rfl⟩
abbrev main_v419 : Ref sig .tc := ⟨.hbm, 500, rfl⟩
abbrev main_cst_55 : Ref sig .tc := ⟨.hbm, 501, rfl⟩
abbrev main_v420 : Ref sig .tc := ⟨.hbm, 502, rfl⟩
abbrev main_v421 : Ref sig .tc := ⟨.hbm, 503, rfl⟩
abbrev main_v422 : Ref sig .tc := ⟨.hbm, 504, rfl⟩
abbrev main_cst_56 : Ref sig .tc := ⟨.hbm, 505, rfl⟩
abbrev main_v423 : Ref sig .tc := ⟨.hbm, 506, rfl⟩
abbrev main_v424 : Ref sig .tc := ⟨.hbm, 507, rfl⟩
abbrev main_v425 : Ref sig .tc := ⟨.hbm, 508, rfl⟩
abbrev main_v426 : Ref sig .tc := ⟨.hbm, 509, rfl⟩
abbrev main_v427 : Ref sig .tc := ⟨.hbm, 510, rfl⟩
abbrev main_cst_57 : Ref sig .tc := ⟨.hbm, 511, rfl⟩
abbrev main_v428 : Ref sig .tc := ⟨.hbm, 512, rfl⟩
abbrev main_v429 : Ref sig .tc := ⟨.hbm, 513, rfl⟩
abbrev main_cst_58 : Ref sig .tc := ⟨.hbm, 514, rfl⟩
abbrev main_v430 : Ref sig .tc := ⟨.hbm, 515, rfl⟩
abbrev main_cst_59 : Ref sig .tc := ⟨.hbm, 516, rfl⟩
abbrev main_v431 : Ref sig .tc := ⟨.hbm, 517, rfl⟩
abbrev main_v432 : Ref sig .tc := ⟨.hbm, 518, rfl⟩
abbrev main_v433 : Ref sig .tc := ⟨.hbm, 519, rfl⟩
abbrev main_cst_60 : Ref sig .tc := ⟨.hbm, 520, rfl⟩
abbrev main_v434 : Ref sig .tc := ⟨.hbm, 521, rfl⟩
abbrev main_v435 : Ref sig .tc := ⟨.hbm, 522, rfl⟩
abbrev main_v436 : Ref sig .tc := ⟨.hbm, 523, rfl⟩
abbrev main_v437 : Ref sig .tc := ⟨.hbm, 524, rfl⟩
abbrev main_v438 : Ref sig .tc := ⟨.hbm, 525, rfl⟩
abbrev main_cst_61 : Ref sig .tc := ⟨.hbm, 526, rfl⟩
abbrev main_v439 : Ref sig .tc := ⟨.hbm, 527, rfl⟩
abbrev main_v440 : Ref sig .tc := ⟨.hbm, 528, rfl⟩
abbrev main_cst_62 : Ref sig .tc := ⟨.hbm, 529, rfl⟩
abbrev main_v441 : Ref sig .tc := ⟨.hbm, 530, rfl⟩
abbrev main_cst_63 : Ref sig .tc := ⟨.hbm, 531, rfl⟩
abbrev main_v442 : Ref sig .tc := ⟨.hbm, 532, rfl⟩
abbrev main_v443 : Ref sig .tc := ⟨.hbm, 533, rfl⟩
abbrev main_v444 : Ref sig .tc := ⟨.hbm, 534, rfl⟩
abbrev main_cst_64 : Ref sig .tc := ⟨.hbm, 535, rfl⟩
abbrev main_v445 : Ref sig .tc := ⟨.hbm, 536, rfl⟩
abbrev main_v446 : Ref sig .tc := ⟨.hbm, 537, rfl⟩
abbrev main_v447 : Ref sig .tc := ⟨.hbm, 538, rfl⟩
abbrev main_v448 : Ref sig .tc := ⟨.hbm, 539, rfl⟩
abbrev main_v449 : Ref sig .tc := ⟨.hbm, 540, rfl⟩
abbrev main_cst_65 : Ref sig .tc := ⟨.hbm, 541, rfl⟩
abbrev main_v450 : Ref sig .tc := ⟨.hbm, 542, rfl⟩
abbrev main_v451 : Ref sig .tc := ⟨.hbm, 543, rfl⟩
abbrev main_cst_66 : Ref sig .tc := ⟨.hbm, 544, rfl⟩
abbrev main_v452 : Ref sig .tc := ⟨.hbm, 545, rfl⟩
abbrev main_cst_67 : Ref sig .tc := ⟨.hbm, 546, rfl⟩
abbrev main_v453 : Ref sig .tc := ⟨.hbm, 547, rfl⟩
abbrev main_v454 : Ref sig .tc := ⟨.hbm, 548, rfl⟩
abbrev main_v455 : Ref sig .tc := ⟨.hbm, 549, rfl⟩
abbrev main_cst_68 : Ref sig .tc := ⟨.hbm, 550, rfl⟩
abbrev main_v456 : Ref sig .tc := ⟨.hbm, 551, rfl⟩
abbrev main_v457 : Ref sig .tc := ⟨.hbm, 552, rfl⟩
abbrev main_v458 : Ref sig .tc := ⟨.hbm, 553, rfl⟩
abbrev main_v459 : Ref sig .tc := ⟨.hbm, 554, rfl⟩
abbrev main_v460 : Ref sig .tc := ⟨.hbm, 555, rfl⟩
abbrev main_cst_69 : Ref sig .tc := ⟨.hbm, 556, rfl⟩
abbrev main_v461 : Ref sig .tc := ⟨.hbm, 557, rfl⟩
abbrev main_v462 : Ref sig .tc := ⟨.hbm, 558, rfl⟩
abbrev main_cst_70 : Ref sig .tc := ⟨.hbm, 559, rfl⟩
abbrev main_v463 : Ref sig .tc := ⟨.hbm, 560, rfl⟩
abbrev main_cst_71 : Ref sig .tc := ⟨.hbm, 561, rfl⟩
abbrev main_v464 : Ref sig .tc := ⟨.hbm, 562, rfl⟩
abbrev main_v465 : Ref sig .tc := ⟨.hbm, 563, rfl⟩
abbrev main_v466 : Ref sig .tc := ⟨.hbm, 564, rfl⟩
abbrev main_cst_72 : Ref sig .tc := ⟨.hbm, 565, rfl⟩
abbrev main_v467 : Ref sig .tc := ⟨.hbm, 566, rfl⟩
abbrev main_v468 : Ref sig .tc := ⟨.hbm, 567, rfl⟩
abbrev main_v469 : Ref sig .tc := ⟨.hbm, 568, rfl⟩
abbrev main_v470 : Ref sig .tc := ⟨.hbm, 569, rfl⟩
abbrev main_v471 : Ref sig .tc := ⟨.hbm, 570, rfl⟩
abbrev main_cst_73 : Ref sig .tc := ⟨.hbm, 571, rfl⟩
abbrev main_v472 : Ref sig .tc := ⟨.hbm, 572, rfl⟩
abbrev main_v473 : Ref sig .tc := ⟨.hbm, 573, rfl⟩
abbrev main_cst_74 : Ref sig .tc := ⟨.hbm, 574, rfl⟩
abbrev main_v474 : Ref sig .tc := ⟨.hbm, 575, rfl⟩
abbrev main_cst_75 : Ref sig .tc := ⟨.hbm, 576, rfl⟩
abbrev main_v475 : Ref sig .tc := ⟨.hbm, 577, rfl⟩
abbrev main_v476 : Ref sig .tc := ⟨.hbm, 578, rfl⟩
abbrev main_v477 : Ref sig .tc := ⟨.hbm, 579, rfl⟩
abbrev main_cst_76 : Ref sig .tc := ⟨.hbm, 580, rfl⟩
abbrev main_v478 : Ref sig .tc := ⟨.hbm, 581, rfl⟩
abbrev main_v479 : Ref sig .tc := ⟨.hbm, 582, rfl⟩
abbrev main_v480 : Ref sig .tc := ⟨.hbm, 583, rfl⟩
abbrev main_v481 : Ref sig .tc := ⟨.hbm, 584, rfl⟩
abbrev main_v482 : Ref sig .tc := ⟨.hbm, 585, rfl⟩
abbrev main_cst_77 : Ref sig .tc := ⟨.hbm, 586, rfl⟩
abbrev main_v483 : Ref sig .tc := ⟨.hbm, 587, rfl⟩
abbrev main_v484 : Ref sig .tc := ⟨.hbm, 588, rfl⟩
abbrev main_cst_78 : Ref sig .tc := ⟨.hbm, 589, rfl⟩
abbrev main_v485 : Ref sig .tc := ⟨.hbm, 590, rfl⟩
abbrev main_cst_79 : Ref sig .tc := ⟨.hbm, 591, rfl⟩
abbrev main_v486 : Ref sig .tc := ⟨.hbm, 592, rfl⟩
abbrev main_v487 : Ref sig .tc := ⟨.hbm, 593, rfl⟩
abbrev main_v488 : Ref sig .tc := ⟨.hbm, 594, rfl⟩
abbrev main_cst_80 : Ref sig .tc := ⟨.hbm, 595, rfl⟩
abbrev main_v489 : Ref sig .tc := ⟨.hbm, 596, rfl⟩
abbrev main_v490 : Ref sig .tc := ⟨.hbm, 597, rfl⟩
abbrev main_v491 : Ref sig .tc := ⟨.hbm, 598, rfl⟩
abbrev main_v492 : Ref sig .tc := ⟨.hbm, 599, rfl⟩
abbrev main_v493 : Ref sig .tc := ⟨.hbm, 600, rfl⟩
abbrev main_cst_81 : Ref sig .tc := ⟨.hbm, 601, rfl⟩
abbrev main_v494 : Ref sig .tc := ⟨.hbm, 602, rfl⟩
abbrev main_v495 : Ref sig .tc := ⟨.hbm, 603, rfl⟩
abbrev main_cst_82 : Ref sig .tc := ⟨.hbm, 604, rfl⟩
abbrev main_v496 : Ref sig .tc := ⟨.hbm, 605, rfl⟩
abbrev main_cst_83 : Ref sig .tc := ⟨.hbm, 606, rfl⟩
abbrev main_v497 : Ref sig .tc := ⟨.hbm, 607, rfl⟩
abbrev main_v498 : Ref sig .tc := ⟨.hbm, 608, rfl⟩
abbrev main_v499 : Ref sig .tc := ⟨.hbm, 609, rfl⟩
abbrev main_cst_84 : Ref sig .tc := ⟨.hbm, 610, rfl⟩
abbrev main_v500 : Ref sig .tc := ⟨.hbm, 611, rfl⟩
abbrev main_v501 : Ref sig .tc := ⟨.hbm, 612, rfl⟩
abbrev main_v502 : Ref sig .tc := ⟨.hbm, 613, rfl⟩
abbrev main_v503 : Ref sig .tc := ⟨.hbm, 614, rfl⟩
abbrev main_v504 : Ref sig .tc := ⟨.hbm, 615, rfl⟩
abbrev main_cst_85 : Ref sig .tc := ⟨.hbm, 616, rfl⟩
abbrev main_v505 : Ref sig .tc := ⟨.hbm, 617, rfl⟩
abbrev main_v506 : Ref sig .tc := ⟨.hbm, 618, rfl⟩
abbrev main_cst_86 : Ref sig .tc := ⟨.hbm, 619, rfl⟩
abbrev main_v507 : Ref sig .tc := ⟨.hbm, 620, rfl⟩
abbrev main_cst_87 : Ref sig .tc := ⟨.hbm, 621, rfl⟩
abbrev main_v508 : Ref sig .tc := ⟨.hbm, 622, rfl⟩
abbrev main_v509 : Ref sig .tc := ⟨.hbm, 623, rfl⟩
abbrev main_v510 : Ref sig .tc := ⟨.hbm, 624, rfl⟩
abbrev main_cst_88 : Ref sig .tc := ⟨.hbm, 625, rfl⟩
abbrev main_v511 : Ref sig .tc := ⟨.hbm, 626, rfl⟩
abbrev main_v512 : Ref sig .tc := ⟨.hbm, 627, rfl⟩
abbrev main_v513 : Ref sig .tc := ⟨.hbm, 628, rfl⟩
abbrev main_v514 : Ref sig .tc := ⟨.hbm, 629, rfl⟩
abbrev main_v515 : Ref sig .tc := ⟨.hbm, 630, rfl⟩
abbrev main_cst_89 : Ref sig .tc := ⟨.hbm, 631, rfl⟩
abbrev main_v516 : Ref sig .tc := ⟨.hbm, 632, rfl⟩
abbrev main_v517 : Ref sig .tc := ⟨.hbm, 633, rfl⟩
abbrev main_cst_90 : Ref sig .tc := ⟨.hbm, 634, rfl⟩
abbrev main_v518 : Ref sig .tc := ⟨.hbm, 635, rfl⟩
abbrev main_cst_91 : Ref sig .tc := ⟨.hbm, 636, rfl⟩
abbrev main_v519 : Ref sig .tc := ⟨.hbm, 637, rfl⟩
abbrev main_v520 : Ref sig .tc := ⟨.hbm, 638, rfl⟩
abbrev main_v521 : Ref sig .tc := ⟨.hbm, 639, rfl⟩
abbrev main_cst_92 : Ref sig .tc := ⟨.hbm, 640, rfl⟩
abbrev main_v522 : Ref sig .tc := ⟨.hbm, 641, rfl⟩
abbrev main_v523 : Ref sig .tc := ⟨.hbm, 642, rfl⟩
abbrev main_v524 : Ref sig .tc := ⟨.hbm, 643, rfl⟩
abbrev main_v525 : Ref sig .tc := ⟨.hbm, 644, rfl⟩
abbrev main_v526 : Ref sig .tc := ⟨.hbm, 645, rfl⟩
abbrev main_cst_93 : Ref sig .tc := ⟨.hbm, 646, rfl⟩
abbrev main_v527 : Ref sig .tc := ⟨.hbm, 647, rfl⟩
abbrev main_v528 : Ref sig .tc := ⟨.hbm, 648, rfl⟩
abbrev main_cst_94 : Ref sig .tc := ⟨.hbm, 649, rfl⟩
abbrev main_v529 : Ref sig .tc := ⟨.hbm, 650, rfl⟩
abbrev main_cst_95 : Ref sig .tc := ⟨.hbm, 651, rfl⟩
abbrev main_v530 : Ref sig .tc := ⟨.hbm, 652, rfl⟩
abbrev main_v531 : Ref sig .tc := ⟨.hbm, 653, rfl⟩
abbrev main_v532 : Ref sig .tc := ⟨.hbm, 654, rfl⟩
abbrev main_cst_96 : Ref sig .tc := ⟨.hbm, 655, rfl⟩
abbrev main_v533 : Ref sig .tc := ⟨.hbm, 656, rfl⟩
abbrev main_v534 : Ref sig .tc := ⟨.hbm, 657, rfl⟩
abbrev main_v535 : Ref sig .tc := ⟨.hbm, 658, rfl⟩
abbrev main_v536 : Ref sig .tc := ⟨.hbm, 659, rfl⟩
abbrev main_v537 : Ref sig .tc := ⟨.hbm, 660, rfl⟩
abbrev main_cst_97 : Ref sig .tc := ⟨.hbm, 661, rfl⟩
abbrev main_v538 : Ref sig .tc := ⟨.hbm, 662, rfl⟩
abbrev main_v539 : Ref sig .tc := ⟨.hbm, 663, rfl⟩
abbrev main_cst_98 : Ref sig .tc := ⟨.hbm, 664, rfl⟩
abbrev main_v540 : Ref sig .tc := ⟨.hbm, 665, rfl⟩
abbrev main_cst_99 : Ref sig .tc := ⟨.hbm, 666, rfl⟩
abbrev main_v541 : Ref sig .tc := ⟨.hbm, 667, rfl⟩
abbrev main_v542 : Ref sig .tc := ⟨.hbm, 668, rfl⟩
abbrev main_v543 : Ref sig .tc := ⟨.hbm, 669, rfl⟩
abbrev main_cst_100 : Ref sig .tc := ⟨.hbm, 670, rfl⟩
abbrev main_v544 : Ref sig .tc := ⟨.hbm, 671, rfl⟩
abbrev main_v545 : Ref sig .tc := ⟨.hbm, 672, rfl⟩
abbrev main_v546 : Ref sig .tc := ⟨.hbm, 673, rfl⟩
abbrev main_v547 : Ref sig .tc := ⟨.hbm, 674, rfl⟩
abbrev main_v548 : Ref sig .tc := ⟨.hbm, 675, rfl⟩
abbrev main_cst_101 : Ref sig .tc := ⟨.hbm, 676, rfl⟩
abbrev main_v549 : Ref sig .tc := ⟨.hbm, 677, rfl⟩
abbrev main_v550 : Ref sig .tc := ⟨.hbm, 678, rfl⟩
abbrev main_cst_102 : Ref sig .tc := ⟨.hbm, 679, rfl⟩
abbrev main_v551 : Ref sig .tc := ⟨.hbm, 680, rfl⟩
abbrev main_cst_103 : Ref sig .tc := ⟨.hbm, 681, rfl⟩
abbrev main_v552 : Ref sig .tc := ⟨.hbm, 682, rfl⟩
abbrev main_v553 : Ref sig .tc := ⟨.hbm, 683, rfl⟩
abbrev main_v554 : Ref sig .tc := ⟨.hbm, 684, rfl⟩
abbrev main_cst_104 : Ref sig .tc := ⟨.hbm, 685, rfl⟩
abbrev main_v555 : Ref sig .tc := ⟨.hbm, 686, rfl⟩
abbrev main_v556 : Ref sig .tc := ⟨.hbm, 687, rfl⟩
abbrev main_v557 : Ref sig .tc := ⟨.hbm, 688, rfl⟩
abbrev main_v558 : Ref sig .tc := ⟨.hbm, 689, rfl⟩
abbrev main_v559 : Ref sig .tc := ⟨.hbm, 690, rfl⟩
abbrev main_cst_105 : Ref sig .tc := ⟨.hbm, 691, rfl⟩
abbrev main_v560 : Ref sig .tc := ⟨.hbm, 692, rfl⟩
abbrev main_v561 : Ref sig .tc := ⟨.hbm, 693, rfl⟩
abbrev main_cst_106 : Ref sig .tc := ⟨.hbm, 694, rfl⟩
abbrev main_v562 : Ref sig .tc := ⟨.hbm, 695, rfl⟩
abbrev main_cst_107 : Ref sig .tc := ⟨.hbm, 696, rfl⟩
abbrev main_v563 : Ref sig .tc := ⟨.hbm, 697, rfl⟩
abbrev main_v564 : Ref sig .tc := ⟨.hbm, 698, rfl⟩
abbrev main_v565 : Ref sig .tc := ⟨.hbm, 699, rfl⟩
abbrev main_cst_108 : Ref sig .tc := ⟨.hbm, 700, rfl⟩
abbrev main_v566 : Ref sig .tc := ⟨.hbm, 701, rfl⟩
abbrev main_v567 : Ref sig .tc := ⟨.hbm, 702, rfl⟩
abbrev main_v568 : Ref sig .tc := ⟨.hbm, 703, rfl⟩
abbrev main_v569 : Ref sig .tc := ⟨.hbm, 704, rfl⟩
abbrev main_v570 : Ref sig .tc := ⟨.hbm, 705, rfl⟩
abbrev main_cst_109 : Ref sig .tc := ⟨.hbm, 706, rfl⟩
abbrev main_v571 : Ref sig .tc := ⟨.hbm, 707, rfl⟩
abbrev main_v572 : Ref sig .tc := ⟨.hbm, 708, rfl⟩
abbrev main_cst_110 : Ref sig .tc := ⟨.hbm, 709, rfl⟩
abbrev main_v573 : Ref sig .tc := ⟨.hbm, 710, rfl⟩
abbrev main_cst_111 : Ref sig .tc := ⟨.hbm, 711, rfl⟩
abbrev main_v574 : Ref sig .tc := ⟨.hbm, 712, rfl⟩
abbrev main_v575 : Ref sig .tc := ⟨.hbm, 713, rfl⟩
abbrev main_v576 : Ref sig .tc := ⟨.hbm, 714, rfl⟩
abbrev main_cst_112 : Ref sig .tc := ⟨.hbm, 715, rfl⟩
abbrev main_v577 : Ref sig .tc := ⟨.hbm, 716, rfl⟩
abbrev main_v578 : Ref sig .tc := ⟨.hbm, 717, rfl⟩
abbrev main_v579 : Ref sig .tc := ⟨.hbm, 718, rfl⟩
abbrev main_v580 : Ref sig .tc := ⟨.hbm, 719, rfl⟩
abbrev main_v581 : Ref sig .tc := ⟨.hbm, 720, rfl⟩
abbrev main_cst_113 : Ref sig .tc := ⟨.hbm, 721, rfl⟩
abbrev main_v582 : Ref sig .tc := ⟨.hbm, 722, rfl⟩
abbrev main_v583 : Ref sig .tc := ⟨.hbm, 723, rfl⟩
abbrev main_cst_114 : Ref sig .tc := ⟨.hbm, 724, rfl⟩
abbrev main_v584 : Ref sig .tc := ⟨.hbm, 725, rfl⟩
abbrev main_cst_115 : Ref sig .tc := ⟨.hbm, 726, rfl⟩
abbrev main_v585 : Ref sig .tc := ⟨.hbm, 727, rfl⟩
abbrev main_v586 : Ref sig .tc := ⟨.hbm, 728, rfl⟩
abbrev main_v587 : Ref sig .tc := ⟨.hbm, 729, rfl⟩
abbrev main_cst_116 : Ref sig .tc := ⟨.hbm, 730, rfl⟩
abbrev main_v588 : Ref sig .tc := ⟨.hbm, 731, rfl⟩
abbrev main_v589 : Ref sig .tc := ⟨.hbm, 732, rfl⟩
abbrev main_v590 : Ref sig .tc := ⟨.hbm, 733, rfl⟩
abbrev main_v591 : Ref sig .tc := ⟨.hbm, 734, rfl⟩
abbrev main_v592 : Ref sig .tc := ⟨.hbm, 735, rfl⟩
abbrev main_cst_117 : Ref sig .tc := ⟨.hbm, 736, rfl⟩
abbrev main_v593 : Ref sig .tc := ⟨.hbm, 737, rfl⟩
abbrev main_v594 : Ref sig .tc := ⟨.hbm, 738, rfl⟩
abbrev main_cst_118 : Ref sig .tc := ⟨.hbm, 739, rfl⟩
abbrev main_v595 : Ref sig .tc := ⟨.hbm, 740, rfl⟩
abbrev main_cst_119 : Ref sig .tc := ⟨.hbm, 741, rfl⟩
abbrev main_v596 : Ref sig .tc := ⟨.hbm, 742, rfl⟩
abbrev main_v597 : Ref sig .tc := ⟨.hbm, 743, rfl⟩
abbrev main_v598 : Ref sig .tc := ⟨.hbm, 744, rfl⟩
abbrev main_cst_120 : Ref sig .tc := ⟨.hbm, 745, rfl⟩
abbrev main_v599 : Ref sig .tc := ⟨.hbm, 746, rfl⟩
abbrev main_v600 : Ref sig .tc := ⟨.hbm, 747, rfl⟩
abbrev main_v601 : Ref sig .tc := ⟨.hbm, 748, rfl⟩
abbrev main_v602 : Ref sig .tc := ⟨.hbm, 749, rfl⟩
abbrev main_v603 : Ref sig .tc := ⟨.hbm, 750, rfl⟩
abbrev main_cst_121 : Ref sig .tc := ⟨.hbm, 751, rfl⟩
abbrev main_v604 : Ref sig .tc := ⟨.hbm, 752, rfl⟩
abbrev main_v605 : Ref sig .tc := ⟨.hbm, 753, rfl⟩
abbrev main_cst_122 : Ref sig .tc := ⟨.hbm, 754, rfl⟩
abbrev main_v606 : Ref sig .tc := ⟨.hbm, 755, rfl⟩
abbrev main_cst_123 : Ref sig .tc := ⟨.hbm, 756, rfl⟩
abbrev main_v607 : Ref sig .tc := ⟨.hbm, 757, rfl⟩
abbrev main_v608 : Ref sig .tc := ⟨.hbm, 758, rfl⟩
abbrev main_v609 : Ref sig .tc := ⟨.hbm, 759, rfl⟩
abbrev main_cst_124 : Ref sig .tc := ⟨.hbm, 760, rfl⟩
abbrev main_v610 : Ref sig .tc := ⟨.hbm, 761, rfl⟩
abbrev main_v611 : Ref sig .tc := ⟨.hbm, 762, rfl⟩
abbrev main_v612 : Ref sig .tc := ⟨.hbm, 763, rfl⟩
abbrev main_v613 : Ref sig .tc := ⟨.hbm, 764, rfl⟩
abbrev main_v614 : Ref sig .tc := ⟨.hbm, 765, rfl⟩
abbrev main_cst_125 : Ref sig .tc := ⟨.hbm, 766, rfl⟩
abbrev main_v615 : Ref sig .tc := ⟨.hbm, 767, rfl⟩
abbrev main_v616 : Ref sig .tc := ⟨.hbm, 768, rfl⟩
abbrev main_cst_126 : Ref sig .tc := ⟨.hbm, 769, rfl⟩
abbrev main_v617 : Ref sig .tc := ⟨.hbm, 770, rfl⟩
abbrev main_cst_127 : Ref sig .tc := ⟨.hbm, 771, rfl⟩
abbrev main_v618 : Ref sig .tc := ⟨.hbm, 772, rfl⟩
abbrev main_v619 : Ref sig .tc := ⟨.hbm, 773, rfl⟩
abbrev main_v620 : Ref sig .tc := ⟨.hbm, 774, rfl⟩
abbrev main_cst_128 : Ref sig .tc := ⟨.hbm, 775, rfl⟩
abbrev main_v621 : Ref sig .tc := ⟨.hbm, 776, rfl⟩
abbrev main_v622 : Ref sig .tc := ⟨.hbm, 777, rfl⟩
abbrev main_v623 : Ref sig .tc := ⟨.hbm, 778, rfl⟩
abbrev main_v624 : Ref sig .tc := ⟨.hbm, 779, rfl⟩
abbrev main_v625 : Ref sig .tc := ⟨.hbm, 780, rfl⟩
abbrev main_cst_129 : Ref sig .tc := ⟨.hbm, 781, rfl⟩
abbrev main_v626 : Ref sig .tc := ⟨.hbm, 782, rfl⟩
abbrev main_v627 : Ref sig .tc := ⟨.hbm, 783, rfl⟩
abbrev main_cst_130 : Ref sig .tc := ⟨.hbm, 784, rfl⟩
abbrev main_v628 : Ref sig .tc := ⟨.hbm, 785, rfl⟩
abbrev main_cst_131 : Ref sig .tc := ⟨.hbm, 786, rfl⟩
abbrev main_v629 : Ref sig .tc := ⟨.hbm, 787, rfl⟩
abbrev main_v630 : Ref sig .tc := ⟨.hbm, 788, rfl⟩
abbrev main_v631 : Ref sig .tc := ⟨.hbm, 789, rfl⟩
abbrev main_cst_132 : Ref sig .tc := ⟨.hbm, 790, rfl⟩
abbrev main_v632 : Ref sig .tc := ⟨.hbm, 791, rfl⟩
abbrev main_v633 : Ref sig .tc := ⟨.hbm, 792, rfl⟩
abbrev main_v634 : Ref sig .tc := ⟨.hbm, 793, rfl⟩
abbrev main_v635 : Ref sig .tc := ⟨.hbm, 794, rfl⟩
abbrev main_v636 : Ref sig .tc := ⟨.hbm, 795, rfl⟩
abbrev main_cst_133 : Ref sig .tc := ⟨.hbm, 796, rfl⟩
abbrev main_v637 : Ref sig .tc := ⟨.hbm, 797, rfl⟩
abbrev main_v638 : Ref sig .tc := ⟨.hbm, 798, rfl⟩
abbrev main_cst_134 : Ref sig .tc := ⟨.hbm, 799, rfl⟩
abbrev main_v639 : Ref sig .tc := ⟨.hbm, 800, rfl⟩
abbrev main_cst_135 : Ref sig .tc := ⟨.hbm, 801, rfl⟩
abbrev main_v640 : Ref sig .tc := ⟨.hbm, 802, rfl⟩
abbrev main_v641 : Ref sig .tc := ⟨.hbm, 803, rfl⟩
abbrev main_v642 : Ref sig .tc := ⟨.hbm, 804, rfl⟩
abbrev main_cst_136 : Ref sig .tc := ⟨.hbm, 805, rfl⟩
abbrev main_v643 : Ref sig .tc := ⟨.hbm, 806, rfl⟩
abbrev main_v644 : Ref sig .tc := ⟨.hbm, 807, rfl⟩
abbrev main_v645 : Ref sig .tc := ⟨.hbm, 808, rfl⟩
abbrev main_v646 : Ref sig .tc := ⟨.hbm, 809, rfl⟩
abbrev main_v647 : Ref sig .tc := ⟨.hbm, 810, rfl⟩
abbrev main_cst_137 : Ref sig .tc := ⟨.hbm, 811, rfl⟩
abbrev main_v648 : Ref sig .tc := ⟨.hbm, 812, rfl⟩
abbrev main_v649 : Ref sig .tc := ⟨.hbm, 813, rfl⟩
abbrev main_cst_138 : Ref sig .tc := ⟨.hbm, 814, rfl⟩
abbrev main_v650 : Ref sig .tc := ⟨.hbm, 815, rfl⟩
abbrev main_cst_139 : Ref sig .tc := ⟨.hbm, 816, rfl⟩
abbrev main_v651 : Ref sig .tc := ⟨.hbm, 817, rfl⟩
abbrev main_v652 : Ref sig .tc := ⟨.hbm, 818, rfl⟩
abbrev main_v653 : Ref sig .tc := ⟨.hbm, 819, rfl⟩
abbrev main_cst_140 : Ref sig .tc := ⟨.hbm, 820, rfl⟩
abbrev main_v654 : Ref sig .tc := ⟨.hbm, 821, rfl⟩
abbrev main_v655 : Ref sig .tc := ⟨.hbm, 822, rfl⟩
abbrev main_v656 : Ref sig .tc := ⟨.hbm, 823, rfl⟩
abbrev main_v657 : Ref sig .tc := ⟨.hbm, 824, rfl⟩
abbrev main_v658 : Ref sig .tc := ⟨.hbm, 825, rfl⟩
abbrev main_cst_141 : Ref sig .tc := ⟨.hbm, 826, rfl⟩
abbrev main_v659 : Ref sig .tc := ⟨.hbm, 827, rfl⟩
abbrev main_v660 : Ref sig .tc := ⟨.hbm, 828, rfl⟩
abbrev main_cst_142 : Ref sig .tc := ⟨.hbm, 829, rfl⟩
abbrev main_v661 : Ref sig .tc := ⟨.hbm, 830, rfl⟩
abbrev main_cst_143 : Ref sig .tc := ⟨.hbm, 831, rfl⟩
abbrev main_v662 : Ref sig .tc := ⟨.hbm, 832, rfl⟩
abbrev main_v663 : Ref sig .tc := ⟨.hbm, 833, rfl⟩
abbrev main_v664 : Ref sig .tc := ⟨.hbm, 834, rfl⟩
abbrev main_cst_144 : Ref sig .tc := ⟨.hbm, 835, rfl⟩
abbrev main_v665 : Ref sig .tc := ⟨.hbm, 836, rfl⟩
abbrev main_v666 : Ref sig .tc := ⟨.hbm, 837, rfl⟩
abbrev main_v667 : Ref sig .tc := ⟨.hbm, 838, rfl⟩
abbrev main_v668 : Ref sig .tc := ⟨.hbm, 839, rfl⟩
abbrev main_v669 : Ref sig .tc := ⟨.hbm, 840, rfl⟩
abbrev main_cst_145 : Ref sig .tc := ⟨.hbm, 841, rfl⟩
abbrev main_v670 : Ref sig .tc := ⟨.hbm, 842, rfl⟩
abbrev main_v671 : Ref sig .tc := ⟨.hbm, 843, rfl⟩
abbrev main_cst_146 : Ref sig .tc := ⟨.hbm, 844, rfl⟩
abbrev main_v672 : Ref sig .tc := ⟨.hbm, 845, rfl⟩
abbrev main_cst_147 : Ref sig .tc := ⟨.hbm, 846, rfl⟩
abbrev main_v673 : Ref sig .tc := ⟨.hbm, 847, rfl⟩
abbrev main_v674 : Ref sig .tc := ⟨.hbm, 848, rfl⟩
abbrev main_v675 : Ref sig .tc := ⟨.hbm, 849, rfl⟩
abbrev main_cst_148 : Ref sig .tc := ⟨.hbm, 850, rfl⟩
abbrev main_v676 : Ref sig .tc := ⟨.hbm, 851, rfl⟩
abbrev main_v677 : Ref sig .tc := ⟨.hbm, 852, rfl⟩
abbrev main_v678 : Ref sig .tc := ⟨.hbm, 853, rfl⟩
abbrev main_v679 : Ref sig .tc := ⟨.hbm, 854, rfl⟩
abbrev main_v680 : Ref sig .tc := ⟨.hbm, 855, rfl⟩
abbrev main_cst_149 : Ref sig .tc := ⟨.hbm, 856, rfl⟩
abbrev main_v681 : Ref sig .tc := ⟨.hbm, 857, rfl⟩
abbrev main_v682 : Ref sig .tc := ⟨.hbm, 858, rfl⟩
abbrev main_cst_150 : Ref sig .tc := ⟨.hbm, 859, rfl⟩
abbrev main_v683 : Ref sig .tc := ⟨.hbm, 860, rfl⟩
abbrev main_cst_151 : Ref sig .tc := ⟨.hbm, 861, rfl⟩
abbrev main_v684 : Ref sig .tc := ⟨.hbm, 862, rfl⟩
abbrev main_v685 : Ref sig .tc := ⟨.hbm, 863, rfl⟩
abbrev main_v686 : Ref sig .tc := ⟨.hbm, 864, rfl⟩
abbrev main_cst_152 : Ref sig .tc := ⟨.hbm, 865, rfl⟩
abbrev main_v687 : Ref sig .tc := ⟨.hbm, 866, rfl⟩
abbrev main_v688 : Ref sig .tc := ⟨.hbm, 867, rfl⟩
abbrev main_v689 : Ref sig .tc := ⟨.hbm, 868, rfl⟩
abbrev main_v690 : Ref sig .tc := ⟨.hbm, 869, rfl⟩
abbrev main_v691 : Ref sig .tc := ⟨.hbm, 870, rfl⟩
abbrev main_cst_153 : Ref sig .tc := ⟨.hbm, 871, rfl⟩
abbrev main_v692 : Ref sig .tc := ⟨.hbm, 872, rfl⟩
abbrev main_v693 : Ref sig .tc := ⟨.hbm, 873, rfl⟩
abbrev main_cst_154 : Ref sig .tc := ⟨.hbm, 874, rfl⟩
abbrev main_v694 : Ref sig .tc := ⟨.hbm, 875, rfl⟩
abbrev main_cst_155 : Ref sig .tc := ⟨.hbm, 876, rfl⟩
abbrev main_v695 : Ref sig .tc := ⟨.hbm, 877, rfl⟩
abbrev main_v696 : Ref sig .tc := ⟨.hbm, 878, rfl⟩
abbrev main_v697 : Ref sig .tc := ⟨.hbm, 879, rfl⟩
abbrev main_cst_156 : Ref sig .tc := ⟨.hbm, 880, rfl⟩
abbrev main_v698 : Ref sig .tc := ⟨.hbm, 881, rfl⟩
abbrev main_v699 : Ref sig .tc := ⟨.hbm, 882, rfl⟩
abbrev main_v700 : Ref sig .tc := ⟨.hbm, 883, rfl⟩
abbrev main_v701 : Ref sig .tc := ⟨.hbm, 884, rfl⟩
abbrev main_v702 : Ref sig .tc := ⟨.hbm, 885, rfl⟩
abbrev main_cst_157 : Ref sig .tc := ⟨.hbm, 886, rfl⟩
abbrev main_v703 : Ref sig .tc := ⟨.hbm, 887, rfl⟩
abbrev main_v704 : Ref sig .tc := ⟨.hbm, 888, rfl⟩
abbrev main_cst_158 : Ref sig .tc := ⟨.hbm, 889, rfl⟩
abbrev main_v705 : Ref sig .tc := ⟨.hbm, 890, rfl⟩
abbrev main_cst_159 : Ref sig .tc := ⟨.hbm, 891, rfl⟩
abbrev main_v706 : Ref sig .tc := ⟨.hbm, 892, rfl⟩
abbrev main_v707 : Ref sig .tc := ⟨.hbm, 893, rfl⟩
abbrev main_v708 : Ref sig .tc := ⟨.hbm, 894, rfl⟩
abbrev main_cst_160 : Ref sig .tc := ⟨.hbm, 895, rfl⟩
abbrev main_v709 : Ref sig .tc := ⟨.hbm, 896, rfl⟩
abbrev main_v710 : Ref sig .tc := ⟨.hbm, 897, rfl⟩
abbrev main_v711 : Ref sig .tc := ⟨.hbm, 898, rfl⟩
abbrev main_v712 : Ref sig .tc := ⟨.hbm, 899, rfl⟩
abbrev main_v713 : Ref sig .tc := ⟨.hbm, 900, rfl⟩
abbrev main_cst_161 : Ref sig .tc := ⟨.hbm, 901, rfl⟩
abbrev main_v714 : Ref sig .tc := ⟨.hbm, 902, rfl⟩
abbrev main_v715 : Ref sig .tc := ⟨.hbm, 903, rfl⟩
abbrev main_cst_162 : Ref sig .tc := ⟨.hbm, 904, rfl⟩
abbrev main_v716 : Ref sig .tc := ⟨.hbm, 905, rfl⟩
abbrev main_cst_163 : Ref sig .tc := ⟨.hbm, 906, rfl⟩
abbrev main_v717 : Ref sig .tc := ⟨.hbm, 907, rfl⟩
abbrev main_v718 : Ref sig .tc := ⟨.hbm, 908, rfl⟩
abbrev main_v719 : Ref sig .tc := ⟨.hbm, 909, rfl⟩
abbrev main_cst_164 : Ref sig .tc := ⟨.hbm, 910, rfl⟩
abbrev main_v720 : Ref sig .tc := ⟨.hbm, 911, rfl⟩
abbrev main_v721 : Ref sig .tc := ⟨.hbm, 912, rfl⟩
abbrev main_v722 : Ref sig .tc := ⟨.hbm, 913, rfl⟩
abbrev main_v723 : Ref sig .tc := ⟨.hbm, 914, rfl⟩
abbrev main_v724 : Ref sig .tc := ⟨.hbm, 915, rfl⟩
abbrev main_cst_165 : Ref sig .tc := ⟨.hbm, 916, rfl⟩
abbrev main_v725 : Ref sig .tc := ⟨.hbm, 917, rfl⟩
abbrev main_v726 : Ref sig .tc := ⟨.hbm, 918, rfl⟩
abbrev main_cst_166 : Ref sig .tc := ⟨.hbm, 919, rfl⟩
abbrev main_v727 : Ref sig .tc := ⟨.hbm, 920, rfl⟩
abbrev main_cst_167 : Ref sig .tc := ⟨.hbm, 921, rfl⟩
abbrev main_v728 : Ref sig .tc := ⟨.hbm, 922, rfl⟩
abbrev main_v729 : Ref sig .tc := ⟨.hbm, 923, rfl⟩
abbrev main_v730 : Ref sig .tc := ⟨.hbm, 924, rfl⟩
abbrev main_cst_168 : Ref sig .tc := ⟨.hbm, 925, rfl⟩
abbrev main_v731 : Ref sig .tc := ⟨.hbm, 926, rfl⟩
abbrev main_v732 : Ref sig .tc := ⟨.hbm, 927, rfl⟩
abbrev main_v733 : Ref sig .tc := ⟨.hbm, 928, rfl⟩
abbrev main_v734 : Ref sig .tc := ⟨.hbm, 929, rfl⟩
abbrev main_v735 : Ref sig .tc := ⟨.hbm, 930, rfl⟩
abbrev main_v736 : Ref sig .tc := ⟨.hbm, 931, rfl⟩
abbrev main_v737 : Ref sig .tc := ⟨.hbm, 932, rfl⟩
abbrev main_cst_169 : Ref sig .tc := ⟨.hbm, 933, rfl⟩
abbrev main_v738 : Ref sig .tc := ⟨.hbm, 934, rfl⟩
abbrev main_v739 : Ref sig .tc := ⟨.hbm, 935, rfl⟩
abbrev main_cst_170 : Ref sig .tc := ⟨.hbm, 936, rfl⟩
abbrev main_v740 : Ref sig .tc := ⟨.hbm, 937, rfl⟩
abbrev main_v741 : Ref sig .tc := ⟨.hbm, 938, rfl⟩
abbrev main_v742 : Ref sig .tc := ⟨.hbm, 939, rfl⟩
abbrev main_v743 : Ref sig .tc := ⟨.hbm, 940, rfl⟩
abbrev main_cst_171 : Ref sig .tc := ⟨.hbm, 941, rfl⟩
abbrev main_v744 : Ref sig .tc := ⟨.hbm, 942, rfl⟩
abbrev main_v745 : Ref sig .tc := ⟨.hbm, 943, rfl⟩
abbrev main_v746 : Ref sig .tc := ⟨.hbm, 944, rfl⟩
abbrev main_v747 : Ref sig .tc := ⟨.hbm, 945, rfl⟩
abbrev main_v748 : Ref sig .tc := ⟨.hbm, 946, rfl⟩
abbrev main_cst_172 : Ref sig .tc := ⟨.hbm, 947, rfl⟩
abbrev main_v749 : Ref sig .tc := ⟨.hbm, 948, rfl⟩
abbrev main_v750 : Ref sig .tc := ⟨.hbm, 949, rfl⟩
abbrev main_v751 : Ref sig .tc := ⟨.hbm, 950, rfl⟩
abbrev main_v752 : Ref sig .tc := ⟨.hbm, 951, rfl⟩
abbrev main_v753 : Ref sig .tc := ⟨.hbm, 952, rfl⟩
abbrev main_v754 : Ref sig .tc := ⟨.hbm, 953, rfl⟩
abbrev main_cst_173 : Ref sig .tc := ⟨.hbm, 954, rfl⟩
abbrev main_v755 : Ref sig .tc := ⟨.hbm, 955, rfl⟩
abbrev main_v756 : Ref sig .tc := ⟨.hbm, 956, rfl⟩
abbrev main_cst_174 : Ref sig .tc := ⟨.hbm, 957, rfl⟩
abbrev main_v757 : Ref sig .tc := ⟨.hbm, 958, rfl⟩
abbrev main_v758 : Ref sig .tc := ⟨.hbm, 959, rfl⟩
abbrev main_v759 : Ref sig .tc := ⟨.hbm, 960, rfl⟩
abbrev main_v760 : Ref sig .tc := ⟨.hbm, 961, rfl⟩
abbrev main_v761 : Ref sig .tc := ⟨.hbm, 962, rfl⟩
abbrev main_v762 : Ref sig .tc := ⟨.hbm, 963, rfl⟩
abbrev main_v763 : Ref sig .tc := ⟨.hbm, 964, rfl⟩

abbrev nD : Nat := 1
abbrev τ : Topo := Topo.v7x

variable {F : FTy → Type} [FloatOps F]
-- ==== FfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1280x1024 : Shape := ⟨2, ![1280, 1024]⟩
abbrev S256x1280 : Shape := ⟨2, ![256, 1280]⟩

abbrev nBuf : Space → Nat
  | .hbm => 14
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .f32⟩
  | .hbm, ⟨11, _⟩ => ⟨S8192x1024, .bf16⟩
  | .hbm, ⟨12, _⟩ => ⟨S8192x2816, .bf16⟩
  | .hbm, ⟨13, _⟩ => ⟨S8192x2816, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FwdRefIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x1024, .f32⟩
  | .hbm, ⟨48, _⟩ => ⟨S8192x1024, .f32⟩
  | .hbm, ⟨49, _⟩ => ⟨S8192x1024, .bf16⟩
  | .hbm, ⟨50, _⟩ => ⟨S8192x2816, .f32⟩
  | .hbm, ⟨51, _⟩ => ⟨S8192x2816, .bf16⟩
  | .hbm, ⟨52, _⟩ => ⟨S8192x2816, .f32⟩
  | .hbm, ⟨53, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Proof.FfnMath.lean ====
/-
  The mathematics of the feed-forward block's backward pass, on extended reals and apart from any program.

  One token has a row of every array: `x` its activation, `c` the gradient that comes in, `gate` and `up` its two
  hidden vectors. `g` is the normalisation's gain; `wg`, `wu`, `wd` are the three weights, written at (hidden unit, feature).
  The kernel and the reference write two of the formulas differently (the derivative of silu, and the derivative of the
  root-mean-square normalisation). Extended reals do not distribute, so these two are shown equal on real arguments;
  the others hold of all extended reals.
-/
module

public import Idealize.ShloMosaic.Lib.Pointwise
public import Idealize.ShloMosaic.PureOps.Ideal.Laws

@[expose] public section

noncomputable section

namespace Cert.FfnMath

open Idealize.ShloMosaic

/-- The number 1024 as the programs write it. -/
abbrev width : EReal := Ideal.ofBits .f32 0x44800000#32
/-- The small constant that the normalisation adds to the mean square. -/
abbrev eps : EReal := Ideal.ofBits .f32 0x358637BD#32
/-- Minus one half as the reference writes it. -/
abbrev mhalf : EReal := Ideal.ofBits .f32 0xBF000000#32

theorem width_eq : width = ((1024 : ℝ) : EReal) := by
  have h : ((8388608 : ℝ) * (2 ^ 13)⁻¹) = 1024 := by norm_num
  simp [width, Ideal.ofBits, Ideal.ieee, -EReal.coe_mul, h]

theorem eps_eq : ∃ e : ℝ, 0 < e ∧ eps = (e : EReal) := by
  refine ⟨(8796093 : ℝ) * 2 ^ (-43 : ℤ), by positivity, ?_⟩
  simp [eps, Ideal.ofBits, Ideal.ieee, -EReal.coe_mul]

theorem mhalf_eq : mhalf = ((-(1 / 2) : ℝ) : EReal) := by
  simp [mhalf, Ideal.ofBits, Ideal.ieee, -EReal.coe_mul]; norm_num

/-! ## Numbers that are real -/

/-- The extended real is a real number. -/
def IsReal (x : EReal) : Prop := ∃ r : ℝ, x = (r : EReal)

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem IsReal.coe (r : ℝ) : IsReal (r : EReal) := ⟨r, rfl⟩
theorem IsReal.add {x y : EReal} (hx : IsReal x) (hy : IsReal y) : IsReal (x + y) := by
  obtain ⟨a, rfl⟩ := hx; obtain ⟨b, rfl⟩ := hy; exact ⟨a + b, by push_cast; rfl⟩
theorem IsReal.mul {x y : EReal} (hx : IsReal x) (hy : IsReal y) : IsReal (x * y) := by
  obtain ⟨a, rfl⟩ := hx; obtain ⟨b, rfl⟩ := hy; exact ⟨a * b, by push_cast; rfl⟩
theorem IsReal.sum {n : ℕ} {f : Fin n → EReal} (hf : ∀ k, IsReal (f k)) : IsReal (∑ k, f k) := by
  choose r hr using hf
  exact ⟨∑ k, r k, by rw [Finset.sum_congr rfl fun k _ => hr k]; exact (coe_sum _).symm⟩

theorem IsReal.of_abs_lt_top {x : EReal} (h₁ : x ≠ ⊤) (h₂ : x ≠ ⊥) : IsReal x :=
  ⟨x.toReal, (EReal.coe_toReal h₁ h₂).symm⟩

/-- A sum over the 2816 hidden units is the sum over the first 1536 and the sum over the last 1280. -/
theorem sum_hidden (f : Fin 2816 → EReal) :
    ∑ n, f n = (∑ n : Fin 1536, f ⟨n, by omega⟩) + ∑ n : Fin 1280, f ⟨1536 + n, by omega⟩ :=
  Fin.sum_univ_add (a := 1536) (b := 1280) f

/-! ## The formulas, as the kernel writes them -/

/-- The logistic function. -/
def sigm (y : EReal) : EReal := Ideal.div 1 (1 + Ideal.exp (-y))

/-- A row's mean square, plus the small constant. -/
def msq (x : Fin 1024 → EReal) : EReal := Ideal.div (∑ k, x k * x k) width + eps

/-- The reciprocal root of a row's mean square. -/
def inv (x : Fin 1024 → EReal) : EReal := Ideal.rsqrt (msq x)

/-- The row divided by its root mean square. -/
def unit (x : Fin 1024 → EReal) (k : Fin 1024) : EReal := x k * inv x

/-- A hidden vector: the normalised row through a weight. -/
def hidden (x g : Fin 1024 → EReal) (w : Fin 2816 → Fin 1024 → EReal) (n : Fin 2816) : EReal :=
  ∑ k, unit x k * g k * w n k

/-- The gradient of the hidden product: the incoming row through the last weight. -/
def dact (c : Fin 1024 → EReal) (wd : Fin 2816 → Fin 1024 → EReal) (n : Fin 2816) : EReal := ∑ k, c k * wd n k

/-- The hidden product `silu(gate) * up`. -/
def act (gate up : EReal) : EReal := gate * sigm gate * up

/-- The gradient of `up`, from the gradient `d` of the hidden product. -/
def dup (d gate : EReal) : EReal := d * (gate * sigm gate)

/-- The gradient of `gate`, from the gradient `d` of the hidden product. -/
def dgate (d gate up : EReal) : EReal := d * up * (sigm gate * (1 + gate * (1 - sigm gate)))

/-- The gradient of the normalised row. -/
def dnorm (c : Fin 1024 → EReal) (gate up : Fin 2816 → EReal) (wg wu wd : Fin 2816 → Fin 1024 → EReal) (k : Fin 1024) : EReal :=
  (∑ n, dgate (dact c wd n) (gate n) (up n) * wg n k) + ∑ n, dup (dact c wd n) (gate n) * wu n k

/-- The gradient of the row `x`, from the gradient `q` of the row over its root mean square. -/
def dunit (x q : Fin 1024 → EReal) (k : Fin 1024) : EReal :=
  inv x * (q k - unit x k * Ideal.div (∑ j, q j * unit x j) width)

/-! ## The same formulas, as differentiation writes them -/

theorem sigm_coe (y : ℝ) : sigm (y : EReal) = ((1 / (1 + Real.exp (-y)) : ℝ) : EReal) := by
  have h : (1 + Real.exp (-y)) ≠ 0 := by positivity
  have e : (1 : EReal) + Ideal.exp (-(y : EReal)) = ((1 + Real.exp (-y) : ℝ) : EReal) := by
    rw [← EReal.coe_neg, Ideal.exp_coe]; push_cast; rfl
  rw [sigm, e, Ideal.div_coe h, one_mul]

theorem IsReal.sigm {y : EReal} (hy : IsReal y) : IsReal (sigm y) := by
  obtain ⟨a, rfl⟩ := hy; exact ⟨_, sigm_coe a⟩

/-- The derivative of `silu`: the two ways to write it agree on real numbers. -/
theorem dgate_eq {d gate up : EReal} (hd : IsReal d) (hg : IsReal gate) (hu : IsReal up) :
    d * up * sigm gate + gate * (d * up) * (sigm gate * (1 - sigm gate)) = dgate d gate up := by
  obtain ⟨s, hs⟩ := hg.sigm
  obtain ⟨a, rfl⟩ := hd; obtain ⟨b, rfl⟩ := hg; obtain ⟨e, rfl⟩ := hu
  rw [dgate, hs]
  norm_cast
  ring

theorem exists_msq {x : Fin 1024 → EReal} (hx : ∀ k, IsReal (x k)) : ∃ m : ℝ, 0 < m ∧ msq x = (m : EReal) := by
  choose r hr using hx
  obtain ⟨e, he, heq⟩ := eps_eq
  refine ⟨(∑ k, r k * r k) * (1 / 1024) + e, ?_, ?_⟩
  · have : 0 ≤ ∑ k, r k * r k := Finset.sum_nonneg fun k _ => mul_self_nonneg _
    positivity
  · have hs : (∑ k, x k * x k) = ((∑ k, r k * r k : ℝ) : EReal) := by
      rw [Finset.sum_congr rfl fun k _ => by rw [hr k, ← EReal.coe_mul]]; exact (coe_sum _).symm
    rw [msq, hs, heq, width_eq, Ideal.div_coe (by norm_num)]
    push_cast; rfl

theorem exists_inv {x : Fin 1024 → EReal} (hx : ∀ k, IsReal (x k)) :
    ∃ m r : ℝ, 0 < m ∧ r * r = 1 / m ∧ msq x = (m : EReal) ∧ inv x = (r : EReal) := by
  obtain ⟨m, hm, h⟩ := exists_msq hx
  refine ⟨m, (Real.sqrt m)⁻¹, hm, ?_, h, ?_⟩
  · rw [← mul_inv, Real.mul_self_sqrt hm.le, one_div]
  · rw [FfnMath.inv, h, Ideal.rsqrt_coe, if_neg (not_lt.mpr hm.le), if_neg hm.ne']

theorem IsReal.inv {x : Fin 1024 → EReal} (hx : ∀ k, IsReal (x k)) : IsReal (inv x) := by
  obtain ⟨_, r, _, _, _, h⟩ := exists_inv hx; exact ⟨r, h⟩

theorem IsReal.unit {x : Fin 1024 → EReal} (hx : ∀ k, IsReal (x k)) (k : Fin 1024) : IsReal (unit x k) :=
  (hx k).mul (IsReal.inv hx)

theorem IsReal.hidden {x g : Fin 1024 → EReal} {w : Fin 2816 → Fin 1024 → EReal} (hx : ∀ k, IsReal (x k))
    (hg : ∀ k, IsReal (g k)) (hw : ∀ n k, IsReal (w n k)) (n : Fin 2816) : IsReal (hidden x g w n) :=
  .sum fun k => ((IsReal.unit hx k).mul (hg k)).mul (hw n k)

theorem IsReal.dact {c : Fin 1024 → EReal} {wd : Fin 2816 → Fin 1024 → EReal} (hc : ∀ k, IsReal (c k))
    (hw : ∀ n k, IsReal (wd n k)) (n : Fin 2816) : IsReal (dact c wd n) :=
  .sum fun k => (hc k).mul (hw n k)

theorem IsReal.sub {x y : EReal} (hx : IsReal x) (hy : IsReal y) : IsReal (x - y) := by
  obtain ⟨a, rfl⟩ := hx; obtain ⟨b, rfl⟩ := hy; exact ⟨a - b, by push_cast; rfl⟩

theorem IsReal.dup {d gate : EReal} (hd : IsReal d) (hg : IsReal gate) : IsReal (dup d gate) :=
  hd.mul (hg.mul hg.sigm)

theorem IsReal.dgate {d gate up : EReal} (hd : IsReal d) (hg : IsReal gate) (hu : IsReal up) : IsReal (dgate d gate up) :=
  (hd.mul hu).mul (hg.sigm.mul ((IsReal.coe 1).add (hg.mul ((IsReal.coe 1).sub hg.sigm))))

theorem IsReal.dnorm {c : Fin 1024 → EReal} {gate up : Fin 2816 → EReal} {wg wu wd : Fin 2816 → Fin 1024 → EReal}
    (hc : ∀ k, IsReal (c k)) (hg : ∀ n, IsReal (gate n)) (hu : ∀ n, IsReal (up n)) (hwg : ∀ n k, IsReal (wg n k))
    (hwu : ∀ n k, IsReal (wu n k)) (hwd : ∀ n k, IsReal (wd n k)) (k : Fin 1024) : IsReal (dnorm c gate up wg wu wd k) :=
  (IsReal.sum fun n => (IsReal.dgate (IsReal.dact hc hwd n) (hg n) (hu n)).mul (hwg n k)).add
    (IsReal.sum fun n => (IsReal.dup (IsReal.dact hc hwd n) (hg n)).mul (hwu n k))

/-- The derivative of the root-mean-square normalisation. Differentiation writes the part that comes through the mean
    square as twice a product with minus one half; the kernel subtracts the projection on the normalised row. -/
theorem dunit_eq {c : EReal} {x q : Fin 1024 → EReal} (hc : IsReal c) (hx : ∀ k, IsReal (x k)) (hq : ∀ k, IsReal (q k))
    {t : EReal} (ht : t = Ideal.div ((∑ j, x j * q j) * (mhalf * Ideal.div (inv x) (msq x))) width) (k : Fin 1024) :
    c + q k * inv x + x k * t + t * x k = c + dunit x q k := by
  obtain ⟨m, r, hm, hr, hms, hinv⟩ := exists_inv hx
  obtain ⟨c, rfl⟩ := hc
  choose x' hx' using hx
  choose q' hq' using hq
  have hS : (∑ j, x j * q j) = ((∑ j, x' j * q' j : ℝ) : EReal) := by
    rw [Finset.sum_congr rfl fun k _ => by rw [hx' k, hq' k, ← EReal.coe_mul]]; exact (coe_sum _).symm
  have hT : (∑ j, q j * unit x j) = (((∑ j, x' j * q' j) * r : ℝ) : EReal) := by
    rw [Finset.sum_mul,
      Finset.sum_congr rfl fun k _ => show q k * unit x k = ((x' k * q' k * r : ℝ) : EReal) by
        rw [unit, hx' k, hq' k, hinv, ← EReal.coe_mul, ← EReal.coe_mul]; congr 1; ring]
    exact (coe_sum _).symm
  generalize (∑ j, x' j * q' j) = S at hS hT
  rw [dunit, ht, hS, hT, unit, hms, hinv, mhalf_eq, width_eq, Ideal.div_coe hm.ne', Ideal.div_coe (by norm_num),
    Ideal.div_coe (by norm_num), hx' k, hq' k]
  norm_cast
  have : r * (1 / m) = r * r * r := by rw [← hr]; ring
  rw [this]
  ring

end Cert.FfnMath

end
-- ==== Proof.FfnPre.lean ====
/-
  The precondition, entry by entry: every argument is an array of real numbers.
-/
module

public import proofs.«01_k».proof.Defs
public import proofs.«01_k».proof.Proof.FfnMath
public import proofs.«01_k».proof.Proof.Gen.Pre_finite
public import Idealize.ShloMosaic.Lib.Pointwise
public import Idealize.ShloMosaic.Lib.IdealHost

@[expose] public section

set_option maxRecDepth 16384

noncomputable section

namespace Cert.FfnPre

open Idealize.ShloMosaic

/-- An extended real whose magnitude compares below infinity is a real number. -/
theorem isReal_of_lt {x : EReal}
    (h : BitVec.ofBool (decide (FloatOps.absf (F := Ideal) (φ := .f32) x < Ideal.ofBits FTy.f32 2139095040#32)) = 1#1) : FfnMath.IsReal x := by
  have e : Ideal.ofBits FTy.f32 2139095040#32 = (⊤ : EReal) := by
    simp [Ideal.ofBits, Ideal.ieee]
  rw [e] at h
  by_cases hlt : FloatOps.absf (F := Ideal) (φ := .f32) x < (⊤ : EReal)
  · have h' : max x (-x) < ⊤ := hlt
    obtain ⟨h₁, h₂⟩ := max_lt_iff.mp h'
    exact .of_abs_lt_top h₁.ne fun hb => by rw [hb] at h₂; simp at h₂
  · rw [decide_eq_false hlt] at h
    exact absurd h (by decide)

/-- The rank-zero shape. -/
abbrev scalar : Shape := ⟨0, ![]⟩

/-- An array whose magnitudes all compare below infinity is an array of real numbers. -/
theorem real_of {s : Shape} {a : FVec Ideal s .f32} {hb : scalar.BroadcastsInDim s ![]}
    (h : cmpf .olt (Host.absf a) (broadcastInDim s ![] hb (constant scalar .f32 0x7F800000#32)) = fun _ => 1#1) (i : s.Idx) :
    FfnMath.IsReal (a i) :=
  isReal_of_lt (congrFun h i)

end Cert.FfnPre

end
-- ==== Proof.FfnBlocks.lean ====
/-
  What one grid point of the kernel computes from its blocks of 256 rows, entry by entry.
-/
module

public import proofs.«01_k».proof.Proof.FfnMath
public import proofs.«01_k».proof.Proof.Gen.FfnBwdIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.FfnBwdIdeal.Blocks

open Idealize.ShloMosaic Idealize.ShloMosaic.TcCoe Idealize.SL.Sem Cert.FfnBwdIdeal Cert.FfnBwdIdeal.Gen

/-! ## The first 1536 hidden units -/

theorem pay11_apply (c : Vec Ideal S256x1024 .f32) (w : Vec Ideal S1536x1024 .bf16) (a u : Vec Ideal S256x1536 .bf16)
    (p : Fin 256) (n : Fin 1536) :
    k0_pay11 c w a u (ix2 p n) = FfnMath.dgate (∑ k, c (ix2 p k) * w (ix2 n k)) (a (ix2 p n)) (u (ix2 p n)) := by
  unfold_payloads
  pointwise [FfnMath.dgate, FfnMath.sigm, zero_sub]

theorem pay12_apply (c : Vec Ideal S256x1024 .f32) (w : Vec Ideal S1536x1024 .bf16) (a : Vec Ideal S256x1536 .bf16)
    (p : Fin 256) (n : Fin 1536) :
    k0_pay12 c w a (ix2 p n) = FfnMath.dup (∑ k, c (ix2 p k) * w (ix2 n k)) (a (ix2 p n)) := by
  unfold_payloads
  pointwise [FfnMath.dup, FfnMath.sigm, zero_sub]

theorem pay10_apply (a u : Vec Ideal S256x1536 .bf16) (p : Fin 256) (n : Fin 1536) :
    k0_pay10 a u (ix2 p n) = FfnMath.act (a (ix2 p n)) (u (ix2 p n)) := by
  unfold_payloads
  pointwise [FfnMath.act, FfnMath.sigm, zero_sub]

theorem pay13_apply (x y : FVec Ideal S256x1536 .bf16) (w v : Vec Ideal S1536x1024 .bf16) (p : Fin 256) (k : Fin 1024) :
    k0_pay13 x y w v (ix2 p k) = (∑ n, x (ix2 p n) * w (ix2 n k)) + ∑ n, y (ix2 p n) * v (ix2 n k) := by
  unfold_payloads
  pointwise

/-! ## The other 1280 hidden units -/

theorem pay14_apply (c : Vec Ideal S256x1024 .f32) (w : Vec Ideal S1280x1024 .bf16) (p : Fin 256) (n : Fin 1280) :
    k0_pay14 (k0_pay4 c) w (ix2 p n) = ∑ k, c (ix2 p k) * w (ix2 n k) := by
  unfold_payloads
  pointwise

theorem pay18_apply (a : Vec Ideal S256x1280 .bf16) (p : Fin 256) (n : Fin 1280) :
    k0_pay18 a (ix2 p n) = a (ix2 p n) * FfnMath.sigm (a (ix2 p n)) := by
  unfold_payloads
  pointwise [FfnMath.sigm, zero_sub]

theorem pay19_apply (a u : Vec Ideal S256x1280 .bf16) (p : Fin 256) (n : Fin 1280) :
    k0_pay19 a u (ix2 p n) = FfnMath.act (a (ix2 p n)) (u (ix2 p n)) := by
  unfold_payloads
  pointwise [FfnMath.act, FfnMath.sigm, zero_sub]

theorem pay22_apply (c : Vec Ideal S256x1024 .f32) (w : Vec Ideal S1280x1024 .bf16) (a u : Vec Ideal S256x1280 .bf16)
    (p : Fin 256) (n : Fin 1280) :
    k0_pay22 (k0_pay20 (k0_pay4 c) w u) (k0_pay21 a) (ix2 p n)
      = FfnMath.dgate (∑ k, c (ix2 p k) * w (ix2 n k)) (a (ix2 p n)) (u (ix2 p n)) := by
  unfold_payloads
  pointwise [FfnMath.dgate, FfnMath.sigm, zero_sub]

theorem pay23_apply (c : Vec Ideal S256x1024 .f32) (w : Vec Ideal S1280x1024 .bf16) (a : Vec Ideal S256x1280 .bf16)
    (p : Fin 256) (n : Fin 1280) :
    k0_pay23 (k0_pay14 (k0_pay4 c) w) (k0_pay18 a) (ix2 p n)
      = FfnMath.dup (∑ k, c (ix2 p k) * w (ix2 n k)) (a (ix2 p n)) := by
  unfold_payloads
  pointwise [FfnMath.dup, FfnMath.sigm, zero_sub]

/-! ## The rows -/

theorem pay24_apply (s : FVec Ideal S256x1024 .f32) (d b e q : FVec Ideal S256x1280 .f32) (w v : Vec Ideal S1280x1024 .bf16)
    (p : Fin 256) (k : Fin 1024) :
    k0_pay24 s d b e q w v (ix2 p k)
      = s (ix2 p k) + ((∑ n, k0_pay22 e q (ix2 p n) * w (ix2 n k)) + ∑ n, k0_pay23 d b (ix2 p n) * v (ix2 n k)) := by
  unfold_payloads
  pointwise

theorem pay26_apply (h : Vec Ideal S256x1024 .f32) (p : Fin 256) (k : Fin 1024) :
    k0_pay26 h (ix2 p k) = FfnMath.unit (fun k => h (ix2 p k)) k := by
  unfold_payloads
  pointwise [FfnMath.unit, FfnMath.inv, FfnMath.msq]

theorem pay27_apply (s : FVec Ideal S256x1024 .f32) (d b e q : FVec Ideal S256x1280 .f32) (w v : Vec Ideal S1280x1024 .bf16)
    (h : Vec Ideal S256x1024 .f32) (g : Vec Ideal S1x1024 .f32) (p : Fin 256) (k : Fin 1024) :
    k0_pay27 s d b e q w v h g (ix2 p k)
      = FfnMath.dunit (fun k => h (ix2 p k)) (fun k => k0_pay24 s d b e q w v (ix2 p k) * g (ix2 0 k)) k := by
  unfold k0_pay27
  generalize k0_pay24 s d b e q w v = z
  unfold_payloads
  pointwise [FfnMath.dunit, FfnMath.unit, FfnMath.inv, FfnMath.msq]

theorem pay28_apply (s : FVec Ideal S256x1024 .f32) (d b e q : FVec Ideal S256x1280 .f32) (w v : Vec Ideal S1280x1024 .bf16)
    (h : Vec Ideal S256x1024 .f32) (p : Fin 256) (k : Fin 1024) :
    k0_pay28 s d b e q w v h (ix2 p k)
      = k0_pay24 s d b e q w v (ix2 p k) * FfnMath.unit (fun k => h (ix2 p k)) k := by
  rw [← pay26_apply]; rfl

theorem pay2_apply (x : FVec Ideal S256x1024 .f32) (a : Vec Ideal S1x1024 .f32) (k : Fin 1024) :
    k0_pay2 x a (ix2 0 k) = a (ix2 0 k) + ∑ p, x (ix2 p k) := by
  unfold_payloads
  pointwise

/-! ## A load of part of a block -/

section
variable (x : Vec Ideal S2816x1024 .bf16) (y : Vec Ideal S256x2816 .bf16)

/-- The rows of a weight at the first 1536 hidden units. -/
def wLo : Vec Ideal S1536x1024 .bf16 := View.ld x (Rect.unit ![0, 0] ![1536, 1024] inb_S2816x1024_S1536x1024_0_0)
/-- The rows of a weight at the last 1280 hidden units. -/
def wHi : Vec Ideal S1280x1024 .bf16 := View.ld x (Rect.unit ![1536, 0] ![1280, 1024] inb_S2816x1024_S1280x1024_1536_0)
/-- The columns of a hidden block at the first 1536 hidden units. -/
def hLo : Vec Ideal S256x1536 .bf16 := View.ld y (Rect.unit ![0, 0] ![256, 1536] inb_S256x2816_S256x1536_0_0)
/-- The columns of a hidden block at the last 1280 hidden units. -/
def hHi : Vec Ideal S256x1280 .bf16 := View.ld y (Rect.unit ![0, 1536] ![256, 1280] inb_S256x2816_S256x1280_0_1536)

theorem wLo_apply (n : Fin 1536) (k : Fin 1024) : wLo x (ix2 n k) = x (ix2 (⟨n, by omega⟩ : Fin 2816) k) := by
  unfold wLo; pointwise
theorem wHi_apply (n : Fin 1280) (k : Fin 1024) : wHi x (ix2 n k) = x (ix2 (⟨1536 + n, by omega⟩ : Fin 2816) k) := by
  unfold wHi; pointwise
theorem hLo_apply (p : Fin 256) (n : Fin 1536) : hLo y (ix2 p n) = y (ix2 p (⟨n, by omega⟩ : Fin 2816)) := by
  unfold hLo; pointwise
theorem hHi_apply (p : Fin 256) (n : Fin 1280) : hHi y (ix2 p n) = y (ix2 p (⟨1536 + n, by omega⟩ : Fin 2816)) := by
  unfold hHi; pointwise
end

/-! ## The two halves together -/

section
variable (c : Vec Ideal S256x1024 .f32) (h : Vec Ideal S256x1024 .f32) (g : Vec Ideal S1x1024 .f32)
  (a u : Vec Ideal S256x2816 .bf16) (wg wu wd : Vec Ideal S2816x1024 .bf16)

/-- The gradient of the normalised rows of the block, as the kernel adds it up from the two halves of the hidden units. -/
theorem acc_apply (p : Fin 256) (k : Fin 1024) :
    k0_pay24 (k0_pay13 (k0_pay11 c (wLo wd) (hLo a) (hLo u)) (k0_pay12 c (wLo wd) (hLo a)) (wLo wg) (wLo wu))
        (k0_pay14 (k0_pay4 c) (wHi wd)) (k0_pay18 (hHi a)) (k0_pay20 (k0_pay4 c) (wHi wd) (hHi u)) (k0_pay21 (hHi a))
        (wHi wg) (wHi wu) (ix2 p k)
      = FfnMath.dnorm (fun k => c (ix2 p k)) (fun n => a (ix2 p n)) (fun n => u (ix2 p n)) (fun n k => wg (ix2 n k))
          (fun n k => wu (ix2 n k)) (fun n k => wd (ix2 n k)) k := by
  rw [pay24_apply, pay13_apply, FfnMath.dnorm, FfnMath.sum_hidden, FfnMath.sum_hidden]
  simp only [pay11_apply, pay12_apply, pay22_apply, pay23_apply, wLo_apply, wHi_apply, hLo_apply, hHi_apply, FfnMath.dact]
  exact add_add_add_comm (G := EReal) _ _ _ _

end

section
variable (c : Vec Ideal S256x1024 .f32) (a u : Vec Ideal S256x2816 .bf16) (wd : Vec Ideal S2816x1024 .bf16) (p : Fin 256)

/-- The gradient of the hidden product of the block. -/
abbrev cd (n : Fin 2816) : EReal := FfnMath.dact (fun k => c (ix2 p k)) (fun n k => wd (ix2 n k)) n

theorem dgateHi (n : Fin 1280) : k0_pay22 (k0_pay20 (k0_pay4 c) (wHi wd) (hHi u)) (k0_pay21 (hHi a)) (ix2 p n)
    = FfnMath.dgate (cd c wd p ⟨1536 + n, by omega⟩) (a (ix2 p (⟨1536 + n, by omega⟩ : Fin 2816)))
        (u (ix2 p (⟨1536 + n, by omega⟩ : Fin 2816))) := by
  simp only [pay22_apply, wHi_apply, hHi_apply, FfnMath.dact]

theorem dgateLo (n : Fin 1536) : k0_pay11 c (wLo wd) (hLo a) (hLo u) (ix2 p n)
    = FfnMath.dgate (cd c wd p ⟨n, by omega⟩) (a (ix2 p (⟨n, by omega⟩ : Fin 2816)))
        (u (ix2 p (⟨n, by omega⟩ : Fin 2816))) := by
  simp only [pay11_apply, wLo_apply, hLo_apply, FfnMath.dact]

theorem dupHi (n : Fin 1280) : k0_pay23 (k0_pay14 (k0_pay4 c) (wHi wd)) (k0_pay18 (hHi a)) (ix2 p n)
    = FfnMath.dup (cd c wd p ⟨1536 + n, by omega⟩) (a (ix2 p (⟨1536 + n, by omega⟩ : Fin 2816))) := by
  simp only [pay23_apply, wHi_apply, hHi_apply, FfnMath.dact]

theorem dupLo (n : Fin 1536) : k0_pay12 c (wLo wd) (hLo a) (ix2 p n)
    = FfnMath.dup (cd c wd p ⟨n, by omega⟩) (a (ix2 p (⟨n, by omega⟩ : Fin 2816))) := by
  simp only [pay12_apply, wLo_apply, hLo_apply, FfnMath.dact]

theorem actHi (n : Fin 1280) : k0_pay19 (hHi a) (hHi u) (ix2 p n)
    = FfnMath.act (a (ix2 p (⟨1536 + n, by omega⟩ : Fin 2816))) (u (ix2 p (⟨1536 + n, by omega⟩ : Fin 2816))) := by
  simp only [pay19_apply, hHi_apply]

theorem actLo (n : Fin 1536) : k0_pay10 (hLo a) (hLo u) (ix2 p n)
    = FfnMath.act (a (ix2 p (⟨n, by omega⟩ : Fin 2816))) (u (ix2 p (⟨n, by omega⟩ : Fin 2816))) := by
  simp only [pay10_apply, hLo_apply]

end

/-- A hidden block that is stored in two parts, the last 1280 columns after the first 1536. -/
theorem halves_apply (P : Vec Ideal S256x1280 .bf16) (Q : Vec Ideal S256x1536 .bf16) (f : Fin 2816 → EReal) (p : Fin 256)
    (hP : ∀ n : Fin 1280, P (ix2 p n) = f ⟨1536 + n, by omega⟩) (hQ : ∀ n : Fin 1536, Q (ix2 p n) = f ⟨n, by omega⟩)
    (n : Fin 2816) :
    (View.canon [⟨Rect.unit ![0, 1536] ![256, 1280] inb_S256x2816_S256x1280_0_1536, P⟩,
      ⟨Rect.unit ![0, 0] ![256, 1536] inb_S256x2816_S256x1536_0_0, Q⟩] : Vec Ideal S256x2816 .bf16) (ix2 p n) = f n := by
  have hc := View.cover_of_tiledBy (Val := Elt Ideal) (e := .bf16)
    [⟨Rect.unit ![0, 1536] ![256, 1280] inb_S256x2816_S256x1280_0_1536, P⟩,
      ⟨Rect.unit ![0, 0] ![256, 1536] inb_S256x2816_S256x1536_0_0, Q⟩] ![256, 256] (by sl_kernel_rfl) (ix2 p n)
  canon_tiles x h using hc
  · rw [eq_ix2 x, show x 0 = p from Fin.ext h0.symm]
    exact (hP (x 1)).trans (congrArg f (Fin.ext h1.symm))
  · rw [eq_ix2 x, show x 0 = p from Fin.ext h0.symm]
    exact (hQ (x 1)).trans (congrArg f (Fin.ext h1.symm))

/-! ## What a grid point leaves in its five output blocks -/

section
variable (m : (ℓ : Loc nD τ sig) → Buf (Elt Ideal) ℓ) (d : Dev nD) (t : Fin cfg0.N)

/-- The block of incoming gradients at point `t`, by row and feature. -/
abbrev bc (p : Fin 256) (k : Fin 1024) : EReal := (iblk m d 0 t : Vec Ideal S256x1024 .f32) (ix2 p k)
/-- The block of activations. -/
abbrev bh (p : Fin 256) (k : Fin 1024) : EReal := (iblk m d 1 t : Vec Ideal S256x1024 .f32) (ix2 p k)
/-- The gain. -/
abbrev bg (k : Fin 1024) : EReal := (iblk m d 2 t : Vec Ideal S1x1024 .f32) (ix2 0 k)
/-- The block of `gate`, by row and hidden unit. -/
abbrev ba (p : Fin 256) (n : Fin 2816) : EReal := (iblk m d 3 t : Vec Ideal S256x2816 .bf16) (ix2 p n)
/-- The block of `up`. -/
abbrev bu (p : Fin 256) (n : Fin 2816) : EReal := (iblk m d 4 t : Vec Ideal S256x2816 .bf16) (ix2 p n)
/-- The three weights, by hidden unit and feature. -/
abbrev bwg (n : Fin 2816) (k : Fin 1024) : EReal := (iblk m d 5 t : Vec Ideal S2816x1024 .bf16) (ix2 n k)
abbrev bwu (n : Fin 2816) (k : Fin 1024) : EReal := (iblk m d 6 t : Vec Ideal S2816x1024 .bf16) (ix2 n k)
abbrev bwd (n : Fin 2816) (k : Fin 1024) : EReal := (iblk m d 7 t : Vec Ideal S2816x1024 .bf16) (ix2 n k)

/-- The gradient of the normalised rows of the block. -/
abbrev bacc (p : Fin 256) (k : Fin 1024) : EReal :=
  FfnMath.dnorm (bc m d t p) (ba m d t p) (bu m d t p) (bwg m d t) (bwu m d t) (bwd m d t) k

theorem after8 (p : Fin 256) (k : Fin 1024) : (dats m 0 d).after 8 t (ix2 p k)
      = bc m d t p k + FfnMath.dunit (bh m d t p) (fun k => bacc m d t p k * bg m d t k) k := by
  rw [Gen.after0_8]
  by_cases h0 : t.val % 32 = 0
  · rw [Gen.outsAt0_A m d t h0]; frame_out
    refine congrArg (bc m d t p k + ·) ((pay27_apply ..).trans ?_)
    exact congrArg (FfnMath.dunit _ · k) (funext fun j => congrArg (· * bg m d t j) (acc_apply ..))
  · rw [Gen.outsAt0_B m d t h0]; frame_out
    refine congrArg (bc m d t p k + ·) ((pay27_apply ..).trans ?_)
    exact congrArg (FfnMath.dunit _ · k) (funext fun j => congrArg (· * bg m d t j) (acc_apply ..))

theorem after9 (p : Fin 256) (n : Fin 2816) : (dats m 0 d).after 9 t (ix2 p n)
      = FfnMath.dgate (FfnMath.dact (bc m d t p) (bwd m d t) n) (ba m d t p n) (bu m d t p n) := by
  rw [Gen.after0_9]
  by_cases h0 : t.val % 32 = 0
  · rw [Gen.outsAt0_A m d t h0]; frame_out
    exact halves_apply _ _ (fun n => FfnMath.dgate (FfnMath.dact (bc m d t p) (bwd m d t) n) (ba m d t p n) (bu m d t p n)) p
      (fun n => dgateHi ..) (fun n => dgateLo ..) n
  · rw [Gen.outsAt0_B m d t h0]; frame_out
    exact halves_apply _ _ (fun n => FfnMath.dgate (FfnMath.dact (bc m d t p) (bwd m d t) n) (ba m d t p n) (bu m d t p n)) p
      (fun n => dgateHi ..) (fun n => dgateLo ..) n

theorem after10 (p : Fin 256) (n : Fin 2816) : (dats m 0 d).after 10 t (ix2 p n)
      = FfnMath.dup (FfnMath.dact (bc m d t p) (bwd m d t) n) (ba m d t p n) := by
  rw [Gen.after0_10]
  by_cases h0 : t.val % 32 = 0
  · rw [Gen.outsAt0_A m d t h0]; frame_out
    exact halves_apply _ _ (fun n => FfnMath.dup (FfnMath.dact (bc m d t p) (bwd m d t) n) (ba m d t p n)) p
      (fun n => dupHi ..) (fun n => dupLo ..) n
  · rw [Gen.outsAt0_B m d t h0]; frame_out
    exact halves_apply _ _ (fun n => FfnMath.dup (FfnMath.dact (bc m d t p) (bwd m d t) n) (ba m d t p n)) p
      (fun n => dupHi ..) (fun n => dupLo ..) n

theorem after11 (p : Fin 256) (n : Fin 2816) : (dats m 0 d).after 11 t (ix2 p n)
      = FfnMath.act (ba m d t p n) (bu m d t p n) := by
  rw [Gen.after0_11]
  by_cases h0 : t.val % 32 = 0
  · rw [Gen.outsAt0_A m d t h0]; frame_out
    exact halves_apply _ _ (fun n => FfnMath.act (ba m d t p n) (bu m d t p n)) p
      (fun n => actHi ..) (fun n => actLo ..) n
  · rw [Gen.outsAt0_B m d t h0]; frame_out
    exact halves_apply _ _ (fun n => FfnMath.act (ba m d t p n) (bu m d t p n)) p
      (fun n => actHi ..) (fun n => actLo ..) n

/-- What point `t` adds to the gradient of the gain, at feature `k`. -/
abbrev gainTerm (k : Fin 1024) : EReal := ∑ p, bacc m d t p k * FfnMath.unit (bh m d t p) k

theorem outs12_A (h0 : t.val % 32 = 0) (k : Fin 1024) :
    (Gen.outsAt0 m d t.val t.isLt).2.2.2.2 (ix2 0 k) = gainTerm m d t k := by
  rw [Gen.outsAt0_A m d t h0]; frame_out
  refine (pay2_apply ..).trans ?_
  rw [show (k0_pay3 : FVec Ideal S1x1024 .f32) (ix2 0 k) = 0 by unfold_payloads; pointwise, zero_add]
  exact Finset.sum_congr rfl fun p _ => (pay28_apply ..).trans (congrArg (· * _) (acc_apply ..))

theorem outs12_B (h0 : ¬t.val % 32 = 0) (k : Fin 1024) :
    (Gen.outsAt0 m d t.val t.isLt).2.2.2.2 (ix2 0 k)
      = (Gen.outsAt0 m d (t.val - 1) (by omega)).2.2.2.2 (ix2 0 k) + gainTerm m d t k := by
  rw [Gen.outsAt0_B m d t h0]; frame_out
  refine (pay2_apply ..).trans ?_
  exact congrArg (_ + ·) (Finset.sum_congr rfl fun p _ => (pay28_apply ..).trans (congrArg (· * _) (acc_apply ..)))

end

end Cert.FfnBwdIdeal.Blocks

end
-- ==== Proof.FfnArrays.lean ====
/-
  What the kernel's five result arrays hold after the run, as functions of the arrays that its region starts from.
-/
module

public import proofs.«01_k».proof.Proof.FfnBlocks

@[expose] public section

set_option maxRecDepth 16384

noncomputable section

namespace Cert.FfnBwdIdeal.Arrays

open Idealize.ShloMosaic Idealize.ShloMosaic.TcCoe Idealize.SL.Sem Cert.FfnBwdIdeal Cert.FfnBwdIdeal.Gen Cert.FfnBwdIdeal.Blocks

variable (m : (ℓ : Loc nD τ sig) → Buf (Elt Ideal) ℓ) (d : Dev nD)

/-! ## The arrays at the start of the region -/

/-- The incoming gradients, by token and feature. -/
abbrev ac (i : Fin 8192) (k : Fin 1024) : EReal := (V m d main_arg5 : Vec Ideal S8192x1024 .f32) (ix2 i k)
/-- The activations. -/
abbrev ah (i : Fin 8192) (k : Fin 1024) : EReal := (V m d main_arg0 : Vec Ideal S8192x1024 .f32) (ix2 i k)
/-- The gain. -/
abbrev ag (k : Fin 1024) : EReal := (V m d main_arg1 : Vec Ideal S1x1024 .f32) (ix2 0 k)
/-- The two saved hidden arrays, by token and hidden unit. -/
abbrev aa (i : Fin 8192) (n : Fin 2816) : EReal := (V m d main_v19 : Vec Ideal S8192x2816 .bf16) (ix2 i n)
abbrev au (i : Fin 8192) (n : Fin 2816) : EReal := (V m d main_v21 : Vec Ideal S8192x2816 .bf16) (ix2 i n)
/-- The three weights, by hidden unit and feature. -/
abbrev awg (n : Fin 2816) (k : Fin 1024) : EReal := (V m d main_v14 : Vec Ideal S2816x1024 .bf16) (ix2 n k)
abbrev awu (n : Fin 2816) (k : Fin 1024) : EReal := (V m d main_v16 : Vec Ideal S2816x1024 .bf16) (ix2 n k)
abbrev awd (n : Fin 2816) (k : Fin 1024) : EReal := (V m d main_v17 : Vec Ideal S2816x1024 .bf16) (ix2 n k)

/-! ## The blocks of the arrays -/

/-- The row of an array that row `p` of block `t` is. -/
abbrev row (t : Fin cfg0.N) (p : Fin 256) : Fin 8192 := ⟨256 * t.val + p.val, by have := lt_of_lt_of_eq t.isLt N_0; omega⟩

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)

section
variable (t : Fin cfg0.N) (p : Fin 256) (k : Fin 1024) (n : Fin 2816)

theorem bc_eq : bc m d t p k = ac m d (row t p) k := by
  unfold bc ac
  blk_simp [iblk]
  refine congrArg _ ?_
  blk_ext [e0]
theorem bh_eq : bh m d t p k = ah m d (row t p) k := by
  unfold bh ah
  blk_simp [iblk]
  refine congrArg _ ?_
  blk_ext [e1]
theorem bg_eq : bg m d t k = ag m d k := by
  unfold bg ag
  blk_simp [iblk]
  refine congrArg _ ?_
  blk_ext [e2]
theorem ba_eq : ba m d t p n = aa m d (row t p) n := by
  unfold ba aa
  blk_simp [iblk]
  refine congrArg _ ?_
  blk_ext [e3]
theorem bu_eq : bu m d t p n = au m d (row t p) n := by
  unfold bu au
  blk_simp [iblk]
  refine congrArg _ ?_
  blk_ext [e4]
theorem bwg_eq : bwg m d t n k = awg m d n k := by
  unfold bwg awg
  blk_simp [iblk]
  refine congrArg _ ?_
  blk_ext [e5]
theorem bwu_eq : bwu m d t n k = awu m d n k := by
  unfold bwu awu
  blk_simp [iblk]
  refine congrArg _ ?_
  blk_ext [e6]
theorem bwd_eq : bwd m d t n k = awd m d n k := by
  unfold bwd awd
  blk_simp [iblk]
  refine congrArg _ ?_
  blk_ext [e7]
end

/-! ## The result arrays -/

/-- The gradient of the normalised activations. -/
abbrev aacc (i : Fin 8192) (k : Fin 1024) : EReal :=
  FfnMath.dnorm (ac m d i) (aa m d i) (au m d i) (awg m d) (awu m d) (awd m d) k

theorem bacc_eq (t : Fin cfg0.N) (p : Fin 256) (k : Fin 1024) : bacc m d t p k = aacc m d (row t p) k := by
  unfold bacc aacc
  rw [show bc m d t p = ac m d (row t p) from funext fun k => bc_eq m d t p k,
    show ba m d t p = aa m d (row t p) from funext fun n => ba_eq m d t p n,
    show bu m d t p = au m d (row t p) from funext fun n => bu_eq m d t p n,
    show bwg m d t = awg m d from funext fun n => funext fun k => bwg_eq m d t k n,
    show bwu m d t = awu m d from funext fun n => funext fun k => bwu_eq m d t k n,
    show bwd m d t = awd m d from funext fun n => funext fun k => bwd_eq m d t k n]

theorem bh_row (t : Fin cfg0.N) (p : Fin 256) : bh m d t p = ah m d (row t p) := funext fun k => bh_eq m d t p k

theorem bdact_eq (t : Fin cfg0.N) (p : Fin 256) (n : Fin 2816) :
    FfnMath.dact (bc m d t p) (bwd m d t) n = FfnMath.dact (ac m d (row t p)) (awd m d) n := by
  rw [show bc m d t p = ac m d (row t p) from funext fun k => bc_eq m d t p k,
    show bwd m d t = awd m d from funext fun n => funext fun k => bwd_eq m d t k n]

/-- The gradient of the activations. -/
abbrev out8 : Buf (Elt Ideal) ((d : Thread nD τ).loc main_v22_0) := fun i : S8192x1024.Idx =>
  ac m d (i 0) (i 1) + FfnMath.dunit (ah m d (i 0)) (fun k => aacc m d (i 0) k * ag m d k) (i 1)

theorem point8 (t : Fin cfg0.N) (p : Fin 256) (k : Fin 1024) :
    (dats m 0 d).after 8 t (ix2 p k) = out8 m d (ix2 (row t p) k) := by
  refine (after8 m d t p k).trans ?_
  rw [bc_eq, bh_row]
  exact congrArg (_ + FfnMath.dunit _ · k) (funext fun j => congr (congrArg _ (bacc_eq m d t p j)) (bg_eq m d t j))

theorem arr8 : (dats m 0 d).arrAt 8 cfg0.N = out8 m d := by
  refine (dats m 0 d).arrAt_eq_of_covers 8 _ (by decide +kernel) fun t hf y => ?_
  blk_simp
  have hy : ((cfg0.win 8).blk t).view.emb y = ix2 (row t ((show S256x1024.Idx from y) 0)) ((show S256x1024.Idx from y) 1) := by
    blk_ext [e8]
  exact (congrArg _ (eq_ix2 (show S256x1024.Idx from y))).trans ((point8 m d t _ _).trans (congrArg (out8 m d) hy.symm))

/-- The gradient of `gate`. -/
abbrev out9 : Buf (Elt Ideal) ((d : Thread nD τ).loc main_v22_1) := fun i : S8192x2816.Idx =>
  FfnMath.dgate (FfnMath.dact (ac m d (i 0)) (awd m d) (i 1)) (aa m d (i 0) (i 1)) (au m d (i 0) (i 1))

theorem point9 (t : Fin cfg0.N) (p : Fin 256) (n : Fin 2816) :
    (dats m 0 d).after 9 t (ix2 p n) = out9 m d (ix2 (row t p) n) := by
  refine (after9 m d t p n).trans ?_
  rw [bdact_eq, ba_eq, bu_eq]
  rfl

theorem arr9 : (dats m 0 d).arrAt 9 cfg0.N = out9 m d := by
  refine (dats m 0 d).arrAt_eq_of_covers 9 _ (by decide +kernel) fun t hf y => ?_
  blk_simp
  have hy : ((cfg0.win 9).blk t).view.emb y = ix2 (row t ((show S256x2816.Idx from y) 0)) ((show S256x2816.Idx from y) 1) := by
    blk_ext [e9]
  exact (congrArg _ (eq_ix2 (show S256x2816.Idx from y))).trans ((point9 m d t _ _).trans (congrArg (out9 m d) hy.symm))

/-- The gradient of `up`. -/
abbrev out10 : Buf (Elt Ideal) ((d : Thread nD τ).loc main_v22_2) := fun i : S8192x2816.Idx =>
  FfnMath.dup (FfnMath.dact (ac m d (i 0)) (awd m d) (i 1)) (aa m d (i 0) (i 1))

theorem point10 (t : Fin cfg0.N) (p : Fin 256) (n : Fin 2816) :
    (dats m 0 d).after 10 t (ix2 p n) = out10 m d (ix2 (row t p) n) := by
  refine (after10 m d t p n).trans ?_
  rw [bdact_eq, ba_eq]
  rfl

theorem arr10 : (dats m 0 d).arrAt 10 cfg0.N = out10 m d := by
  refine (dats m 0 d).arrAt_eq_of_covers 10 _ (by decide +kernel) fun t hf y => ?_
  blk_simp
  have hy : ((cfg0.win 10).blk t).view.emb y = ix2 (row t ((show S256x2816.Idx from y) 0)) ((show S256x2816.Idx from y) 1) := by
    blk_ext [e10]
  exact (congrArg _ (eq_ix2 (show S256x2816.Idx from y))).trans ((point10 m d t _ _).trans (congrArg (out10 m d) hy.symm))

/-- The hidden product `silu(gate) * up`. -/
abbrev out11 : Buf (Elt Ideal) ((d : Thread nD τ).loc main_v22_3) := fun i : S8192x2816.Idx =>
  FfnMath.act (aa m d (i 0) (i 1)) (au m d (i 0) (i 1))

theorem point11 (t : Fin cfg0.N) (p : Fin 256) (n : Fin 2816) :
    (dats m 0 d).after 11 t (ix2 p n) = out11 m d (ix2 (row t p) n) := by
  refine (after11 m d t p n).trans ?_
  rw [ba_eq, bu_eq]
  rfl

theorem arr11 : (dats m 0 d).arrAt 11 cfg0.N = out11 m d := by
  refine (dats m 0 d).arrAt_eq_of_covers 11 _ (by decide +kernel) fun t hf y => ?_
  blk_simp
  have hy : ((cfg0.win 11).blk t).view.emb y = ix2 (row t ((show S256x2816.Idx from y) 0)) ((show S256x2816.Idx from y) 1) := by
    blk_ext [e11]
  exact (congrArg _ (eq_ix2 (show S256x2816.Idx from y))).trans ((point11 m d t _ _).trans (congrArg (out11 m d) hy.symm))

/-! ## The gradient of the gain, which every point adds to and the last one writes back -/

/-- The last point. -/
abbrev tLast : Fin cfg0.N := ⟨31, by decide⟩

theorem outs12 (k : Fin 1024) :
    (Gen.outsAt0 m d tLast.val tLast.isLt).2.2.2.2 (ix2 0 k) = ∑ i : Fin 8192, aacc m d i k * FfnMath.unit (ah m d i) k := by
  refine (Pipeline.eq_sum_fin_of_reset_step_apply_last
    (fun n h (k : Fin 1024) => ((Gen.outsAt0 m d n h).2.2.2.2 (ix2 0 k) : EReal)) 32 (fun _ => 0) (gainTerm m d)
    (fun t h j => (outs12_A m d t h j).trans (zero_add _).symm) (fun t h j => outs12_B m d t h j) (le_of_eq N_0) tLast
    (by decide) k).trans ?_
  rw [zero_add]
  refine Fin.sum_mul_add_congr (S := 32) (n := 256) fun t p hl => ?_
  have hr : row t p = ⟨t.val * 256 + p.val, hl⟩ := Fin.ext (by simp only [row]; omega)
  rw [← hr]
  exact congr (congrArg _ (bacc_eq m d t p k)) (congrArg (FfnMath.unit · k) (bh_row m d t p))

/-- The gradient of the gain at a feature. -/
abbrev gain (k : Fin 1024) : EReal := ∑ i : Fin 8192, aacc m d i k * FfnMath.unit (ah m d i) k

/-- The gradient of the gain. -/
abbrev out12 : Buf (Elt Ideal) ((d : Thread nD τ).loc main_v22_4) := fun i : S1x1024.Idx => gain m d (i 1)

theorem last12 (j : S1x1024.Idx) : (dats m 0 d).after 12 tLast j = gain m d (j 1) := by
  have hj : j = ix2 0 (j 1) := (eq_ix2 j).trans (congrArg (ix2 · (j 1)) (Subsingleton.elim (α := Fin 1) _ _))
  rw [Gen.after0_12]
  exact (congrArg _ hj).trans (outs12 m d (j 1))

theorem arr12 : (dats m 0 d).arrAt 12 cfg0.N = out12 m d :=
  (dats m 0 d).arrAt_eq_of_after_last 12 tLast (by decide +kernel) (out12 m d) fun j => last12 m d j

end Cert.FfnBwdIdeal.Arrays

end
-- ==== Proof.FfnHost.lean ====
/-
  The arrays that the kernel's region starts from, as functions of the program's arguments: three weights laid out by
  hidden unit, and the two hidden arrays that the forward pass saves.
-/
module

public import proofs.«01_k».proof.Proof.FfnArrays

@[expose] public section

set_option maxRecDepth 16384

noncomputable section

namespace Cert.FfnBwdIdeal.Arrays

open Idealize.ShloMosaic Idealize.ShloMosaic.TcCoe Idealize.SL.Sem Cert.FfnBwdIdeal Cert.FfnBwdIdeal.Gen

variable (m : (ℓ : Loc nD τ sig) → Buf (Elt Ideal) ℓ) (d : Dev nD)

/-- The six arguments, by entry. -/
abbrev argH (i : Fin 8192) (k : Fin 1024) : EReal := (m ((d : Thread nD τ).loc main_arg0) : Vec Ideal S8192x1024 .f32) (ix2 i k)
abbrev argG (k : Fin 1024) : EReal := (m ((d : Thread nD τ).loc main_arg1) : Vec Ideal S1x1024 .f32) (ix2 0 k)
abbrev argWg (n : Fin 2816) (k : Fin 1024) : EReal := (m ((d : Thread nD τ).loc main_arg2) : Vec Ideal S1024x2816 .f32) (ix2 k n)
abbrev argWu (n : Fin 2816) (k : Fin 1024) : EReal := (m ((d : Thread nD τ).loc main_arg3) : Vec Ideal S1024x2816 .f32) (ix2 k n)
abbrev argWd (n : Fin 2816) (k : Fin 1024) : EReal := (m ((d : Thread nD τ).loc main_arg4) : Vec Ideal S2816x1024 .f32) (ix2 n k)
abbrev argC (i : Fin 8192) (k : Fin 1024) : EReal := (m ((d : Thread nD τ).loc main_arg5) : Vec Ideal S8192x1024 .f32) (ix2 i k)

theorem ac_eq (i : Fin 8192) (k : Fin 1024) : ac m d i k = argC m d i k := by
  unfold ac argC; rw [V_main_arg5]
theorem ah_eq (i : Fin 8192) (k : Fin 1024) : ah m d i k = argH m d i k := by
  unfold ah argH; rw [V_main_arg0]
theorem ag_eq (k : Fin 1024) : ag m d k = argG m d k := by
  unfold ag argG; rw [V_main_arg1]

theorem awg_eq (n : Fin 2816) (k : Fin 1024) : awg m d n k = argWg m d n k := by
  unfold awg argWg
  dsimp only [V, hostOps0]; after_results
  pointwise
theorem awu_eq (n : Fin 2816) (k : Fin 1024) : awu m d n k = argWu m d n k := by
  unfold awu argWu
  dsimp only [V, hostOps0]; after_results
  pointwise
theorem awd_eq (n : Fin 2816) (k : Fin 1024) : awd m d n k = argWd m d n k := by
  unfold awd argWd
  dsimp only [V, hostOps0]; after_results
  pointwise

theorem aa_eq (i : Fin 8192) (n : Fin 2816) : aa m d i n = FfnMath.hidden (argH m d i) (argG m d) (argWg m d) n := by
  unfold aa
  dsimp only [V, hostOps0]; after_results
  pointwise [FfnMath.hidden, FfnMath.unit, FfnMath.inv, FfnMath.msq, argH, argG, argWg]

theorem au_eq (i : Fin 8192) (n : Fin 2816) : au m d i n = FfnMath.hidden (argH m d i) (argG m d) (argWu m d) n := by
  unfold au
  dsimp only [V, hostOps0]; after_results
  pointwise [FfnMath.hidden, FfnMath.unit, FfnMath.inv, FfnMath.msq, argH, argG, argWu]

end Cert.FfnBwdIdeal.Arrays

end
-- ==== Proof.FfnRef.lean ====
/-
  What the reference computes, entry by entry: the feed-forward block's backward pass as differentiation writes it.
-/
module

public import proofs.«01_k».proof.Proof.FfnMath
public import proofs.«01_k».proof.Proof.Gen.FfnGradIdeal.Run
public import proofs.«01_k».proof.Proof.Gen.FfnGradIdeal.Read
public import Idealize.ShloMosaic.Lib.Pointwise
public import Idealize.ShloMosaic.Lib.IdealHost

@[expose] public section

set_option maxRecDepth 16384

noncomputable section

namespace Cert.FfnGradIdeal.Entries

open Idealize.ShloMosaic Cert.FfnGradIdeal Cert.FfnGradIdeal.Read

variable (x0 : Vec Ideal S8192x1024 .f32) (x1 : Vec Ideal S1x1024 .f32) (x2 x3 : Vec Ideal S1024x2816 .f32)
  (x4 : Vec Ideal S2816x1024 .f32) (x5 : Vec Ideal S8192x1024 .f32)

/-- The six arguments, by entry. -/
abbrev rH (i : Fin 8192) (k : Fin 1024) : EReal := x0 (ix2 i k)
abbrev rG (k : Fin 1024) : EReal := x1 (ix2 0 k)
abbrev rWg (n : Fin 2816) (k : Fin 1024) : EReal := x2 (ix2 k n)
abbrev rWd (n : Fin 2816) (k : Fin 1024) : EReal := x4 (ix2 n k)

/-- `gate` (with the first weight) or `up` (with the second). -/
abbrev rHid (i : Fin 8192) (n : Fin 2816) : EReal := FfnMath.hidden (rH x0 i) (rG x1) (rWg x2) n
/-- The gradient of the hidden product. -/
abbrev rD (i : Fin 8192) (n : Fin 2816) : EReal := FfnMath.dact (rH x5 i) (rWd x4) n
/-- The gradient of `gate`, as differentiation writes it. -/
abbrev rDgate (i : Fin 8192) (n : Fin 2816) : EReal :=
  rD x4 x5 i n * rHid x0 x1 x3 i n * FfnMath.sigm (rHid x0 x1 x2 i n)
    + rHid x0 x1 x2 i n * (rD x4 x5 i n * rHid x0 x1 x3 i n)
      * (FfnMath.sigm (rHid x0 x1 x2 i n) * (1 - FfnMath.sigm (rHid x0 x1 x2 i n)))
/-- The gradient of the normalised row, as differentiation writes it. -/
abbrev rDn (i : Fin 8192) (k : Fin 1024) : EReal :=
  (∑ n, rHid x0 x1 x2 i n * FfnMath.sigm (rHid x0 x1 x2 i n) * rD x4 x5 i n * rWg x3 n k)
    + ∑ n, rDgate x0 x1 x2 x3 x4 x5 i n * rWg x2 n k

/-! ## The first differentiation: the activations and the gain -/

theorem v6_apply (i : Fin 8192) : val_main_v6 (F := Ideal) x0 (ix2 i 0) = FfnMath.msq (rH x0 i) := by
  unfold val_main_v6 val_main_v4 val_main_v2 val_main_v1 val_main_v0 val_main_v3 val_main_v5 val_main_cst val_main_cst_0 val_main_cst_1
  pointwise [FfnMath.msq, rH]

theorem v7_apply (i : Fin 8192) : val_main_v7 (F := Ideal) x0 (ix2 i 0) = FfnMath.inv (rH x0 i) := by
  unfold val_main_v7
  pointwise [v6_apply, FfnMath.inv]

theorem v12_apply (i : Fin 8192) (k : Fin 1024) : val_main_v12 (F := Ideal) x0 (ix2 i k) = FfnMath.unit (rH x0 i) k := by
  unfold val_main_v12 val_main_v11
  pointwise [v7_apply, FfnMath.unit, rH]

theorem v14_apply (i : Fin 8192) (k : Fin 1024) :
    val_main_v14 (F := Ideal) x0 x1 (ix2 i k) = FfnMath.unit (rH x0 i) k * rG x1 k := by
  unfold val_main_v14 val_main_v13
  pointwise [v12_apply, rG]

theorem v15_apply (i : Fin 8192) (n : Fin 2816) : val_main_v15 (F := Ideal) x0 x1 x2 (ix2 i n) = rHid x0 x1 x2 i n := by
  unfold val_main_v15
  pointwise [v14_apply, FfnMath.hidden]

theorem v17_apply (i : Fin 8192) (n : Fin 2816) : val_main_v17 (F := Ideal) x0 x1 x3 (ix2 i n) = rHid x0 x1 x3 i n := by
  unfold val_main_v17
  pointwise [v14_apply, FfnMath.hidden]

theorem v16_2_apply (i : Fin 8192) (n : Fin 2816) :
    val_main_v16_2 (F := Ideal) x0 x1 x2 (ix2 i n) = FfnMath.sigm (rHid x0 x1 x2 i n) := by
  unfold val_main_v16_2 val_main_call0_v4 val_main_call0_v3 val_main_call0_v2 val_main_call0_v1 val_main_call0_v0
    val_main_call0_cst val_main_call0_cst_0
  pointwise [v15_apply, FfnMath.sigm]

theorem v22_apply (i : Fin 8192) (n : Fin 2816) : val_main_v22 (F := Ideal) x4 x5 (ix2 i n) = rD x4 x5 i n := by
  unfold val_main_v22 val_main_v21
  pointwise [FfnMath.dact]

theorem v23_apply (i : Fin 8192) (n : Fin 2816) : val_main_v23 (F := Ideal) x0 x1 x2 x4 x5 (ix2 i n)
    = rHid x0 x1 x2 i n * FfnMath.sigm (rHid x0 x1 x2 i n) * rD x4 x5 i n := by
  unfold val_main_v23 val_main_v16_0
  pointwise [v15_apply, v16_2_apply, v22_apply]

theorem v26_apply (i : Fin 8192) (n : Fin 2816) :
    val_main_v26 (F := Ideal) x0 x1 x2 x3 x4 x5 (ix2 i n) = rDgate x0 x1 x2 x3 x4 x5 i n := by
  unfold val_main_v26 val_main_call1_v1 val_main_call1_v2 val_main_call1_v0 val_main_v24 val_main_v16_1 val_main_call0_v7
    val_main_call0_v6 val_main_call0_cst_1
  pointwise [v15_apply, v16_2_apply, v22_apply, v17_apply]

theorem v28_apply (i : Fin 8192) (k : Fin 1024) :
    val_main_v28 (F := Ideal) x0 x1 x2 x3 x4 x5 (ix2 i k) = rDn x0 x1 x2 x3 x4 x5 i k := by
  unfold val_main_v28 val_main_v25 val_main_v27
  pointwise [v23_apply, v26_apply]

theorem v31_apply (k : Fin 1024) : val_main_v31 (F := Ideal) x0 x1 x2 x3 x4 x5 (ix2 0 k)
    = ∑ i, FfnMath.unit (rH x0 i) k * rDn x0 x1 x2 x3 x4 x5 i k := by
  unfold val_main_v31 val_main_v30 val_main_v29 val_main_cst_3
  pointwise [v12_apply, v28_apply]

/-- The gradient of the row over its root mean square. -/
abbrev rQ (i : Fin 8192) (k : Fin 1024) : EReal := rDn x0 x1 x2 x3 x4 x5 i k * rG x1 k

theorem v33_apply (i : Fin 8192) (k : Fin 1024) :
    val_main_v33 (F := Ideal) x0 x1 x2 x3 x4 x5 (ix2 i k) = rQ x0 x1 x2 x3 x4 x5 i k := by
  unfold val_main_v33 val_main_v32
  pointwise [v28_apply]

/-- What reaches an activation through its row's mean square, over twice the activation. -/
abbrev rT (i : Fin 8192) : EReal :=
  Ideal.div ((∑ j, rH x0 i j * rQ x0 x1 x2 x3 x4 x5 i j)
    * (FfnMath.mhalf * Ideal.div (FfnMath.inv (rH x0 i)) (FfnMath.msq (rH x0 i)))) FfnMath.width

theorem v42_apply (i : Fin 8192) :
    val_main_v42 (F := Ideal) x0 x1 x2 x3 x4 x5 (ix2 i 0) = rT x0 x1 x2 x3 x4 x5 i := by
  unfold val_main_v42 val_main_v40 val_main_v41 val_main_v36 val_main_v35 val_main_v34 val_main_v10 val_main_v9 val_main_v8
    val_main_cst_2 val_main_cst_4 val_main_cst_5
  pointwise [v33_apply, v7_apply, v6_apply]

theorem v44_apply (i : Fin 8192) (k : Fin 1024) :
    val_main_v44 (F := Ideal) x0 x1 x2 x3 x4 x5 (ix2 i k) = rT x0 x1 x2 x3 x4 x5 i := by
  unfold val_main_v44 val_main_v43 val_main_cst_6
  pointwise
  exact (Fin.sum_univ_one _).trans (v42_apply ..)

theorem v48_apply (i : Fin 8192) (k : Fin 1024) : val_main_v48 (F := Ideal) x0 x1 x2 x3 x4 x5 (ix2 i k)
    = rH x5 i k + rQ x0 x1 x2 x3 x4 x5 i k * FfnMath.inv (rH x0 i) + rH x0 i k * rT x0 x1 x2 x3 x4 x5 i
      + rT x0 x1 x2 x3 x4 x5 i * rH x0 i k := by
  unfold val_main_v48 val_main_v47 val_main_v46 val_main_v45 val_main_v39 val_main_v38 val_main_v37
  pointwise [v33_apply, v44_apply, v7_apply]

/-! ## The second differentiation: the hidden vectors -/

theorem v60_apply (i : Fin 8192) (k : Fin 1024) :
    val_main_v60 (F := Ideal) x0 x1 (ix2 i k) = FfnMath.unit (rH x0 i) k * rG x1 k := by
  unfold val_main_v60 val_main_v59 val_main_v58 val_main_v57 val_main_v56 val_main_v55 val_main_v54 val_main_v53 val_main_v52
    val_main_v51 val_main_v50 val_main_v49 val_main_cst_7 val_main_cst_8 val_main_cst_9
  pointwise [FfnMath.unit, FfnMath.inv, FfnMath.msq]

theorem v61_apply (i : Fin 8192) (n : Fin 2816) : val_main_v61 (F := Ideal) x0 x1 x2 (ix2 i n) = rHid x0 x1 x2 i n := by
  unfold val_main_v61
  pointwise [v60_apply, FfnMath.hidden]

theorem v62_apply (i : Fin 8192) (n : Fin 2816) : val_main_v62 (F := Ideal) x0 x1 x3 (ix2 i n) = rHid x0 x1 x3 i n := by
  unfold val_main_v62
  pointwise [v60_apply, FfnMath.hidden]

theorem v63_2_apply (i : Fin 8192) (n : Fin 2816) :
    val_main_v63_2 (F := Ideal) x0 x1 x2 (ix2 i n) = FfnMath.sigm (rHid x0 x1 x2 i n) := by
  unfold val_main_v63_2 val_main_call2_v4 val_main_call2_v3 val_main_call2_v2 val_main_call2_v1 val_main_call2_v0
    val_main_call2_cst val_main_call2_cst_0
  pointwise [v61_apply, FfnMath.sigm]

theorem v66_apply (i : Fin 8192) (n : Fin 2816) : val_main_v66 (F := Ideal) x4 x5 (ix2 i n) = rD x4 x5 i n := by
  unfold val_main_v66
  pointwise [FfnMath.dact]

theorem v72_apply (i : Fin 8192) (n : Fin 2816) :
    val_main_v72 (F := Ideal) x0 x1 x2 x3 x4 x5 (ix2 i n) = rDgate x0 x1 x2 x3 x4 x5 i n := by
  unfold val_main_v72 val_main_v69 val_main_call3_v1 val_main_call3_v2 val_main_call3_v0 val_main_v68 val_main_v63_1
    val_main_call2_v7 val_main_call2_v6 val_main_call2_cst_1
  pointwise [v61_apply, v63_2_apply, v66_apply, v62_apply]

theorem v73_apply (i : Fin 8192) (n : Fin 2816) : val_main_v73 (F := Ideal) x0 x1 x2 x4 x5 (ix2 i n)
    = rHid x0 x1 x2 i n * FfnMath.sigm (rHid x0 x1 x2 i n) * rD x4 x5 i n := by
  unfold val_main_v73 val_main_v67 val_main_v63_0
  pointwise [v61_apply, v63_2_apply, v66_apply]

theorem v74_apply (i : Fin 8192) (n : Fin 2816) : val_main_v74 (F := Ideal) x0 x1 x2 x3 (ix2 i n)
    = FfnMath.act (rHid x0 x1 x2 i n) (rHid x0 x1 x3 i n) := by
  unfold val_main_v74 val_main_v71 val_main_v70 val_main_call4_v5 val_main_call4_v4 val_main_call4_v3 val_main_call4_v2
    val_main_call4_v1 val_main_call4_v0 val_main_call4_cst val_main_call4_cst_0
  pointwise [v61_apply, v62_apply, FfnMath.act, FfnMath.sigm]

end Cert.FfnGradIdeal.Entries

end
-- ==== Proof.FfnEq.lean ====
/-
  The five arrays the kernel leaves are the reference's five results.
-/
module

public import proofs.«01_k».proof.Proof.FfnPre
public import proofs.«01_k».proof.Proof.FfnHost
public import proofs.«01_k».proof.Proof.FfnRef

@[expose] public section

set_option maxRecDepth 16384

noncomputable section

namespace Cert.FfnEq

open Idealize.ShloMosaic Idealize.ShloMosaic.TcCoe Idealize.SL.Sem Cert.FfnBwdIdeal Cert.FfnBwdIdeal.Arrays
open Cert.FfnGradIdeal.Entries (rH rG rWg rWd rHid rD rDgate rDn rQ rT)

variable (m : (ℓ : Loc nD τ sig) → Buf (Elt Ideal) ℓ) (d : Dev nD)

/-- The six arguments. -/
abbrev y0 : Vec Ideal S8192x1024 .f32 := m ((d : Thread nD τ).loc main_arg0)
abbrev y1 : Vec Ideal S1x1024 .f32 := m ((d : Thread nD τ).loc main_arg1)
abbrev y2 : Vec Ideal S1024x2816 .f32 := m ((d : Thread nD τ).loc main_arg2)
abbrev y3 : Vec Ideal S1024x2816 .f32 := m ((d : Thread nD τ).loc main_arg3)
abbrev y4 : Vec Ideal S2816x1024 .f32 := m ((d : Thread nD τ).loc main_arg4)
abbrev y5 : Vec Ideal S8192x1024 .f32 := m ((d : Thread nD τ).loc main_arg5)

/-- Every argument is an array of real numbers. -/
structure Reals : Prop where
  r0 : ∀ i, FfnMath.IsReal (y0 m d i)
  r1 : ∀ i, FfnMath.IsReal (y1 m d i)
  r2 : ∀ i, FfnMath.IsReal (y2 m d i)
  r3 : ∀ i, FfnMath.IsReal (y3 m d i)
  r4 : ∀ i, FfnMath.IsReal (y4 m d i)
  r5 : ∀ i, FfnMath.IsReal (y5 m d i)

theorem reals [Cert.Pre_finite.Facts] (h : Cert.Pre_FfnBwdIdeal_finite m) : Reals m d :=
  have h := h d
  ⟨FfnPre.real_of h.1, FfnPre.real_of h.2.1, FfnPre.real_of h.2.2.1, FfnPre.real_of h.2.2.2.1, FfnPre.real_of h.2.2.2.2.1,
    FfnPre.real_of h.2.2.2.2.2⟩

/-! ## The kernel's arrays, in terms of the arguments -/

theorem ac_fun : ac m d = rH (y5 m d) := funext fun i => funext fun k => ac_eq m d i k
theorem ah_fun : ah m d = rH (y0 m d) := funext fun i => funext fun k => ah_eq m d i k
theorem ag_fun : ag m d = rG (y1 m d) := funext fun k => ag_eq m d k
theorem awg_fun : awg m d = rWg (y2 m d) := funext fun n => funext fun k => awg_eq m d n k
theorem awu_fun : awu m d = rWg (y3 m d) := funext fun n => funext fun k => awu_eq m d n k
theorem awd_fun : awd m d = rWd (y4 m d) := funext fun n => funext fun k => awd_eq m d n k
theorem aa_fun : aa m d = rHid (y0 m d) (y1 m d) (y2 m d) := funext fun i => funext fun n => aa_eq m d i n
theorem au_fun : au m d = rHid (y0 m d) (y1 m d) (y3 m d) := funext fun i => funext fun n => au_eq m d i n

variable {m d} (h : Reals m d)
include h

theorem real_gate (i : Fin 8192) (n : Fin 2816) : FfnMath.IsReal (rHid (y0 m d) (y1 m d) (y2 m d) i n) :=
  .hidden (fun _ => h.r0 _) (fun _ => h.r1 _) (fun _ _ => h.r2 _) n
theorem real_up (i : Fin 8192) (n : Fin 2816) : FfnMath.IsReal (rHid (y0 m d) (y1 m d) (y3 m d) i n) :=
  .hidden (fun _ => h.r0 _) (fun _ => h.r1 _) (fun _ _ => h.r3 _) n
theorem real_d (i : Fin 8192) (n : Fin 2816) : FfnMath.IsReal (rD (y4 m d) (y5 m d) i n) :=
  .dact (fun _ => h.r5 _) (fun _ _ => h.r4 _) n

theorem rDgate_eq (i : Fin 8192) (n : Fin 2816) : rDgate (y0 m d) (y1 m d) (y2 m d) (y3 m d) (y4 m d) (y5 m d) i n
    = FfnMath.dgate (rD (y4 m d) (y5 m d) i n) (rHid (y0 m d) (y1 m d) (y2 m d) i n) (rHid (y0 m d) (y1 m d) (y3 m d) i n) :=
  FfnMath.dgate_eq (real_d h i n) (real_gate h i n) (real_up h i n)

theorem rDn_eq (i : Fin 8192) (k : Fin 1024) : rDn (y0 m d) (y1 m d) (y2 m d) (y3 m d) (y4 m d) (y5 m d) i k = aacc m d i k := by
  unfold aacc FfnMath.dnorm
  rw [ac_fun, aa_fun, au_fun, awg_fun, awu_fun, awd_fun]
  refine (add_comm _ _).trans (congr (congrArg HAdd.hAdd ?_) ?_)
  · exact Finset.sum_congr rfl fun n _ => congrArg (· * _) (rDgate_eq h i n)
  · exact Finset.sum_congr rfl fun n _ => congrArg (· * _) (mul_comm _ _)

theorem real_acc (i : Fin 8192) (k : Fin 1024) : FfnMath.IsReal (aacc m d i k) := by
  unfold aacc
  rw [ac_fun, aa_fun, au_fun, awg_fun, awu_fun, awd_fun]
  exact .dnorm (fun _ => h.r5 _) (real_gate h i) (real_up h i) (fun _ _ => h.r2 _) (fun _ _ => h.r3 _) (fun _ _ => h.r4 _) k

/-! ## The five equations -/

open Cert.FfnGradIdeal.Read in
theorem eq9 : out9 m d = val_main_v72 (F := Ideal) (y0 m d) (y1 m d) (y2 m d) (y3 m d) (y4 m d) (y5 m d) := by
  funext j
  obtain ⟨i, n, rfl⟩ : ∃ i n, j = ix2 i n := ⟨_, _, eq_ix2 (show S8192x2816.Idx from j)⟩
  refine Eq.trans ?_ (Cert.FfnGradIdeal.Entries.v72_apply _ _ _ _ _ _ i n).symm
  refine Eq.trans ?_ (rDgate_eq h i n).symm
  show FfnMath.dgate (FfnMath.dact (ac m d i) (awd m d) n) (aa m d i n) (au m d i n) = _
  rw [ac_fun, awd_fun, aa_fun, au_fun]

open Cert.FfnGradIdeal.Read in
omit h in
theorem eq10 : out10 m d = val_main_v73 (F := Ideal) (y0 m d) (y1 m d) (y2 m d) (y4 m d) (y5 m d) := by
  funext j
  obtain ⟨i, n, rfl⟩ : ∃ i n, j = ix2 i n := ⟨_, _, eq_ix2 (show S8192x2816.Idx from j)⟩
  refine Eq.trans ?_ (Cert.FfnGradIdeal.Entries.v73_apply _ _ _ _ _ i n).symm
  show FfnMath.dup (FfnMath.dact (ac m d i) (awd m d) n) (aa m d i n) = _
  rw [ac_fun, awd_fun, aa_fun]
  exact mul_comm _ _

open Cert.FfnGradIdeal.Read in
omit h in
theorem eq11 : out11 m d = val_main_v74 (F := Ideal) (y0 m d) (y1 m d) (y2 m d) (y3 m d) := by
  funext j
  obtain ⟨i, n, rfl⟩ : ∃ i n, j = ix2 i n := ⟨_, _, eq_ix2 (show S8192x2816.Idx from j)⟩
  refine Eq.trans ?_ (Cert.FfnGradIdeal.Entries.v74_apply _ _ _ _ i n).symm
  show FfnMath.act (aa m d i n) (au m d i n) = _
  rw [aa_fun, au_fun]

open Cert.FfnGradIdeal.Read in
theorem eq12 : out12 m d = val_main_v31 (F := Ideal) (y0 m d) (y1 m d) (y2 m d) (y3 m d) (y4 m d) (y5 m d) := by
  funext j
  obtain ⟨i, k, rfl⟩ : ∃ i k, j = ix2 i k := ⟨_, _, eq_ix2 (show S1x1024.Idx from j)⟩
  obtain rfl : i = 0 := Subsingleton.elim _ _
  refine Eq.trans ?_ (Cert.FfnGradIdeal.Entries.v31_apply _ _ _ _ _ _ k).symm
  show gain m d k = _
  unfold gain
  refine Finset.sum_congr rfl fun i _ => ?_
  rw [ah_fun]
  exact (mul_comm _ _).trans (congrArg (_ * ·) (rDn_eq h i k).symm)

open Cert.FfnGradIdeal.Read in
theorem eq8 : out8 m d = val_main_v48 (F := Ideal) (y0 m d) (y1 m d) (y2 m d) (y3 m d) (y4 m d) (y5 m d) := by
  funext j
  obtain ⟨i, k, rfl⟩ : ∃ i k, j = ix2 i k := ⟨_, _, eq_ix2 (show S8192x1024.Idx from j)⟩
  refine Eq.trans ?_ (Cert.FfnGradIdeal.Entries.v48_apply _ _ _ _ _ _ i k).symm
  show ac m d i k + FfnMath.dunit (ah m d i) (fun k => aacc m d i k * ag m d k) k = _
  have hq : rQ (y0 m d) (y1 m d) (y2 m d) (y3 m d) (y4 m d) (y5 m d) i = fun k => aacc m d i k * ag m d k := by
    funext k
    refine (congrArg (· * _) (rDn_eq h i k)).trans ?_
    rw [ag_fun]
  rw [← hq, ac_fun, ah_fun]
  refine (FfnMath.dunit_eq (h.r5 _) (fun _ => h.r0 _) (fun k => ?_) rfl k).symm
  rw [hq, ag_fun]
  exact (real_acc h i k).mul (h.r1 _)

end Cert.FfnEq

end
-- ==== Proof.FfnClaim.lean ====
/-
  The gated feed-forward backward: the frame of the reference, and the kernel's five results equal to the reference's.
-/
module

public import proofs.«01_k».proof.Proof.FfnEq
public import proofs.«01_k».proof.Proof.Gen.FfnBwdIdeal.Value
public import proofs.«01_k».proof.Proof.Gen.FfnGradIdeal.Run
public import proofs.«01_k».proof.Proof.Gen.FfnGradIdeal.Read

@[expose] public section

set_option maxRecDepth 16384

noncomputable section

namespace Cert.FfnClaim

open Idealize.ShloMosaic Idealize.SL.Sem Cert.FfnBwdIdeal.Arrays
open Cert.FfnGradIdeal.Read

/-- The reference runs and leaves its arguments as they were; it has no semaphore. -/
theorem frame_grad [Cert.FfnGradIdeal.Facts] : Cert.quiescent_FfnGradIdeal := fun m ρ _ =>
  (θ_run Cert.FfnGradIdeal.defs _ _).mono (fun r h => ⟨fun c => (h c).2.2.2.2.2, sem_eq_zero_of_no_sems (by decide) r.2⟩)
    (Cert.FfnGradIdeal.Value.run (F := Ideal) m ρ)

/-- On arguments that are real numbers, the kernel and the reference leave the same five arrays. -/
theorem algebraic : Cert.algebraic_FfnBwdIdeal_FfnGradIdeal_pre_finite := by
  intro m ρ m' ρ' hpre hag
  refine ⟨fun c => out8 m c, fun c => out9 m c, fun c => out10 m c, fun c => out11 m c, fun c => out12 m c, ?_, ?_⟩
  · refine (θ_run Cert.FfnBwdIdeal.defs _ _).mono (fun r h c => ?_) (Cert.FfnBwdIdeal.Value.run_blocks m ρ)
    obtain ⟨h0, h1, h2, h3, h4, hargs⟩ := h c
    exact ⟨h0.trans (arr8 m c), h1.trans (arr9 m c), h2.trans (arr10 m c), h3.trans (arr11 m c), h4.trans (arr12 m c), hargs⟩
  · refine (θ_run Cert.FfnGradIdeal.defs _ _).mono (fun r h c => ?_) (Cert.FfnGradIdeal.Value.run (F := Ideal) m' ρ')
    obtain ⟨h0, h1, h2, h3, h4, hargs⟩ := h c
    obtain ⟨a0, a1, a2, a3, a4, a5⟩ := hag c
    have hr := FfnEq.reals m c hpre
    refine ⟨(h0.trans (val_main_v48_eq m' c)).trans ?_, (h1.trans (val_main_v72_eq m' c)).trans ?_,
      (h2.trans (val_main_v73_eq _ _ _ _ _)).trans ?_, (h3.trans (val_main_v74_eq _ _ _ _)).trans ?_,
      (h4.trans (val_main_v31_eq m' c)).trans ?_, hargs⟩
    · rw [a0, a1, a2, a3, a4, a5]; exact (FfnEq.eq8 hr).symm
    · rw [a0, a1, a2, a3, a4, a5]; exact (FfnEq.eq9 hr).symm
    · rw [a0, a1, a2, a4, a5]; exact FfnEq.eq10.symm
    · rw [a0, a1, a2, a3]; exact FfnEq.eq11.symm
    · rw [a0, a1, a2, a3, a4, a5]; exact (FfnEq.eq12 hr).symm

end Cert.FfnClaim

end
-- ==== Proof.DwMath.lean ====
/-
  A sum over 8192 tokens that four points of a grid add up, 2048 tokens each.
-/
module

public import Idealize.ShloMosaic.Lib.Pipeline.ValueKit
public import Idealize.ShloMosaic.Lib.Pointwise

@[expose] public section

noncomputable section

namespace DwMath

open Idealize.ShloMosaic

/-- The product `xᵀ y` over the tokens. -/
def product {m n : ℕ} (x : Fin 8192 → Fin m → EReal) (y : Fin 8192 → Fin n → EReal) (a : Fin m) (b : Fin n) : EReal :=
  ∑ i, x i a * y i b

/-- An array that is started at every fourth point and added to at the other three holds, after the last of the four, the
    sum over the tokens, if point `s` of the four adds the sum over its 2048 tokens. -/
theorem total {N : ℕ} {ι : Type} (f : (n : ℕ) → n < N → ι → EReal) (term : Fin N → ι → EReal)
    (h0 : ∀ t : Fin N, t.val % 4 = 0 → ∀ i, f t.val t.isLt i = term t i)
    (hs : ∀ t : Fin N, ¬t.val % 4 = 0 → ∀ i,
      f t.val t.isLt i = f (t.val - 1) (Nat.lt_of_le_of_lt (Nat.sub_le _ _) t.isLt) i + term t i)
    (t : Fin N) (hr : t.val % 4 = 3) (i : ι) (g : Fin 8192 → EReal)
    (hg : ∀ (u : Fin N) (s : Fin 4), u.val = 4 * (t.val / 4) + s.val →
      term u i = ∑ q : Fin 2048, g ⟨s.val * 2048 + q.val, by omega⟩) :
    f t.val t.isLt i = ∑ k, g k := by
  refine (Pipeline.eq_sum_fin_of_reset_step_apply_of_flush f 4 (fun _ => 0) term
    (fun t h i => (h0 t h i).trans (zero_add _).symm) hs t hr i).trans ?_
  rw [zero_add, Finset.sum_congr rfl fun s _ => hg _ s rfl]
  exact Fin.sum_mul_add_congr (S := 4) (n := 2048) (fun s q hl => rfl)

end DwMath

end
-- ==== Proof.DwHid.lean ====
/-
  The gradient of a weight that takes the normalised activations to the hidden units: what the kernel leaves.
-/
module

public import proofs.«01_k».proof.Proof.DwMath
public import proofs.«01_k».proof.Proof.FfnMath
public import proofs.«01_k».proof.Proof.Gen.DwHidIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.DwHidIdeal.Hand

open Idealize.ShloMosaic Idealize.ShloMosaic.TcCoe Idealize.SL.Sem Cert.DwHidIdeal Cert.DwHidIdeal.Gen

variable (m : (ℓ : Loc nD τ sig) → Buf (Elt Ideal) ℓ) (d : Dev nD)

/-! ## What a point adds to the sum -/

theorem pay2_apply (v3 : Vec Ideal S1408x1024 .f32) (v4 : Vec Ideal S2048x1408 .bf16) (v6 : Vec Ideal S2048x1024 .bf16)
    (p : Fin 1408) (k : Fin 1024) :
    (k0_pay2 v3 v4 v6 : FVec Ideal S1408x1024 .f32) (ix2 p k) = v3 (ix2 p k) + ∑ q : Fin 2048, v4 (ix2 q p) * v6 (ix2 q k) := by
  unfold_payloads
  pointwise

/-- A point's two blocks. -/
abbrev bx (t : Fin cfg0.N) (q : Fin 2048) (p : Fin 1408) : EReal := (iblk m d 0 t : Vec Ideal S2048x1408 .bf16) (ix2 q p)
abbrev bw (t : Fin cfg0.N) (q : Fin 2048) (k : Fin 1024) : EReal := (iblk m d 1 t : Vec Ideal S2048x1024 .bf16) (ix2 q k)

/-- The sum over the tokens of a point's blocks. -/
abbrev part (t : Fin cfg0.N) (p : Fin 1408) (k : Fin 1024) : EReal := ∑ q : Fin 2048, bx m d t q p * bw m d t q k

theorem sum_A (t : Fin cfg0.N) (h0 : t.val % 4 = 0) (p : Fin 1408) (k : Fin 1024) :
    (Gen.outsAt0 m d t.val t.isLt).2 (ix2 p k) = part m d t p k := by
  rw [Gen.outsAt0_A m d t h0 (by omega)]; frame_out
  refine (pay2_apply ..).trans ?_
  rw [show (k0_pay1 : FVec Ideal S1408x1024 .f32) (ix2 p k) = 0 by unfold_payloads; pointwise, zero_add]

theorem sum_B (t : Fin cfg0.N) (h0 : ¬t.val % 4 = 0) (p : Fin 1408) (k : Fin 1024) :
    (Gen.outsAt0 m d t.val t.isLt).2 (ix2 p k)
      = (Gen.outsAt0 m d (t.val - 1) (Nat.lt_of_le_of_lt (Nat.sub_le _ _) t.isLt)).2 (ix2 p k) + part m d t p k := by
  by_cases h1 : t.val % 4 = 3
  · rw [Gen.outsAt0_C m d t h0 h1]; frame_out
    exact (pay2_apply ..).trans (congrArg (· + _) (congrFun ((Memref.isWhole_whole _).read_unread _) _))
  · rw [Gen.outsAt0_B m d t h0 h1]; frame_out
    exact (pay2_apply ..).trans (congrArg (· + _) (congrFun ((Memref.isWhole_whole _).read_unread _) _))

theorem out_C (t : Fin cfg0.N) (h1 : t.val % 4 = 3) (p : Fin 1408) (k : Fin 1024) :
    (Gen.outsAt0 m d t.val t.isLt).1 (ix2 p k) = (Gen.outsAt0 m d t.val t.isLt).2 (ix2 p k) := by
  rw [Gen.outsAt0_C m d t (by omega) h1]; frame_out
  unfold_payloads
  pointwise

/-! ## The array that the eight points leave -/

/-- The two arrays at the start of the region, by token. -/
abbrev ax (i : Fin 8192) (n : Fin 2816) : EReal := (V m d main_v0 : Vec Ideal S8192x2816 .bf16) (ix2 i n)
abbrev aw (i : Fin 8192) (k : Fin 1024) : EReal := (V m d main_v13 : Vec Ideal S8192x1024 .bf16) (ix2 i k)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- The token and the hidden unit of an entry of a block. -/
abbrev tok (t : Fin cfg0.N) (q : Fin 2048) : Fin 8192 := ⟨t.val % 4 * 2048 + q.val, by omega⟩
abbrev unit (t : Fin cfg0.N) (p : Fin 1408) : Fin 2816 := ⟨t.val / 4 * 1408 + p.val, by have := lt_of_lt_of_eq t.isLt N_0; omega⟩

theorem bx_eq (t : Fin cfg0.N) (q : Fin 2048) (p : Fin 1408) : bx m d t q p = ax m d (tok t q) (unit t p) := by
  unfold bx ax
  blk_simp [iblk]
  refine congrArg _ ?_
  blk_ext [e0]
theorem bw_eq (t : Fin cfg0.N) (q : Fin 2048) (k : Fin 1024) : bw m d t q k = aw m d (tok t q) k := by
  unfold bw aw
  blk_simp [iblk]
  refine congrArg _ ?_
  blk_ext [e1]

/-- The gradient of the weight. -/
abbrev grad : Buf (Elt Ideal) ((d : Thread nD τ).loc main_v14) := fun i : S2816x1024.Idx =>
  DwMath.product (ax m d) (aw m d) (i 0) (i 1)

theorem point (t : Fin cfg0.N) (h1 : t.val % 4 = 3) (p : Fin 1408) (k : Fin 1024) :
    (dats m 0 d).after 2 t (ix2 p k) = grad m d (ix2 (unit t p) k) := by
  rw [Gen.after0_2]
  refine (out_C m d t h1 p k).trans ?_
  refine DwMath.total (fun n h (i : Fin 1408 × Fin 1024) => ((Gen.outsAt0 m d n h).2 (ix2 i.1 i.2) : EReal))
    (fun t i => part m d t i.1 i.2) (fun t h i => sum_A m d t h i.1 i.2) (fun t h i => sum_B m d t h i.1 i.2) t h1 (p, k)
    (fun j => ax m d j (unit t p) * aw m d j k) fun u s hu => ?_
  refine Finset.sum_congr rfl fun q _ => congr (congrArg _ ((bx_eq m d u q p).trans ?_)) ((bw_eq m d u q k).trans ?_)
  · exact congr (congrArg _ (Fin.ext (by simp only [hu]; omega))) (Fin.ext (by simp only [hu]; omega))
  · exact congrArg (aw m d · k) (Fin.ext (by simp only [hu]; omega))

theorem arr : (dats m 0 d).arrAt 2 cfg0.N = grad m d := by
  refine (dats m 0 d).arrAt_eq_of_covers 2 _ (by decide +kernel) fun t hf y => ?_
  blk_simp
  have hy : ((cfg0.win 2).blk t).view.emb y = ix2 (unit t ((show S1408x1024.Idx from y) 0)) ((show S1408x1024.Idx from y) 1) := by
    blk_ext [e2]
  exact (congrArg _ (eq_ix2 (show S1408x1024.Idx from y))).trans
    ((point m d t ((flush0_2 t).mp hf) _ _).trans (congrArg (grad m d) hy.symm))

/-! ## The arrays that the host prepares -/

/-- The three arguments, by entry. -/
abbrev argH (i : Fin 8192) (k : Fin 1024) : EReal := (m ((d : Thread nD τ).loc main_arg0) : Vec Ideal S8192x1024 .f32) (ix2 i k)
abbrev argG (k : Fin 1024) : EReal := (m ((d : Thread nD τ).loc main_arg1) : Vec Ideal S1x1024 .f32) (ix2 0 k)
abbrev argC (i : Fin 8192) (n : Fin 2816) : EReal := (m ((d : Thread nD τ).loc main_arg2) : Vec Ideal S8192x2816 .f32) (ix2 i n)

theorem ax_eq (i : Fin 8192) (n : Fin 2816) : ax m d i n = argC m d i n := by
  unfold ax argC
  dsimp only [V, hostOps0]; after_results
  pointwise
theorem aw_eq (i : Fin 8192) (k : Fin 1024) : aw m d i k = FfnMath.unit (argH m d i) k * argG m d k := by
  unfold aw
  dsimp only [V, hostOps0]; after_results
  pointwise [FfnMath.unit, FfnMath.inv, FfnMath.msq, argH, argG]

theorem grad_eq : grad m d = fun i : S2816x1024.Idx =>
    DwMath.product (argC m d) (fun i k => FfnMath.unit (argH m d i) k * argG m d k) (i 0) (i 1) := by
  have h0 : ax m d = argC m d := funext fun i => funext fun n => ax_eq m d i n
  have h1 : aw m d = fun i k => FfnMath.unit (argH m d i) k * argG m d k := funext fun i => funext fun k => aw_eq m d i k
  unfold grad
  rw [h0, h1]

end Cert.DwHidIdeal.Hand

end
-- ==== Proof.DwHidClaim.lean ====
/-
  The gradient of a weight that takes the normalised activations to the hidden units: what the reference computes, and
  that the kernel leaves it.
-/
module

public import proofs.«01_k».proof.Defs
public import proofs.«01_k».proof.Proof.DwHid
public import proofs.«01_k».proof.Proof.Gen.DwHidGradIdeal.Run
public import proofs.«01_k».proof.Proof.Gen.DwHidGradIdeal.Read

@[expose] public section

set_option maxRecDepth 16384

noncomputable section

namespace Cert.DwHidClaim

open Idealize.ShloMosaic Idealize.ShloMosaic.TcCoe Idealize.SL.Sem Cert.DwHidGradIdeal Cert.DwHidGradIdeal.Read

section
variable (x0 : Vec Ideal S8192x1024 .f32) (x1 : Vec Ideal S1x1024 .f32) (x2 : Vec Ideal S8192x2816 .f32)

theorem v11_apply (i : Fin 8192) (k : Fin 1024) :
    val_main_v11 (F := Ideal) x0 x1 (ix2 i k) = FfnMath.unit (fun k => x0 (ix2 i k)) k * x1 (ix2 0 k) := by
  unfold val_main_v11 val_main_v9 val_main_v10 val_main_v8 val_main_v7 val_main_v6 val_main_v4 val_main_v2 val_main_v1 val_main_v0
    val_main_v3 val_main_v5 val_main_cst val_main_cst_0 val_main_cst_1
  pointwise [FfnMath.unit, FfnMath.inv, FfnMath.msq]

theorem v17_apply (a : Fin 2816) (b : Fin 1024) : val_main_v17 (F := Ideal) x0 x1 x2 (ix2 a b)
    = DwMath.product (fun i a => x2 (ix2 i a)) (fun i k => FfnMath.unit (fun k => x0 (ix2 i k)) k * x1 (ix2 0 k)) a b := by
  unfold val_main_v17 val_main_v16 val_main_v15 val_main_v14
  pointwise [v11_apply, DwMath.product]
end

theorem frame_grad [Cert.DwHidGradIdeal.Facts] : Cert.quiescent_DwHidGradIdeal := fun m ρ _ =>
  (θ_run Cert.DwHidGradIdeal.defs _ _).mono (fun r h => ⟨fun c => (h c).2, sem_eq_zero_of_no_sems (by decide) r.2⟩)
    (Cert.DwHidGradIdeal.Value.run (F := Ideal) m ρ)

theorem algebraic : Cert.algebraic_DwHidIdeal_DwHidGradIdeal := by
  intro m ρ m' ρ' _ hag
  refine ⟨fun c => Cert.DwHidIdeal.Hand.grad m c, ?_, ?_⟩
  · refine (θ_run Cert.DwHidIdeal.defs _ _).mono (fun r h c => ?_) (Cert.DwHidIdeal.Value.run_blocks m ρ)
    obtain ⟨h0, hargs⟩ := h c
    exact ⟨h0.trans (Cert.DwHidIdeal.Hand.arr m c), hargs⟩
  · refine (θ_run Cert.DwHidGradIdeal.defs _ _).mono (fun r h c => ?_) (Cert.DwHidGradIdeal.Value.run (F := Ideal) m' ρ')
    obtain ⟨h0, hargs⟩ := h c
    obtain ⟨a0, a1, a2⟩ := hag c
    refine ⟨(h0.trans (val_main_v17_eq _ _ _)).trans ?_, hargs⟩
    rw [a0, a1, a2]
    refine Eq.trans ?_ (Cert.DwHidIdeal.Hand.grad_eq m c).symm
    funext j
    obtain ⟨i, n, rfl⟩ : ∃ i n, j = ix2 i n := ⟨_, _, eq_ix2 (show S2816x1024.Idx from j)⟩
    exact v17_apply _ _ _ i n

end Cert.DwHidClaim

end
-- ==== Proof.DwDown.lean ====
/-
  The gradient of a weight that takes the hidden product back to the features: what the kernel leaves.
-/
module

public import proofs.«01_k».proof.Proof.DwMath
public import proofs.«01_k».proof.Proof.FfnMath
public import proofs.«01_k».proof.Proof.Gen.DwDownIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.DwDownIdeal.Hand

open Idealize.ShloMosaic Idealize.ShloMosaic.TcCoe Idealize.SL.Sem Cert.DwDownIdeal Cert.DwDownIdeal.Gen

variable (m : (ℓ : Loc nD τ sig) → Buf (Elt Ideal) ℓ) (d : Dev nD)

/-! ## What a point adds to the sum -/

theorem pay2_apply (v3 : Vec Ideal S1408x1024 .f32) (v4 : Vec Ideal S2048x1408 .bf16) (v6 : Vec Ideal S2048x1024 .f32)
    (p : Fin 1408) (k : Fin 1024) :
    (k0_pay2 v3 v4 v6 : FVec Ideal S1408x1024 .f32) (ix2 p k) = v3 (ix2 p k) + ∑ q : Fin 2048, v4 (ix2 q p) * v6 (ix2 q k) := by
  unfold_payloads
  pointwise

/-- A point's two blocks. -/
abbrev bx (t : Fin cfg0.N) (q : Fin 2048) (p : Fin 1408) : EReal := (iblk m d 0 t : Vec Ideal S2048x1408 .bf16) (ix2 q p)
abbrev bw (t : Fin cfg0.N) (q : Fin 2048) (k : Fin 1024) : EReal := (iblk m d 1 t : Vec Ideal S2048x1024 .f32) (ix2 q k)

/-- The sum over the tokens of a point's blocks. -/
abbrev part (t : Fin cfg0.N) (p : Fin 1408) (k : Fin 1024) : EReal := ∑ q : Fin 2048, bx m d t q p * bw m d t q k

theorem sum_A (t : Fin cfg0.N) (h0 : t.val % 4 = 0) (p : Fin 1408) (k : Fin 1024) :
    (Gen.outsAt0 m d t.val t.isLt).2 (ix2 p k) = part m d t p k := by
  rw [Gen.outsAt0_A m d t h0 (by omega)]; frame_out
  refine (pay2_apply ..).trans ?_
  rw [show (k0_pay1 : FVec Ideal S1408x1024 .f32) (ix2 p k) = 0 by unfold_payloads; pointwise, zero_add]

theorem sum_B (t : Fin cfg0.N) (h0 : ¬t.val % 4 = 0) (p : Fin 1408) (k : Fin 1024) :
    (Gen.outsAt0 m d t.val t.isLt).2 (ix2 p k)
      = (Gen.outsAt0 m d (t.val - 1) (Nat.lt_of_le_of_lt (Nat.sub_le _ _) t.isLt)).2 (ix2 p k) + part m d t p k := by
  by_cases h1 : t.val % 4 = 3
  · rw [Gen.outsAt0_C m d t h0 h1]; frame_out
    exact (pay2_apply ..).trans (congrArg (· + _) (congrFun ((Memref.isWhole_whole _).read_unread _) _))
  · rw [Gen.outsAt0_B m d t h0 h1]; frame_out
    exact (pay2_apply ..).trans (congrArg (· + _) (congrFun ((Memref.isWhole_whole _).read_unread _) _))

theorem out_C (t : Fin cfg0.N) (h1 : t.val % 4 = 3) (p : Fin 1408) (k : Fin 1024) :
    (Gen.outsAt0 m d t.val t.isLt).1 (ix2 p k) = (Gen.outsAt0 m d t.val t.isLt).2 (ix2 p k) := by
  rw [Gen.outsAt0_C m d t (by omega) h1]; frame_out
  unfold_payloads
  pointwise

/-! ## The array that the eight points leave -/

/-- The two arrays at the start of the region, by token. -/
abbrev ax (i : Fin 8192) (n : Fin 2816) : EReal := (V m d main_v2 : Vec Ideal S8192x2816 .bf16) (ix2 i n)
abbrev aw (i : Fin 8192) (k : Fin 1024) : EReal := (V m d main_arg2 : Vec Ideal S8192x1024 .f32) (ix2 i k)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- The token and the hidden unit of an entry of a block. -/
abbrev tok (t : Fin cfg0.N) (q : Fin 2048) : Fin 8192 := ⟨t.val % 4 * 2048 + q.val, by omega⟩
abbrev unit (t : Fin cfg0.N) (p : Fin 1408) : Fin 2816 := ⟨t.val / 4 * 1408 + p.val, by have := lt_of_lt_of_eq t.isLt N_0; omega⟩

theorem bx_eq (t : Fin cfg0.N) (q : Fin 2048) (p : Fin 1408) : bx m d t q p = ax m d (tok t q) (unit t p) := by
  unfold bx ax
  blk_simp [iblk]
  refine congrArg _ ?_
  blk_ext [e0]
theorem bw_eq (t : Fin cfg0.N) (q : Fin 2048) (k : Fin 1024) : bw m d t q k = aw m d (tok t q) k := by
  unfold bw aw
  blk_simp [iblk]
  refine congrArg _ ?_
  blk_ext [e1]

/-- The gradient of the weight. -/
abbrev grad : Buf (Elt Ideal) ((d : Thread nD τ).loc main_v3) := fun i : S2816x1024.Idx =>
  DwMath.product (ax m d) (aw m d) (i 0) (i 1)

theorem point (t : Fin cfg0.N) (h1 : t.val % 4 = 3) (p : Fin 1408) (k : Fin 1024) :
    (dats m 0 d).after 2 t (ix2 p k) = grad m d (ix2 (unit t p) k) := by
  rw [Gen.after0_2]
  refine (out_C m d t h1 p k).trans ?_
  refine DwMath.total (fun n h (i : Fin 1408 × Fin 1024) => ((Gen.outsAt0 m d n h).2 (ix2 i.1 i.2) : EReal))
    (fun t i => part m d t i.1 i.2) (fun t h i => sum_A m d t h i.1 i.2) (fun t h i => sum_B m d t h i.1 i.2) t h1 (p, k)
    (fun j => ax m d j (unit t p) * aw m d j k) fun u s hu => ?_
  refine Finset.sum_congr rfl fun q _ => congr (congrArg _ ((bx_eq m d u q p).trans ?_)) ((bw_eq m d u q k).trans ?_)
  · exact congr (congrArg _ (Fin.ext (by simp only [hu]; omega))) (Fin.ext (by simp only [hu]; omega))
  · exact congrArg (aw m d · k) (Fin.ext (by simp only [hu]; omega))

theorem arr : (dats m 0 d).arrAt 2 cfg0.N = grad m d := by
  refine (dats m 0 d).arrAt_eq_of_covers 2 _ (by decide +kernel) fun t hf y => ?_
  blk_simp
  have hy : ((cfg0.win 2).blk t).view.emb y = ix2 (unit t ((show S1408x1024.Idx from y) 0)) ((show S1408x1024.Idx from y) 1) := by
    blk_ext [e2]
  exact (congrArg _ (eq_ix2 (show S1408x1024.Idx from y))).trans
    ((point m d t ((flush0_2 t).mp hf) _ _).trans (congrArg (grad m d) hy.symm))

/-! ## The arrays that the host prepares -/

/-- The three arguments, by entry. -/
abbrev argA (i : Fin 8192) (n : Fin 2816) : EReal := (m ((d : Thread nD τ).loc main_arg0) : Vec Ideal S8192x2816 .f32) (ix2 i n)
abbrev argU (i : Fin 8192) (n : Fin 2816) : EReal := (m ((d : Thread nD τ).loc main_arg1) : Vec Ideal S8192x2816 .f32) (ix2 i n)
abbrev argC (i : Fin 8192) (k : Fin 1024) : EReal := (m ((d : Thread nD τ).loc main_arg2) : Vec Ideal S8192x1024 .f32) (ix2 i k)

theorem ax_eq (i : Fin 8192) (n : Fin 2816) : ax m d i n = FfnMath.act (argA m d i n) (argU m d i n) := by
  unfold ax
  dsimp only [V, hostOps0, hostOps0_1, List.flatten_cons, List.flatten_nil, List.cons_append, List.nil_append]; after_results
  simp -implicitDefEqProofs only [StableHlo.TRef.toBuf, StableHlo.TRef.ofBuf, cast_eq, cast_cast]
  pointwise [FfnMath.act, FfnMath.sigm, argA, argU]
theorem aw_eq (i : Fin 8192) (k : Fin 1024) : aw m d i k = argC m d i k := by
  unfold aw argC; rw [V_main_arg2]

theorem grad_eq : grad m d = fun i : S2816x1024.Idx =>
    DwMath.product (fun i n => FfnMath.act (argA m d i n) (argU m d i n)) (argC m d) (i 0) (i 1) := by
  have h0 : ax m d = fun i n => FfnMath.act (argA m d i n) (argU m d i n) := funext fun i => funext fun n => ax_eq m d i n
  have h1 : aw m d = argC m d := funext fun i => funext fun k => aw_eq m d i k
  unfold grad
  rw [h0, h1]

end Cert.DwDownIdeal.Hand

end
-- ==== Proof.DwDownClaim.lean ====
/-
  The gradient of a weight that takes the hidden product back to the features: what the reference computes, and
  that the kernel leaves it.
-/
module

public import proofs.«01_k».proof.Defs
public import proofs.«01_k».proof.Proof.DwDown
public import proofs.«01_k».proof.Proof.Gen.DwDownGradIdeal.Run
public import proofs.«01_k».proof.Proof.Gen.DwDownGradIdeal.Read

@[expose] public section

set_option maxRecDepth 16384

noncomputable section

namespace Cert.DwDownClaim

open Idealize.ShloMosaic Idealize.ShloMosaic.TcCoe Idealize.SL.Sem Cert.DwDownGradIdeal Cert.DwDownGradIdeal.Read

section
variable (x0 x1 : Vec Ideal S8192x2816 .f32) (x2 : Vec Ideal S8192x1024 .f32)

theorem v2_apply (i : Fin 8192) (n : Fin 2816) :
    val_main_v2 (F := Ideal) x0 x1 (ix2 i n) = FfnMath.act (x0 (ix2 i n)) (x1 (ix2 i n)) := by
  unfold val_main_v2 val_main_v1 val_main_call0_v5 val_main_call0_v4 val_main_call0_v3 val_main_call0_v2 val_main_call0_v1
    val_main_call0_v0 val_main_call0_cst val_main_call0_cst_0
  pointwise [FfnMath.act, FfnMath.sigm]

theorem v6_apply (a : Fin 2816) (b : Fin 1024) : val_main_v6 (F := Ideal) x0 x1 x2 (ix2 a b)
    = DwMath.product (fun i n => FfnMath.act (x0 (ix2 i n)) (x1 (ix2 i n))) (fun i k => x2 (ix2 i k)) a b := by
  unfold val_main_v6 val_main_v5 val_main_v4
  pointwise [v2_apply, DwMath.product]
  exact Finset.sum_congr rfl fun i _ => mul_comm _ _
end

theorem frame_grad [Cert.DwDownGradIdeal.Facts] : Cert.quiescent_DwDownGradIdeal := fun m ρ _ =>
  (θ_run Cert.DwDownGradIdeal.defs _ _).mono (fun r h => ⟨fun c => (h c).2, sem_eq_zero_of_no_sems (by decide) r.2⟩)
    (Cert.DwDownGradIdeal.Value.run (F := Ideal) m ρ)

theorem algebraic : Cert.algebraic_DwDownIdeal_DwDownGradIdeal := by
  intro m ρ m' ρ' _ hag
  refine ⟨fun c => Cert.DwDownIdeal.Hand.grad m c, ?_, ?_⟩
  · refine (θ_run Cert.DwDownIdeal.defs _ _).mono (fun r h c => ?_) (Cert.DwDownIdeal.Value.run_blocks m ρ)
    obtain ⟨h0, hargs⟩ := h c
    exact ⟨h0.trans (Cert.DwDownIdeal.Hand.arr m c), hargs⟩
  · refine (θ_run Cert.DwDownGradIdeal.defs _ _).mono (fun r h c => ?_) (Cert.DwDownGradIdeal.Value.run (F := Ideal) m' ρ')
    obtain ⟨h0, hargs⟩ := h c
    obtain ⟨a0, a1, a2⟩ := hag c
    refine ⟨(h0.trans (val_main_v6_eq _ _ _)).trans ?_, hargs⟩
    rw [a0, a1, a2]
    refine Eq.trans ?_ (Cert.DwDownIdeal.Hand.grad_eq m c).symm
    funext j
    obtain ⟨i, n, rfl⟩ : ∃ i n, j = ix2 i n := ⟨_, _, eq_ix2 (show S2816x1024.Idx from j)⟩
    exact v6_apply _ _ _ i n

end Cert.DwDownClaim

end
-- ==== Proof.DwIn.lean ====
/-
  The gradient of a weight that takes the normalised activations to the mixers' inputs: what the kernel leaves.
-/
module

public import proofs.«01_k».proof.Proof.DwMath
public import proofs.«01_k».proof.Proof.FfnMath
public import proofs.«01_k».proof.Proof.Gen.DwInIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.DwInIdeal.Hand

open Idealize.ShloMosaic Idealize.ShloMosaic.TcCoe Idealize.SL.Sem Cert.DwInIdeal Cert.DwInIdeal.Gen

variable (m : (ℓ : Loc nD τ sig) → Buf (Elt Ideal) ℓ) (d : Dev nD)

/-! ## What a point adds to the sum -/

theorem pay2_apply (v3 : Vec Ideal S1280x1024 .f32) (v4 : Vec Ideal S2048x1280 .bf16) (v6 : Vec Ideal S2048x1024 .bf16)
    (p : Fin 1280) (k : Fin 1024) :
    (k0_pay2 v3 v4 v6 : FVec Ideal S1280x1024 .f32) (ix2 p k) = v3 (ix2 p k) + ∑ q : Fin 2048, v4 (ix2 q p) * v6 (ix2 q k) := by
  unfold_payloads
  pointwise

/-- A point's two blocks. -/
abbrev bx (t : Fin cfg0.N) (q : Fin 2048) (p : Fin 1280) : EReal := (iblk m d 0 t : Vec Ideal S2048x1280 .bf16) (ix2 q p)
abbrev bw (t : Fin cfg0.N) (q : Fin 2048) (k : Fin 1024) : EReal := (iblk m d 1 t : Vec Ideal S2048x1024 .bf16) (ix2 q k)

/-- The sum over the tokens of a point's blocks. -/
abbrev part (t : Fin cfg0.N) (p : Fin 1280) (k : Fin 1024) : EReal := ∑ q : Fin 2048, bx m d t q p * bw m d t q k

theorem sum_A (t : Fin cfg0.N) (h0 : t.val % 4 = 0) (p : Fin 1280) (k : Fin 1024) :
    (Gen.outsAt0 m d t.val t.isLt).2 (ix2 p k) = part m d t p k := by
  rw [Gen.outsAt0_A m d t h0 (by omega)]; frame_out
  refine (pay2_apply ..).trans ?_
  rw [show (k0_pay1 : FVec Ideal S1280x1024 .f32) (ix2 p k) = 0 by unfold_payloads; pointwise, zero_add]

theorem sum_B (t : Fin cfg0.N) (h0 : ¬t.val % 4 = 0) (p : Fin 1280) (k : Fin 1024) :
    (Gen.outsAt0 m d t.val t.isLt).2 (ix2 p k)
      = (Gen.outsAt0 m d (t.val - 1) (Nat.lt_of_le_of_lt (Nat.sub_le _ _) t.isLt)).2 (ix2 p k) + part m d t p k := by
  by_cases h1 : t.val % 4 = 3
  · rw [Gen.outsAt0_C m d t h0 h1]; frame_out
    exact (pay2_apply ..).trans (congrArg (· + _) (congrFun ((Memref.isWhole_whole _).read_unread _) _))
  · rw [Gen.outsAt0_B m d t h0 h1]; frame_out
    exact (pay2_apply ..).trans (congrArg (· + _) (congrFun ((Memref.isWhole_whole _).read_unread _) _))

theorem out_C (t : Fin cfg0.N) (h1 : t.val % 4 = 3) (p : Fin 1280) (k : Fin 1024) :
    (Gen.outsAt0 m d t.val t.isLt).1 (ix2 p k) = (Gen.outsAt0 m d t.val t.isLt).2 (ix2 p k) := by
  rw [Gen.outsAt0_C m d t (by omega) h1]; frame_out
  unfold_payloads
  pointwise

/-! ## The array that the eight points leave -/

/-- The two arrays at the start of the region, by token. -/
abbrev ax (i : Fin 8192) (n : Fin 2560) : EReal := (V m d main_v0 : Vec Ideal S8192x2560 .bf16) (ix2 i n)
abbrev aw (i : Fin 8192) (k : Fin 1024) : EReal := (V m d main_v13 : Vec Ideal S8192x1024 .bf16) (ix2 i k)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- The token and the column of an entry of a block. -/
abbrev tok (t : Fin cfg0.N) (q : Fin 2048) : Fin 8192 := ⟨t.val % 4 * 2048 + q.val, by omega⟩
abbrev col (t : Fin cfg0.N) (p : Fin 1280) : Fin 2560 := ⟨t.val / 4 * 1280 + p.val, by have := lt_of_lt_of_eq t.isLt N_0; omega⟩

theorem bx_eq (t : Fin cfg0.N) (q : Fin 2048) (p : Fin 1280) : bx m d t q p = ax m d (tok t q) (col t p) := by
  unfold bx ax
  blk_simp [iblk]
  refine congrArg _ ?_
  blk_ext [e0]
theorem bw_eq (t : Fin cfg0.N) (q : Fin 2048) (k : Fin 1024) : bw m d t q k = aw m d (tok t q) k := by
  unfold bw aw
  blk_simp [iblk]
  refine congrArg _ ?_
  blk_ext [e1]

/-- The gradient of the weight. -/
abbrev grad : Buf (Elt Ideal) ((d : Thread nD τ).loc main_v14) := fun i : S2560x1024.Idx =>
  DwMath.product (ax m d) (aw m d) (i 0) (i 1)

theorem point (t : Fin cfg0.N) (h1 : t.val % 4 = 3) (p : Fin 1280) (k : Fin 1024) :
    (dats m 0 d).after 2 t (ix2 p k) = grad m d (ix2 (col t p) k) := by
  rw [Gen.after0_2]
  refine (out_C m d t h1 p k).trans ?_
  refine DwMath.total (fun n h (i : Fin 1280 × Fin 1024) => ((Gen.outsAt0 m d n h).2 (ix2 i.1 i.2) : EReal))
    (fun t i => part m d t i.1 i.2) (fun t h i => sum_A m d t h i.1 i.2) (fun t h i => sum_B m d t h i.1 i.2) t h1 (p, k)
    (fun j => ax m d j (col t p) * aw m d j k) fun u s hu => ?_
  refine Finset.sum_congr rfl fun q _ => congr (congrArg _ ((bx_eq m d u q p).trans ?_)) ((bw_eq m d u q k).trans ?_)
  · exact congr (congrArg _ (Fin.ext (by simp only [hu]; omega))) (Fin.ext (by simp only [hu]; omega))
  · exact congrArg (aw m d · k) (Fin.ext (by simp only [hu]; omega))

theorem arr : (dats m 0 d).arrAt 2 cfg0.N = grad m d := by
  refine (dats m 0 d).arrAt_eq_of_covers 2 _ (by decide +kernel) fun t hf y => ?_
  blk_simp
  have hy : ((cfg0.win 2).blk t).view.emb y = ix2 (col t ((show S1280x1024.Idx from y) 0)) ((show S1280x1024.Idx from y) 1) := by
    blk_ext [e2]
  exact (congrArg _ (eq_ix2 (show S1280x1024.Idx from y))).trans
    ((point m d t ((flush0_2 t).mp hf) _ _).trans (congrArg (grad m d) hy.symm))

/-! ## The arrays that the host prepares -/

/-- The three arguments, by entry. -/
abbrev argH (i : Fin 8192) (k : Fin 1024) : EReal := (m ((d : Thread nD τ).loc main_arg0) : Vec Ideal S8192x1024 .f32) (ix2 i k)
abbrev argG (k : Fin 1024) : EReal := (m ((d : Thread nD τ).loc main_arg1) : Vec Ideal S1x1024 .f32) (ix2 0 k)
abbrev argC (i : Fin 8192) (n : Fin 2560) : EReal := (m ((d : Thread nD τ).loc main_arg2) : Vec Ideal S8192x2560 .f32) (ix2 i n)

theorem ax_eq (i : Fin 8192) (n : Fin 2560) : ax m d i n = argC m d i n := by
  unfold ax argC
  dsimp only [V, hostOps0]; after_results
  pointwise
theorem aw_eq (i : Fin 8192) (k : Fin 1024) : aw m d i k = FfnMath.unit (argH m d i) k * argG m d k := by
  unfold aw
  dsimp only [V, hostOps0]; after_results
  pointwise [FfnMath.unit, FfnMath.inv, FfnMath.msq, argH, argG]

theorem grad_eq : grad m d = fun i : S2560x1024.Idx =>
    DwMath.product (argC m d) (fun i k => FfnMath.unit (argH m d i) k * argG m d k) (i 0) (i 1) := by
  have h0 : ax m d = argC m d := funext fun i => funext fun n => ax_eq m d i n
  have h1 : aw m d = fun i k => FfnMath.unit (argH m d i) k * argG m d k := funext fun i => funext fun k => aw_eq m d i k
  unfold grad
  rw [h0, h1]

end Cert.DwInIdeal.Hand

end
-- ==== Proof.DwInClaim.lean ====
/-
  The gradient of a weight that takes the normalised activations to the mixers' inputs: what the reference computes, and
  that the kernel leaves it.
-/
module

public import proofs.«01_k».proof.Defs
public import proofs.«01_k».proof.Proof.DwIn
public import proofs.«01_k».proof.Proof.Gen.DwInGradIdeal.Run
public import proofs.«01_k».proof.Proof.Gen.DwInGradIdeal.Read

@[expose] public section

set_option maxRecDepth 16384

noncomputable section

namespace Cert.DwInClaim

open Idealize.ShloMosaic Idealize.ShloMosaic.TcCoe Idealize.SL.Sem Cert.DwInGradIdeal Cert.DwInGradIdeal.Read

section
variable (x0 : Vec Ideal S8192x1024 .f32) (x1 : Vec Ideal S1x1024 .f32) (x2 : Vec Ideal S8192x2560 .f32)

theorem v11_apply (i : Fin 8192) (k : Fin 1024) :
    val_main_v11 (F := Ideal) x0 x1 (ix2 i k) = FfnMath.unit (fun k => x0 (ix2 i k)) k * x1 (ix2 0 k) := by
  unfold val_main_v11 val_main_v9 val_main_v10 val_main_v8 val_main_v7 val_main_v6 val_main_v4 val_main_v2 val_main_v1 val_main_v0
    val_main_v3 val_main_v5 val_main_cst val_main_cst_0 val_main_cst_1
  pointwise [FfnMath.unit, FfnMath.inv, FfnMath.msq]

theorem v17_apply (a : Fin 2560) (b : Fin 1024) : val_main_v17 (F := Ideal) x0 x1 x2 (ix2 a b)
    = DwMath.product (fun i a => x2 (ix2 i a)) (fun i k => FfnMath.unit (fun k => x0 (ix2 i k)) k * x1 (ix2 0 k)) a b := by
  unfold val_main_v17 val_main_v16 val_main_v15 val_main_v14
  pointwise [v11_apply, DwMath.product]
end

theorem frame_grad [Cert.DwInGradIdeal.Facts] : Cert.quiescent_DwInGradIdeal := fun m ρ _ =>
  (θ_run Cert.DwInGradIdeal.defs _ _).mono (fun r h => ⟨fun c => (h c).2, sem_eq_zero_of_no_sems (by decide) r.2⟩)
    (Cert.DwInGradIdeal.Value.run (F := Ideal) m ρ)

theorem algebraic : Cert.algebraic_DwInIdeal_DwInGradIdeal := by
  intro m ρ m' ρ' _ hag
  refine ⟨fun c => Cert.DwInIdeal.Hand.grad m c, ?_, ?_⟩
  · refine (θ_run Cert.DwInIdeal.defs _ _).mono (fun r h c => ?_) (Cert.DwInIdeal.Value.run_blocks m ρ)
    obtain ⟨h0, hargs⟩ := h c
    exact ⟨h0.trans (Cert.DwInIdeal.Hand.arr m c), hargs⟩
  · refine (θ_run Cert.DwInGradIdeal.defs _ _).mono (fun r h c => ?_) (Cert.DwInGradIdeal.Value.run (F := Ideal) m' ρ')
    obtain ⟨h0, hargs⟩ := h c
    obtain ⟨a0, a1, a2⟩ := hag c
    refine ⟨(h0.trans (val_main_v17_eq _ _ _)).trans ?_, hargs⟩
    rw [a0, a1, a2]
    refine Eq.trans ?_ (Cert.DwInIdeal.Hand.grad_eq m c).symm
    funext j
    obtain ⟨i, n, rfl⟩ : ∃ i n, j = ix2 i n := ⟨_, _, eq_ix2 (show S2560x1024.Idx from j)⟩
    exact v17_apply _ _ _ i n

end Cert.DwInClaim

end
-- ==== Proof.DwOut.lean ====
/-
  The gradient of a weight that takes the mixers' outputs back to the features: what the kernel leaves.
-/
module

public import proofs.«01_k».proof.Proof.DwMath
public import proofs.«01_k».proof.Proof.FfnMath
public import proofs.«01_k».proof.Proof.Gen.DwOutIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.DwOutIdeal.Hand

open Idealize.ShloMosaic Idealize.ShloMosaic.TcCoe Idealize.SL.Sem Cert.DwOutIdeal Cert.DwOutIdeal.Gen

variable (m : (ℓ : Loc nD τ sig) → Buf (Elt Ideal) ℓ) (d : Dev nD)

/-! ## What a point adds to the sum -/

theorem pay2_apply (v3 : Vec Ideal S1024x1024 .f32) (v4 : Vec Ideal S2048x1024 .bf16) (v6 : Vec Ideal S2048x1024 .f32)
    (p : Fin 1024) (k : Fin 1024) :
    (k0_pay2 v3 v4 v6 : FVec Ideal S1024x1024 .f32) (ix2 p k) = v3 (ix2 p k) + ∑ q : Fin 2048, v4 (ix2 q p) * v6 (ix2 q k) := by
  unfold_payloads
  pointwise

/-- A point's two blocks. -/
abbrev bx (t : Fin cfg0.N) (q : Fin 2048) (p : Fin 1024) : EReal := (iblk m d 0 t : Vec Ideal S2048x1024 .bf16) (ix2 q p)
abbrev bw (t : Fin cfg0.N) (q : Fin 2048) (k : Fin 1024) : EReal := (iblk m d 1 t : Vec Ideal S2048x1024 .f32) (ix2 q k)

/-- The sum over the tokens of a point's blocks. -/
abbrev part (t : Fin cfg0.N) (p : Fin 1024) (k : Fin 1024) : EReal := ∑ q : Fin 2048, bx m d t q p * bw m d t q k

theorem sum_A (t : Fin cfg0.N) (h0 : t.val % 4 = 0) (p : Fin 1024) (k : Fin 1024) :
    (Gen.outsAt0 m d t.val t.isLt).2 (ix2 p k) = part m d t p k := by
  rw [Gen.outsAt0_A m d t h0 (by omega)]; frame_out
  refine (pay2_apply ..).trans ?_
  rw [show (k0_pay1 : FVec Ideal S1024x1024 .f32) (ix2 p k) = 0 by unfold_payloads; pointwise, zero_add]

theorem sum_B (t : Fin cfg0.N) (h0 : ¬t.val % 4 = 0) (p : Fin 1024) (k : Fin 1024) :
    (Gen.outsAt0 m d t.val t.isLt).2 (ix2 p k)
      = (Gen.outsAt0 m d (t.val - 1) (Nat.lt_of_le_of_lt (Nat.sub_le _ _) t.isLt)).2 (ix2 p k) + part m d t p k := by
  by_cases h1 : t.val % 4 = 3
  · rw [Gen.outsAt0_C m d t h0 h1]; frame_out
    exact (pay2_apply ..).trans (congrArg (· + _) (congrFun ((Memref.isWhole_whole _).read_unread _) _))
  · rw [Gen.outsAt0_B m d t h0 h1]; frame_out
    exact (pay2_apply ..).trans (congrArg (· + _) (congrFun ((Memref.isWhole_whole _).read_unread _) _))

theorem out_C (t : Fin cfg0.N) (h1 : t.val % 4 = 3) (p : Fin 1024) (k : Fin 1024) :
    (Gen.outsAt0 m d t.val t.isLt).1 (ix2 p k) = (Gen.outsAt0 m d t.val t.isLt).2 (ix2 p k) := by
  rw [Gen.outsAt0_C m d t (by omega) h1]; frame_out
  unfold_payloads
  pointwise

/-! ## The array that the eight points leave -/

/-- The two arrays at the start of the region, by token. -/
abbrev ax (i : Fin 8192) (n : Fin 1024) : EReal := (V m d main_v0 : Vec Ideal S8192x1024 .bf16) (ix2 i n)
abbrev aw (i : Fin 8192) (k : Fin 1024) : EReal := (V m d main_arg1 : Vec Ideal S8192x1024 .f32) (ix2 i k)

theorem e0 : ∀ t : Fin cfg0.N, win0_0.index t = ![t.val % 4, t.val / 4] := (by decide +kernel : ∀ t : Fin grid0.N, _)
theorem e1 : ∀ t : Fin cfg0.N, win0_1.index t = ![t.val % 4, 0] := (by decide +kernel : ∀ t : Fin grid0.N, _)
theorem e2 : ∀ t : Fin cfg0.N, win0_2.index t = ![t.val / 4, 0] := (by decide +kernel : ∀ t : Fin grid0.N, _)

/-- The token of an entry of a block. -/
abbrev tok (t : Fin cfg0.N) (q : Fin 2048) : Fin 8192 := ⟨t.val % 4 * 2048 + q.val, by omega⟩

theorem bx_eq (t : Fin cfg0.N) (q : Fin 2048) (p : Fin 1024) : bx m d t q p = ax m d (tok t q) p := by
  unfold bx ax
  blk_simp [iblk]
  refine congrArg _ ?_
  blk_ext [e0]
theorem bw_eq (t : Fin cfg0.N) (q : Fin 2048) (k : Fin 1024) : bw m d t q k = aw m d (tok t q) k := by
  unfold bw aw
  blk_simp [iblk]
  refine congrArg _ ?_
  blk_ext [e1]

/-- The gradient of the weight. -/
abbrev grad : Buf (Elt Ideal) ((d : Thread nD τ).loc main_v1) := fun i : S1024x1024.Idx =>
  DwMath.product (ax m d) (aw m d) (i 0) (i 1)

theorem point (t : Fin cfg0.N) (h1 : t.val % 4 = 3) (p : Fin 1024) (k : Fin 1024) :
    (dats m 0 d).after 2 t (ix2 p k) = grad m d (ix2 p k) := by
  rw [Gen.after0_2]
  refine (out_C m d t h1 p k).trans ?_
  refine DwMath.total (fun n h (i : Fin 1024 × Fin 1024) => ((Gen.outsAt0 m d n h).2 (ix2 i.1 i.2) : EReal))
    (fun t i => part m d t i.1 i.2) (fun t h i => sum_A m d t h i.1 i.2) (fun t h i => sum_B m d t h i.1 i.2) t h1 (p, k)
    (fun j => ax m d j p * aw m d j k) fun u s hu => ?_
  refine Finset.sum_congr rfl fun q _ => congr (congrArg _ ((bx_eq m d u q p).trans ?_)) ((bw_eq m d u q k).trans ?_)
  · exact congrArg (ax m d · p) (Fin.ext (by simp only [hu]; omega))
  · exact congrArg (aw m d · k) (Fin.ext (by simp only [hu]; omega))

theorem arr : (dats m 0 d).arrAt 2 cfg0.N = grad m d := by
  refine (dats m 0 d).arrAt_eq_of_covers 2 _ (by decide +kernel) fun t hf y => ?_
  blk_simp
  have hy : ((cfg0.win 2).blk t).view.emb y = ix2 ((show S1024x1024.Idx from y) 0) ((show S1024x1024.Idx from y) 1) := by
    blk_ext [e2]
  exact (congrArg _ (eq_ix2 (show S1024x1024.Idx from y))).trans
    ((point m d t ((flush0_2 t).mp hf) _ _).trans (congrArg (grad m d) hy.symm))

/-! ## The arrays that the host prepares -/

/-- The two arguments, by entry. -/
abbrev argX (i : Fin 8192) (n : Fin 1024) : EReal := (m ((d : Thread nD τ).loc main_arg0) : Vec Ideal S8192x1024 .f32) (ix2 i n)
abbrev argC (i : Fin 8192) (k : Fin 1024) : EReal := (m ((d : Thread nD τ).loc main_arg1) : Vec Ideal S8192x1024 .f32) (ix2 i k)

theorem ax_eq (i : Fin 8192) (n : Fin 1024) : ax m d i n = argX m d i n := by
  unfold ax argX
  dsimp only [V, hostOps0]; after_results
  pointwise
theorem aw_eq (i : Fin 8192) (k : Fin 1024) : aw m d i k = argC m d i k := by
  unfold aw argC; rw [V_main_arg1]

theorem grad_eq : grad m d = fun i : S1024x1024.Idx => DwMath.product (argX m d) (argC m d) (i 0) (i 1) := by
  have h0 : ax m d = argX m d := funext fun i => funext fun n => ax_eq m d i n
  have h1 : aw m d = argC m d := funext fun i => funext fun k => aw_eq m d i k
  unfold grad
  rw [h0, h1]

end Cert.DwOutIdeal.Hand

end
-- ==== Proof.DwOutClaim.lean ====
/-
  The gradient of a weight that takes the mixers' outputs back to the features: what the reference computes, and
  that the kernel leaves it.
-/
module

public import proofs.«01_k».proof.Defs
public import proofs.«01_k».proof.Proof.DwOut
public import proofs.«01_k».proof.Proof.Gen.DwOutGradIdeal.Run
public import proofs.«01_k».proof.Proof.Gen.DwOutGradIdeal.Read

@[expose] public section

set_option maxRecDepth 16384

noncomputable section

namespace Cert.DwOutClaim

open Idealize.ShloMosaic Idealize.ShloMosaic.TcCoe Idealize.SL.Sem Cert.DwOutGradIdeal Cert.DwOutGradIdeal.Read

section
variable (x0 x1 : Vec Ideal S8192x1024 .f32)

theorem v4_apply (a b : Fin 1024) : val_main_v4 (F := Ideal) x0 x1 (ix2 a b)
    = DwMath.product (fun i n => x0 (ix2 i n)) (fun i k => x1 (ix2 i k)) a b := by
  unfold val_main_v4 val_main_v3 val_main_v2
  pointwise [DwMath.product]
  exact Finset.sum_congr rfl fun i _ => mul_comm _ _
end

theorem frame_grad [Cert.DwOutGradIdeal.Facts] : Cert.quiescent_DwOutGradIdeal := fun m ρ _ =>
  (θ_run Cert.DwOutGradIdeal.defs _ _).mono (fun r h => ⟨fun c => (h c).2, sem_eq_zero_of_no_sems (by decide) r.2⟩)
    (Cert.DwOutGradIdeal.Value.run (F := Ideal) m ρ)

theorem algebraic : Cert.algebraic_DwOutIdeal_DwOutGradIdeal := by
  intro m ρ m' ρ' _ hag
  refine ⟨fun c => Cert.DwOutIdeal.Hand.grad m c, ?_, ?_⟩
  · refine (θ_run Cert.DwOutIdeal.defs _ _).mono (fun r h c => ?_) (Cert.DwOutIdeal.Value.run_blocks m ρ)
    obtain ⟨h0, hargs⟩ := h c
    exact ⟨h0.trans (Cert.DwOutIdeal.Hand.arr m c), hargs⟩
  · refine (θ_run Cert.DwOutGradIdeal.defs _ _).mono (fun r h c => ?_) (Cert.DwOutGradIdeal.Value.run (F := Ideal) m' ρ')
    obtain ⟨h0, hargs⟩ := h c
    obtain ⟨a0, a1⟩ := hag c
    refine ⟨(h0.trans (val_main_v4_eq _ _)).trans ?_, hargs⟩
    rw [a0, a1]
    refine Eq.trans ?_ (Cert.DwOutIdeal.Hand.grad_eq m c).symm
    funext j
    obtain ⟨i, n, rfl⟩ : ∃ i n, j = ix2 i n := ⟨_, _, eq_ix2 (show S1024x1024.Idx from j)⟩
    exact v4_apply _ _ i n

end Cert.DwOutClaim

end
-- ==== Proof.LossMath.lean ====
/-
  The mathematics of the last feed-forward block with the loss on top of it, on extended reals and apart from any program.

  One token has a row `x` of activations; the block makes the row `state` of it, the last normalisation with gain `f` makes
  the prediction, and the loss compares the prediction with the row `t` of targets.
-/
module

public import proofs.«01_k».proof.Proof.FfnMath
public import Idealize.ShloMosaic.Lib.Pipeline.ValueKit

@[expose] public section

noncomputable section

namespace Cert.LossMath

open Idealize.ShloMosaic Cert.FfnMath

/-- One over 1024, one over 2048, one half, one and two as the programs write them. -/
abbrev frac : EReal := Ideal.ofBits .f32 0x3A800000#32
abbrev hfrac : EReal := Ideal.ofBits .f32 0x3A000000#32
abbrev half : EReal := Ideal.ofBits .f32 0x3F000000#32
abbrev two : EReal := Ideal.ofBits .f32 0x40000000#32

theorem frac_eq : frac = ((1 / 1024 : ℝ) : EReal) := by
  simp [frac, Ideal.ofBits, Ideal.ieee, -EReal.coe_mul]; norm_num
theorem hfrac_eq : hfrac = ((1 / 2048 : ℝ) : EReal) := by
  simp [hfrac, Ideal.ofBits, Ideal.ieee, -EReal.coe_mul]; norm_num
theorem half_eq : half = ((1 / 2 : ℝ) : EReal) := by
  simp [half, Ideal.ofBits, Ideal.ieee, -EReal.coe_mul]; norm_num
theorem two_eq : two = ((2 : ℝ) : EReal) := by
  simp [two, Ideal.ofBits, Ideal.ieee, -EReal.coe_mul]; norm_num

section
variable (x g f t : Fin 1024 → EReal) (wg wu wd : Fin 2816 → Fin 1024 → EReal)

/-- The row after the block. -/
def state (k : Fin 1024) : EReal := x k + ∑ n, act (hidden x g wg n) (hidden x g wu n) * wd n k

/-- The error of the prediction that a row `x` gives. -/
def err (k : Fin 1024) : EReal := unit x k * f k - t k

/-- The sum of a row's squared errors. -/
def sqerr : EReal := ∑ k, err x f t k * err x f t k

/-- The gradient of the prediction. -/
def dpred (k : Fin 1024) : EReal := err x f t k * frac

/-- The gradient of the row. -/
def drow (k : Fin 1024) : EReal := dunit x (fun k => dpred x f t k * f k) k
end

theorem IsReal.state {x g : Fin 1024 → EReal} {wg wu wd : Fin 2816 → Fin 1024 → EReal} (hx : ∀ k, IsReal (x k))
    (hg : ∀ k, IsReal (g k)) (hwg : ∀ n k, IsReal (wg n k)) (hwu : ∀ n k, IsReal (wu n k)) (hwd : ∀ n k, IsReal (wd n k))
    (k : Fin 1024) : IsReal (state x g wg wu wd k) :=
  (hx k).add (.sum fun n => (((IsReal.hidden hx hg hwg n).mul (IsReal.hidden hx hg hwg n).sigm).mul
    (IsReal.hidden hx hg hwu n)).mul (hwd n k))

theorem IsReal.err {x f t : Fin 1024 → EReal} (hx : ∀ k, IsReal (x k)) (hf : ∀ k, IsReal (f k)) (ht : ∀ k, IsReal (t k))
    (k : Fin 1024) : IsReal (err x f t k) :=
  ((IsReal.unit hx k).mul (hf k)).sub (ht k)

theorem IsReal.dpred {x f t : Fin 1024 → EReal} (hx : ∀ k, IsReal (x k)) (hf : ∀ k, IsReal (f k)) (ht : ∀ k, IsReal (t k))
    (k : Fin 1024) : IsReal (dpred x f t k) :=
  (IsReal.err hx hf ht k).mul ⟨_, frac_eq⟩

/-- The gradient of the prediction, as differentiation of the mean of squares writes it. -/
theorem dpred_eq (x f t : Fin 1024 → EReal) (k : Fin 1024) :
    Ideal.div (half * 1) width * (two * err x f t k) = dpred x f t k := by
  rw [dpred, ← mul_assoc, half_eq, two_eq, width_eq, frac_eq, mul_one, Ideal.div_coe (by norm_num), mul_comm (err x f t k)]
  refine congrArg (· * err x f t k) ?_
  rw [← EReal.coe_mul, ← EReal.coe_mul]
  norm_num

/-- The loss: the kernel scales the sum over each of the 32 groups of 256 rows, the reference the mean of each row. -/
theorem loss_eq {s : Fin 32 → Fin 256 → EReal} {r : Fin 8192 → EReal} (hr : ∀ i, IsReal (r i))
    (hs : ∀ (t : Fin 32) (p : Fin 256) (h : t.val * 256 + p.val < 8192), s t p = r ⟨t.val * 256 + p.val, h⟩) :
    (∑ t, hfrac * ∑ p, s t p) = half * ∑ i, Ideal.div (r i) width := by
  choose r' hr' using hr
  have hd (i : Fin 8192) : Ideal.div (r i) width = ((r' i * (1 / 1024) : ℝ) : EReal) := by
    rw [hr', width_eq, Ideal.div_coe (by norm_num), ← EReal.coe_mul]
  have e (t : Fin 32) : hfrac * (∑ p, s t p) = ∑ p : Fin 256, ((r' ⟨t.val * 256 + p.val, by omega⟩ * (1 / 2048) : ℝ) : EReal) := by
    rw [Finset.sum_congr rfl fun p _ => (hs t p (by omega)).trans (hr' _), ← coe_sum, ← coe_sum, hfrac_eq, ← EReal.coe_mul,
      ← Finset.sum_mul, mul_comm]
  rw [Finset.sum_congr rfl fun t _ => e t, Finset.sum_congr rfl fun i _ => hd i,
    Fin.sum_mul_add_congr (S := 32) (n := 256) (f := fun i : Fin 8192 => ((r' i * (1 / 2048) : ℝ) : EReal)) fun t p hl => rfl,
    ← coe_sum, ← coe_sum, half_eq, ← EReal.coe_mul, Finset.mul_sum]
  exact congrArg _ (Finset.sum_congr rfl fun i _ => by ring)

end Cert.LossMath

end
-- ==== Proof.LossBlocks.lean ====
/-
  What one grid point of the last feed-forward call computes from its blocks of 256 rows, entry by entry.
-/
module

public import proofs.«01_k».proof.Proof.LossMath
public import proofs.«01_k».proof.Proof.Gen.FfnLossIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.FfnLossIdeal.Blocks

open Idealize.ShloMosaic Idealize.ShloMosaic.TcCoe Idealize.SL.Sem Cert.FfnLossIdeal Cert.FfnLossIdeal.Gen

/-! ## The hidden vectors -/

section
variable (h : Vec Ideal S256x1024 .f32) (g : Vec Ideal S1x1024 .f32) (w : Vec Ideal S1536x1024 .bf16)
  (v : Vec Ideal S1280x1024 .bf16) (p : Fin 256)

/-- The normalised row of the block, times the gain. -/
abbrev nrm (k : Fin 1024) : EReal := FfnMath.unit (fun k => h (ix2 p k)) k * g (ix2 0 k)

theorem pay3_apply (k : Fin 1024) : k0_pay3 h g (ix2 p k) = nrm h g p k := by
  unfold_payloads
  pointwise [nrm, FfnMath.unit, FfnMath.inv, FfnMath.msq]

theorem pay4_apply (n : Fin 1536) : k0_pay4 h g w (ix2 p n) = ∑ k, nrm h g p k * w (ix2 n k) := by
  unfold_payloads
  pointwise [nrm, FfnMath.unit, FfnMath.inv, FfnMath.msq]

theorem pay5_apply (n : Fin 1536) : k0_pay5 h g w (ix2 p n) = ∑ k, nrm h g p k * w (ix2 n k) := by
  unfold_payloads
  pointwise [nrm, FfnMath.unit, FfnMath.inv, FfnMath.msq]

theorem pay67_apply (n : Fin 1536) : (k0_pay6 h g w (ix2 p n) * k0_pay7 h g w (ix2 p n) : EReal)
    = (∑ k, nrm h g p k * w (ix2 n k)) * FfnMath.sigm (∑ k, nrm h g p k * w (ix2 n k)) := by
  unfold_payloads
  pointwise [nrm, FfnMath.unit, FfnMath.inv, FfnMath.msq, FfnMath.sigm, zero_sub]

theorem pay8_apply (n : Fin 1280) : k0_pay8 (k0_pay3 h g) v (ix2 p n) = ∑ k, nrm h g p k * v (ix2 n k) := by
  unfold k0_pay8
  have e := pay3_apply h g p
  revert e
  generalize k0_pay3 h g = z
  intro e
  pointwise [e]

theorem pay9_apply (n : Fin 1280) : k0_pay9 (k0_pay3 h g) v (ix2 p n) = ∑ k, nrm h g p k * v (ix2 n k) := by
  unfold k0_pay9
  have e := pay3_apply h g p
  revert e
  generalize k0_pay3 h g = z
  intro e
  pointwise [e]
end

theorem pay10_apply (h : Vec Ideal S256x1024 .f32) (z : FVec Ideal S256x1024 .bf16) (u : FVec Ideal S256x1536 .bf16)
    (a s : FVec Ideal S256x1536 .f32) (wd : Vec Ideal S1536x1024 .bf16) (wg wu vd : Vec Ideal S1280x1024 .bf16)
    (p : Fin 256) (k : Fin 1024) :
    k0_pay10 h z u a s wd wg wu vd (ix2 p k)
      = h (ix2 p k) + ((∑ n, a (ix2 p n) * s (ix2 p n) * u (ix2 p n) * wd (ix2 n k))
          + ∑ n, FfnMath.act (k0_pay8 z wg (ix2 p n)) (k0_pay9 z wu (ix2 p n)) * vd (ix2 n k)) := by
  unfold k0_pay10
  generalize k0_pay8 z wg = a'
  generalize k0_pay9 z wu = u'
  pointwise [FfnMath.act, FfnMath.sigm, zero_sub]

/-! ## A load of part of a weight -/

section
variable (x : Vec Ideal S2816x1024 .bf16)

/-- The rows of a weight at the first 1536 hidden units. -/
def wLo : Vec Ideal S1536x1024 .bf16 := View.ld x (Rect.unit ![0, 0] ![1536, 1024] inb_S2816x1024_S1536x1024_0_0)
/-- The rows of a weight at the last 1280 hidden units. -/
def wHi : Vec Ideal S1280x1024 .bf16 := View.ld x (Rect.unit ![1536, 0] ![1280, 1024] inb_S2816x1024_S1280x1024_1536_0)

theorem wLo_apply (n : Fin 1536) (k : Fin 1024) : wLo x (ix2 n k) = x (ix2 (⟨n, by omega⟩ : Fin 2816) k) := by
  unfold wLo; pointwise
theorem wHi_apply (n : Fin 1280) (k : Fin 1024) : wHi x (ix2 n k) = x (ix2 (⟨1536 + n, by omega⟩ : Fin 2816) k) := by
  unfold wHi; pointwise
end

section
variable (h : Vec Ideal S256x1024 .f32) (g : Vec Ideal S1x1024 .f32) (wg wu wd : Vec Ideal S2816x1024 .bf16) (p : Fin 256)

/-- A hidden vector of a row of the block. -/
abbrev hid (n : Fin 2816) : EReal := FfnMath.hidden (fun k => h (ix2 p k)) (fun k => g (ix2 0 k)) (fun n k => wg (ix2 n k)) n

/-- The rows of the block after the feed-forward network, as a block. -/
abbrev stateV : FVec Ideal S256x1024 .f32 :=
  k0_pay10 h (k0_pay3 h g) (k0_pay5 h g (wLo wu)) (k0_pay6 h g (wLo wg)) (k0_pay7 h g (wLo wg)) (wLo wd) (wHi wg) (wHi wu) (wHi wd)

theorem stateV_apply (k : Fin 1024) : stateV h g wg wu wd (ix2 p k)
    = LossMath.state (fun k => h (ix2 p k)) (fun k => g (ix2 0 k)) (fun n k => wg (ix2 n k)) (fun n k => wu (ix2 n k))
        (fun n k => wd (ix2 n k)) k := by
  refine (pay10_apply ..).trans ?_
  rw [LossMath.state, FfnMath.sum_hidden]
  simp only [pay67_apply, pay5_apply, pay8_apply, pay9_apply, wLo_apply, wHi_apply, FfnMath.hidden, FfnMath.act]

theorem gateLo (n : Fin 1536) : k0_pay4 h g (wLo wg) (ix2 p n) = hid h g wg p ⟨n, by omega⟩ := by
  simp only [pay4_apply, wLo_apply, FfnMath.hidden]
theorem upLo (n : Fin 1536) : k0_pay5 h g (wLo wg) (ix2 p n) = hid h g wg p ⟨n, by omega⟩ := by
  simp only [pay5_apply, wLo_apply, FfnMath.hidden]
theorem gateHi (n : Fin 1280) : k0_pay8 (k0_pay3 h g) (wHi wg) (ix2 p n) = hid h g wg p ⟨1536 + n, by omega⟩ := by
  simp only [pay8_apply, wHi_apply, FfnMath.hidden]
theorem upHi (n : Fin 1280) : k0_pay9 (k0_pay3 h g) (wHi wg) (ix2 p n) = hid h g wg p ⟨1536 + n, by omega⟩ := by
  simp only [pay9_apply, wHi_apply, FfnMath.hidden]
end

/-- A hidden block that is stored in two parts, the last 1280 columns after the first 1536. -/
theorem halves_apply (P : Vec Ideal S256x1280 .bf16) (Q : Vec Ideal S256x1536 .bf16) (f : Fin 2816 → EReal) (p : Fin 256)
    (hP : ∀ n : Fin 1280, P (ix2 p n) = f ⟨1536 + n, by omega⟩) (hQ : ∀ n : Fin 1536, Q (ix2 p n) = f ⟨n, by omega⟩)
    (n : Fin 2816) :
    (View.canon [⟨Rect.unit ![0, 1536] ![256, 1280] inb_S256x2816_S256x1280_0_1536, P⟩,
      ⟨Rect.unit ![0, 0] ![256, 1536] inb_S256x2816_S256x1536_0_0, Q⟩] : Vec Ideal S256x2816 .bf16) (ix2 p n) = f n := by
  have hc := View.cover_of_tiledBy (Val := Elt Ideal) (e := .bf16)
    [⟨Rect.unit ![0, 1536] ![256, 1280] inb_S256x2816_S256x1280_0_1536, P⟩,
      ⟨Rect.unit ![0, 0] ![256, 1536] inb_S256x2816_S256x1536_0_0, Q⟩] ![256, 256] (by sl_kernel_rfl) (ix2 p n)
  canon_tiles x h using hc
  · rw [eq_ix2 x, show x 0 = p from Fin.ext h0.symm]
    exact (hP (x 1)).trans (congrArg f (Fin.ext h1.symm))
  · rw [eq_ix2 x, show x 0 = p from Fin.ext h0.symm]
    exact (hQ (x 1)).trans (congrArg f (Fin.ext h1.symm))

/-! ## The loss and its gradient -/

section
variable (x : FVec Ideal S256x1024 .f32) (f : Vec Ideal S1x1024 .f32) (y : Vec Ideal S256x1024 .f32) (p : Fin 256) (k : Fin 1024)

theorem pay13_apply : k0_pay13 x f y (ix2 p k)
    = LossMath.err (fun k => x (ix2 p k)) (fun k => f (ix2 0 k)) (fun k => y (ix2 p k)) k := by
  unfold_payloads
  pointwise [LossMath.err, FfnMath.unit, FfnMath.inv, FfnMath.msq]

theorem pay14_apply (a : Vec Ideal S1x1 .f32) : k0_pay14 x f y a (ix2 0 0)
    = a (ix2 0 0) + LossMath.hfrac * ∑ p, LossMath.sqerr (fun k => x (ix2 p k)) (fun k => f (ix2 0 k)) (fun k => y (ix2 p k)) := by
  unfold k0_pay14
  have e := pay13_apply x f y
  revert e
  generalize k0_pay13 x f y = z
  intro e
  pointwise [e, LossMath.sqerr]

theorem pay15_apply : k0_pay15 x f y (ix2 p k)
    = LossMath.dpred (fun k => x (ix2 p k)) (fun k => f (ix2 0 k)) (fun k => y (ix2 p k)) k := by
  unfold k0_pay15
  have e := pay13_apply x f y
  revert e
  generalize k0_pay13 x f y = z
  intro e
  pointwise [e, LossMath.dpred]

theorem pay16_apply : k0_pay16 x (ix2 p 0) = FfnMath.inv (fun k => x (ix2 p k)) := by
  unfold_payloads
  pointwise [FfnMath.inv, FfnMath.msq]

theorem pay17_apply : k0_pay17 x (ix2 p k) = FfnMath.unit (fun k => x (ix2 p k)) k := by
  unfold k0_pay17
  pointwise [pay16_apply, FfnMath.unit]

theorem pay18_apply : k0_pay18 x f y (ix2 p k)
    = LossMath.dpred (fun k => x (ix2 p k)) (fun k => f (ix2 0 k)) (fun k => y (ix2 p k)) k * f (ix2 0 k) := by
  unfold k0_pay18
  pointwise [pay15_apply]

theorem pay1_apply : k0_pay1 (k0_pay16 x) (k0_pay17 x) (k0_pay18 x f y) (ix2 p k)
    = LossMath.drow (fun k => x (ix2 p k)) (fun k => f (ix2 0 k)) (fun k => y (ix2 p k)) k := by
  unfold k0_pay1
  pointwise [pay16_apply, pay17_apply, pay18_apply, LossMath.drow, FfnMath.dunit]

theorem pay2_apply (a : Vec Ideal S1x1024 .f32) : k0_pay2 (k0_pay15 x f y) (k0_pay17 x) a (ix2 0 k)
    = a (ix2 0 k) + ∑ p, LossMath.dpred (fun k => x (ix2 p k)) (fun k => f (ix2 0 k)) (fun k => y (ix2 p k)) k
        * FfnMath.unit (fun k => x (ix2 p k)) k := by
  unfold k0_pay2
  pointwise [pay15_apply, pay17_apply]
end

/-! ## What a grid point leaves in its six output blocks -/

section
variable (m : (ℓ : Loc nD τ sig) → Buf (Elt Ideal) ℓ) (d : Dev nD) (t : Fin cfg0.N)

/-- The block of activations at point `t`, by row and feature; the gain; the three weights, by hidden unit and feature. -/
abbrev bh (p : Fin 256) (k : Fin 1024) : EReal := (iblk m d 0 t : Vec Ideal S256x1024 .f32) (ix2 p k)
abbrev bg (k : Fin 1024) : EReal := (iblk m d 1 t : Vec Ideal S1x1024 .f32) (ix2 0 k)
abbrev bwg (n : Fin 2816) (k : Fin 1024) : EReal := (iblk m d 2 t : Vec Ideal S2816x1024 .bf16) (ix2 n k)
abbrev bwu (n : Fin 2816) (k : Fin 1024) : EReal := (iblk m d 3 t : Vec Ideal S2816x1024 .bf16) (ix2 n k)
abbrev bwd (n : Fin 2816) (k : Fin 1024) : EReal := (iblk m d 4 t : Vec Ideal S2816x1024 .bf16) (ix2 n k)
/-- The block of targets, and the gain of the last normalisation. -/
abbrev bt (p : Fin 256) (k : Fin 1024) : EReal := (iblk m d 5 t : Vec Ideal S256x1024 .f32) (ix2 p k)
abbrev bf (k : Fin 1024) : EReal := (iblk m d 6 t : Vec Ideal S1x1024 .f32) (ix2 0 k)

/-- The rows of the block after the feed-forward network. -/
abbrev bst (p : Fin 256) (k : Fin 1024) : EReal := LossMath.state (bh m d t p) (bg m d t) (bwg m d t) (bwu m d t) (bwd m d t) k

/-- The same, as the block that the kernel holds. -/
abbrev bsv : FVec Ideal S256x1024 .f32 :=
  stateV (iblk m d 0 t) (iblk m d 1 t) (iblk m d 2 t) (iblk m d 3 t) (iblk m d 4 t)

theorem bsv_row (p : Fin 256) : (fun k => bsv m d t (ix2 p k)) = bst m d t p := funext fun k => stateV_apply ..

theorem after7 (p : Fin 256) (k : Fin 1024) :
    (dats m 0 d).after 7 t (ix2 p k) = LossMath.drow (bst m d t p) (bf m d t) (bt m d t p) k := by
  rw [Gen.after0_7]
  by_cases h0 : t.val % 32 = 0
  · rw [Gen.outsAt0_A m d t h0]; frame_out
    exact (pay1_apply (bsv m d t) ..).trans (congrArg (LossMath.drow · _ _ k) (bsv_row ..))
  · rw [Gen.outsAt0_B m d t h0]; frame_out
    exact (pay1_apply (bsv m d t) ..).trans (congrArg (LossMath.drow · _ _ k) (bsv_row ..))

theorem after8 (p : Fin 256) (k : Fin 1024) :
    (dats m 0 d).after 8 t (ix2 p k) = FfnMath.unit (bh m d t p) k * bg m d t k := by
  rw [Gen.after0_8]
  by_cases h0 : t.val % 32 = 0
  · rw [Gen.outsAt0_A m d t h0]; frame_out
    exact pay3_apply ..
  · rw [Gen.outsAt0_B m d t h0]; frame_out
    exact pay3_apply ..

theorem after9 (p : Fin 256) (n : Fin 2816) :
    (dats m 0 d).after 9 t (ix2 p n) = FfnMath.hidden (bh m d t p) (bg m d t) (bwg m d t) n := by
  rw [Gen.after0_9]
  by_cases h0 : t.val % 32 = 0
  · rw [Gen.outsAt0_A m d t h0]; frame_out
    exact halves_apply _ _ _ p (fun n => gateHi ..) (fun n => gateLo ..) n
  · rw [Gen.outsAt0_B m d t h0]; frame_out
    exact halves_apply _ _ _ p (fun n => gateHi ..) (fun n => gateLo ..) n

theorem after10 (p : Fin 256) (n : Fin 2816) :
    (dats m 0 d).after 10 t (ix2 p n) = FfnMath.hidden (bh m d t p) (bg m d t) (bwu m d t) n := by
  rw [Gen.after0_10]
  by_cases h0 : t.val % 32 = 0
  · rw [Gen.outsAt0_A m d t h0]; frame_out
    exact halves_apply _ _ _ p (fun n => upHi ..) (fun n => upLo ..) n
  · rw [Gen.outsAt0_B m d t h0]; frame_out
    exact halves_apply _ _ _ p (fun n => upHi ..) (fun n => upLo ..) n

/-- What point `t` adds to the loss. -/
abbrev lossTerm : EReal := LossMath.hfrac * ∑ p, LossMath.sqerr (bst m d t p) (bf m d t) (bt m d t p)

/-- What point `t` adds to the gradient of the last gain, at feature `k`. -/
abbrev gainTerm (k : Fin 1024) : EReal :=
  ∑ p, LossMath.dpred (bst m d t p) (bf m d t) (bt m d t p) k * FfnMath.unit (bst m d t p) k

theorem lossV (a : Vec Ideal S1x1 .f32) :
    k0_pay14 (bsv m d t) (iblk m d 6 t) (iblk m d 5 t) a (ix2 0 0) = a (ix2 0 0) + lossTerm m d t := by
  refine (pay14_apply ..).trans (congrArg (fun z : EReal => a (ix2 0 0) + LossMath.hfrac * z) ?_)
  exact Finset.sum_congr rfl fun p _ => congrArg (LossMath.sqerr · _ _) (bsv_row ..)

theorem gainV (a : Vec Ideal S1x1024 .f32) (k : Fin 1024) :
    k0_pay2 (k0_pay15 (bsv m d t) (iblk m d 6 t) (iblk m d 5 t)) (k0_pay17 (bsv m d t)) a (ix2 0 k)
      = a (ix2 0 k) + gainTerm m d t k := by
  refine (pay2_apply ..).trans (congrArg (fun z : EReal => a (ix2 0 k) + z) ?_)
  refine Finset.sum_congr rfl fun p _ => ?_
  rw [bsv_row]

theorem outs11_A (h0 : t.val % 32 = 0) :
    (Gen.outsAt0 m d t.val t.isLt).2.2.2.2.1 (ix2 0 0) = lossTerm m d t := by
  rw [Gen.outsAt0_A m d t h0]; frame_out
  refine (lossV ..).trans ?_
  rw [show (k0_pay11 : FVec Ideal S1x1 .f32) (ix2 0 0) = 0 by unfold_payloads; pointwise, zero_add]

theorem outs11_B (h0 : ¬t.val % 32 = 0) :
    (Gen.outsAt0 m d t.val t.isLt).2.2.2.2.1 (ix2 0 0)
      = (Gen.outsAt0 m d (t.val - 1) (by omega)).2.2.2.2.1 (ix2 0 0) + lossTerm m d t := by
  rw [Gen.outsAt0_B m d t h0]; frame_out
  exact lossV ..

theorem outs12_A (h0 : t.val % 32 = 0) (k : Fin 1024) :
    (Gen.outsAt0 m d t.val t.isLt).2.2.2.2.2 (ix2 0 k) = gainTerm m d t k := by
  rw [Gen.outsAt0_A m d t h0]; frame_out
  refine (gainV ..).trans ?_
  rw [show (k0_pay12 : FVec Ideal S1x1024 .f32) (ix2 0 k) = 0 by unfold_payloads; pointwise, zero_add]

theorem outs12_B (h0 : ¬t.val % 32 = 0) (k : Fin 1024) :
    (Gen.outsAt0 m d t.val t.isLt).2.2.2.2.2 (ix2 0 k)
      = (Gen.outsAt0 m d (t.val - 1) (by omega)).2.2.2.2.2 (ix2 0 k) + gainTerm m d t k := by
  rw [Gen.outsAt0_B m d t h0]; frame_out
  exact gainV ..

end

end Cert.FfnLossIdeal.Blocks

end
-- ==== Proof.LossArrays.lean ====
/-
  What the six result arrays of the last feed-forward call hold after the run, as functions of the arrays that its region
  starts from, and these as functions of the program's arguments.
-/
module

public import proofs.«01_k».proof.Proof.LossBlocks

@[expose] public section

set_option maxRecDepth 16384

noncomputable section

namespace Cert.FfnLossIdeal.Arrays

open Idealize.ShloMosaic Idealize.ShloMosaic.TcCoe Idealize.SL.Sem Cert.FfnLossIdeal Cert.FfnLossIdeal.Gen Cert.FfnLossIdeal.Blocks

variable (m : (ℓ : Loc nD τ sig) → Buf (Elt Ideal) ℓ) (d : Dev nD)

/-! ## The arrays at the start of the region -/

/-- The activations, by token and feature, and the gain; the targets, and the last gain. -/
abbrev ah (i : Fin 8192) (k : Fin 1024) : EReal := (V m d main_arg0 : Vec Ideal S8192x1024 .f32) (ix2 i k)
abbrev ag (k : Fin 1024) : EReal := (V m d main_arg1 : Vec Ideal S1x1024 .f32) (ix2 0 k)
abbrev at' (i : Fin 8192) (k : Fin 1024) : EReal := (V m d main_arg5 : Vec Ideal S8192x1024 .f32) (ix2 i k)
abbrev af (k : Fin 1024) : EReal := (V m d main_arg6 : Vec Ideal S1x1024 .f32) (ix2 0 k)
/-- The three weights, by hidden unit and feature. -/
abbrev awg (n : Fin 2816) (k : Fin 1024) : EReal := (V m d main_v1 : Vec Ideal S2816x1024 .bf16) (ix2 n k)
abbrev awu (n : Fin 2816) (k : Fin 1024) : EReal := (V m d main_v3 : Vec Ideal S2816x1024 .bf16) (ix2 n k)
abbrev awd (n : Fin 2816) (k : Fin 1024) : EReal := (V m d main_v4 : Vec Ideal S2816x1024 .bf16) (ix2 n k)

/-! ## The blocks of the arrays -/

/-- The row of an array that row `p` of block `t` is. -/
abbrev row (t : Fin cfg0.N) (p : Fin 256) : Fin 8192 := ⟨256 * t.val + p.val, by have := lt_of_lt_of_eq t.isLt N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![t.val, 0] := (by decide +kernel : ∀ t : Fin grid0.N, _)
theorem e10 : ∀ t : Fin cfg0.N, win0_10.index t = ![t.val, 0] := (by decide +kernel : ∀ t : Fin grid0.N, _)

section
variable (t : Fin cfg0.N) (p : Fin 256) (k : Fin 1024) (n : Fin 2816)

theorem bh_eq : bh m d t p k = ah m d (row t p) k := by
  unfold bh ah
  blk_simp [iblk]
  refine congrArg _ ?_
  blk_ext [e0]
theorem bg_eq : bg m d t k = ag m d k := by
  unfold bg ag
  blk_simp [iblk]
  refine congrArg _ ?_
  blk_ext [e1]
theorem bwg_eq : bwg m d t n k = awg m d n k := by
  unfold bwg awg
  blk_simp [iblk]
  refine congrArg _ ?_
  blk_ext [e2]
theorem bwu_eq : bwu m d t n k = awu m d n k := by
  unfold bwu awu
  blk_simp [iblk]
  refine congrArg _ ?_
  blk_ext [e3]
theorem bwd_eq : bwd m d t n k = awd m d n k := by
  unfold bwd awd
  blk_simp [iblk]
  refine congrArg _ ?_
  blk_ext [e4]
theorem bt_eq : bt m d t p k = at' m d (row t p) k := by
  unfold bt at'
  blk_simp [iblk]
  refine congrArg _ ?_
  blk_ext [e5]
theorem bf_eq : bf m d t k = af m d k := by
  unfold bf af
  blk_simp [iblk]
  refine congrArg _ ?_
  blk_ext [e6]

theorem bh_row : bh m d t p = ah m d (row t p) := funext fun k => bh_eq m d t p k
theorem bt_row : bt m d t p = at' m d (row t p) := funext fun k => bt_eq m d t p k
theorem bg_fun : bg m d t = ag m d := funext fun k => bg_eq m d t k
theorem bf_fun : bf m d t = af m d := funext fun k => bf_eq m d t k
theorem bwg_fun : bwg m d t = awg m d := funext fun n => funext fun k => bwg_eq m d t k n
theorem bwu_fun : bwu m d t = awu m d := funext fun n => funext fun k => bwu_eq m d t k n
theorem bwd_fun : bwd m d t = awd m d := funext fun n => funext fun k => bwd_eq m d t k n
end

/-- The rows after the feed-forward network. -/
abbrev ast (i : Fin 8192) (k : Fin 1024) : EReal := LossMath.state (ah m d i) (ag m d) (awg m d) (awu m d) (awd m d) k

theorem bst_row (t : Fin cfg0.N) (p : Fin 256) : bst m d t p = ast m d (row t p) := by
  unfold bst ast
  rw [bh_row, bg_fun, bwg_fun, bwu_fun, bwd_fun]

/-! ## The arrays that every point writes a block of -/

/-- The gradient of the rows after the network. -/
abbrev out7 : Buf (Elt Ideal) ((d : Thread nD τ).loc main_v5_0) := fun i : S8192x1024.Idx =>
  LossMath.drow (ast m d (i 0)) (af m d) (at' m d (i 0)) (i 1)
/-- The normalised activations. -/
abbrev out8 : Buf (Elt Ideal) ((d : Thread nD τ).loc main_v5_1) := fun i : S8192x1024.Idx =>
  FfnMath.unit (ah m d (i 0)) (i 1) * ag m d (i 1)
/-- `gate` and `up`. -/
abbrev out9 : Buf (Elt Ideal) ((d : Thread nD τ).loc main_v5_2) := fun i : S8192x2816.Idx =>
  FfnMath.hidden (ah m d (i 0)) (ag m d) (awg m d) (i 1)
abbrev out10 : Buf (Elt Ideal) ((d : Thread nD τ).loc main_v5_3) := fun i : S8192x2816.Idx =>
  FfnMath.hidden (ah m d (i 0)) (ag m d) (awu m d) (i 1)

section
variable (t : Fin cfg0.N) (p : Fin 256)

theorem point7 (k : Fin 1024) : (dats m 0 d).after 7 t (ix2 p k) = out7 m d (ix2 (row t p) k) := by
  refine (after7 m d t p k).trans ?_
  rw [bst_row, bf_fun, bt_row]
  rfl
theorem point8 (k : Fin 1024) : (dats m 0 d).after 8 t (ix2 p k) = out8 m d (ix2 (row t p) k) := by
  refine (after8 m d t p k).trans ?_
  rw [bh_row, bg_fun]
  rfl
theorem point9 (n : Fin 2816) : (dats m 0 d).after 9 t (ix2 p n) = out9 m d (ix2 (row t p) n) := by
  refine (after9 m d t p n).trans ?_
  rw [bh_row, bg_fun, bwg_fun]
  rfl
theorem point10 (n : Fin 2816) : (dats m 0 d).after 10 t (ix2 p n) = out10 m d (ix2 (row t p) n) := by
  refine (after10 m d t p n).trans ?_
  rw [bh_row, bg_fun, bwu_fun]
  rfl
end

theorem arr7 : (dats m 0 d).arrAt 7 cfg0.N = out7 m d := by
  refine (dats m 0 d).arrAt_eq_of_covers 7 _ (by decide +kernel) fun t hf y => ?_
  blk_simp
  have hy : ((cfg0.win 7).blk t).view.emb y = ix2 (row t ((show S256x1024.Idx from y) 0)) ((show S256x1024.Idx from y) 1) := by
    blk_ext [e7]
  exact (congrArg _ (eq_ix2 (show S256x1024.Idx from y))).trans ((point7 m d t _ _).trans (congrArg (out7 m d) hy.symm))

theorem arr8 : (dats m 0 d).arrAt 8 cfg0.N = out8 m d := by
  refine (dats m 0 d).arrAt_eq_of_covers 8 _ (by decide +kernel) fun t hf y => ?_
  blk_simp
  have hy : ((cfg0.win 8).blk t).view.emb y = ix2 (row t ((show S256x1024.Idx from y) 0)) ((show S256x1024.Idx from y) 1) := by
    blk_ext [e8]
  exact (congrArg _ (eq_ix2 (show S256x1024.Idx from y))).trans ((point8 m d t _ _).trans (congrArg (out8 m d) hy.symm))

theorem arr9 : (dats m 0 d).arrAt 9 cfg0.N = out9 m d := by
  refine (dats m 0 d).arrAt_eq_of_covers 9 _ (by decide +kernel) fun t hf y => ?_
  blk_simp
  have hy : ((cfg0.win 9).blk t).view.emb y = ix2 (row t ((show S256x2816.Idx from y) 0)) ((show S256x2816.Idx from y) 1) := by
    blk_ext [e9]
  exact (congrArg _ (eq_ix2 (show S256x2816.Idx from y))).trans ((point9 m d t _ _).trans (congrArg (out9 m d) hy.symm))

theorem arr10 : (dats m 0 d).arrAt 10 cfg0.N = out10 m d := by
  refine (dats m 0 d).arrAt_eq_of_covers 10 _ (by decide +kernel) fun t hf y => ?_
  blk_simp
  have hy : ((cfg0.win 10).blk t).view.emb y = ix2 (row t ((show S256x2816.Idx from y) 0)) ((show S256x2816.Idx from y) 1) := by
    blk_ext [e10]
  exact (congrArg _ (eq_ix2 (show S256x2816.Idx from y))).trans ((point10 m d t _ _).trans (congrArg (out10 m d) hy.symm))

/-! ## The two arrays that every point adds to and the last one writes back -/

/-- The last point. -/
abbrev tLast : Fin cfg0.N := ⟨31, by decide⟩

/-- The loss: each group of 256 tokens is summed and scaled by itself. -/
abbrev loss : EReal :=
  ∑ t : Fin 32, LossMath.hfrac * ∑ p : Fin 256, LossMath.sqerr (ast m d ⟨256 * t.val + p.val, by omega⟩) (af m d)
    (at' m d ⟨256 * t.val + p.val, by omega⟩)

/-- The gradient of the last gain. -/
abbrev gain (k : Fin 1024) : EReal :=
  ∑ i : Fin 8192, LossMath.dpred (ast m d i) (af m d) (at' m d i) k * FfnMath.unit (ast m d i) k

theorem outs11 : (Gen.outsAt0 m d tLast.val tLast.isLt).2.2.2.2.1 (ix2 0 0) = loss m d := by
  refine (Pipeline.eq_sum_fin_of_reset_step_apply_last
    (fun n h (_ : Fin 1) => ((Gen.outsAt0 m d n h).2.2.2.2.1 (ix2 0 0) : EReal)) 32 (fun _ => 0) (fun t _ => lossTerm m d t)
    (fun t h j => (outs11_A m d t h).trans (zero_add _).symm) (fun t h j => outs11_B m d t h) (le_of_eq N_0) tLast
    (by decide) 0).trans ?_
  rw [zero_add]
  refine Finset.sum_congr rfl fun t _ => congrArg (LossMath.hfrac * ·) (Finset.sum_congr rfl fun p _ => ?_)
  rw [bst_row, bf_fun, bt_row]

theorem gain_row (t : Fin cfg0.N) (p : Fin 256) (k : Fin 1024) :
    LossMath.dpred (bst m d t p) (bf m d t) (bt m d t p) k * FfnMath.unit (bst m d t p) k
      = LossMath.dpred (ast m d (row t p)) (af m d) (at' m d (row t p)) k * FfnMath.unit (ast m d (row t p)) k := by
  rw [bst_row, bf_fun, bt_row]

theorem outs12 (k : Fin 1024) : (Gen.outsAt0 m d tLast.val tLast.isLt).2.2.2.2.2 (ix2 0 k) = gain m d k := by
  refine (Pipeline.eq_sum_fin_of_reset_step_apply_last
    (fun n h (k : Fin 1024) => ((Gen.outsAt0 m d n h).2.2.2.2.2 (ix2 0 k) : EReal)) 32 (fun _ => 0) (gainTerm m d)
    (fun t h j => (outs12_A m d t h j).trans (zero_add _).symm) (fun t h j => outs12_B m d t h j) (le_of_eq N_0) tLast
    (by decide) k).trans ?_
  rw [zero_add]
  refine Fin.sum_mul_add_congr (S := 32) (n := 256) fun t p hl => ?_
  have hr : row t p = ⟨t.val * 256 + p.val, hl⟩ := Fin.ext (by simp only [row]; omega)
  rw [← hr]
  exact gain_row m d t p k

/-- The loss, and the gradient of the last gain. -/
abbrev out11 : Buf (Elt Ideal) ((d : Thread nD τ).loc main_v5_4) := fun _ : S1x1.Idx => loss m d
abbrev out12 : Buf (Elt Ideal) ((d : Thread nD τ).loc main_v5_5) := fun i : S1x1024.Idx => gain m d (i 1)

theorem last11 (j : S1x1.Idx) : (dats m 0 d).after 11 tLast j = loss m d := by
  have hj : j = ix2 0 0 := (eq_ix2 j).trans (congr (congrArg _ (Subsingleton.elim (α := Fin 1) _ _)) (Subsingleton.elim (α := Fin 1) _ _))
  rw [Gen.after0_11]
  exact (congrArg _ hj).trans (outs11 m d)

theorem last12 (j : S1x1024.Idx) : (dats m 0 d).after 12 tLast j = gain m d (j 1) := by
  have hj : j = ix2 0 (j 1) := (eq_ix2 j).trans (congrArg (ix2 · (j 1)) (Subsingleton.elim (α := Fin 1) _ _))
  rw [Gen.after0_12]
  exact (congrArg _ hj).trans (outs12 m d (j 1))

theorem arr11 : (dats m 0 d).arrAt 11 cfg0.N = out11 m d :=
  (dats m 0 d).arrAt_eq_of_after_last 11 tLast (by decide +kernel) (out11 m d) fun j => last11 m d j
theorem arr12 : (dats m 0 d).arrAt 12 cfg0.N = out12 m d :=
  (dats m 0 d).arrAt_eq_of_after_last 12 tLast (by decide +kernel) (out12 m d) fun j => last12 m d j

/-! ## The arrays at the start of the region, as functions of the arguments -/

/-- The arguments. -/
abbrev y0 : Vec Ideal S8192x1024 .f32 := m ((d : Thread nD τ).loc main_arg0)
abbrev y1 : Vec Ideal S1x1024 .f32 := m ((d : Thread nD τ).loc main_arg1)
abbrev y2 : Vec Ideal S1024x2816 .f32 := m ((d : Thread nD τ).loc main_arg2)
abbrev y3 : Vec Ideal S1024x2816 .f32 := m ((d : Thread nD τ).loc main_arg3)
abbrev y4 : Vec Ideal S2816x1024 .f32 := m ((d : Thread nD τ).loc main_arg4)
abbrev y5 : Vec Ideal S8192x1024 .f32 := m ((d : Thread nD τ).loc main_arg5)
abbrev y6 : Vec Ideal S1x1024 .f32 := m ((d : Thread nD τ).loc main_arg6)

theorem ah_fun : ah m d = fun i k => y0 m d (ix2 i k) := by
  funext i k; unfold ah; rw [V_main_arg0]
theorem ag_fun : ag m d = fun k => y1 m d (ix2 0 k) := by
  funext k; unfold ag; rw [V_main_arg1]
theorem at_fun : at' m d = fun i k => y5 m d (ix2 i k) := by
  funext i k; unfold at'; rw [V_main_arg5]
theorem af_fun : af m d = fun k => y6 m d (ix2 0 k) := by
  funext k; unfold af; rw [V_main_arg6]
theorem awg_fun : awg m d = fun n k => y2 m d (ix2 k n) := by
  funext n k; unfold awg
  dsimp only [V, hostOps0]; after_results
  pointwise
theorem awu_fun : awu m d = fun n k => y3 m d (ix2 k n) := by
  funext n k; unfold awu
  dsimp only [V, hostOps0]; after_results
  pointwise
theorem awd_fun : awd m d = fun n k => y4 m d (ix2 n k) := by
  funext n k; unfold awd
  dsimp only [V, hostOps0]; after_results
  pointwise

end Cert.FfnLossIdeal.Arrays

end
-- ==== Proof.LossRef.lean ====
/-
  What the reference of the last feed-forward block computes, entry by entry: the block, the loss, and the two gradients
  of the loss as differentiation writes them.
-/
module

public import proofs.«01_k».proof.Proof.LossMath
public import proofs.«01_k».proof.Proof.Gen.LossRefIdeal.Run
public import proofs.«01_k».proof.Proof.Gen.LossRefIdeal.Read
public import Idealize.ShloMosaic.Lib.Pointwise
public import Idealize.ShloMosaic.Lib.IdealHost

@[expose] public section

set_option maxRecDepth 16384

noncomputable section

namespace Cert.LossRefIdeal.Entries

open Idealize.ShloMosaic Cert.LossRefIdeal Cert.LossRefIdeal.Read

variable (x0 : Vec Ideal S8192x1024 .f32) (x1 : Vec Ideal S1x1024 .f32) (x2 x3 : Vec Ideal S1024x2816 .f32)
  (x4 : Vec Ideal S2816x1024 .f32) (x5 : Vec Ideal S8192x1024 .f32) (x6 : Vec Ideal S1x1024 .f32)

/-- An array by token and feature, a gain, and the weights by hidden unit and feature. -/
abbrev rH (i : Fin 8192) (k : Fin 1024) : EReal := x0 (ix2 i k)
abbrev rG (k : Fin 1024) : EReal := x1 (ix2 0 k)
abbrev rWg (n : Fin 2816) (k : Fin 1024) : EReal := x2 (ix2 k n)
abbrev rWd (n : Fin 2816) (k : Fin 1024) : EReal := x4 (ix2 n k)

/-- `gate` (with the first weight) or `up` (with the second). -/
abbrev rHid (i : Fin 8192) (n : Fin 2816) : EReal := FfnMath.hidden (rH x0 i) (rG x1) (rWg x2) n
/-- The rows after the block. -/
abbrev rS (i : Fin 8192) (k : Fin 1024) : EReal := LossMath.state (rH x0 i) (rG x1) (rWg x2) (rWg x3) (rWd x4) k

theorem v11_apply (i : Fin 8192) (k : Fin 1024) :
    val_main_v11 (F := Ideal) x0 x1 (ix2 i k) = FfnMath.unit (rH x0 i) k * rG x1 k := by
  unfold val_main_v11 val_main_v10 val_main_v9 val_main_v8 val_main_v7 val_main_v6 val_main_v5 val_main_v4 val_main_v3
    val_main_v2 val_main_v1 val_main_v0 val_main_cst val_main_cst_0 val_main_cst_1
  pointwise [FfnMath.unit, FfnMath.inv, FfnMath.msq]

theorem v12_apply (i : Fin 8192) (n : Fin 2816) : val_main_v12 (F := Ideal) x0 x1 x2 (ix2 i n) = rHid x0 x1 x2 i n := by
  unfold val_main_v12
  pointwise [v11_apply, FfnMath.hidden]

theorem v14_apply (i : Fin 8192) (n : Fin 2816) : val_main_v14 (F := Ideal) x0 x1 x3 (ix2 i n) = rHid x0 x1 x3 i n := by
  unfold val_main_v14
  pointwise [v11_apply, FfnMath.hidden]

theorem v15_apply (i : Fin 8192) (n : Fin 2816) : val_main_v15 (F := Ideal) x0 x1 x2 x3 (ix2 i n)
    = FfnMath.act (rHid x0 x1 x2 i n) (rHid x0 x1 x3 i n) := by
  unfold val_main_v15 val_main_v13 val_main_call0_v5 val_main_call0_v4 val_main_call0_v3 val_main_call0_v2
    val_main_call0_v1 val_main_call0_v0 val_main_call0_cst val_main_call0_cst_0
  pointwise [v12_apply, v14_apply, FfnMath.act, FfnMath.sigm]

theorem v17_apply (i : Fin 8192) (k : Fin 1024) :
    val_main_v17 (F := Ideal) x0 x1 x2 x3 x4 (ix2 i k) = rS x0 x1 x2 x3 x4 i k := by
  unfold val_main_v17 val_main_v16
  pointwise [v15_apply, LossMath.state]

/-! ## The loss -/

theorem v24_apply (i : Fin 8192) : val_main_v24 (F := Ideal) x0 x1 x2 x3 x4 (ix2 i 0) = FfnMath.msq (rS x0 x1 x2 x3 x4 i) := by
  unfold val_main_v24 val_main_v22 val_main_v20 val_main_v19 val_main_v18 val_main_v21 val_main_v23 val_main_cst_2
    val_main_cst_3 val_main_cst_4
  pointwise [v17_apply, FfnMath.msq]

theorem v25_apply (i : Fin 8192) : val_main_v25 (F := Ideal) x0 x1 x2 x3 x4 (ix2 i 0) = FfnMath.inv (rS x0 x1 x2 x3 x4 i) := by
  unfold val_main_v25
  pointwise [v24_apply, FfnMath.inv]

theorem v30_apply (i : Fin 8192) (k : Fin 1024) :
    val_main_v30 (F := Ideal) x0 x1 x2 x3 x4 (ix2 i k) = FfnMath.unit (rS x0 x1 x2 x3 x4 i) k := by
  unfold val_main_v30 val_main_v29
  pointwise [v17_apply, v25_apply, FfnMath.unit]

theorem v33_apply (i : Fin 8192) (k : Fin 1024) : val_main_v33 (F := Ideal) x0 x1 x2 x3 x4 x5 x6 (ix2 i k)
    = LossMath.err (rS x0 x1 x2 x3 x4 i) (rG x6) (rH x5 i) k := by
  unfold val_main_v33 val_main_v32 val_main_v31
  pointwise [v30_apply, LossMath.err]

/-- The loss of a token. -/
abbrev rE (i : Fin 8192) : EReal := LossMath.sqerr (rS x0 x1 x2 x3 x4 i) (rG x6) (rH x5 i)

theorem v39_apply (i : Fin 8192) : val_main_v39 (F := Ideal) x0 x1 x2 x3 x4 x5 x6 (ix1 i)
    = Ideal.div (rE x0 x1 x2 x3 x4 x5 x6 i) FfnMath.width := by
  unfold val_main_v39 val_main_v38 val_main_v37 val_main_v34 val_main_cst_7 val_main_cst_8
  pointwise [v33_apply, LossMath.sqerr]

theorem v84_apply : val_main_v84 (F := Ideal) x0 x1 x2 x3 x4 x5 x6 (ix2 0 0)
    = LossMath.half * ∑ i, Ideal.div (rE x0 x1 x2 x3 x4 x5 x6 i) FfnMath.width := by
  unfold val_main_v84 val_main_v41 val_main_v40 val_main_cst_10 val_main_cst_9
  pointwise [v39_apply]

/-! ## The gradients of the loss -/

theorem v47_apply (i : Fin 8192) (k : Fin 1024) : val_main_v47 (F := Ideal) x0 x1 x2 x3 x4 x5 x6 (ix2 i k)
    = Ideal.div (LossMath.half * 1) FfnMath.width * (LossMath.two * LossMath.err (rS x0 x1 x2 x3 x4 i) (rG x6) (rH x5 i) k) := by
  unfold val_main_v47 val_main_v46 val_main_v45 val_main_v44 val_main_v43 val_main_v42 val_main_v36 val_main_v35
    val_main_cst_6 val_main_cst_11 val_main_cst_12 val_main_cst_13
  pointwise [v33_apply]

theorem v47_eq (i : Fin 8192) (k : Fin 1024) : val_main_v47 (F := Ideal) x0 x1 x2 x3 x4 x5 x6 (ix2 i k)
    = LossMath.dpred (rS x0 x1 x2 x3 x4 i) (rG x6) (rH x5 i) k :=
  (v47_apply ..).trans (LossMath.dpred_eq ..)

theorem v50_apply (k : Fin 1024) : val_main_v50 (F := Ideal) x0 x1 x2 x3 x4 x5 x6 (ix2 0 k)
    = ∑ i, FfnMath.unit (rS x0 x1 x2 x3 x4 i) k * LossMath.dpred (rS x0 x1 x2 x3 x4 i) (rG x6) (rH x5 i) k := by
  unfold val_main_v50 val_main_v49 val_main_v48 val_main_cst_14
  pointwise [v30_apply, v47_eq]

/-- The gradient of the row over its root mean square. -/
abbrev rQ (i : Fin 8192) (k : Fin 1024) : EReal := LossMath.dpred (rS x0 x1 x2 x3 x4 i) (rG x6) (rH x5 i) k * rG x6 k

theorem v52_apply (i : Fin 8192) (k : Fin 1024) :
    val_main_v52 (F := Ideal) x0 x1 x2 x3 x4 x5 x6 (ix2 i k) = rQ x0 x1 x2 x3 x4 x5 x6 i k := by
  unfold val_main_v52 val_main_v51
  pointwise [v47_eq]

/-- What reaches an entry of the row through the row's mean square, over twice the entry. -/
abbrev rT (i : Fin 8192) : EReal :=
  Ideal.div ((∑ j, rS x0 x1 x2 x3 x4 i j * rQ x0 x1 x2 x3 x4 x5 x6 i j)
    * (FfnMath.mhalf * Ideal.div (FfnMath.inv (rS x0 x1 x2 x3 x4 i)) (FfnMath.msq (rS x0 x1 x2 x3 x4 i)))) FfnMath.width

theorem v60_apply (i : Fin 8192) :
    val_main_v60 (F := Ideal) x0 x1 x2 x3 x4 x5 x6 (ix2 i 0) = rT x0 x1 x2 x3 x4 x5 x6 i := by
  unfold val_main_v60 val_main_v59 val_main_v58 val_main_v55 val_main_v54 val_main_v53 val_main_v28 val_main_v27 val_main_v26
    val_main_cst_5 val_main_cst_15 val_main_cst_16
  pointwise [v52_apply, v17_apply, v24_apply, v25_apply]

theorem v62_apply (i : Fin 8192) (k : Fin 1024) :
    val_main_v62 (F := Ideal) x0 x1 x2 x3 x4 x5 x6 (ix2 i k) = rT x0 x1 x2 x3 x4 x5 x6 i := by
  unfold val_main_v62 val_main_v61 val_main_cst_17
  pointwise
  exact (Fin.sum_univ_one _).trans (v60_apply ..)

theorem v66_apply (i : Fin 8192) (k : Fin 1024) : val_main_v66 (F := Ideal) x0 x1 x2 x3 x4 x5 x6 (ix2 i k)
    = rQ x0 x1 x2 x3 x4 x5 x6 i k * FfnMath.inv (rS x0 x1 x2 x3 x4 i) + rS x0 x1 x2 x3 x4 i k * rT x0 x1 x2 x3 x4 x5 x6 i
      + rT x0 x1 x2 x3 x4 x5 x6 i * rS x0 x1 x2 x3 x4 i k := by
  unfold val_main_v66 val_main_v65 val_main_v64 val_main_v63 val_main_v57 val_main_v56
  pointwise [v52_apply, v62_apply, v17_apply, v25_apply]

/-! ## What the block saves -/

theorem v78_apply (i : Fin 8192) (k : Fin 1024) :
    val_main_v78 (F := Ideal) x0 x1 (ix2 i k) = FfnMath.unit (rH x0 i) k * rG x1 k := by
  unfold val_main_v78 val_main_v77 val_main_v76 val_main_v75 val_main_v74 val_main_v73 val_main_v72 val_main_v71 val_main_v70
    val_main_v69 val_main_v68 val_main_v67 val_main_cst_18 val_main_cst_19 val_main_cst_20
  pointwise [FfnMath.unit, FfnMath.inv, FfnMath.msq]

theorem v79_apply (i : Fin 8192) (k : Fin 1024) :
    val_main_v79 (F := Ideal) x0 x1 (ix2 i k) = FfnMath.unit (rH x0 i) k * rG x1 k := by
  unfold val_main_v79
  pointwise [v78_apply]

theorem v81_apply (i : Fin 8192) (n : Fin 2816) : val_main_v81 (F := Ideal) x0 x1 x2 (ix2 i n) = rHid x0 x1 x2 i n := by
  unfold val_main_v81 val_main_v80
  pointwise [v78_apply, FfnMath.hidden]

theorem v83_apply (i : Fin 8192) (n : Fin 2816) : val_main_v83 (F := Ideal) x0 x1 x3 (ix2 i n) = rHid x0 x1 x3 i n := by
  unfold val_main_v83 val_main_v82
  pointwise [v78_apply, FfnMath.hidden]

end Cert.LossRefIdeal.Entries

end
-- ==== Proof.LossClaim.lean ====
/-
  The last feed-forward block with the loss: the frame of the reference, and the kernel's six results equal to the
  reference's.
-/
module

public import proofs.«01_k».proof.Proof.FfnPre
public import proofs.«01_k».proof.Proof.LossArrays
public import proofs.«01_k».proof.Proof.LossRef
public import proofs.«01_k».proof.Proof.Gen.Pre_loss_finite

@[expose] public section

set_option maxRecDepth 16384

noncomputable section

namespace Cert.LossClaim

open Idealize.ShloMosaic Idealize.ShloMosaic.TcCoe Idealize.SL.Sem Cert.FfnLossIdeal Cert.FfnLossIdeal.Arrays
open Cert.LossRefIdeal.Entries (rH rG rWg rWd rHid rS rE rQ rT)
open Cert.LossRefIdeal.Read

variable (m : (ℓ : Loc nD τ sig) → Buf (Elt Ideal) ℓ) (d : Dev nD)

/-- Every argument is an array of real numbers. -/
structure Reals : Prop where
  r0 : ∀ i, FfnMath.IsReal (y0 m d i)
  r1 : ∀ i, FfnMath.IsReal (y1 m d i)
  r2 : ∀ i, FfnMath.IsReal (y2 m d i)
  r3 : ∀ i, FfnMath.IsReal (y3 m d i)
  r4 : ∀ i, FfnMath.IsReal (y4 m d i)
  r5 : ∀ i, FfnMath.IsReal (y5 m d i)
  r6 : ∀ i, FfnMath.IsReal (y6 m d i)

theorem reals [Cert.Pre_loss_finite.Facts] (h : Cert.Pre_FfnLossIdeal_loss_finite m) : Reals m d :=
  have h := h d
  ⟨FfnPre.real_of h.1, FfnPre.real_of h.2.1, FfnPre.real_of h.2.2.1, FfnPre.real_of h.2.2.2.1, FfnPre.real_of h.2.2.2.2.1,
    FfnPre.real_of h.2.2.2.2.2.1, FfnPre.real_of h.2.2.2.2.2.2⟩

/-- The rows after the network, in terms of the arguments. -/
theorem ast_fun : ast m d = rS (y0 m d) (y1 m d) (y2 m d) (y3 m d) (y4 m d) := by
  funext i k
  unfold ast
  rw [ah_fun, ag_fun, awg_fun, awu_fun, awd_fun]

/-! ## The three saved arrays, and the gradient of the last gain -/

theorem eq8 : out8 m d = val_main_v79 (F := Ideal) (y0 m d) (y1 m d) := by
  funext j
  obtain ⟨i, k, rfl⟩ : ∃ i k, j = ix2 i k := ⟨_, _, eq_ix2 (show S8192x1024.Idx from j)⟩
  refine Eq.trans ?_ (Cert.LossRefIdeal.Entries.v79_apply _ _ i k).symm
  show FfnMath.unit (ah m d i) k * ag m d k = _
  rw [ah_fun, ag_fun]

theorem eq9 : out9 m d = val_main_v81 (F := Ideal) (y0 m d) (y1 m d) (y2 m d) := by
  funext j
  obtain ⟨i, n, rfl⟩ : ∃ i n, j = ix2 i n := ⟨_, _, eq_ix2 (show S8192x2816.Idx from j)⟩
  refine Eq.trans ?_ (Cert.LossRefIdeal.Entries.v81_apply _ _ _ i n).symm
  show FfnMath.hidden (ah m d i) (ag m d) (awg m d) n = _
  rw [ah_fun, ag_fun, awg_fun]

theorem eq10 : out10 m d = val_main_v83 (F := Ideal) (y0 m d) (y1 m d) (y3 m d) := by
  funext j
  obtain ⟨i, n, rfl⟩ : ∃ i n, j = ix2 i n := ⟨_, _, eq_ix2 (show S8192x2816.Idx from j)⟩
  refine Eq.trans ?_ (Cert.LossRefIdeal.Entries.v83_apply _ _ _ i n).symm
  show FfnMath.hidden (ah m d i) (ag m d) (awu m d) n = _
  rw [ah_fun, ag_fun, awu_fun]

theorem eq12 : out12 m d = val_main_v50 (F := Ideal) (y0 m d) (y1 m d) (y2 m d) (y3 m d) (y4 m d) (y5 m d) (y6 m d) := by
  funext j
  obtain ⟨i, k, rfl⟩ : ∃ i k, j = ix2 i k := ⟨_, _, eq_ix2 (show S1x1024.Idx from j)⟩
  obtain rfl : i = 0 := Subsingleton.elim _ _
  refine Eq.trans ?_ (Cert.LossRefIdeal.Entries.v50_apply _ _ _ _ _ _ _ k).symm
  show gain m d k = _
  unfold gain
  rw [ast_fun, af_fun, at_fun]
  exact Finset.sum_congr rfl fun i _ => mul_comm _ _

/-! ## The loss, and the gradient of the rows -/

variable {m d} (h : Reals m d)
include h

theorem real_state (i : Fin 8192) (k : Fin 1024) :
    FfnMath.IsReal (rS (y0 m d) (y1 m d) (y2 m d) (y3 m d) (y4 m d) i k) :=
  LossMath.IsReal.state (fun _ => h.r0 _) (fun _ => h.r1 _) (fun _ _ => h.r2 _) (fun _ _ => h.r3 _) (fun _ _ => h.r4 _) k

theorem real_err (i : Fin 8192) (k : Fin 1024) : FfnMath.IsReal
    (LossMath.err (rS (y0 m d) (y1 m d) (y2 m d) (y3 m d) (y4 m d) i) (rG (y6 m d)) (rH (y5 m d) i) k) :=
  LossMath.IsReal.err (real_state h i) (fun _ => h.r6 _) (fun _ => h.r5 _) k

theorem eq7 : out7 m d = val_main_v66 (F := Ideal) (y0 m d) (y1 m d) (y2 m d) (y3 m d) (y4 m d) (y5 m d) (y6 m d) := by
  funext j
  obtain ⟨i, k, rfl⟩ : ∃ i k, j = ix2 i k := ⟨_, _, eq_ix2 (show S8192x1024.Idx from j)⟩
  refine Eq.trans ?_ (Cert.LossRefIdeal.Entries.v66_apply _ _ _ _ _ _ _ i k).symm
  show LossMath.drow (ast m d i) (af m d) (at' m d i) k = _
  rw [ast_fun, af_fun, at_fun]
  have e := FfnMath.dunit_eq (FfnMath.IsReal.coe 0) (real_state h i) (q := rQ (y0 m d) (y1 m d) (y2 m d) (y3 m d) (y4 m d) (y5 m d) (y6 m d) i)
    (fun k => ((real_err h i k).mul ⟨_, LossMath.frac_eq⟩).mul (h.r6 _)) rfl k
  rw [EReal.coe_zero, zero_add, zero_add] at e
  exact e.symm

theorem eq11 : out11 m d = val_main_v84 (F := Ideal) (y0 m d) (y1 m d) (y2 m d) (y3 m d) (y4 m d) (y5 m d) (y6 m d) := by
  funext j
  have hj : j = ix2 0 0 := (eq_ix2 (show S1x1.Idx from j)).trans
    (congr (congrArg _ (Subsingleton.elim (α := Fin 1) _ _)) (Subsingleton.elim (α := Fin 1) _ _))
  rw [hj]
  refine Eq.trans ?_ (Cert.LossRefIdeal.Entries.v84_apply _ _ _ _ _ _ _).symm
  show loss m d = _
  unfold loss
  rw [ast_fun, af_fun, at_fun]
  refine LossMath.loss_eq (fun i => .sum fun k => (real_err h i k).mul (real_err h i k)) fun t p hl => ?_
  have e : (⟨256 * t.val + p.val, by omega⟩ : Fin 8192) = ⟨t.val * 256 + p.val, hl⟩ := Fin.ext (by simp only []; omega)
  rw [e]

omit h

/-! ## The claims -/

/-- The reference runs and leaves its arguments as they were; it has no semaphore. -/
theorem frame_ref [Cert.LossRefIdeal.Facts] : Cert.quiescent_LossRefIdeal := fun m ρ _ =>
  (θ_run Cert.LossRefIdeal.defs _ _).mono (fun r h => ⟨fun c => (h c).2.2.2.2.2.2, sem_eq_zero_of_no_sems (by decide) r.2⟩)
    (Cert.LossRefIdeal.Value.run (F := Ideal) m ρ)

/-- On arguments that are real numbers, the kernel and the reference leave the same six arrays. -/
theorem algebraic : Cert.algebraic_FfnLossIdeal_LossRefIdeal_pre_loss_finite := by
  intro m ρ m' ρ' hpre hag
  refine ⟨fun c => out7 m c, fun c => out8 m c, fun c => out9 m c, fun c => out10 m c, fun c => out11 m c,
    fun c => out12 m c, ?_, ?_⟩
  · refine (θ_run Cert.FfnLossIdeal.defs _ _).mono (fun r h c => ?_) (Cert.FfnLossIdeal.Value.run_blocks m ρ)
    obtain ⟨h0, h1, h2, h3, h4, h5, hargs⟩ := h c
    exact ⟨h0.trans (arr7 m c), h1.trans (arr8 m c), h2.trans (arr9 m c), h3.trans (arr10 m c), h4.trans (arr11 m c),
      h5.trans (arr12 m c), hargs⟩
  · refine (θ_run Cert.LossRefIdeal.defs _ _).mono (fun r h c => ?_) (Cert.LossRefIdeal.Value.run (F := Ideal) m' ρ')
    obtain ⟨h0, h1, h2, h3, h4, h5, hargs⟩ := h c
    obtain ⟨a0, a1, a2, a3, a4, a5, a6⟩ := hag c
    have hr := reals m c hpre
    refine ⟨(h0.trans (val_main_v66_eq m' c)).trans ?_, (h1.trans (val_main_v79_eq _ _)).trans ?_,
      (h2.trans (val_main_v81_eq _ _ _)).trans ?_, (h3.trans (val_main_v83_eq _ _ _)).trans ?_,
      (h4.trans (val_main_v84_eq m' c)).trans ?_, (h5.trans (val_main_v50_eq m' c)).trans ?_, hargs⟩
    · rw [a0, a1, a2, a3, a4, a5, a6]; exact (eq7 hr).symm
    · rw [a0, a1]; exact (eq8 m c).symm
    · rw [a0, a1, a2]; exact (eq9 m c).symm
    · rw [a0, a1, a3]; exact (eq10 m c).symm
    · rw [a0, a1, a2, a3, a4, a5, a6]; exact (eq11 hr).symm
    · rw [a0, a1, a2, a3, a4, a5, a6]; exact (eq12 m c).symm

end Cert.LossClaim

end
-- ==== Proof.OddMath.lean ====
/-
  The mathematics of the odd layer's mixers, on extended reals and apart from any program.

  Every token has a row `z` of 2560 numbers. The first 1024 give the gated row that a causal convolution of 31 taps runs
  over; the rest give a second mixer with a causal convolution of 3 taps. Both convolutions read tokens before the first one
  as zero: the rows are written `pad z`, indexed by natural numbers, where token `i` stands at place `i + 32`.
-/
module

public import proofs.«01_k».proof.Proof.FfnMath

@[expose] public section

noncomputable section

namespace Cert.OddMath

open Idealize.ShloMosaic

/-- The number 512 as the programs write it. -/
abbrev half : EReal := Ideal.ofBits .f32 0x44000000#32

/-- The tokens' rows, with zero rows before the first; token `i` stands at place `i + 32`. -/
def pad (z : Fin 8192 → Fin 2560 → EReal) (s : ℕ) : Fin 2560 → EReal :=
  if h : 32 ≤ s ∧ s < 8224 then z ⟨s - 32, by omega⟩ else fun _ => 0

theorem pad_lt {z : Fin 8192 → Fin 2560 → EReal} {s : ℕ} (h : s < 32) : pad z s = fun _ => 0 := dif_neg (by omega)

theorem pad_token {z : Fin 8192 → Fin 2560 → EReal} {s : ℕ} (i : Fin 8192) (h : s = i.val + 32) : pad z s = z i := by
  subst h
  exact (dif_pos ⟨by omega, by omega⟩).trans (congrArg z (Fin.ext (by simp)))

/-- The sum of `n` taps over consecutive places from `s` on. -/
def conv (n : ℕ) (w : Fin n → EReal) (x : ℕ → EReal) (s : ℕ) : EReal := ∑ j : Fin n, w j * x (s + j)

/-- The gated row that the long convolution runs over, and the product that the short one runs over. -/
def glu (z : Fin 2560 → EReal) (c : Fin 512) : EReal := z ⟨c, by omega⟩ * FfnMath.sigm (z ⟨512 + c, by omega⟩)
def prod (z : Fin 2560 → EReal) (c : Fin 512) : EReal := z ⟨1536 + c, by omega⟩ * z ⟨2048 + c, by omega⟩

theorem glu_zero (c : Fin 512) : glu (fun _ => 0) c = 0 := zero_mul _
theorem prod_zero (c : Fin 512) : prod (fun _ => 0) c = 0 := zero_mul _

/-- A row of 512 numbers: its mean, its variance plus the small constant, and the normalised row with gain and shift. -/
def mean (v : Fin 512 → EReal) : EReal := Ideal.div (∑ c, v c) half
def var (v : Fin 512 → EReal) : EReal :=
  Ideal.div (∑ c, (v c - mean v) * (v c - mean v)) half + FfnMath.eps
def ln (v g b : Fin 512 → EReal) (c : Fin 512) : EReal := (v c - mean v) * Ideal.rsqrt (var v) * g c + b c

/-- The logistic-weighted number `y * sigm y`. -/
def silu (y : EReal) : EReal := y * FfnMath.sigm y

/-- The long convolution's row at place `s`, over the tokens that end there: 31 taps `w` and a shift `b`. -/
def long (w : Fin 31 → Fin 512 → EReal) (b : Fin 512 → EReal) (z : ℕ → Fin 2560 → EReal) (s : ℕ) (c : Fin 512) : EReal :=
  conv 31 (w · c) (fun s => glu (z s) c) (s + 2) + b c
/-- The short convolution's row, of 3 taps. -/
def short (w : Fin 3 → Fin 512 → EReal) (z : ℕ → Fin 2560 → EReal) (s : ℕ) (c : Fin 512) : EReal :=
  conv 3 (w · c) (fun s => prod (z s) c) (s + 30)

theorem short_eq (w : Fin 3 → Fin 512 → EReal) (z : ℕ → Fin 2560 → EReal) (s : ℕ) (c : Fin 512) : short w z s c
    = w 0 c * prod (z (s + 30)) c + w 1 c * prod (z (s + 31)) c + w 2 c * prod (z (s + 32)) c :=
  (Fin.sum_univ_three fun j => w j c * prod (z (s + 30 + j)) c).trans rfl

/-- Reading the rows from place `o` on moves the place. -/
theorem conv_shift {n : ℕ} (w : Fin n → EReal) (x : ℕ → EReal) (o s : ℕ) : conv n w (fun s => x (o + s)) s = conv n w x (o + s) :=
  Finset.sum_congr rfl fun j _ => congrArg (w j * x ·) (Nat.add_assoc _ _ _).symm

theorem long_shift (w : Fin 31 → Fin 512 → EReal) (b : Fin 512 → EReal) (z : ℕ → Fin 2560 → EReal) (o s : ℕ) :
    long w b (fun s => z (o + s)) s = long w b z (o + s) :=
  funext fun c => congrArg (· + b c) (conv_shift _ (fun s => glu (z s) c) o (s + 2))

theorem short_shift (w : Fin 3 → Fin 512 → EReal) (z : ℕ → Fin 2560 → EReal) (o s : ℕ) :
    short w (fun s => z (o + s)) s = short w z (o + s) :=
  funext fun c => conv_shift _ (fun s => prod (z s) c) o (s + 30)

/-- The two mixers side by side: `v` is the long convolution's row, `u` the short one's. -/
def mix (v g b : Fin 512 → EReal) (z : Fin 2560 → EReal) (u : Fin 512 → EReal) (n : Fin 1024) : EReal :=
  if h : n.val < 512 then silu (ln v g b ⟨n, h⟩)
  else z ⟨1024 + (n.val - 512), by omega⟩ * u ⟨n.val - 512, by omega⟩

/-- A token's row of 2560 numbers: its normalised activations through the first weight. -/
def inner (x g : Fin 1024 → EReal) (w : Fin 2560 → Fin 1024 → EReal) (n : Fin 2560) : EReal :=
  ∑ k, FfnMath.unit x k * g k * w n k

end Cert.OddMath

end
-- ==== Proof.OddBlocks.lean ====
/-
  What one grid point of the odd layer's forward call computes from its blocks of 1024 tokens and the 32 tokens before
  them, entry by entry.
-/
module

public import proofs.«01_k».proof.Proof.OddMath
public import proofs.«01_k».proof.Proof.Gen.OddFwdIdeal.Value
public import Idealize.ShloMosaic.Lib.Pipeline.ValueKit
public import Idealize.ShloMosaic.Lib.Pointwise
public import Idealize.ShloMosaic.Lib.IdealHost

@[expose] public section

set_option maxRecDepth 16384

noncomputable section

namespace Cert.OddFwdIdeal.Blocks

open Idealize.ShloMosaic Idealize.ShloMosaic.TcCoe Idealize.SL.Sem Cert.OddFwdIdeal Cert.OddFwdIdeal.Gen

/-! ## The rows of a block, and of the tokens before it -/

section
variable (g : Vec Ideal S1x1024 .f32) (h : Vec Ideal S1024x1024 .f32) (hp : Vec Ideal S32x1024 .f32)
  (w : Vec Ideal S2560x1024 .bf16)

theorem pay3_apply (p k : Fin 1024) : k0_pay3 g h (ix2 p k) = FfnMath.unit (fun k => h (ix2 p k)) k * g (ix2 0 k) := by
  unfold_payloads
  pointwise [FfnMath.unit, FfnMath.inv, FfnMath.msq]

theorem pay5_apply (p : Fin 32) (k : Fin 1024) :
    k0_pay5 g hp (ix2 p k) = FfnMath.unit (fun k => hp (ix2 p k)) k * g (ix2 0 k) := by
  unfold_payloads
  pointwise [FfnMath.unit, FfnMath.inv, FfnMath.msq]

/-- A block's rows through the first weight, and the same of the 32 tokens before. -/
abbrev zb (p : Fin 1024) (n : Fin 2560) : EReal :=
  OddMath.inner (fun k => h (ix2 p k)) (fun k => g (ix2 0 k)) (fun n k => w (ix2 n k)) n
abbrev zh (p : Fin 32) (n : Fin 2560) : EReal :=
  OddMath.inner (fun k => hp (ix2 p k)) (fun k => g (ix2 0 k)) (fun n k => w (ix2 n k)) n

theorem pay4_apply (p : Fin 1024) (n : Fin 2560) : k0_pay4 g h w (ix2 p n) = zb g h w p n := by
  unfold k0_pay4
  pointwise [pay3_apply, zb, OddMath.inner]

theorem pay6_apply (p : Fin 1024) (n : Fin 2560) : k0_pay6 (k0_pay4 g h w) (ix2 p n) = zb g h w p n := by
  unfold k0_pay6
  pointwise [pay4_apply]

/-- The block's rows with the 32 before, which are zero at the first grid point. -/
abbrev ze (a : BitVec 32) (e : Fin 1056) (n : Fin 2560) : EReal :=
  if h' : e.val < 32 then Scalar.select (Scalar.cmpi CmpIPredicate.sgt a 0#32) (zh g hp w ⟨e, h'⟩ n) 0
  else zb g h w ⟨e - 32, by omega⟩ n

theorem pay7_apply (a : BitVec 32) (e : Fin 1056) (n : Fin 2560) :
    k0_pay7 a (k0_pay4 g h w) (k0_pay5 g hp) w (ix2 e n) = ze g h hp w a e n := by
  unfold k0_pay7
  pointwise [pay6_apply, pay5_apply, ze, zh, OddMath.inner]

theorem pay8_apply (a : BitVec 32) (e : Fin 1056) (c : Fin 512) :
    k0_pay8 a (k0_pay4 g h w) (k0_pay5 g hp) w (ix2 e c) = OddMath.glu (ze g h hp w a e) c := by
  have e7 := pay7_apply g h hp w a
  unfold k0_pay8
  revert e7
  generalize k0_pay7 a (k0_pay4 g h w) (k0_pay5 g hp) w = z
  intro e7
  pointwise [e7, OddMath.glu, FfnMath.sigm, zero_sub]
end

/-! ## The long convolution

The rows `v` of the extended block are rotated by 0 to 7 places; each tap reads one of the eight from one of four offsets. -/

/-- Entry `a - k` of a rotation by `k` places. -/
theorem rot {a k : ℕ} (h₁ : k ≤ a) (h₂ : a - k < 1056) : (a + 1056 - k) % 1056 = a - k := by omega

section
variable (a : BitVec 32) (v19 : FVec Ideal S1024x2560 .bf16) (v34 : FVec Ideal S32x1024 .bf16)
  (v35 : Vec Ideal S2560x1024 .bf16) (cw : Vec Ideal S31x512 .f32) (cb clg clb : Vec Ideal S1x512 .f32)

/-- The running sum of the taps 0 to 27. -/
abbrev taps : FVec Ideal S1024x512 .f32 :=
  k0_pay21 (k0_pay8 a v19 v34 v35) (k0_pay9 a v19 v34 v35) (k0_pay10 a v19 v34 v35) (k0_pay11 a v19 v34 v35)
    (k0_pay12 a v19 v34 v35) (k0_pay13 a v19 v34 v35) (k0_pay14 a v19 v34 v35) (k0_pay15 a v19 v34 v35)
    (k0_pay20 (k0_pay8 a v19 v34 v35) (k0_pay9 a v19 v34 v35) (k0_pay10 a v19 v34 v35) (k0_pay11 a v19 v34 v35)
      (k0_pay12 a v19 v34 v35) (k0_pay13 a v19 v34 v35) (k0_pay14 a v19 v34 v35) (k0_pay15 a v19 v34 v35)
      (k0_pay17 (k0_pay8 a v19 v34 v35) (k0_pay9 a v19 v34 v35) (k0_pay10 a v19 v34 v35) (k0_pay11 a v19 v34 v35)
        (k0_pay12 a v19 v34 v35) (k0_pay13 a v19 v34 v35) (k0_pay14 a v19 v34 v35) (k0_pay15 a v19 v34 v35)
        (k0_pay16 a v19 v34 v35 (View.ld cw r0_5) (View.ld cw r0_6) (View.ld cw r0_7))
        (View.ld cw r0_8) (View.ld cw r0_9) (View.ld cw r0_10) (View.ld cw r0_11) (View.ld cw r0_12) (View.ld cw r0_13)
        (View.ld cw r0_14) (View.ld cw r0_15))
      (k0_pay18 (k0_pay11 a v19 v34 v35)) (k0_pay19 (View.ld cw r0_16))
      (View.ld cw r0_17) (View.ld cw r0_18) (View.ld cw r0_19) (View.ld cw r0_20) (View.ld cw r0_21) (View.ld cw r0_22)
      (View.ld cw r0_23) (View.ld cw r0_24))
    (View.ld cw r0_25) (View.ld cw r0_26) (View.ld cw r0_27) (View.ld cw r0_28) (View.ld cw r0_29) (View.ld cw r0_30)
    (View.ld cw r0_31) (View.ld cw r0_32)

/-- The long convolution's rows. -/
abbrev cv : FVec Ideal S1024x512 .f32 :=
  k0_pay23 (k0_pay8 a v19 v34 v35) (k0_pay9 a v19 v34 v35) (taps a v19 v34 v35 cw)
    (k0_pay22 (k0_pay10 a v19 v34 v35) (View.ld cw r0_33)) (View.ld cw r0_34) (View.ld cw r0_35) cb

variable {a v19 v34 v35}

theorem cv_apply {G : ℕ → Fin 2560 → EReal}
    (hz : ∀ (e : Fin 1056) (c : Fin 512), k0_pay8 a v19 v34 v35 (ix2 e c) = OddMath.glu (G e) c) (p : Fin 1024) (c : Fin 512) :
    cv a v19 v34 v35 cw cb (ix2 p c) = OddMath.long (fun j c => cw (ix2 j c)) (fun c => cb (ix2 0 c)) G p c := by
  unfold cv taps k0_pay23 k0_pay22 k0_pay21 k0_pay20 k0_pay19 k0_pay18 k0_pay17 k0_pay16 k0_pay15 k0_pay14 k0_pay13 k0_pay12
    k0_pay11 k0_pay10 k0_pay9
  obtain ⟨F, hF⟩ : ∃ F : ℕ → EReal, F = fun s => OddMath.glu (G s) c := ⟨_, rfl⟩
  have hz : ∀ e : Fin 1056, k0_pay8 a v19 v34 v35 (ix2 e c) = F e := fun e => (hz e c).trans (congrFun hF.symm _)
  unfold OddMath.long
  rw [← hF]
  revert hz
  generalize k0_pay8 a v19 v34 v35 = z
  intro hz
  pointwise [hz]
  refine congrArg (· + _) ?_
  simp only [OddMath.conv, Fin.sum_univ_castSucc, Finset.univ_eq_empty, Finset.sum_empty, zero_add]
  iterate 30 refine congr (congrArg HAdd.hAdd ?_) (congrArg (HMul.hMul _) (congrArg F ?_))
  refine congrArg (HMul.hMul _) (congrArg F ?_)
  all_goals simp only [Fin.val_castSucc, Fin.val_last]; omega
end

/-! ## The mixers, and the rows that leave -/

section
variable (v54 v55 : FVec Ideal S1056x512 .f32) (v200 v204 : FVec Ideal S1024x512 .f32) (v206 v211 v216 v220 v221 : Vec Ideal S1x512 .f32)

theorem pay24_apply (p : Fin 1024) (c : Fin 512) : k0_pay24 v54 v55 v200 v204 v206 v211 v216 v220 v221 (ix2 p c)
    = OddMath.ln (fun c => k0_pay23 v54 v55 v200 v204 v206 v211 v216 (ix2 p c)) (fun c => v220 (ix2 0 c)) (fun c => v221 (ix2 0 c)) c := by
  unfold k0_pay24
  generalize k0_pay23 v54 v55 v200 v204 v206 v211 v216 = z
  pointwise [OddMath.ln, OddMath.mean, OddMath.var]

theorem pay25_apply (p : Fin 1024) (c : Fin 512) : k0_pay25 v54 v55 v200 v204 v206 v211 v216 v220 v221 (ix2 p c)
    = Ideal.exp (-k0_pay24 v54 v55 v200 v204 v206 v211 v216 v220 v221 (ix2 p c)) := by
  unfold k0_pay25
  generalize k0_pay24 v54 v55 v200 v204 v206 v211 v216 v220 v221 = z
  pointwise [zero_sub]
end

section
variable {v40 : FVec Ideal S1024x2560 .f32} {v44 : FVec Ideal S1056x2560 .f32} {v241 v244 : FVec Ideal S1024x512 .f32}
  (dw : Vec Ideal S3x512 .f32) {G : ℕ → Fin 2560 → EReal} {v g b : Fin 512 → EReal} {p : Fin 1024}

/-- The short convolution's row as the rotated rows of the extended block give it. -/
abbrev rolled (dw : Vec Ideal S3x512 .f32) (G : ℕ → Fin 2560 → EReal) (p : Fin 1024) (c : Fin 512) : EReal :=
  dw (ix2 0 c) * (G ((32 + p.val + 1056 - 2) % 1056) ⟨1536 + c, by omega⟩ * G ((32 + p.val + 1056 - 2) % 1056) ⟨2048 + c, by omega⟩)
    + dw (ix2 1 c) * (G ((32 + p.val + 1056 - 1) % 1056) ⟨1536 + c, by omega⟩ * G ((32 + p.val + 1056 - 1) % 1056) ⟨2048 + c, by omega⟩)
    + dw (ix2 2 c) * (G (32 + p.val) ⟨1536 + c, by omega⟩ * G (32 + p.val) ⟨2048 + c, by omega⟩)

theorem rolled_eq (G : ℕ → Fin 2560 → EReal) (p : Fin 1024) :
    rolled dw G p = OddMath.short (fun j c => dw (ix2 j c)) G p := by
  funext c
  rw [OddMath.short_eq]
  unfold rolled
  rw [show (32 + p.val + 1056 - 2) % 1056 = p.val + 30 by omega, show (32 + p.val + 1056 - 1) % 1056 = p.val + 31 by omega,
    Nat.add_comm 32 p.val]
  rfl

theorem pay1_apply (h40 : ∀ n, v40 (ix2 p n) = G (p.val + 32) n) (h44 : ∀ (e : Fin 1056) n, v44 (ix2 e n) = G e n)
    (h241 : ∀ c, v241 (ix2 p c) = OddMath.ln v g b c) (h244 : ∀ c, v244 (ix2 p c) = Ideal.exp (-OddMath.ln v g b c)) (n : Fin 1024) :
    k0_pay1 v40 v44 v241 v244 (Scalar.ofBits .f32 0x3F800000#32) (View.ld dw r0_38) (View.ld dw r0_39) (View.ld dw r0_40) (ix2 p n)
      = OddMath.mix v g b (G (p.val + 32)) (OddMath.short (fun j c => dw (ix2 j c)) G p) n := by
  rw [← rolled_eq]
  unfold k0_pay1
  pointwise [h40, h44, h241, h244, OddMath.mix, OddMath.silu, FfnMath.sigm]

theorem pay2_apply {h : Vec Ideal S1024x1024 .f32} {w : Vec Ideal S1024x1024 .bf16} {x y z : Vec Ideal S1x512 .f32} {o : Ideal .f32}
    {M : Fin 1024 → EReal} (hM : ∀ n, k0_pay1 v40 v44 v241 v244 o x y z (ix2 p n) = M n) (k : Fin 1024) :
    k0_pay2 h v40 v44 v241 v244 o x y z w (ix2 p k) = h (ix2 p k) + ∑ n, M n * w (ix2 n k) := by
  unfold k0_pay2
  revert hM
  generalize k0_pay1 v40 v44 v241 v244 o x y z = q
  intro hM
  pointwise [hM]
end

/-! ## The blocks of the arrays at a grid point, and what the body leaves in the result windows -/

section
variable (m : (ℓ : Loc nD τ sig) → Buf (Elt Ideal) ℓ) (d : Dev nD) (t : Fin cfg0.N)

/-- The activations of the block and of the 32 tokens before; the first weight by feature, the second. -/
abbrev bh (p : Fin 1024) (k : Fin 1024) : EReal := (iblk m d 0 t : Vec Ideal S1024x1024 .f32) (ix2 p k)
abbrev bp (p : Fin 32) (k : Fin 1024) : EReal := (iblk m d 1 t : Vec Ideal S32x1024 .f32) (ix2 p k)
abbrev bi (n : Fin 2560) (k : Fin 1024) : EReal := (iblk m d 2 t : Vec Ideal S2560x1024 .bf16) (ix2 n k)
abbrev bo (n : Fin 1024) (k : Fin 1024) : EReal := (iblk m d 3 t : Vec Ideal S1024x1024 .bf16) (ix2 n k)
/-- The taps and the shift of the long convolution, the gain and shift of its normalisation, the taps of the short
    convolution, and the gain of the first normalisation. -/
abbrev bcw (j : Fin 31) (c : Fin 512) : EReal := (iblk m d 4 t : Vec Ideal S31x512 .f32) (ix2 j c)
abbrev bcb (c : Fin 512) : EReal := (iblk m d 5 t : Vec Ideal S1x512 .f32) (ix2 0 c)
abbrev blg (c : Fin 512) : EReal := (iblk m d 6 t : Vec Ideal S1x512 .f32) (ix2 0 c)
abbrev blb (c : Fin 512) : EReal := (iblk m d 7 t : Vec Ideal S1x512 .f32) (ix2 0 c)
abbrev bdw (j : Fin 3) (c : Fin 512) : EReal := (iblk m d 8 t : Vec Ideal S3x512 .f32) (ix2 j c)
abbrev bg (k : Fin 1024) : EReal := (iblk m d 9 t : Vec Ideal S1x1024 .f32) (ix2 0 k)

/-- The rows of the block and of the tokens before it. -/
abbrev bz (e : Fin 1056) : Fin 2560 → EReal :=
  ze (iblk m d 9 t) (iblk m d 0 t) (iblk m d 1 t) (iblk m d 2 t) (BitVec.ofNat 32 (grid0.coords t 0).val) e

variable {m d t} {G : ℕ → Fin 2560 → EReal} (hG : ∀ e : Fin 1056, bz m d t e = G e)

theorem after11 (p k : Fin 1024) : (dats m 0 d).after 11 t (ix2 p k) = FfnMath.unit (bh m d t p) k * bg m d t k := by
  rw [Gen.after0_11]; unfold Gen.out0_11; frame_out
  exact pay3_apply ..

theorem after12 (p : Fin 1024) (n : Fin 2560) :
    (dats m 0 d).after 12 t (ix2 p n) = OddMath.inner (bh m d t p) (bg m d t) (bi m d t) n := by
  rw [Gen.after0_12]; unfold Gen.out0_12; frame_out
  exact pay4_apply ..

include hG

theorem after14 (p : Fin 1024) (c : Fin 512) :
    (dats m 0 d).after 14 t (ix2 p c) = OddMath.long (bcw m d t) (bcb m d t) G p c := by
  rw [Gen.after0_14]; unfold_out out0_14; simp (disch := decide) only [View.canon_cons_unit_lit', View.ld_unit_lit']
  exact cv_apply _ _ (fun e c => (pay8_apply ..).trans (congrArg (OddMath.glu · c) (hG e))) p c

/-- The mixers' rows. -/
abbrev bmix (p : Fin 1024) : Fin 1024 → EReal :=
  OddMath.mix (OddMath.long (bcw m d t) (bcb m d t) G p) (blg m d t) (blb m d t) (G (p.val + 32))
    (OddMath.short (bdw m d t) G p)

theorem cv_row (p : Fin 1024) :
    (fun c => cv (BitVec.ofNat 32 (grid0.coords t 0).val) (k0_pay4 (iblk m d 9 t) (iblk m d 0 t) (iblk m d 2 t))
      (k0_pay5 (iblk m d 9 t) (iblk m d 1 t)) (iblk m d 2 t) (iblk m d 4 t) (iblk m d 5 t) (ix2 p c))
      = OddMath.long (bcw m d t) (bcb m d t) G p := by
  funext c
  exact cv_apply _ _ (fun e c => (pay8_apply ..).trans (congrArg (OddMath.glu · c) (hG e))) p c

/-- A row of the block is row `p + 32` of the extended block. -/
theorem zb_row (p : Fin 1024) (n : Fin 2560) : zb (iblk m d 9 t) (iblk m d 0 t) (iblk m d 2 t) p n = G (p.val + 32) n := by
  refine Eq.trans ?_ (congrFun (hG ⟨p.val + 32, by omega⟩) n)
  unfold bz ze
  rw [dif_neg (show ¬(p.val + 32 < 32) by omega)]
  exact congrArg (fun q => zb _ _ _ q n) (Fin.ext (Nat.add_sub_cancel _ _).symm)

theorem after13 (p : Fin 1024) (n : Fin 1024) : (dats m 0 d).after 13 t (ix2 p n) = bmix (m := m) (d := d) (t := t) (G := G) p n := by
  rw [Gen.after0_13]; unfold_out out0_13; simp (disch := decide) only [View.canon_cons_unit_lit', View.ld_unit_lit']
  refine pay1_apply _ (fun n => (pay6_apply ..).trans (zb_row hG p n)) (fun e n => (pay7_apply ..).trans (congrFun (hG e) n))
    (fun c => (pay24_apply ..).trans (congrArg (OddMath.ln · _ _ c) (cv_row hG p)))
    (fun c => (pay25_apply ..).trans (congrArg (fun y => Ideal.exp (-y)) ((pay24_apply ..).trans (congrArg (OddMath.ln · _ _ c) (cv_row hG p))))) n

theorem after10 (p k : Fin 1024) : (dats m 0 d).after 10 t (ix2 p k)
    = bh m d t p k + ∑ n, bmix (m := m) (d := d) (t := t) (G := G) p n * bo m d t n k := by
  have e := after13 hG p
  rw [Gen.after0_13] at e
  unfold out0_13 k0_pay41 k0_pay40 k0_pay39 k0_pay38 k0_pay37 k0_pay36 k0_pay35 k0_pay34 k0_pay33 k0_pay32 k0_pay31 k0_pay30
    k0_pay29 k0_pay28 k0_pay27 k0_pay26 at e
  simp (disch := decide) only [View.canon_cons_unit_lit', View.ld_unit_lit'] at e
  rw [Gen.after0_10]; unfold_out out0_10; simp (disch := decide) only [View.canon_cons_unit_lit', View.ld_unit_lit']
  exact pay2_apply e k
end
end Cert.OddFwdIdeal.Blocks

end
-- ==== Proof.OddArrays.lean ====
/-
  What the five result arrays of the odd layer's forward call hold after the run, as functions of the arrays that its
  region starts from, and these as functions of the program's arguments.
-/
module

public import proofs.«01_k».proof.Proof.OddBlocks

@[expose] public section

set_option maxRecDepth 16384

noncomputable section

namespace Cert.OddFwdIdeal.Arrays

open Idealize.ShloMosaic Idealize.ShloMosaic.TcCoe Idealize.SL.Sem Cert.OddFwdIdeal Cert.OddFwdIdeal.Gen Cert.OddFwdIdeal.Blocks

variable (m : (ℓ : Loc nD τ sig) → Buf (Elt Ideal) ℓ) (d : Dev nD)

/-! ## The arrays at the start of the region -/

/-- The activations, by token and feature; the first weight by hidden number and feature, the second as it is. -/
abbrev ah (i : Fin 8192) (k : Fin 1024) : EReal := (V m d main_arg0 : Vec Ideal S8192x1024 .f32) (ix2 i k)
abbrev ai (n : Fin 2560) (k : Fin 1024) : EReal := (V m d main_v1 : Vec Ideal S2560x1024 .bf16) (ix2 n k)
abbrev ao (n : Fin 1024) (k : Fin 1024) : EReal := (V m d main_v2 : Vec Ideal S1024x1024 .bf16) (ix2 n k)
/-- The taps and the shift of the long convolution, the gain and shift of its normalisation, the taps of the short
    convolution, and the gain of the first normalisation. -/
abbrev acw (j : Fin 31) (c : Fin 512) : EReal := (V m d main_arg3 : Vec Ideal S31x512 .f32) (ix2 j c)
abbrev acb (c : Fin 512) : EReal := (V m d main_arg4 : Vec Ideal S1x512 .f32) (ix2 0 c)
abbrev alg (c : Fin 512) : EReal := (V m d main_arg5 : Vec Ideal S1x512 .f32) (ix2 0 c)
abbrev alb (c : Fin 512) : EReal := (V m d main_arg6 : Vec Ideal S1x512 .f32) (ix2 0 c)
abbrev adw (j : Fin 3) (c : Fin 512) : EReal := (V m d main_arg7 : Vec Ideal S3x512 .f32) (ix2 j c)
abbrev ag (k : Fin 1024) : EReal := (V m d main_arg8 : Vec Ideal S1x1024 .f32) (ix2 0 k)

/-! ## The blocks of the arrays -/

/-- The row of an array that row `p` of block `t` is. -/
abbrev row (t : Fin cfg0.N) (p : Fin 1024) : Fin 8192 := ⟨1024 * t.val + p.val, by have := lt_of_lt_of_eq t.isLt N_0; omega⟩

theorem e0 : ∀ t : Fin cfg0.N, win0_0.index t = ![t.val, 0] := (by decide +kernel : ∀ t : Fin grid0.N, _)
/-- The 32 rows before the block, or the first 32 rows at the first point. -/
theorem e1 : ∀ t : Fin cfg0.N, win0_1.index t = ![32 * t.val - 1, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)

/-- The body zeroes the rows before the block at the first point only. -/
theorem halo : ∀ t : Fin cfg0.N, Scalar.cmpi CmpIPredicate.sgt (BitVec.ofNat 32 (grid0.coords t 0).val) 0#32
    = if t.val = 0 then 0#1 else 1#1 := (by decide +kernel : ∀ t : Fin grid0.N, _)

section
variable (t : Fin cfg0.N) (p : Fin 1024) (k : Fin 1024) (c : Fin 512)

theorem bh_eq : bh m d t p k = ah m d (row t p) k := by
  unfold bh ah
  blk_simp [iblk]
  refine congrArg _ ?_
  blk_ext [e0]
theorem bp_eq (h : t.val ≠ 0) (q : Fin 32) : bp m d t q k
    = ah m d ⟨1024 * t.val + q.val - 32, by have := lt_of_lt_of_eq t.isLt N_0; omega⟩ k := by
  unfold bp ah
  blk_simp [iblk]
  refine congrArg _ ?_
  blk_ext [e1]
theorem bi_eq (n : Fin 2560) : bi m d t n k = ai m d n k := by
  unfold bi ai
  blk_simp [iblk]
  refine congrArg _ ?_
  blk_ext [e2]
theorem bo_eq : bo m d t p k = ao m d p k := by
  unfold bo ao
  blk_simp [iblk]
  refine congrArg _ ?_
  blk_ext [e3]
theorem bcw_eq (j : Fin 31) : bcw m d t j c = acw m d j c := by
  unfold bcw acw
  blk_simp [iblk]
  refine congrArg _ ?_
  blk_ext [e4]
theorem bcb_eq : bcb m d t c = acb m d c := by
  unfold bcb acb
  blk_simp [iblk]
  refine congrArg _ ?_
  blk_ext [e5]
theorem blg_eq : blg m d t c = alg m d c := by
  unfold blg alg
  blk_simp [iblk]
  refine congrArg _ ?_
  blk_ext [e6]
theorem blb_eq : blb m d t c = alb m d c := by
  unfold blb alb
  blk_simp [iblk]
  refine congrArg _ ?_
  blk_ext [e7]
theorem bdw_eq (j : Fin 3) : bdw m d t j c = adw m d j c := by
  unfold bdw adw
  blk_simp [iblk]
  refine congrArg _ ?_
  blk_ext [e8]
theorem bg_eq : bg m d t k = ag m d k := by
  unfold bg ag
  blk_simp [iblk]
  refine congrArg _ ?_
  blk_ext [e9]

theorem bh_row : bh m d t p = ah m d (row t p) := funext fun k => bh_eq m d t p k
theorem bi_fun : bi m d t = ai m d := funext fun n => funext fun k => bi_eq m d t k n
theorem bo_fun : bo m d t = ao m d := funext fun n => funext fun k => bo_eq m d t n k
theorem bcw_fun : bcw m d t = acw m d := funext fun j => funext fun c => bcw_eq m d t c j
theorem bcb_fun : bcb m d t = acb m d := funext fun c => bcb_eq m d t c
theorem blg_fun : blg m d t = alg m d := funext fun c => blg_eq m d t c
theorem blb_fun : blb m d t = alb m d := funext fun c => blb_eq m d t c
theorem bdw_fun : bdw m d t = adw m d := funext fun j => funext fun c => bdw_eq m d t c j
theorem bg_fun : bg m d t = ag m d := funext fun k => bg_eq m d t k
end

/-- The tokens' rows of 2560 numbers. -/
abbrev az (i : Fin 8192) : Fin 2560 → EReal := OddMath.inner (ah m d i) (ag m d) (ai m d)

/-- Row `e` of block `t`, extended by the 32 tokens before it, stands at place `1024 t + e` of the padded rows. -/
theorem bz_eq (t : Fin cfg0.N) (e : Fin 1056) : bz m d t e = OddMath.pad (az m d) (1024 * t.val + e.val) := by
  have ht := lt_of_lt_of_eq t.isLt N_0
  have hzb : ∀ p n, zb (iblk m d 9 t) (iblk m d 0 t) (iblk m d 2 t) p n = az m d (row t p) n := fun p n => by
    show OddMath.inner (bh m d t p) (bg m d t) (bi m d t) n = _
    rw [bh_row, bg_fun, bi_fun]
  funext n
  unfold bz ze
  by_cases he : e.val < 32
  · rw [dif_pos he, halo]
    by_cases h0 : t.val = 0
    · rw [if_pos h0, OddMath.pad_lt (by omega)]
      rfl
    · rw [if_neg h0, OddMath.pad_token ⟨1024 * t.val + e.val - 32, by omega⟩ (by simp only []; omega)]
      show OddMath.inner (bp m d t ⟨e.val, he⟩) (bg m d t) (bi m d t) n = _
      rw [bg_fun, bi_fun, show bp m d t ⟨e.val, he⟩ = ah m d ⟨1024 * t.val + e.val - 32, by omega⟩ from
        funext fun k => bp_eq m d t k h0 ⟨e.val, he⟩]
  · rw [dif_neg he, hzb, OddMath.pad_token (row t ⟨e.val - 32, by omega⟩) (by simp only []; omega)]

/-- The padded rows from block `t` on. -/
abbrev at' (t : Fin cfg0.N) (s : ℕ) : Fin 2560 → EReal := OddMath.pad (az m d) (1024 * t.val + s)

/-! ## The result arrays -/

/-- The long and the short convolution's row of a token, and the mixers' row. -/
abbrev along (i : Fin 8192) : Fin 512 → EReal := OddMath.long (acw m d) (acb m d) (OddMath.pad (az m d)) i
abbrev ashort (i : Fin 8192) : Fin 512 → EReal := OddMath.short (adw m d) (OddMath.pad (az m d)) i
abbrev amix (i : Fin 8192) : Fin 1024 → EReal :=
  OddMath.mix (along m d i) (alg m d) (alb m d) (az m d i) (ashort m d i)

theorem long_row (t : Fin cfg0.N) (p : Fin 1024) : OddMath.long (bcw m d t) (bcb m d t) (at' m d t) p = along m d (row t p) := by
  rw [bcw_fun, bcb_fun]
  exact OddMath.long_shift ..

theorem bmix_row (t : Fin cfg0.N) (p : Fin 1024) : bmix (m := m) (d := d) (t := t) (G := at' m d t) p = amix m d (row t p) := by
  unfold bmix amix
  rw [long_row, blg_fun, blb_fun, bdw_fun]
  refine congr (congrArg _ ?_) (OddMath.short_shift ..)
  exact OddMath.pad_token (row t p) (by simp only []; omega)

abbrev out10 : Buf (Elt Ideal) ((d : Thread nD τ).loc main_v3_0) := fun i : S8192x1024.Idx => ah m d (i 0) (i 1) + ∑ n, amix m d (i 0) n * ao m d n (i 1)
abbrev out11 : Buf (Elt Ideal) ((d : Thread nD τ).loc main_v3_1) := fun i : S8192x1024.Idx => FfnMath.unit (ah m d (i 0)) (i 1) * ag m d (i 1)
abbrev out12 : Buf (Elt Ideal) ((d : Thread nD τ).loc main_v3_2) := fun i : S8192x2560.Idx => az m d (i 0) (i 1)
abbrev out13 : Buf (Elt Ideal) ((d : Thread nD τ).loc main_v3_3) := fun i : S8192x1024.Idx => amix m d (i 0) (i 1)
abbrev out14 : Buf (Elt Ideal) ((d : Thread nD τ).loc main_v3_4) := fun i : S8192x512.Idx => along m d (i 0) (i 1)

section
variable (t : Fin cfg0.N) (p : Fin 1024)

theorem point10 (k : Fin 1024) : (dats m 0 d).after 10 t (ix2 p k) = out10 m d (ix2 (row t p) k) := by
  rw [after10 (G := at' m d t) (bz_eq m d t), bh_row, bo_fun, bmix_row]
  rfl
theorem point11 (k : Fin 1024) : (dats m 0 d).after 11 t (ix2 p k) = out11 m d (ix2 (row t p) k) := by
  rw [after11, bh_row, bg_fun]
  rfl
theorem point12 (k : Fin 2560) : (dats m 0 d).after 12 t (ix2 p k) = out12 m d (ix2 (row t p) k) := by
  rw [after12, bh_row, bg_fun, bi_fun]
  rfl
theorem point13 (k : Fin 1024) : (dats m 0 d).after 13 t (ix2 p k) = out13 m d (ix2 (row t p) k) := by
  rw [after13 (G := at' m d t) (bz_eq m d t), bmix_row]
  rfl
theorem point14 (k : Fin 512) : (dats m 0 d).after 14 t (ix2 p k) = out14 m d (ix2 (row t p) k) := by
  rw [after14 (G := at' m d t) (bz_eq m d t), long_row]
  rfl
end

theorem arr10 : (dats m 0 d).arrAt 10 cfg0.N = out10 m d := by
  refine (dats m 0 d).arrAt_eq_of_covers 10 _ (by decide +kernel) fun t hf y => ?_
  blk_simp
  have hy : ((cfg0.win 10).blk t).view.emb y = ix2 (row t ((show S1024x1024.Idx from y) 0)) ((show S1024x1024.Idx from y) 1) := by
    blk_ext [e10]
  exact (congrArg _ (eq_ix2 (show S1024x1024.Idx from y))).trans ((point10 m d t _ _).trans (congrArg (out10 m d) hy.symm))

theorem arr11 : (dats m 0 d).arrAt 11 cfg0.N = out11 m d := by
  refine (dats m 0 d).arrAt_eq_of_covers 11 _ (by decide +kernel) fun t hf y => ?_
  blk_simp
  have hy : ((cfg0.win 11).blk t).view.emb y = ix2 (row t ((show S1024x1024.Idx from y) 0)) ((show S1024x1024.Idx from y) 1) := by
    blk_ext [e11]
  exact (congrArg _ (eq_ix2 (show S1024x1024.Idx from y))).trans ((point11 m d t _ _).trans (congrArg (out11 m d) hy.symm))

theorem arr12 : (dats m 0 d).arrAt 12 cfg0.N = out12 m d := by
  refine (dats m 0 d).arrAt_eq_of_covers 12 _ (by decide +kernel) fun t hf y => ?_
  blk_simp
  have hy : ((cfg0.win 12).blk t).view.emb y = ix2 (row t ((show S1024x2560.Idx from y) 0)) ((show S1024x2560.Idx from y) 1) := by
    blk_ext [e12]
  exact (congrArg _ (eq_ix2 (show S1024x2560.Idx from y))).trans ((point12 m d t _ _).trans (congrArg (out12 m d) hy.symm))

theorem arr13 : (dats m 0 d).arrAt 13 cfg0.N = out13 m d := by
  refine (dats m 0 d).arrAt_eq_of_covers 13 _ (by decide +kernel) fun t hf y => ?_
  blk_simp
  have hy : ((cfg0.win 13).blk t).view.emb y = ix2 (row t ((show S1024x1024.Idx from y) 0)) ((show S1024x1024.Idx from y) 1) := by
    blk_ext [e13]
  exact (congrArg _ (eq_ix2 (show S1024x1024.Idx from y))).trans ((point13 m d t _ _).trans (congrArg (out13 m d) hy.symm))

theorem arr14 : (dats m 0 d).arrAt 14 cfg0.N = out14 m d := by
  refine (dats m 0 d).arrAt_eq_of_covers 14 _ (by decide +kernel) fun t hf y => ?_
  blk_simp
  have hy : ((cfg0.win 14).blk t).view.emb y = ix2 (row t ((show S1024x512.Idx from y) 0)) ((show S1024x512.Idx from y) 1) := by
    blk_ext [e14]
  exact (congrArg _ (eq_ix2 (show S1024x512.Idx from y))).trans ((point14 m d t _ _).trans (congrArg (out14 m d) hy.symm))

/-! ## The arrays in terms of the program's arguments -/

abbrev y0 : Vec Ideal S8192x1024 .f32 := m ((d : Thread nD τ).loc main_arg0)
abbrev y1 : Vec Ideal S1024x2560 .f32 := m ((d : Thread nD τ).loc main_arg1)
abbrev y2 : Vec Ideal S1024x1024 .f32 := m ((d : Thread nD τ).loc main_arg2)
abbrev y3 : Vec Ideal S31x512 .f32 := m ((d : Thread nD τ).loc main_arg3)
abbrev y4 : Vec Ideal S1x512 .f32 := m ((d : Thread nD τ).loc main_arg4)
abbrev y5 : Vec Ideal S1x512 .f32 := m ((d : Thread nD τ).loc main_arg5)
abbrev y6 : Vec Ideal S1x512 .f32 := m ((d : Thread nD τ).loc main_arg6)
abbrev y7 : Vec Ideal S3x512 .f32 := m ((d : Thread nD τ).loc main_arg7)
abbrev y8 : Vec Ideal S1x1024 .f32 := m ((d : Thread nD τ).loc main_arg8)

theorem ah_fun : ah m d = fun i k => y0 m d (ix2 i k) := by
  funext i k; unfold ah; rw [V_main_arg0]
theorem acw_fun : acw m d = fun j c => y3 m d (ix2 j c) := by
  funext j c; unfold acw; rw [V_main_arg3]
theorem acb_fun : acb m d = fun c => y4 m d (ix2 0 c) := by
  funext c; unfold acb; rw [V_main_arg4]
theorem alg_fun : alg m d = fun c => y5 m d (ix2 0 c) := by
  funext c; unfold alg; rw [V_main_arg5]
theorem alb_fun : alb m d = fun c => y6 m d (ix2 0 c) := by
  funext c; unfold alb; rw [V_main_arg6]
theorem adw_fun : adw m d = fun j c => y7 m d (ix2 j c) := by
  funext j c; unfold adw; rw [V_main_arg7]
theorem ag_fun : ag m d = fun k => y8 m d (ix2 0 k) := by
  funext k; unfold ag; rw [V_main_arg8]
theorem ai_fun : ai m d = fun n k => y1 m d (ix2 k n) := by
  funext n k; unfold ai
  dsimp only [V, hostOps0]; after_results
  pointwise
theorem ao_fun : ao m d = fun n k => y2 m d (ix2 n k) := by
  funext n k; unfold ao
  dsimp only [V, hostOps0]; after_results
  pointwise

end Cert.OddFwdIdeal.Arrays

end
-- ==== Proof.OddRef.lean ====
/-
  What the reference of the odd layer's mixers computes, entry by entry.
-/
module

public import proofs.«01_k».proof.Proof.OddMath
public import proofs.«01_k».proof.Proof.Gen.OddRefIdeal.Run
public import proofs.«01_k».proof.Proof.Gen.OddRefIdeal.Read
public import Idealize.ShloMosaic.Lib.Pointwise
public import Idealize.ShloMosaic.Lib.IdealHost

@[expose] public section

set_option maxRecDepth 16384

noncomputable section

namespace Cert.OddRefIdeal.Entries

open Idealize.ShloMosaic Cert.OddRefIdeal Cert.OddRefIdeal.Read

variable (x0 : Vec Ideal S8192x1024 .f32) (x1 : Vec Ideal S1024x2560 .f32) (x2 : Vec Ideal S1024x1024 .f32)
  (x3 : Vec Ideal S31x512 .f32) (x4 x5 x6 : Vec Ideal S1x512 .f32) (x7 : Vec Ideal S3x512 .f32) (x8 : Vec Ideal S1x1024 .f32)

/-- A token's row of 2560 numbers. -/
abbrev rZ (i : Fin 8192) : Fin 2560 → EReal :=
  OddMath.inner (fun k => x0 (ix2 i k)) (fun k => x8 (ix2 0 k)) (fun n k => x1 (ix2 k n))

theorem v11_apply (i : Fin 8192) (k : Fin 1024) :
    val_main_v11 (F := Ideal) x0 x8 (ix2 i k) = FfnMath.unit (fun k => x0 (ix2 i k)) k * x8 (ix2 0 k) := by
  unfold val_main_v11 val_main_v10 val_main_v9 val_main_v8 val_main_v7 val_main_v6 val_main_v5 val_main_v4 val_main_v3
    val_main_v2 val_main_v1 val_main_v0 val_main_cst val_main_cst_0 val_main_cst_1
  pointwise [FfnMath.unit, FfnMath.inv, FfnMath.msq]

theorem v12_apply (i : Fin 8192) (n : Fin 2560) : val_main_v12 (F := Ideal) x0 x1 x8 (ix2 i n) = rZ x0 x1 x8 i n := by
  unfold val_main_v12
  pointwise [v11_apply, rZ, OddMath.inner]

/-! ## The long convolution -/

theorem v21_apply (i : Fin 8192) (c : Fin 512) :
    val_main_v21 (F := Ideal) x0 x1 x8 (ix2 i c) = OddMath.glu (rZ x0 x1 x8 i) c := by
  unfold val_main_v21 val_main_v20 val_main_v19 val_main_v18 val_main_v17 val_main_v16 val_main_v15 val_main_v14
    val_main_v13 val_main_cst_2 val_main_cst_3
  pointwise [v12_apply, OddMath.glu, FfnMath.sigm]

/-- The gated rows after 30 rows of zeros. -/
theorem v23_apply (s : Fin 8222) (c : Fin 512) :
    val_main_v23 (F := Ideal) x0 x1 x8 (ix2 s c) = OddMath.glu (OddMath.pad (rZ x0 x1 x8) (s + 2)) c := by
  unfold val_main_v23 val_main_v22 val_main_cst_4
  pointwise [v21_apply]
  by_cases h : s.val < 30
  · rw [dif_pos h, OddMath.pad_lt (by omega)]
    exact (OddMath.glu_zero c).symm
  · rw [dif_neg h, OddMath.pad_token ⟨s - 30, by omega⟩ (by simp only []; omega)]

theorem v243_apply (i : Fin 8192) (c : Fin 512) : val_main_v243 (F := Ideal) x0 x1 x3 x4 x8 (ix2 i c)
    = OddMath.long (fun j c => x3 (ix2 j c)) (fun c => x4 (ix2 0 c)) (OddMath.pad (rZ x0 x1 x8)) i c := by
  have e := fun s => v23_apply x0 x1 x8 s c
  unfold
    val_main_v243 val_main_v242 val_main_v241 val_main_v240 val_main_v239 val_main_v238 val_main_v237 val_main_v236
    val_main_v235 val_main_v234 val_main_v233 val_main_v232 val_main_v231 val_main_v230 val_main_v229 val_main_v228
    val_main_v227 val_main_v226 val_main_v225 val_main_v224 val_main_v223 val_main_v222 val_main_v221 val_main_v220
    val_main_v219 val_main_v218 val_main_v217 val_main_v216 val_main_v215 val_main_v214 val_main_v213 val_main_v212
    val_main_v211 val_main_v210 val_main_v209 val_main_v208 val_main_v207 val_main_v206 val_main_v205 val_main_v204
    val_main_v203 val_main_v202 val_main_v201 val_main_v200 val_main_v199 val_main_v198 val_main_v197 val_main_v196
    val_main_v195 val_main_v194 val_main_v193 val_main_v192 val_main_v191 val_main_v190 val_main_v189 val_main_v188
    val_main_v187 val_main_v186 val_main_v185 val_main_v184 val_main_v183 val_main_v182 val_main_v181 val_main_v180
    val_main_v179 val_main_v178 val_main_v177 val_main_v176 val_main_v175 val_main_v174 val_main_v173 val_main_v172
    val_main_v171 val_main_v170 val_main_v169 val_main_v168 val_main_v167 val_main_v166 val_main_v165 val_main_v164
    val_main_v163 val_main_v162 val_main_v161 val_main_v160 val_main_v159 val_main_v158 val_main_v157 val_main_v156
    val_main_v155 val_main_v154 val_main_v153 val_main_v152 val_main_v151 val_main_v150 val_main_v149 val_main_v148
    val_main_v147 val_main_v146 val_main_v145 val_main_v144 val_main_v143 val_main_v142 val_main_v141 val_main_v140
    val_main_v139 val_main_v138 val_main_v137 val_main_v136 val_main_v135 val_main_v134 val_main_v133 val_main_v132
    val_main_v131 val_main_v130 val_main_v129 val_main_v128 val_main_v127 val_main_v126 val_main_v125 val_main_v124
    val_main_v123 val_main_v122 val_main_v121 val_main_v120 val_main_v119 val_main_v118 val_main_v117 val_main_v116
    val_main_v115 val_main_v114 val_main_v113 val_main_v112 val_main_v111 val_main_v110 val_main_v109 val_main_v108
    val_main_v107 val_main_v106 val_main_v105 val_main_v104 val_main_v103 val_main_v102 val_main_v101 val_main_v100
    val_main_v99 val_main_v98 val_main_v97 val_main_v96 val_main_v95 val_main_v94 val_main_v93 val_main_v92
    val_main_v91 val_main_v90 val_main_v89 val_main_v88 val_main_v87 val_main_v86 val_main_v85 val_main_v84
    val_main_v83 val_main_v82 val_main_v81 val_main_v80 val_main_v79 val_main_v78 val_main_v77 val_main_v76
    val_main_v75 val_main_v74 val_main_v73 val_main_v72 val_main_v71 val_main_v70 val_main_v69 val_main_v68
    val_main_v67 val_main_v66 val_main_v65 val_main_v64 val_main_v63 val_main_v62 val_main_v61 val_main_v60
    val_main_v59 val_main_v58 val_main_v57 val_main_v56 val_main_v55 val_main_v54 val_main_v53 val_main_v52
    val_main_v51 val_main_v50 val_main_v49 val_main_v48 val_main_v47 val_main_v46 val_main_v45 val_main_v44
    val_main_v43 val_main_v42 val_main_v41 val_main_v40 val_main_v39 val_main_v38 val_main_v37 val_main_v36
    val_main_v35 val_main_v34 val_main_v33 val_main_v32 val_main_v31 val_main_v30 val_main_v29 val_main_v28
    val_main_v27 val_main_v26 val_main_v25 val_main_v24 val_main_cst_5
  revert e
  generalize val_main_v23 (F := Ideal) x0 x1 x8 = z
  unfold OddMath.long
  obtain ⟨F, hF⟩ : ∃ F : ℕ → EReal, F = fun s => OddMath.glu (OddMath.pad (rZ x0 x1 x8) s) c := ⟨_, rfl⟩
  intro e
  have e : ∀ s : Fin 8222, z (ix2 s c) = F (s + 2) := fun s => (e s).trans (congrFun hF.symm _)
  rw [← hF]
  pointwise [e]
  refine congrArg (· + _) ?_
  simp only [OddMath.conv, Fin.sum_univ_castSucc, Finset.univ_eq_empty, Finset.sum_empty, zero_add]
  iterate 30 refine congr (congrArg HAdd.hAdd ?_) (congrArg (HMul.hMul _) (congrArg F ?_))
  refine congrArg (HMul.hMul _) (congrArg F ?_)
  all_goals (simp only [Fin.val_castSucc, Fin.val_last]; try omega)

/-- The reference computes the long convolution twice. -/
theorem v474_eq : val_main_v474 (F := Ideal) x0 x1 x3 x4 x8 = val_main_v243 (F := Ideal) x0 x1 x3 x4 x8 := rfl

/-- The long convolution's row. -/
abbrev rL (i : Fin 8192) : Fin 512 → EReal :=
  OddMath.long (fun j c => x3 (ix2 j c)) (fun c => x4 (ix2 0 c)) (OddMath.pad (rZ x0 x1 x8)) i

theorem v474_apply (i : Fin 8192) (c : Fin 512) :
    val_main_v474 (F := Ideal) x0 x1 x3 x4 x8 (ix2 i c) = rL x0 x1 x3 x4 x8 i c :=
  (congrFun (v474_eq x0 x1 x3 x4 x8) _).trans (v243_apply ..)

/-! ## The mixers -/

theorem v478_apply (i : Fin 8192) : val_main_v478 (F := Ideal) x0 x1 x3 x4 x8 (ix2 i 0) = OddMath.mean (rL x0 x1 x3 x4 x8 i) := by
  unfold val_main_v478 val_main_v477 val_main_v476 val_main_v475 val_main_cst_10 val_main_cst_11
  pointwise [v474_apply, OddMath.mean]

theorem v496_apply (i : Fin 8192) (c : Fin 512) : val_main_v496 (F := Ideal) x0 x1 x3 x4 x5 x6 x8 (ix2 i c)
    = OddMath.ln (rL x0 x1 x3 x4 x8 i) (fun c => x5 (ix2 0 c)) (fun c => x6 (ix2 0 c)) c := by
  unfold val_main_v496 val_main_v495 val_main_v494 val_main_v493 val_main_v492 val_main_v491 val_main_v490 val_main_v489
    val_main_v488 val_main_v487 val_main_v486 val_main_v485 val_main_v484 val_main_v483 val_main_v482 val_main_v481
    val_main_v480 val_main_v479 val_main_cst_12 val_main_cst_13 val_main_cst_14
  pointwise [v474_apply, v478_apply, OddMath.ln, OddMath.var]

theorem v497_apply (i : Fin 8192) (c : Fin 512) : val_main_v497 (F := Ideal) x0 x1 x3 x4 x5 x6 x8 (ix2 i c)
    = OddMath.silu (OddMath.ln (rL x0 x1 x3 x4 x8 i) (fun c => x5 (ix2 0 c)) (fun c => x6 (ix2 0 c)) c) := by
  unfold val_main_v497 val_main_call0_v5 val_main_call0_v4 val_main_call0_v3 val_main_call0_v2 val_main_call0_v1
    val_main_call0_v0 val_main_call0_cst val_main_call0_cst_0
  pointwise [v496_apply, OddMath.silu, FfnMath.sigm]

theorem v501_apply (i : Fin 8192) (c : Fin 512) :
    val_main_v501 (F := Ideal) x0 x1 x8 (ix2 i c) = OddMath.prod (rZ x0 x1 x8 i) c := by
  unfold val_main_v501 val_main_v500 val_main_v499
  pointwise [v12_apply, OddMath.prod]

/-- The products after two rows of zeros. -/
theorem v503_apply (s : Fin 8194) (c : Fin 512) :
    val_main_v503 (F := Ideal) x0 x1 x8 (ix2 s c) = OddMath.prod (OddMath.pad (rZ x0 x1 x8) (s + 30)) c := by
  unfold val_main_v503 val_main_v502 val_main_cst_15
  pointwise [v501_apply]
  by_cases h : s.val < 2
  · rw [dif_pos h, OddMath.pad_lt (by omega)]
    exact (OddMath.prod_zero c).symm
  · rw [dif_neg h, OddMath.pad_token ⟨s - 2, by omega⟩ (by simp only []; omega)]

/-- The short convolution's row. -/
abbrev rU (i : Fin 8192) : Fin 512 → EReal := OddMath.short (fun j c => x7 (ix2 j c)) (OddMath.pad (rZ x0 x1 x8)) i

theorem v525_apply (i : Fin 8192) (c : Fin 512) :
    val_main_v525 (F := Ideal) x0 x1 x7 x8 (ix2 i c) = rU x0 x1 x7 x8 i c := by
  unfold val_main_v525 val_main_v524 val_main_v523 val_main_v522 val_main_v521 val_main_v520 val_main_v519 val_main_v518
    val_main_v517 val_main_v516 val_main_v515 val_main_v514 val_main_v513 val_main_v512 val_main_v511 val_main_v510
    val_main_v509 val_main_v508 val_main_v507 val_main_v506 val_main_v505 val_main_v504 val_main_cst_16
  pointwise [v503_apply]
  rw [rU, OddMath.short_eq, show 1 + i.val + 30 = i.val + 31 by omega,
    show 2 + i.val + 30 = i.val + 32 by omega]

theorem v527_apply (i : Fin 8192) (n : Fin 1024) : val_main_v527 (F := Ideal) x0 x1 x3 x4 x5 x6 x7 x8 (ix2 i n)
    = OddMath.mix (rL x0 x1 x3 x4 x8 i) (fun c => x5 (ix2 0 c)) (fun c => x6 (ix2 0 c)) (rZ x0 x1 x8 i) (rU x0 x1 x7 x8 i) n := by
  unfold val_main_v527 val_main_v526 val_main_v498
  pointwise [v497_apply, v12_apply, v525_apply, OddMath.mix]

theorem v529_apply (i : Fin 8192) (k : Fin 1024) : val_main_v529 (F := Ideal) x0 x1 x2 x3 x4 x5 x6 x7 x8 (ix2 i k)
    = x0 (ix2 i k) + ∑ n, OddMath.mix (rL x0 x1 x3 x4 x8 i) (fun c => x5 (ix2 0 c)) (fun c => x6 (ix2 0 c)) (rZ x0 x1 x8 i)
        (rU x0 x1 x7 x8 i) n * x2 (ix2 n k) := by
  unfold val_main_v529 val_main_v528
  pointwise [v527_apply]

theorem v530_apply (i : Fin 8192) (k : Fin 1024) :
    val_main_v530 (F := Ideal) x0 x8 (ix2 i k) = FfnMath.unit (fun k => x0 (ix2 i k)) k * x8 (ix2 0 k) := by
  unfold val_main_v530
  pointwise [v11_apply]

theorem v531_apply (i : Fin 8192) (n : Fin 2560) : val_main_v531 (F := Ideal) x0 x1 x8 (ix2 i n) = rZ x0 x1 x8 i n := by
  unfold val_main_v531
  pointwise [v12_apply]

theorem v532_apply (i : Fin 8192) (n : Fin 1024) : val_main_v532 (F := Ideal) x0 x1 x3 x4 x5 x6 x7 x8 (ix2 i n)
    = OddMath.mix (rL x0 x1 x3 x4 x8 i) (fun c => x5 (ix2 0 c)) (fun c => x6 (ix2 0 c)) (rZ x0 x1 x8 i) (rU x0 x1 x7 x8 i) n := by
  unfold val_main_v532
  pointwise [v527_apply]

end Cert.OddRefIdeal.Entries

end
-- ==== Proof.OddClaim.lean ====
/-
  The odd layer's mixers, forward: the frame of the reference, and the kernel's five results equal to the reference's.
-/
module

public import proofs.«01_k».proof.Defs
public import proofs.«01_k».proof.Proof.OddArrays
public import proofs.«01_k».proof.Proof.OddRef

@[expose] public section

set_option maxRecDepth 16384

noncomputable section

namespace Cert.OddClaim

open Idealize.ShloMosaic Idealize.ShloMosaic.TcCoe Idealize.SL.Sem Cert.OddFwdIdeal Cert.OddFwdIdeal.Arrays
open Cert.OddRefIdeal.Entries (rZ rL rU)
open Cert.OddRefIdeal.Read

variable (m : (ℓ : Loc nD τ sig) → Buf (Elt Ideal) ℓ) (d : Dev nD)

/-! ## The rows of the kernel's arrays in terms of the arguments -/

theorem az_fun : az m d = rZ (y0 m d) (y1 m d) (y8 m d) := by
  funext i
  unfold az rZ
  rw [ah_fun, ag_fun, ai_fun]

theorem along_fun : along m d = rL (y0 m d) (y1 m d) (y3 m d) (y4 m d) (y8 m d) := by
  funext i
  unfold along rL
  rw [az_fun, acw_fun, acb_fun]

theorem ashort_fun : ashort m d = rU (y0 m d) (y1 m d) (y7 m d) (y8 m d) := by
  funext i
  unfold ashort rU
  rw [az_fun, adw_fun]

theorem amix_fun (i : Fin 8192) : amix m d i = OddMath.mix (rL (y0 m d) (y1 m d) (y3 m d) (y4 m d) (y8 m d) i)
    (fun c => y5 m d (ix2 0 c)) (fun c => y6 m d (ix2 0 c)) (rZ (y0 m d) (y1 m d) (y8 m d) i)
    (rU (y0 m d) (y1 m d) (y7 m d) (y8 m d) i) := by
  unfold amix
  rw [along_fun, alg_fun, alb_fun, az_fun, ashort_fun]

/-! ## The five results -/

theorem eq10 : out10 m d = val_main_v529 (F := Ideal) (y0 m d) (y1 m d) (y2 m d) (y3 m d) (y4 m d) (y5 m d) (y6 m d) (y7 m d) (y8 m d) := by
  funext j
  obtain ⟨i, k, rfl⟩ : ∃ i k, j = ix2 i k := ⟨_, _, eq_ix2 (show S8192x1024.Idx from j)⟩
  refine Eq.trans ?_ (Cert.OddRefIdeal.Entries.v529_apply _ _ _ _ _ _ _ _ _ i k).symm
  show ah m d i k + ∑ n, amix m d i n * ao m d n k = _
  rw [ah_fun, ao_fun, amix_fun]

theorem eq11 : out11 m d = val_main_v530 (F := Ideal) (y0 m d) (y8 m d) := by
  funext j
  obtain ⟨i, k, rfl⟩ : ∃ i k, j = ix2 i k := ⟨_, _, eq_ix2 (show S8192x1024.Idx from j)⟩
  refine Eq.trans ?_ (Cert.OddRefIdeal.Entries.v530_apply _ _ i k).symm
  show FfnMath.unit (ah m d i) k * ag m d k = _
  rw [ah_fun, ag_fun]

theorem eq12 : out12 m d = val_main_v531 (F := Ideal) (y0 m d) (y1 m d) (y8 m d) := by
  funext j
  obtain ⟨i, k, rfl⟩ : ∃ i k, j = ix2 i k := ⟨_, _, eq_ix2 (show S8192x2560.Idx from j)⟩
  refine Eq.trans ?_ (Cert.OddRefIdeal.Entries.v531_apply _ _ _ i k).symm
  show az m d i k = _
  rw [az_fun]

theorem eq13 : out13 m d = val_main_v532 (F := Ideal) (y0 m d) (y1 m d) (y3 m d) (y4 m d) (y5 m d) (y6 m d) (y7 m d) (y8 m d) := by
  funext j
  obtain ⟨i, k, rfl⟩ : ∃ i k, j = ix2 i k := ⟨_, _, eq_ix2 (show S8192x1024.Idx from j)⟩
  refine Eq.trans ?_ (Cert.OddRefIdeal.Entries.v532_apply _ _ _ _ _ _ _ _ i k).symm
  show amix m d i k = _
  rw [amix_fun]

theorem eq14 : out14 m d = val_main_v243 (F := Ideal) (y0 m d) (y1 m d) (y3 m d) (y4 m d) (y8 m d) := by
  funext j
  obtain ⟨i, k, rfl⟩ : ∃ i k, j = ix2 i k := ⟨_, _, eq_ix2 (show S8192x512.Idx from j)⟩
  refine Eq.trans ?_ (Cert.OddRefIdeal.Entries.v243_apply _ _ _ _ _ i k).symm
  show along m d i k = _
  rw [along_fun]

/-! ## The claims -/

/-- The reference runs and leaves its arguments as they were; it has no semaphore. -/
theorem frame_ref [Cert.OddRefIdeal.Facts] : Cert.quiescent_OddRefIdeal := fun m ρ _ =>
  (θ_run Cert.OddRefIdeal.defs _ _).mono (fun r h => ⟨fun c => (h c).2.2.2.2.2, sem_eq_zero_of_no_sems (by decide) r.2⟩)
    (Cert.OddRefIdeal.Value.run (F := Ideal) m ρ)

/-- The kernel and the reference leave the same five arrays, whatever the arguments. -/
theorem algebraic : Cert.algebraic_OddFwdIdeal_OddRefIdeal := by
  intro m ρ m' ρ' hpre hag
  refine ⟨fun c => out10 m c, fun c => out11 m c, fun c => out12 m c, fun c => out13 m c, fun c => out14 m c, ?_, ?_⟩
  · refine (θ_run Cert.OddFwdIdeal.defs _ _).mono (fun r h c => ?_) (Cert.OddFwdIdeal.Value.run_blocks m ρ)
    obtain ⟨h0, h1, h2, h3, h4, hargs⟩ := h c
    exact ⟨h0.trans (arr10 m c), h1.trans (arr11 m c), h2.trans (arr12 m c), h3.trans (arr13 m c), h4.trans (arr14 m c), hargs⟩
  · refine (θ_run Cert.OddRefIdeal.defs _ _).mono (fun r h c => ?_) (Cert.OddRefIdeal.Value.run (F := Ideal) m' ρ')
    obtain ⟨h0, h1, h2, h3, h4, hargs⟩ := h c
    obtain ⟨a0, a1, a2, a3, a4, a5, a6, a7, a8⟩ := hag c
    replace a0 : StableHlo.launchContents m' c (Proc.devRef .tc Cert.OddRefIdeal.main_arg0) = y0 m c := a0
    replace a1 : StableHlo.launchContents m' c (Proc.devRef .tc Cert.OddRefIdeal.main_arg1) = y1 m c := a1
    replace a2 : StableHlo.launchContents m' c (Proc.devRef .tc Cert.OddRefIdeal.main_arg2) = y2 m c := a2
    replace a3 : StableHlo.launchContents m' c (Proc.devRef .tc Cert.OddRefIdeal.main_arg3) = y3 m c := a3
    replace a4 : StableHlo.launchContents m' c (Proc.devRef .tc Cert.OddRefIdeal.main_arg4) = y4 m c := a4
    replace a5 : StableHlo.launchContents m' c (Proc.devRef .tc Cert.OddRefIdeal.main_arg5) = y5 m c := a5
    replace a6 : StableHlo.launchContents m' c (Proc.devRef .tc Cert.OddRefIdeal.main_arg6) = y6 m c := a6
    replace a7 : StableHlo.launchContents m' c (Proc.devRef .tc Cert.OddRefIdeal.main_arg7) = y7 m c := a7
    replace a8 : StableHlo.launchContents m' c (Proc.devRef .tc Cert.OddRefIdeal.main_arg8) = y8 m c := a8
    refine ⟨(h0.trans (val_main_v529_eq _)).trans ?_, (h1.trans (val_main_v530_eq _)).trans ?_,
      (h2.trans (val_main_v531_eq _)).trans ?_, (h3.trans (val_main_v532_eq _)).trans ?_,
      (h4.trans (val_main_v243_eq _)).trans ?_, hargs⟩
    · rw [a0, a1, a2, a3, a4, a5, a6, a7, a8]; exact (eq10 m c).symm
    · rw [a0, a8]; exact (eq11 m c).symm
    · rw [a0, a1, a8]; exact (eq12 m c).symm
    · rw [a0, a1, a3, a4, a5, a6, a7, a8]; exact (eq13 m c).symm
    · rw [a0, a1, a3, a4, a8]; exact (eq14 m c).symm

end Cert.OddClaim

end
-- ==== Proof.OddGradMath.lean ====
/-
  The mathematics of the odd layer's backward pass, on extended reals and apart from any program.

  A token has a row `z` of 2560 numbers, a row `v` of 512 numbers that the long convolution gives, and a row `d` of 1024
  numbers, the gradient of its two mixers. The gradient of a causal convolution reads the tokens after the present one, and
  tokens after the last one as zero: the gradient rows are written `tail f`, indexed by natural numbers.
-/
module

public import proofs.«01_k».proof.Proof.OddMath

@[expose] public section

noncomputable section

namespace Cert.OddMath

open Idealize.ShloMosaic
open FfnMath (IsReal sigm)

/-- The tokens' rows, with zero rows after the last one. -/
def tail {n : ℕ} (f : Fin 8192 → Fin n → EReal) (s : ℕ) : Fin n → EReal :=
  if h : s < 8192 then f ⟨s, h⟩ else fun _ => 0

theorem tail_token {n : ℕ} (f : Fin 8192 → Fin n → EReal) (i : Fin 8192) : tail f i = f i := dif_pos i.isLt
theorem tail_of_lt {n : ℕ} {f : Fin 8192 → Fin n → EReal} {s : ℕ} (h : s < 8192) : tail f s = f ⟨s, h⟩ := dif_pos h
theorem tail_of_le {n : ℕ} {f : Fin 8192 → Fin n → EReal} {s : ℕ} (h : 8192 ≤ s) : tail f s = fun _ => 0 := dif_neg (by omega)

/-- The sum of `n` taps over consecutive places, the first tap at the last of them. -/
def dconv (n : ℕ) (w : Fin n → EReal) (x : ℕ → EReal) (s : ℕ) : EReal := ∑ j : Fin n, w j * x (s + (n - 1 - j))

theorem dconv_shift {n : ℕ} (w : Fin n → EReal) (x : ℕ → EReal) (o s : ℕ) :
    dconv n w (fun s => x (o + s)) s = dconv n w x (o + s) :=
  Finset.sum_congr rfl fun j _ => congrArg (w j * x ·) (Nat.add_assoc _ _ _).symm

/-! ## The formulas, as the kernel writes them -/

/-- The gradient of `y` from the gradient `d` of `silu y`. -/
def dsilu (d y : EReal) : EReal := d * (sigm y * (1 + y * (1 - sigm y)))

/-- The row with its mean taken off, over the root of its variance. -/
def hat (v : Fin 512 → EReal) (c : Fin 512) : EReal := (v c - mean v) * Ideal.rsqrt (var v)

/-- The gradient of the row `v`, from the gradient `q` of `hat v`. -/
def dhat (v q : Fin 512 → EReal) (c : Fin 512) : EReal :=
  Ideal.rsqrt (var v) * (q c - Ideal.div (∑ k, q k) half - hat v c * Ideal.div (∑ k, q k * hat v k) half)

/-- The gradient of the normalised long convolution, and of the long convolution, from the mixers' gradient `d`. -/
def dln (v g b : Fin 512 → EReal) (d : Fin 1024 → EReal) (c : Fin 512) : EReal := dsilu (d ⟨c, by omega⟩) (ln v g b c)
def dcv (v g b : Fin 512 → EReal) (d : Fin 1024 → EReal) (c : Fin 512) : EReal := dhat v (fun c => dln v g b d c * g c) c

/-- The gradient of the short convolution. -/
def dq (z : Fin 2560 → EReal) (d : Fin 1024 → EReal) (c : Fin 512) : EReal := d ⟨512 + c, by omega⟩ * z ⟨1024 + c, by omega⟩

/-- Five rows of 512 numbers side by side. -/
def five (a b c d e : Fin 512 → EReal) (n : Fin 2560) : EReal :=
  if h : n.val < 512 then a ⟨n, h⟩
  else if h : n.val - 512 < 512 then b ⟨n - 512, h⟩
  else if h : n.val - 512 - 512 < 512 then c ⟨n - 512 - 512, h⟩
  else if h : n.val - 512 - 512 - 512 < 512 then d ⟨n - 512 - 512 - 512, h⟩
  else e ⟨n - 512 - 512 - 512 - 512, by omega⟩

/-- The gradient of a token's row `z`: `h` and `p` are the gradients of the rows that the two convolutions run over, and `u`
    is the short convolution's row. -/
def dz (z : Fin 2560 → EReal) (d : Fin 1024 → EReal) (h p u : Fin 512 → EReal) : Fin 2560 → EReal :=
  five (fun c => h c * sigm (z ⟨512 + c, by omega⟩))
    (fun c => h c * z ⟨c, by omega⟩ * sigm (z ⟨512 + c, by omega⟩) * (1 - sigm (z ⟨512 + c, by omega⟩)))
    (fun c => d ⟨512 + c, by omega⟩ * u c)
    (fun c => p c * z ⟨2048 + c, by omega⟩)
    (fun c => p c * z ⟨1536 + c, by omega⟩)

/-! ## Where the gradient that comes in is zero -/

theorem div_zero_half : Ideal.div 0 half = 0 := by
  have h : half = ((512 : ℝ) : EReal) := by
    have h : ((8388608 : ℝ) * (2 ^ 14)⁻¹) = 512 := by norm_num
    simp [half, Ideal.ofBits, Ideal.ieee, -EReal.coe_mul, h]
  rw [h, Ideal.div_coe (by norm_num), zero_mul]

theorem dhat_zero (v : Fin 512 → EReal) (c : Fin 512) : dhat v (fun _ => 0) c = 0 := by
  simp [dhat, div_zero_half]

theorem dcv_zero (v g b : Fin 512 → EReal) : dcv v g b (fun _ => 0) = fun _ => 0 := by
  funext c
  unfold dcv
  rw [show (fun c => dln v g b (fun _ => 0) c * g c) = fun _ => 0 from funext fun c => by simp [dln, dsilu]]
  exact dhat_zero v c

theorem dq_zero (z : Fin 2560 → EReal) : dq z (fun _ => 0) = fun _ => 0 := funext fun _ => zero_mul _

/-- The same sum, from the last tap on. -/
theorem dconv_rev {n : ℕ} (w : Fin n → EReal) (x : ℕ → EReal) (s : ℕ) :
    dconv n w x s = ∑ j : Fin n, w (Fin.rev j) * x (s + j) := by
  refine (Equiv.sum_comp Fin.revPerm _).symm.trans (Finset.sum_congr rfl fun j _ => congrArg (_ * x ·) ?_)
  show s + (n - 1 - (n - (j.val + 1))) = s + j.val
  omega

/-- A product with a row that is read where there is a token, and zero elsewhere. -/
theorem dite_tail {n : ℕ} (f : Fin 8192 → Fin n → EReal) (w : EReal) (c : Fin n) {P : Prop} [Decidable P] {r s : ℕ}
    {hr : P → r < 8192} (h1 : P → s < 8192) (h2 : s < 8192 → P) (h3 : P → r = s) :
    (if h : P then w * f ⟨r, hr h⟩ c else 0) = w * tail f s c := by
  by_cases h : P
  · rw [dif_pos h, tail_of_lt (h1 h)]
    exact congrArg (w * f · c) (Fin.ext (h3 h))
  · rw [dif_neg h, tail_of_le (not_lt.mp fun hs => h (h2 hs)), mul_zero]

/-- Five rows of 512 numbers side by side, as a sum of rows that are zero outside one of the five places. -/
theorem five_sum (a b c d e : Fin 512 → EReal) (n : Fin 2560) :
    (((((if h : 2048 ≤ n.val ∧ n.val - 2048 < 512 then e ⟨n - 2048, h.2⟩ else 0)
      + if h : 1536 ≤ n.val ∧ n.val - 1536 < 512 then d ⟨n - 1536, h.2⟩ else 0)
      + if h : 1024 ≤ n.val ∧ n.val - 1024 < 512 then c ⟨n - 1024, h.2⟩ else 0)
      + if h : 512 ≤ n.val ∧ n.val - 512 < 512 then b ⟨n - 512, h.2⟩ else 0)
      + if h : n.val < 512 then a ⟨n, h⟩ else 0) = five a b c d e n := by
  have hn := n.isLt
  unfold five
  by_cases h1 : n.val < 512
  · simp only [dif_pos h1, dif_neg (show ¬(2048 ≤ n.val ∧ n.val - 2048 < 512) by omega),
      dif_neg (show ¬(1536 ≤ n.val ∧ n.val - 1536 < 512) by omega), dif_neg (show ¬(1024 ≤ n.val ∧ n.val - 1024 < 512) by omega),
      dif_neg (show ¬(512 ≤ n.val ∧ n.val - 512 < 512) by omega), zero_add]
  simp only [dif_neg h1, add_zero]
  by_cases h2 : n.val - 512 < 512
  · simp only [dif_pos h2, dif_neg (show ¬(2048 ≤ n.val ∧ n.val - 2048 < 512) by omega),
      dif_neg (show ¬(1536 ≤ n.val ∧ n.val - 1536 < 512) by omega), dif_neg (show ¬(1024 ≤ n.val ∧ n.val - 1024 < 512) by omega),
      dif_pos (show 512 ≤ n.val ∧ n.val - 512 < 512 by omega), zero_add]
  simp only [dif_neg h2, dif_neg (show ¬(512 ≤ n.val ∧ n.val - 512 < 512) by omega), add_zero]
  by_cases h3 : n.val - 512 - 512 < 512
  · simp only [dif_pos h3, dif_neg (show ¬(2048 ≤ n.val ∧ n.val - 2048 < 512) by omega),
      dif_neg (show ¬(1536 ≤ n.val ∧ n.val - 1536 < 512) by omega), dif_pos (show 1024 ≤ n.val ∧ n.val - 1024 < 512 by omega), zero_add]
    exact congrArg c (Fin.ext (by simp only []; omega))
  simp only [dif_neg h3, dif_neg (show ¬(1024 ≤ n.val ∧ n.val - 1024 < 512) by omega), add_zero]
  by_cases h4 : n.val - 512 - 512 - 512 < 512
  · simp only [dif_pos h4, dif_neg (show ¬(2048 ≤ n.val ∧ n.val - 2048 < 512) by omega),
      dif_pos (show 1536 ≤ n.val ∧ n.val - 1536 < 512 by omega), zero_add]
    exact congrArg d (Fin.ext (by simp only []; omega))
  simp only [dif_neg h4, dif_pos (show 2048 ≤ n.val ∧ n.val - 2048 < 512 by omega),
    dif_neg (show ¬(1536 ≤ n.val ∧ n.val - 1536 < 512) by omega), add_zero]
  exact congrArg e (Fin.ext (by simp only []; omega))

/-! ## The same formulas, as differentiation writes them -/

theorem half_eq : half = ((512 : ℝ) : EReal) := by
  have h : ((8388608 : ℝ) * (2 ^ 14)⁻¹) = 512 := by norm_num
  simp [half, Ideal.ofBits, Ideal.ieee, -EReal.coe_mul, h]

theorem dsilu_eq {d y : EReal} (hd : IsReal d) (hy : IsReal y) :
    d * sigm y + y * d * (sigm y * (1 - sigm y)) = dsilu d y := by
  have h := FfnMath.dgate_eq hd hy (IsReal.coe 1)
  simpa only [EReal.coe_one, mul_one, FfnMath.dgate, dsilu] using h

theorem sum_coe {n : ℕ} {f : Fin n → EReal} (r : Fin n → ℝ) (h : ∀ k, f k = (r k : EReal)) : ∑ k, f k = ((∑ k, r k : ℝ) : EReal) := by
  rw [Finset.sum_congr rfl fun k _ => h k]; exact (FfnMath.coe_sum _).symm

/-- A real row: its mean, its centred row (which sums to zero), its variance, and the reciprocal root of that. -/
theorem exists_var {v : Fin 512 → EReal} (hv : ∀ k, IsReal (v k)) :
    ∃ (x : Fin 512 → ℝ) (a r : ℝ), (∀ k, v k - mean v = (x k : EReal)) ∧ ∑ k, x k = 0 ∧ 0 < a ∧ r * r = 1 / a ∧
      var v = (a : EReal) ∧ Ideal.rsqrt (var v) = (r : EReal) := by
  choose w hw using hv
  obtain ⟨e, he, heq⟩ := FfnMath.eps_eq
  have hm : mean v = (((∑ k, w k) * (1 / 512) : ℝ) : EReal) := by
    rw [mean, sum_coe w hw, half_eq, Ideal.div_coe (by norm_num)]; push_cast; rfl
  obtain ⟨x, hx, h0⟩ : ∃ x : Fin 512 → ℝ, (∀ k, v k - mean v = (x k : EReal)) ∧ ∑ k, x k = 0 := by
    refine ⟨fun k => w k - (∑ k, w k) * (1 / 512), fun k => by rw [hw k, hm]; push_cast; rfl, ?_⟩
    rw [Finset.sum_sub_distrib, Finset.sum_const, Finset.card_univ, Fintype.card_fin, nsmul_eq_mul]
    push_cast
    ring
  have hvar : var v = (((∑ k, x k * x k) * (1 / 512) + e : ℝ) : EReal) := by
    rw [var, sum_coe _ fun k => by rw [hx k, ← EReal.coe_mul], heq, half_eq, Ideal.div_coe (by norm_num)]; push_cast; rfl
  have hpos : 0 < (∑ k, x k * x k) * (1 / 512) + e := by
    have : 0 ≤ ∑ k, x k * x k := Finset.sum_nonneg fun k _ => mul_self_nonneg _
    positivity
  refine ⟨x, _, (Real.sqrt ((∑ k, x k * x k) * (1 / 512) + e))⁻¹, hx, h0, hpos, ?_, hvar, ?_⟩
  · rw [← mul_inv, Real.mul_self_sqrt hpos.le]; exact (one_div _).symm
  · rw [hvar, Ideal.rsqrt_coe, if_neg (not_lt.mpr hpos.le), if_neg hpos.ne']

theorem IsReal.hat {v : Fin 512 → EReal} (hv : ∀ k, IsReal (v k)) (c : Fin 512) : IsReal (hat v c) := by
  obtain ⟨x, a, r, hx, _, _, _, _, hr⟩ := exists_var hv
  rw [OddMath.hat, hx, hr]
  exact (IsReal.coe _).mul (IsReal.coe _)

theorem IsReal.ln {v g b : Fin 512 → EReal} (hv : ∀ k, IsReal (v k)) (hg : ∀ k, IsReal (g k)) (hb : ∀ k, IsReal (b k))
    (c : Fin 512) : IsReal (ln v g b c) := ((IsReal.hat hv c).mul (hg c)).add (hb c)

/-- The derivative of the normalisation. Differentiation writes the part through the variance as `t` times twice the centred
    row, and takes the mean of the whole off at the end. -/
theorem dhat_eq {v q : Fin 512 → EReal} (hv : ∀ k, IsReal (v k)) (hq : ∀ k, IsReal (q k)) {t m two : EReal}
    (h2 : two = ((2 : ℝ) : EReal))
    (ht : t = Ideal.div ((∑ k, (v k - mean v) * q k)
      * (FfnMath.mhalf * Ideal.div (Ideal.rsqrt (var v)) (var v))) half)
    (hm : m = Ideal.div ((∑ k, -(q k * Ideal.rsqrt (var v))) + ∑ k, -(t * (two * (v k - mean v)))) half) (c : Fin 512) :
    q c * Ideal.rsqrt (var v) + t * (two * (v c - mean v)) + m = dhat v q c := by
  obtain ⟨x, a, r, hx, h0, ha, hr, hvar, hrs⟩ := exists_var hv
  choose p hp using hq
  have hS : ∑ k, (v k - mean v) * q k = ((∑ k, x k * p k : ℝ) : EReal) := sum_coe _ fun k => by rw [hx, hp, ← EReal.coe_mul]
  have e : r * (1 / a) = r * r * r := by rw [← hr]; ring
  have htc : t = ((-(1 / 2) * ((∑ k, x k * p k) * (r * r * r)) * (1 / 512) : ℝ) : EReal) := by
    rw [ht, hS, hrs, hvar, FfnMath.mhalf_eq, Ideal.div_coe ha.ne', half_eq, Ideal.div_coe (by norm_num), ← e]
    norm_cast
    ring
  have hQ : ∑ k, q k = ((∑ k, p k : ℝ) : EReal) := sum_coe p hp
  have hQr : ∑ k, -(q k * Ideal.rsqrt (var v)) = ((-((∑ k, p k) * r) : ℝ) : EReal) := by
    rw [sum_coe (fun k => -(p k * r)) fun k => by rw [hp, hrs]; push_cast; rfl, Finset.sum_neg_distrib, Finset.sum_mul]
  have hT : ∑ k, -(t * (two * (v k - mean v))) = ((0 : ℝ) : EReal) := by
    obtain ⟨s, hs⟩ : ∃ s : ℝ, t = (s : EReal) := ⟨_, htc⟩
    rw [sum_coe (fun k => -(s * (2 * x k))) fun k => by rw [hs, h2, hx]; push_cast; rfl, Finset.sum_neg_distrib, ← Finset.mul_sum,
      ← Finset.mul_sum, h0]
    simp
  have hH : ∑ k, q k * hat v k = (((∑ k, x k * p k) * r : ℝ) : EReal) := by
    rw [sum_coe (fun k => x k * p k * r) fun k => by rw [hat, hp, hx, hrs, ← EReal.coe_mul, ← EReal.coe_mul]; congr 1; ring, Finset.sum_mul]
  rw [dhat, hm, hQr, hT, hQ, hH, hat, htc, hrs, hx, hp, h2, half_eq, Ideal.div_coe (by norm_num), Ideal.div_coe (by norm_num), Ideal.div_coe (by norm_num)]
  norm_cast
  ring

theorem IsReal.dhat {v q : Fin 512 → EReal} (hv : ∀ k, IsReal (v k)) (hq : ∀ k, IsReal (q k)) (c : Fin 512) : IsReal (dhat v q c) := by
  obtain ⟨x, a, r, hx, h0, ha, hr, hvar, hrs⟩ := exists_var hv
  have hd : ∀ {y : EReal}, IsReal y → IsReal (Ideal.div y half) := fun {y} ⟨s, hs⟩ =>
    ⟨s * (1 / 512), by rw [hs, half_eq, Ideal.div_coe (by norm_num)]; push_cast; rfl⟩
  rw [OddMath.dhat, hrs]
  exact (IsReal.coe r).mul (((hq c).sub (hd (IsReal.sum hq))).sub
    ((IsReal.hat hv c).mul (hd (IsReal.sum fun k => (hq k).mul (IsReal.hat hv k)))))

theorem IsReal.dln {v g b : Fin 512 → EReal} {d : Fin 1024 → EReal} (hv : ∀ k, IsReal (v k)) (hg : ∀ k, IsReal (g k))
    (hb : ∀ k, IsReal (b k)) (hd : ∀ k, IsReal (d k)) (c : Fin 512) : IsReal (dln v g b d c) :=
  (hd _).mul ((IsReal.ln hv hg hb c).sigm.mul ((IsReal.coe 1).add ((IsReal.ln hv hg hb c).mul ((IsReal.coe 1).sub (IsReal.ln hv hg hb c).sigm))))

theorem IsReal.dcv {v g b : Fin 512 → EReal} {d : Fin 1024 → EReal} (hv : ∀ k, IsReal (v k)) (hg : ∀ k, IsReal (g k))
    (hb : ∀ k, IsReal (b k)) (hd : ∀ k, IsReal (d k)) (c : Fin 512) : IsReal (dcv v g b d c) :=
  IsReal.dhat hv (fun c => (IsReal.dln hv hg hb hd c).mul (hg c)) c

/-! ## Every token at once: `z`, `v` and `d` give the tokens' rows, `cw` and `dw` are the taps of the two convolutions -/

section Tokens

variable (z : Fin 8192 → Fin 2560 → EReal) (v : Fin 8192 → Fin 512 → EReal) (d : Fin 8192 → Fin 1024 → EReal)
  (cw : Fin 31 → Fin 512 → EReal) (dw : Fin 3 → Fin 512 → EReal) (g b : Fin 512 → EReal)

/-- The gradient of the mixers from the gradient `c` of the residual stream. -/
def dmix (c : Fin 1024 → EReal) (wo : Fin 1024 → Fin 1024 → EReal) (n : Fin 1024) : EReal := ∑ k, c k * wo n k

/-- The gradients of the two convolutions, and of the rows that they run over. -/
def tokC (i : Fin 8192) : Fin 512 → EReal := dcv (v i) g b (d i)
def tokQ (i : Fin 8192) : Fin 512 → EReal := dq (z i) (d i)
def tokH (i : Fin 8192) (c : Fin 512) : EReal := dconv 31 (cw · c) (fun s => tail (tokC v d g b) s c) i
def tokP (i : Fin 8192) (c : Fin 512) : EReal := dconv 3 (dw · c) (fun s => tail (tokQ z d) s c) i

/-- The gradient of a token's row of 2560 numbers. -/
def tokZ (i : Fin 8192) : Fin 2560 → EReal :=
  dz (z i) (d i) (tokH v d cw g b i) (tokP z d dw i) (short dw (pad z) i)

/-- The gradients of the taps, of the long convolution's shift, and of the normalisation's gain and shift. -/
def sumCw (j : Fin 31) (c : Fin 512) : EReal := ∑ i : Fin 8192, tokC v d g b i c * glu (pad z (i + 2 + j)) c
def sumDw (j : Fin 3) (c : Fin 512) : EReal := ∑ i : Fin 8192, tokQ z d i c * prod (pad z (i + 30 + j)) c
def sumCb (c : Fin 512) : EReal := ∑ i, tokC v d g b i c
def sumLg (c : Fin 512) : EReal := ∑ i, dln (v i) g b (d i) c * hat (v i) c
def sumLb (c : Fin 512) : EReal := ∑ i, dln (v i) g b (d i) c

variable (x : Fin 8192 → Fin 1024 → EReal) (dh : Fin 8192 → Fin 1024 → EReal) (gm : Fin 1024 → EReal)
  (wi : Fin 2560 → Fin 1024 → EReal)

/-- The gradient of the normalised activations, of their gain, and of the activations. -/
def tokN (i : Fin 8192) (k : Fin 1024) : EReal := ∑ n, tokZ z v d cw dw g b i n * wi n k
def sumG (k : Fin 1024) : EReal := ∑ i, tokN z v d cw dw g b wi i k * FfnMath.unit (x i) k
def tokX (i : Fin 8192) (k : Fin 1024) : EReal :=
  dh i k + FfnMath.dunit (x i) (fun k => tokN z v d cw dw g b wi i k * gm k) k

variable {z v d cw dw g b}

theorem real_tail {n : ℕ} {f : Fin 8192 → Fin n → EReal} (hf : ∀ i k, IsReal (f i k)) (s : ℕ) (k : Fin n) : IsReal (tail f s k) := by
  by_cases h : s < 8192
  · rw [tail_of_lt h]; exact hf _ _
  · rw [tail_of_le (by omega)]; exact ⟨0, EReal.coe_zero.symm⟩

theorem real_pad (hz : ∀ i n, IsReal (z i n)) (s : ℕ) (n : Fin 2560) : IsReal (pad z s n) := by
  unfold pad
  split
  · exact hz _ _
  · exact ⟨0, EReal.coe_zero.symm⟩

variable (hz : ∀ i n, IsReal (z i n)) (hv : ∀ i c, IsReal (v i c)) (hd : ∀ i n, IsReal (d i n))
  (hcw : ∀ j c, IsReal (cw j c)) (hdw : ∀ j c, IsReal (dw j c)) (hg : ∀ c, IsReal (g c)) (hb : ∀ c, IsReal (b c))
include hz hv hd hcw hdw hg hb

theorem real_tokZ (i : Fin 8192) (n : Fin 2560) : IsReal (tokZ z v d cw dw g b i n) := by
  have hh : ∀ c, IsReal (tokH v d cw g b i c) := fun c => .sum fun j => (hcw j c).mul
    (real_tail (fun i c => IsReal.dcv (hv i) hg hb (hd i) c) _ _)
  have hp : ∀ c, IsReal (tokP z d dw i c) := fun c => .sum fun j => (hdw j c).mul
    (real_tail (fun i c => (hd i _).mul (hz i _)) _ _)
  have hu : ∀ c, IsReal (short dw (pad z) i c) := fun c => .sum fun j => (hdw j c).mul
    ((real_pad hz _ _).mul (real_pad hz _ _))
  have hs : ∀ c : Fin 512, IsReal (sigm (z i ⟨512 + c, by omega⟩)) := fun c => .sigm (hz i _)
  unfold tokZ dz five
  split_ifs
  · exact (hh _).mul (hs _)
  · exact (((hh _).mul (hz i _)).mul (hs _)).mul (.sub ⟨1, EReal.coe_one.symm⟩ (hs _))
  · exact (hd i _).mul (hu _)
  · exact (hp _).mul (hz i _)
  · exact (hp _).mul (hz i _)

end Tokens

end Cert.OddMath

end
-- ==== Proof.OddBwdRows.lean ====
/-
  What one grid point of the odd layer's backward call computes from its blocks of 512 tokens and the 32 tokens before and
  after them, entry by entry.
-/
module

public import proofs.«01_k».proof.Proof.OddGradMath
public import proofs.«01_k».proof.Proof.Gen.OddBwdIdeal.Skeleton
public import Idealize.ShloMosaic.Lib.Pipeline.ValueKit
public import Idealize.ShloMosaic.Lib.Pointwise
public import Idealize.ShloMosaic.Lib.IdealHost

@[expose] public section

set_option maxRecDepth 16384

noncomputable section

namespace Cert.OddBwdIdeal.Rows

open Idealize.ShloMosaic Idealize.ShloMosaic.TcCoe Idealize.SL.Sem Cert.OddBwdIdeal Cert.OddBwdIdeal.Gen

/-! ## The extended blocks -/

section
variable (i : grid0.Coords) (dh : Vec Ideal S512x1024 .f32) (dhx : Vec Ideal S32x1024 .f32) (wo : Vec Ideal S1024x1024 .bf16)
  (zp : Vec Ideal S32x2560 .bf16) (z : Vec Ideal S512x2560 .bf16) (zx : Vec Ideal S32x2560 .bf16)
  (cv : Vec Ideal S512x512 .f32) (cvx : Vec Ideal S32x512 .f32)

/-- The incoming gradients of the block and of the 32 tokens after it, which are zero at the last grid point. -/
abbrev dhe (p : Fin 544) (k : Fin 1024) : EReal :=
  if h : p.val < 512 then dh (ix2 (⟨p, h⟩ : Fin 512) k)
  else Scalar.select (Scalar.cmpi CmpIPredicate.slt (BitVec.ofNat 32 (i 0).val) 15#32) (dhx (ix2 (⟨p - 512, by omega⟩ : Fin 32) k)) 0

theorem pay8_apply (p : Fin 544) (n : Fin 1024) : k0_pay8 i dh dhx wo (ix2 p n) = ∑ k, dhe i dh dhx p k * wo (ix2 n k) := by
  unfold k0_pay8
  pointwise [dhe]

/-- The rows of the block, of the 32 tokens before it, which are zero at the first grid point, and of the 32 after it. -/
abbrev ze (e : Fin 576) (n : Fin 2560) : EReal :=
  if h : e.val < 32 then Scalar.select (Scalar.cmpi CmpIPredicate.sgt (BitVec.ofNat 32 (i 0).val) 0#32) (zp (ix2 (⟨e, h⟩ : Fin 32) n)) 0
  else if h' : e.val - 32 < 512 then z (ix2 (⟨e - 32, h'⟩ : Fin 512) n) else zx (ix2 (⟨e - 32 - 512, by omega⟩ : Fin 32) n)

theorem pay9_apply (e : Fin 576) (n : Fin 2560) : k0_pay9 i zp z zx (ix2 e n) = ze i zp z zx e n := by
  unfold k0_pay9
  pointwise [ze]

theorem pay10_apply (e : Fin 576) (c : Fin 512) :
    k0_pay10 i zp z zx (ix2 e c) = FfnMath.sigm (k0_pay9 i zp z zx (ix2 e (⟨512 + c, by omega⟩ : Fin 2560))) := by
  unfold k0_pay10
  generalize k0_pay9 i zp z zx = q
  pointwise [FfnMath.sigm, zero_sub]

theorem pay11_apply (e : Fin 576) (c : Fin 512) :
    k0_pay11 i zp z zx (ix2 e c) = k0_pay9 i zp z zx (ix2 e (⟨c, by omega⟩ : Fin 2560)) := by
  unfold k0_pay11
  generalize k0_pay9 i zp z zx = q
  pointwise

theorem pay12_apply (e : Fin 576) (c : Fin 512) :
    k0_pay12 i zp z zx (ix2 e c) = OddMath.glu (fun n => k0_pay9 i zp z zx (ix2 e n)) c := by
  unfold k0_pay12
  pointwise [pay10_apply, pay11_apply, OddMath.glu]

/-- The long convolution's rows, of the block and of the 32 tokens after it. -/
abbrev ve (p : Fin 544) (c : Fin 512) : EReal :=
  if h : p.val < 512 then cv (ix2 (⟨p, h⟩ : Fin 512) c) else cvx (ix2 (⟨p - 512, by omega⟩ : Fin 32) c)

theorem pay20_apply (p : Fin 544) (c : Fin 512) : k0_pay20 cv cvx (ix2 p c) = ve cv cvx p c - OddMath.mean (ve cv cvx p) := by
  unfold k0_pay20
  pointwise [OddMath.mean, ve]

theorem pay21_apply (p : Fin 544) : k0_pay21 cv cvx (ix2 p 0) = Ideal.rsqrt (OddMath.var (ve cv cvx p)) := by
  have e := pay20_apply cv cvx p
  unfold k0_pay21
  revert e
  generalize k0_pay20 cv cvx = q
  intro e
  pointwise [e, OddMath.var]

theorem pay22_apply (p : Fin 544) (c : Fin 512) : k0_pay22 cv cvx (ix2 p c) = OddMath.hat (ve cv cvx p) c := by
  unfold k0_pay22
  pointwise [pay20_apply, pay21_apply, OddMath.hat]

theorem pay23_apply (g b : Vec Ideal S1x512 .f32) (p : Fin 544) (c : Fin 512) :
    k0_pay23 cv cvx g b (ix2 p c) = OddMath.ln (ve cv cvx p) (fun c => g (ix2 0 c)) (fun c => b (ix2 0 c)) c := by
  unfold k0_pay23
  pointwise [pay22_apply, OddMath.ln, OddMath.hat]

theorem pay24_apply (g b : Vec Ideal S1x512 .f32) (p : Fin 544) (c : Fin 512) :
    k0_pay24 cv cvx g b (ix2 p c) = Ideal.exp (-k0_pay23 cv cvx g b (ix2 p c)) := by
  unfold k0_pay24
  generalize k0_pay23 cv cvx g b = q
  pointwise [zero_sub]
end

/-! ## The gradient of the long convolution -/

section
variable (d : FVec Ideal S544x1024 .f32) (cv : Vec Ideal S512x512 .f32) (cvx : Vec Ideal S32x512 .f32) (g b : Vec Ideal S1x512 .f32)

/-- The gradient of the normalised rows. -/
abbrev dlnp : FVec Ideal S544x512 .f32 := k0_pay26 d (k0_pay23 cv cvx g b) (k0_pay24 cv cvx g b) k0_pay25

/-- The block's rows of `OddMath.dln` and `OddMath.dcv`. -/
abbrev dlne (p : Fin 544) (c : Fin 512) : EReal :=
  OddMath.dln (ve cv cvx p) (fun c => g (ix2 0 c)) (fun c => b (ix2 0 c)) (fun n => d (ix2 p n)) c
abbrev dcve (p : Fin 544) (c : Fin 512) : EReal :=
  OddMath.dcv (ve cv cvx p) (fun c => g (ix2 0 c)) (fun c => b (ix2 0 c)) (fun n => d (ix2 p n)) c

theorem dlnp_apply (p : Fin 544) (c : Fin 512) : dlnp d cv cvx g b (ix2 p c) = dlne d cv cvx g b p c := by
  have e := pay24_apply cv cvx g b p c
  have e' := pay23_apply cv cvx g b p c
  unfold dlnp k0_pay26 k0_pay25 dlne OddMath.dln
  revert e e'
  generalize k0_pay24 cv cvx g b = q
  generalize k0_pay23 cv cvx g b = y
  intro e e'
  rw [← e']
  pointwise [e, OddMath.dsilu, FfnMath.sigm]

abbrev v107 : FVec Ideal S544x512 .f32 := k0_pay30 d g (k0_pay23 cv cvx g b) (k0_pay24 cv cvx g b) k0_pay25
abbrev v114 : FVec Ideal S544x512 .f32 :=
  k0_pay31 d g (k0_pay22 cv cvx) (k0_pay23 cv cvx g b) (k0_pay24 cv cvx g b) k0_pay25

theorem pay29_apply (p : Fin 544) (c : Fin 512) :
    k0_pay29 d g (k0_pay23 cv cvx g b) (k0_pay24 cv cvx g b) k0_pay25 (ix2 p c) = dlne d cv cvx g b p c * g (ix2 0 c) := by
  have e := dlnp_apply d cv cvx g b p
  unfold k0_pay29
  revert e
  unfold dlnp
  generalize k0_pay26 d (k0_pay23 cv cvx g b) (k0_pay24 cv cvx g b) k0_pay25 = q
  intro e
  pointwise [e]

/-- The gradient of the long convolution's rows. -/
abbrev dcvp : FVec Ideal S544x512 .f32 := k0_pay32 (k0_pay21 cv cvx) (v107 d cv cvx g b) (v114 d cv cvx g b)

theorem dcvp_apply (p : Fin 544) (c : Fin 512) : dcvp d cv cvx g b (ix2 p c) = dcve d cv cvx g b p c := by
  have e := pay29_apply d cv cvx g b p
  have e1 := pay21_apply cv cvx p
  have e2 := pay22_apply cv cvx p
  unfold dcvp v107 v114 k0_pay32 k0_pay30 k0_pay31 dcve OddMath.dcv
  revert e e1 e2
  generalize k0_pay29 d g (k0_pay23 cv cvx g b) (k0_pay24 cv cvx g b) k0_pay25 = q
  generalize k0_pay21 cv cvx = r
  generalize k0_pay22 cv cvx = x
  intro e e1 e2
  pointwise [e, e1, e2, OddMath.dhat]

theorem pay27_apply (a : Vec Ideal S1x512 .f32) (c : Fin 512) :
    k0_pay27 d (k0_pay22 cv cvx) (k0_pay23 cv cvx g b) (k0_pay24 cv cvx g b) k0_pay25 a (ix2 0 c)
      = a (ix2 0 c) + ∑ p : Fin 512, dlne d cv cvx g b ⟨p, by omega⟩ c * OddMath.hat (ve cv cvx ⟨p, by omega⟩) c := by
  have e := fun p => dlnp_apply d cv cvx g b p c
  have e2 := fun p => pay22_apply cv cvx p c
  unfold dlnp at e
  unfold k0_pay27
  revert e e2
  generalize k0_pay26 d (k0_pay23 cv cvx g b) (k0_pay24 cv cvx g b) k0_pay25 = q
  generalize k0_pay22 cv cvx = x
  intro e e2
  pointwise [e, e2]

theorem pay28_apply (a : Vec Ideal S1x512 .f32) (c : Fin 512) :
    k0_pay28 d (k0_pay23 cv cvx g b) (k0_pay24 cv cvx g b) k0_pay25 a (ix2 0 c)
      = a (ix2 0 c) + ∑ p : Fin 512, dlne d cv cvx g b ⟨p, by omega⟩ c := by
  have e := fun p => dlnp_apply d cv cvx g b p c
  unfold dlnp at e
  unfold k0_pay28
  revert e
  generalize k0_pay26 d (k0_pay23 cv cvx g b) (k0_pay24 cv cvx g b) k0_pay25 = q
  intro e
  pointwise [e]

theorem pay33_apply (a : Vec Ideal S1x512 .f32) (c : Fin 512) :
    k0_pay33 (k0_pay21 cv cvx) (v107 d cv cvx g b) (v114 d cv cvx g b) a (ix2 0 c)
      = a (ix2 0 c) + ∑ p : Fin 512, dcve d cv cvx g b ⟨p, by omega⟩ c := by
  have e := fun p => dcvp_apply d cv cvx g b p c
  unfold dcvp at e
  unfold k0_pay33
  revert e
  generalize k0_pay32 (k0_pay21 cv cvx) (v107 d cv cvx g b) (v114 d cv cvx g b) = q
  intro e
  pointwise [e]
end

/-! ## The gradient of the row that the long convolution runs over

The gradient rows are rotated up by 0 to 7 places; each tap reads one of the eight from one of four offsets. The names
`s3` to `s27` are the running sums after the tap of that number. -/

/-- Row `j` of the long convolution's taps, and of the short one's. -/
abbrev tap (cw : Vec Ideal S31x512 .f32) (j : ℕ) (h : ∀ a, (![j, 0] : Fin 2 → ℕ) a + S1x512.size a ≤ S31x512.size a) :
    Vec Ideal S1x512 .f32 := View.ld cw (Rect.unit ![j, 0] S1x512.size h)
abbrev tap3 (dw : Vec Ideal S3x512 .f32) (j : ℕ) (h : ∀ a, (![j, 0] : Fin 2 → ℕ) a + S1x512.size a ≤ S3x512.size a) :
    Vec Ideal S1x512 .f32 := View.ld dw (Rect.unit ![j, 0] S1x512.size h)

section
variable (r : FVec Ideal S544x1 .f32) (u t : FVec Ideal S544x512 .f32) (cw : Vec Ideal S31x512 .f32)

abbrev s3 : FVec Ideal S512x512 .f32 :=
  k0_pay48 (k0_pay36 r u t) (k0_pay37 r u t) (k0_pay38 r u t)
    (k0_pay42 r u t (tap cw 0 inb_S31x512_S1x512_0_0)) (tap cw 1 inb_S31x512_S1x512_1_0) (tap cw 2 inb_S31x512_S1x512_2_0) (tap cw 3 inb_S31x512_S1x512_3_0)
abbrev s5 : FVec Ideal S512x512 .f32 :=
  k0_pay51 (k0_pay34 r u t) (k0_pay35 r u t) (s3 r u t cw)
    (tap cw 4 inb_S31x512_S1x512_4_0) (tap cw 5 inb_S31x512_S1x512_5_0)
abbrev s8 : FVec Ideal S512x512 .f32 :=
  k0_pay56 (k0_pay39 r u t) (k0_pay40 r u t) (s5 r u t cw)
    (tap cw 6 inb_S31x512_S1x512_6_0) (k0_pay53 (k0_pay32 r u t)) (tap cw 7 inb_S31x512_S1x512_7_0) (tap cw 8 inb_S31x512_S1x512_8_0)
abbrev s11 : FVec Ideal S512x512 .f32 :=
  k0_pay60 (k0_pay36 r u t) (k0_pay37 r u t) (k0_pay38 r u t) (s8 r u t cw)
    (tap cw 9 inb_S31x512_S1x512_9_0) (tap cw 10 inb_S31x512_S1x512_10_0) (tap cw 11 inb_S31x512_S1x512_11_0)
abbrev s14 : FVec Ideal S512x512 .f32 :=
  k0_pay66 (k0_pay32 r u t) (k0_pay34 r u t) (k0_pay35 r u t) (s11 r u t cw)
    (tap cw 12 inb_S31x512_S1x512_12_0) (tap cw 13 inb_S31x512_S1x512_13_0) (tap cw 14 inb_S31x512_S1x512_14_0)
abbrev s16 : FVec Ideal S512x512 .f32 :=
  k0_pay69 (k0_pay39 r u t) (k0_pay40 r u t) (s14 r u t cw)
    (tap cw 15 inb_S31x512_S1x512_15_0) (tap cw 16 inb_S31x512_S1x512_16_0)
abbrev s19 : FVec Ideal S512x512 .f32 :=
  k0_pay73 (k0_pay36 r u t) (k0_pay37 r u t) (k0_pay38 r u t) (s16 r u t cw)
    (tap cw 17 inb_S31x512_S1x512_17_0) (tap cw 18 inb_S31x512_S1x512_18_0) (tap cw 19 inb_S31x512_S1x512_19_0)
abbrev s22 : FVec Ideal S512x512 .f32 :=
  k0_pay77 (k0_pay32 r u t) (k0_pay34 r u t) (k0_pay35 r u t) (s19 r u t cw)
    (tap cw 20 inb_S31x512_S1x512_20_0) (tap cw 21 inb_S31x512_S1x512_21_0) (tap cw 22 inb_S31x512_S1x512_22_0)
abbrev s24 : FVec Ideal S512x512 .f32 :=
  k0_pay82 (k0_pay39 r u t) (k0_pay40 r u t) (s22 r u t cw)
    (tap cw 23 inb_S31x512_S1x512_23_0) (tap cw 24 inb_S31x512_S1x512_24_0)
abbrev s27 : FVec Ideal S512x512 .f32 :=
  k0_pay87 (k0_pay36 r u t) (k0_pay37 r u t) (s24 r u t cw)
    (k0_pay84 (k0_pay38 r u t) (tap cw 25 inb_S31x512_S1x512_25_0)) (tap cw 26 inb_S31x512_S1x512_26_0) (tap cw 27 inb_S31x512_S1x512_27_0)
abbrev dhcp : FVec Ideal S512x512 .f32 :=
  k0_pay91 (k0_pay32 r u t) (k0_pay34 r u t) (k0_pay35 r u t) (s27 r u t cw)
    (tap cw 28 inb_S31x512_S1x512_28_0) (tap cw 29 inb_S31x512_S1x512_29_0) (tap cw 30 inb_S31x512_S1x512_30_0)

variable {r u t}

theorem dhcp_apply {C : ℕ → Fin 512 → EReal} (hC : ∀ (p : Fin 544) c, k0_pay32 r u t (ix2 p c) = C p c) (p c : Fin 512) :
    dhcp r u t cw (ix2 p c) = OddMath.dconv 31 (fun j => cw (ix2 j c)) (fun s => C s c) p := by
  obtain ⟨F, hF⟩ : ∃ F : ℕ → EReal, F = fun s => C s c := ⟨_, rfl⟩
  have hz : ∀ e : Fin 544, k0_pay32 r u t (ix2 e c) = F e := fun e => (hC e c).trans (congrFun hF.symm _)
  rw [← hF]
  unfold dhcp s27 s24 s22 s19 s16 s14 s11 s8 s5 s3 k0_pay91 k0_pay87 k0_pay84 k0_pay82 k0_pay77 k0_pay73 k0_pay69 k0_pay66
    k0_pay60 k0_pay56 k0_pay53 k0_pay51 k0_pay48 k0_pay42 k0_pay40 k0_pay39 k0_pay38 k0_pay37 k0_pay36 k0_pay35 k0_pay34 tap
  revert hz
  generalize k0_pay32 r u t = z
  intro hz
  pointwise [hz]
  simp only [OddMath.dconv, Fin.sum_univ_castSucc, Finset.univ_eq_empty, Finset.sum_empty, zero_add]
  iterate 30 refine congr (congrArg HAdd.hAdd ?_) (congrArg (HMul.hMul _) (congrArg F ?_))
  refine congrArg (HMul.hMul _) (congrArg F ?_)
  all_goals (simp only [Fin.val_castSucc, Fin.val_last]; try omega)
end

/-! ## The short convolution's mixer -/

section
variable (d : FVec Ideal S544x1024 .f32) (z : FVec Ideal S576x2560 .f32) (dw : Vec Ideal S3x512 .f32)

theorem pay97_apply (e : Fin 576) (c : Fin 512) : k0_pay97 z (ix2 e c) = OddMath.prod (fun n => z (ix2 e n)) c := by
  unfold k0_pay97 k0_pay95 k0_pay96
  pointwise [OddMath.prod]

/-- The gradient of the short convolution's rows. -/
abbrev dqe (p : Fin 544) (c : Fin 512) : EReal :=
  OddMath.dq (fun n => z (ix2 (⟨p + 32, by omega⟩ : Fin 576) n)) (fun n => d (ix2 p n)) c

theorem pay101_apply (p : Fin 544) (c : Fin 512) : k0_pay101 d z (ix2 p c) = dqe d z p c := by
  unfold k0_pay101 k0_pay100
  pointwise [dqe, OddMath.dq, Nat.add_comm 32]

abbrev ddbg : FVec Ideal S512x512 .f32 :=
  k0_pay102 d z (tap3 dw 0 inb_S3x512_S1x512_0_0) (tap3 dw 1 inb_S3x512_S1x512_1_0) (tap3 dw 2 inb_S3x512_S1x512_2_0)

theorem ddbg_apply {Z : ℕ → Fin 2560 → EReal} (hZ : ∀ (e : Fin 576) n, e.val < 544 → z (ix2 e n) = Z e n) (p c : Fin 512) :
    ddbg d z dw (ix2 p c) = d (ix2 (⟨p, by omega⟩ : Fin 544) (⟨512 + c, by omega⟩ : Fin 1024))
      * OddMath.short (fun j c => dw (ix2 j c)) Z p c := by
  have e : ∀ e : Fin 576, e.val < 544 → k0_pay97 z (ix2 e c) = OddMath.prod (Z e) c := fun e h =>
    (pay97_apply z e c).trans (congrArg (OddMath.prod · c) (funext fun n => hZ e n h))
  rw [OddMath.short_eq, ← e ⟨p + 30, by omega⟩ (by simp only []; omega), ← e ⟨p + 31, by omega⟩ (by simp only []; omega),
    ← e ⟨p + 32, by omega⟩ (by simp only []; omega)]
  clear e
  unfold ddbg k0_pay102 k0_pay99 k0_pay98 k0_pay100 tap3
  generalize k0_pay97 z = q
  pointwise
  have h0 : (p.val + 32 + 576 - 2) % 576 = p.val + 30 := by omega
  have h1 : (p.val + 32 + 576 - 1) % 576 = p.val + 31 := by omega
  simp only [Nat.add_comm 32, h0, h1]

/-- The gradient of the rows that the short convolution runs over. -/
abbrev dpsum : FVec Ideal S512x512 .f32 :=
  addf (addf (k0_pay105 d z (tap3 dw 0 inb_S3x512_S1x512_0_0))
    (mulf (broadcastTo S512x512 (tap3 dw 1 inb_S3x512_S1x512_1_0) broadcasts_S1x512_S512x512)
      (extractStridedSlice S512x512 ![0, 0] (k0_pay103 d z) slices_S544x512_o0_0_S512x512)))
    (mulf (broadcastTo S512x512 (tap3 dw 2 inb_S3x512_S1x512_2_0) broadcasts_S1x512_S512x512)
      (extractStridedSlice S512x512 ![0, 0] (k0_pay101 d z) slices_S544x512_o0_0_S512x512))

theorem dpsum_apply {Q : ℕ → Fin 512 → EReal} (hQ : ∀ (p : Fin 544) c, dqe d z p c = Q p c) (p c : Fin 512) :
    dpsum d z dw (ix2 p c) = OddMath.dconv 3 (fun j => dw (ix2 j c)) (fun s => Q s c) p := by
  have e : ∀ p : Fin 544, k0_pay101 d z (ix2 p c) = Q p c := fun p => (pay101_apply d z p c).trans (hQ p c)
  rw [show OddMath.dconv 3 (fun j => dw (ix2 j c)) (fun s => Q s c) p
    = dw (ix2 0 c) * Q (p + 2) c + dw (ix2 1 c) * Q (p + 1) c + dw (ix2 2 c) * Q p c from
    (Fin.sum_univ_three fun j : Fin 3 => dw (ix2 j c) * Q (p + (3 - 1 - j)) c).trans rfl]
  unfold dpsum k0_pay105 k0_pay103 tap3
  revert e
  generalize k0_pay101 d z = q
  intro e
  pointwise [e]
  rw [show (p.val + 544 - 542) % 544 = p.val + 2 by omega, show (p.val + 544 - 543) % 544 = p.val + 1 by omega]

/-- What a point adds to the gradient of the short convolution's taps. -/
theorem ddw_apply (a : Vec Ideal S1x512 .f32) (c : Fin 512) :
    k0_pay104 d z a (ix2 0 c) = a (ix2 0 c) + ∑ p : Fin 512, dqe d z ⟨p, by omega⟩ c
        * OddMath.prod (fun n => z (ix2 (⟨p + 30 + 0, by omega⟩ : Fin 576) n)) c
    ∧ k0_pay106 (k0_pay98 z) (k0_pay101 d z) a (ix2 0 c) = a (ix2 0 c) + ∑ p : Fin 512, dqe d z ⟨p, by omega⟩ c
        * OddMath.prod (fun n => z (ix2 (⟨p + 30 + 1, by omega⟩ : Fin 576) n)) c
    ∧ k0_pay107 (k0_pay97 z) (k0_pay101 d z) a (ix2 0 c) = a (ix2 0 c) + ∑ p : Fin 512, dqe d z ⟨p, by omega⟩ c
        * OddMath.prod (fun n => z (ix2 (⟨p + 30 + 2, by omega⟩ : Fin 576) n)) c := by
  have e := fun e => pay97_apply z e c
  have e' := fun p => pay101_apply d z p c
  simp only [← e, ← e']
  unfold k0_pay104 k0_pay106 k0_pay107 k0_pay99 k0_pay98
  clear e e'
  generalize k0_pay97 z = q
  generalize k0_pay101 d z = y
  have h0 : ∀ p : Fin 512, (32 + p.val + 576 - 2) % 576 = p.val + 30 + 0 := fun p => by omega
  have h1 : ∀ p : Fin 512, (32 + p.val + 576 - 1) % 576 = p.val + 30 + 1 := fun p => by omega
  have h2 : ∀ p : Fin 512, 32 + p.val = p.val + 30 + 2 := fun p => by omega
  refine ⟨?_, ?_, ?_⟩
  · pointwise
    simp only [h0]
  · pointwise
    simp only [h1]
  · pointwise
    simp only [h2]
end

/-! ## The rows that leave -/

section
variable (r : FVec Ideal S544x1 .f32) (u t : FVec Ideal S544x512 .f32) (cw : Vec Ideal S31x512 .f32)
  (sg ca : FVec Ideal S576x512 .f32) (d : FVec Ideal S544x1024 .f32) (z : FVec Ideal S576x2560 .f32) (dw : Vec Ideal S3x512 .f32)

abbrev dca : FVec Ideal S512x512 .f32 :=
  k0_pay93 sg (k0_pay32 r u t) (k0_pay34 r u t) (k0_pay35 r u t) (s27 r u t cw)
    (tap cw 28 inb_S31x512_S1x512_28_0) (tap cw 29 inb_S31x512_S1x512_29_0) (tap cw 30 inb_S31x512_S1x512_30_0)
abbrev dcg : FVec Ideal S512x512 .f32 :=
  k0_pay94 sg ca (k0_pay32 r u t) (k0_pay34 r u t) (k0_pay35 r u t) (s27 r u t cw)
    (tap cw 28 inb_S31x512_S1x512_28_0) (tap cw 29 inb_S31x512_S1x512_29_0) (tap cw 30 inb_S31x512_S1x512_30_0)

/-- The gradient of the rows `z` of the block. -/
abbrev dzp : FVec Ideal S512x2560 .bf16 :=
  k0_pay108 (dca r u t cw sg) (dcg r u t cw sg ca) (k0_pay95 z) (k0_pay96 z) (k0_pay101 d z) (ddbg d z dw) (k0_pay103 d z)
    (k0_pay105 d z (tap3 dw 0 inb_S3x512_S1x512_0_0)) (tap3 dw 1 inb_S3x512_S1x512_1_0) (tap3 dw 2 inb_S3x512_S1x512_2_0)

variable {r u t sg ca d z}

theorem dzp_apply {C Q : ℕ → Fin 512 → EReal} {Z : ℕ → Fin 2560 → EReal}
    (hC : ∀ (p : Fin 544) c, k0_pay32 r u t (ix2 p c) = C p c) (hQ : ∀ (p : Fin 544) c, dqe d z p c = Q p c)
    (hZ : ∀ (e : Fin 576) n, e.val < 544 → z (ix2 e n) = Z e n)
    (hs : ∀ (e : Fin 576) (c : Fin 512), sg (ix2 e c) = FfnMath.sigm (z (ix2 e (⟨512 + c, by omega⟩ : Fin 2560))))
    (ha : ∀ (e : Fin 576) (c : Fin 512), ca (ix2 e c) = z (ix2 e (⟨c, by omega⟩ : Fin 2560))) (p : Fin 512) (n : Fin 2560) :
    dzp r u t cw sg ca d z dw (ix2 p n)
      = OddMath.dz (Z (p + 32)) (fun n => d (ix2 (⟨p, by omega⟩ : Fin 544) n))
          (fun c => OddMath.dconv 31 (fun j => cw (ix2 j c)) (fun s => C s c) p)
          (fun c => OddMath.dconv 3 (fun j => dw (ix2 j c)) (fun s => Q s c) p)
          (OddMath.short (fun j c => dw (ix2 j c)) Z p) n := by
  have e1 := fun c => dhcp_apply cw hC p c
  have e2 := fun c => dpsum_apply d z dw hQ p c
  have e3 := fun c => ddbg_apply d z dw hZ p c
  have hz : ∀ n, z (ix2 (⟨32 + p, by omega⟩ : Fin 576) n) = Z (p + 32) n := fun n =>
    (hZ ⟨32 + p, by omega⟩ n (by simp only []; omega)).trans (congrArg (Z · n) (Nat.add_comm 32 p.val))
  have hs' : ∀ c : Fin 512, sg (ix2 (⟨32 + p, by omega⟩ : Fin 576) c) = FfnMath.sigm (Z (p + 32) ⟨512 + c, by omega⟩) :=
    fun c => (hs _ c).trans (congrArg FfnMath.sigm (hz _))
  have ha' : ∀ c : Fin 512, ca (ix2 (⟨32 + p, by omega⟩ : Fin 576) c) = Z (p + 32) ⟨c, by omega⟩ :=
    fun c => (ha _ c).trans (hz _)
  simp only [← e1, ← e2]
  unfold dhcp dpsum at *
  unfold dzp k0_pay108 dca dcg k0_pay93 k0_pay94 k0_pay92 k0_pay95 k0_pay96
  clear hC hQ hZ hs ha e1 e2
  revert e3
  generalize k0_pay91 (k0_pay32 r u t) (k0_pay34 r u t) (k0_pay35 r u t) (s27 r u t cw)
    (tap cw 28 inb_S31x512_S1x512_28_0) (tap cw 29 inb_S31x512_S1x512_29_0) (tap cw 30 inb_S31x512_S1x512_30_0) = H
  generalize ddbg d z dw = B
  generalize k0_pay101 d z = q1
  generalize k0_pay103 d z = q2
  generalize k0_pay105 d z (tap3 dw 0 inb_S3x512_S1x512_0_0) = q3
  intro e3
  pointwise [e3, hz, hs', ha', OddMath.dz, OddMath.five]

theorem pay109_apply (v567 v572 v596 v611 : FVec Ideal S512x512 .f32) (v573 v574 : FVec Ideal S576x512 .f32)
    (v594 v597 : FVec Ideal S544x512 .f32) (v621 v635 : Vec Ideal S1x512 .f32) (wi : Vec Ideal S2560x1024 .bf16)
    (p : Fin 512) (k : Fin 1024) :
    k0_pay109 v567 v572 v573 v574 v594 v596 v597 v611 v621 v635 wi (ix2 p k)
      = ∑ n, k0_pay108 v567 v572 v573 v574 v594 v596 v597 v611 v621 v635 (ix2 p n) * wi (ix2 n k) := by
  unfold k0_pay109
  generalize k0_pay108 v567 v572 v573 v574 v594 v596 v597 v611 v621 v635 = q
  pointwise
end

section
variable (x h c : Vec Ideal S512x1024 .f32) (g : Vec Ideal S1x1024 .f32)

theorem pay111_apply (p : Fin 512) (k : Fin 1024) : k0_pay111 h (ix2 p k) = FfnMath.unit (fun k => h (ix2 p k)) k := by
  unfold k0_pay111 k0_pay110
  pointwise [FfnMath.unit, FfnMath.inv, FfnMath.msq]

theorem pay113_apply (p : Fin 512) (k : Fin 1024) : k0_pay113 c x h g (ix2 p k)
    = c (ix2 p k) + FfnMath.dunit (fun k => h (ix2 p k)) (fun k => x (ix2 p k) * g (ix2 0 k)) k := by
  have e := pay111_apply h p
  unfold k0_pay113
  revert e
  generalize k0_pay111 h = y
  intro e
  unfold k0_pay110
  pointwise [e, FfnMath.dunit, FfnMath.inv, FfnMath.msq]

theorem pay1_apply (a : Vec Ideal S1x1024 .f32) (k : Fin 1024) : k0_pay1 (k0_pay112 x h) (k0_pay114 a) (ix2 0 k)
    = a (ix2 0 k) + ∑ p, x (ix2 p k) * FfnMath.unit (fun k => h (ix2 p k)) k := by
  have e := fun p => pay111_apply h p k
  unfold k0_pay1 k0_pay112 k0_pay114
  revert e
  generalize k0_pay111 h = y
  intro e
  pointwise [e]
end

/-! ## The gradient of the long convolution's taps -/

section
variable (r : FVec Ideal S544x1 .f32) (u t : FVec Ideal S544x512 .f32) (hc : FVec Ideal S576x512 .f32)

/-- Row `j` of what the gradient of the taps becomes, from its row `a` before. -/
abbrev dcwRow (a : Vec Ideal S1x512 .f32) : Fin 31 → FVec Ideal S1x512 .f32 :=
  ![k0_pay41 (k0_pay18 hc) r u t a,
    k0_pay45 (k0_pay43 a) (k0_pay44 (k0_pay17 hc) r u t),
    k0_pay46 (k0_pay16 hc) (k0_pay32 r u t) a,
    k0_pay47 (k0_pay15 hc) (k0_pay32 r u t) a,
    k0_pay49 (k0_pay14 hc) (k0_pay32 r u t) a,
    k0_pay50 (k0_pay13 hc) (k0_pay32 r u t) a,
    k0_pay52 hc (k0_pay32 r u t) a,
    k0_pay54 (k0_pay19 hc) (k0_pay32 r u t) a,
    k0_pay55 (k0_pay18 hc) (k0_pay32 r u t) a,
    k0_pay57 (k0_pay17 hc) (k0_pay32 r u t) a,
    k0_pay58 (k0_pay16 hc) (k0_pay32 r u t) a,
    k0_pay59 (k0_pay15 hc) (k0_pay32 r u t) a,
    k0_pay63 (k0_pay61 a) (k0_pay62 (k0_pay14 hc) (k0_pay32 r u t)),
    k0_pay64 (k0_pay13 hc) (k0_pay32 r u t) a,
    k0_pay65 hc (k0_pay32 r u t) a,
    k0_pay67 (k0_pay19 hc) (k0_pay32 r u t) a,
    k0_pay68 (k0_pay18 hc) (k0_pay32 r u t) a,
    k0_pay70 (k0_pay17 hc) (k0_pay32 r u t) a,
    k0_pay71 (k0_pay16 hc) (k0_pay32 r u t) a,
    k0_pay72 (k0_pay15 hc) (k0_pay32 r u t) a,
    k0_pay74 (k0_pay14 hc) (k0_pay32 r u t) a,
    k0_pay75 (k0_pay13 hc) (k0_pay32 r u t) a,
    k0_pay76 hc (k0_pay32 r u t) a,
    k0_pay80 (k0_pay19 hc) (k0_pay78 a) (k0_pay79 (k0_pay32 r u t)),
    k0_pay81 (k0_pay18 hc) (k0_pay32 r u t) a,
    k0_pay83 (k0_pay17 hc) (k0_pay32 r u t) a,
    k0_pay85 (k0_pay16 hc) (k0_pay32 r u t) a,
    k0_pay86 (k0_pay15 hc) (k0_pay32 r u t) a,
    k0_pay88 (k0_pay14 hc) (k0_pay32 r u t) a,
    k0_pay89 (k0_pay13 hc) (k0_pay32 r u t) a,
    k0_pay90 hc (k0_pay32 r u t) a]

theorem dcwRow_apply (a : Vec Ideal S1x512 .f32) (j : Fin 31) (c : Fin 512) :
    dcwRow r u t hc a j (ix2 0 c) = a (ix2 0 c)
      + ∑ p : Fin 512, k0_pay32 r u t (ix2 (⟨p, by omega⟩ : Fin 544) c) * hc (ix2 (⟨p + 2 + j, by omega⟩ : Fin 576) c) := by
  unfold dcwRow k0_pay41 k0_pay44 k0_pay45 k0_pay43 k0_pay46 k0_pay47 k0_pay49 k0_pay50 k0_pay52 k0_pay54 k0_pay55 k0_pay57 k0_pay58
    k0_pay59 k0_pay61 k0_pay62 k0_pay63 k0_pay64 k0_pay65 k0_pay67 k0_pay68 k0_pay70 k0_pay71 k0_pay72 k0_pay74 k0_pay75 k0_pay76
    k0_pay78 k0_pay79 k0_pay80 k0_pay81 k0_pay83 k0_pay85 k0_pay86 k0_pay88 k0_pay89 k0_pay90
    k0_pay13 k0_pay14 k0_pay15 k0_pay16 k0_pay17 k0_pay18 k0_pay19
  generalize k0_pay32 r u t = q
  have e : ∀ (e : Fin 576) (p : Fin 512), e.val = p + 2 + j.val → hc (ix2 e c) = hc (ix2 (⟨p + 2 + j, by omega⟩ : Fin 576) c) :=
    fun e p h => congrArg (fun e => hc (ix2 e c)) (Fin.ext h)
  fin_cases j
  all_goals
    dsimp only [Matrix.cons_val]
    pointwise
    refine congrArg (_ + ·) (Finset.sum_congr rfl fun p _ => congrArg (_ * ·) (e _ p ?_))
    simp only []
    omega
end

end Cert.OddBwdIdeal.Rows

end
-- ==== Proof.OddBwdBlocks.lean ====
/-
  What one grid point of the odd layer's backward call leaves in its eight output blocks, entry by entry.
-/
module

public import proofs.«01_k».proof.Proof.OddBwdRows
public import proofs.«01_k».proof.Proof.Gen.OddBwdIdeal.Value
public import Idealize.ShloMosaic.Lib.Pipeline.ValueKit
public import Idealize.ShloMosaic.Lib.Pipeline.ReadBack
public import Idealize.ShloMosaic.Lib.Pointwise
public import Idealize.ShloMosaic.Lib.IdealHost

@[expose] public section

set_option maxRecDepth 16384

noncomputable section

namespace Cert.OddBwdIdeal.Blocks

open Idealize.ShloMosaic Idealize.ShloMosaic.TcCoe Idealize.SL.Sem Cert.OddBwdIdeal Cert.OddBwdIdeal.Gen Cert.OddBwdIdeal.Rows

/-! ## Arrays stored row by row -/

theorem inb31 (k : Fin 31) : ∀ a, (![k.val, 0] : Fin 2 → ℕ) a + (![1, 512] : Fin 2 → ℕ) a ≤ S31x512.size a := by
  revert k; decide
theorem inb3 (k : Fin 3) : ∀ a, (![k.val, 0] : Fin 2 → ℕ) a + (![1, 512] : Fin 2 → ℕ) a ≤ S3x512.size a := by
  revert k; decide

/-- Row `k` of an array of 31 rows, and of 3 rows. -/
abbrev row31 (a : Vec Ideal S31x512 .f32) (k : Fin 31) : Vec Ideal S1x512 .f32 := View.ld a (Rect.unit ![k.val, 0] ![1, 512] (inb31 k))
abbrev row3 (a : Vec Ideal S3x512 .f32) (k : Fin 3) : Vec Ideal S1x512 .f32 := View.ld a (Rect.unit ![k.val, 0] ![1, 512] (inb3 k))

theorem emb31 (k : Fin 31) (c : Fin 512) : (Rect.unit (s := S31x512) ![k.val, 0] ![1, 512] (inb31 k)).emb (ix2 0 c) = ix2 k c := by
  funext a
  refine Fin.ext ?_
  fin_cases a
  · show k.val + 1 * 0 = k.val; omega
  · show 0 + 1 * c.val = c.val; omega
theorem emb3 (k : Fin 3) (c : Fin 512) : (Rect.unit (s := S3x512) ![k.val, 0] ![1, 512] (inb3 k)).emb (ix2 0 c) = ix2 k c := by
  funext a
  refine Fin.ext ?_
  fin_cases a
  · show k.val + 1 * 0 = k.val; omega
  · show 0 + 1 * c.val = c.val; omega

theorem row31_apply (a : Vec Ideal S31x512 .f32) (k : Fin 31) (c : Fin 512) : row31 a k (ix2 0 c) = a (ix2 k c) :=
  congrArg a (emb31 k c)
theorem row3_apply (a : Vec Ideal S3x512 .f32) (k : Fin 3) (c : Fin 512) : row3 a k (ix2 0 c) = a (ix2 k c) :=
  congrArg a (emb3 k c)

/-- Stores of all rows, over whatever was stored before. -/
abbrev list31 (P : Fin 31 → Vec Ideal S1x512 .f32) : List (View.Piece (Elt Ideal) S31x512 .f32) :=
  [⟨Rect.unit ![30, 0] ![1, 512] inb_S31x512_S1x512_30_0, P 30⟩,
    ⟨Rect.unit ![29, 0] ![1, 512] inb_S31x512_S1x512_29_0, P 29⟩,
    ⟨Rect.unit ![28, 0] ![1, 512] inb_S31x512_S1x512_28_0, P 28⟩,
    ⟨Rect.unit ![27, 0] ![1, 512] inb_S31x512_S1x512_27_0, P 27⟩,
    ⟨Rect.unit ![26, 0] ![1, 512] inb_S31x512_S1x512_26_0, P 26⟩,
    ⟨Rect.unit ![25, 0] ![1, 512] inb_S31x512_S1x512_25_0, P 25⟩,
    ⟨Rect.unit ![24, 0] ![1, 512] inb_S31x512_S1x512_24_0, P 24⟩,
    ⟨Rect.unit ![23, 0] ![1, 512] inb_S31x512_S1x512_23_0, P 23⟩,
    ⟨Rect.unit ![22, 0] ![1, 512] inb_S31x512_S1x512_22_0, P 22⟩,
    ⟨Rect.unit ![21, 0] ![1, 512] inb_S31x512_S1x512_21_0, P 21⟩,
    ⟨Rect.unit ![20, 0] ![1, 512] inb_S31x512_S1x512_20_0, P 20⟩,
    ⟨Rect.unit ![19, 0] ![1, 512] inb_S31x512_S1x512_19_0, P 19⟩,
    ⟨Rect.unit ![18, 0] ![1, 512] inb_S31x512_S1x512_18_0, P 18⟩,
    ⟨Rect.unit ![17, 0] ![1, 512] inb_S31x512_S1x512_17_0, P 17⟩,
    ⟨Rect.unit ![16, 0] ![1, 512] inb_S31x512_S1x512_16_0, P 16⟩,
    ⟨Rect.unit ![15, 0] ![1, 512] inb_S31x512_S1x512_15_0, P 15⟩,
    ⟨Rect.unit ![14, 0] ![1, 512] inb_S31x512_S1x512_14_0, P 14⟩,
    ⟨Rect.unit ![13, 0] ![1, 512] inb_S31x512_S1x512_13_0, P 13⟩,
    ⟨Rect.unit ![12, 0] ![1, 512] inb_S31x512_S1x512_12_0, P 12⟩,
    ⟨Rect.unit ![11, 0] ![1, 512] inb_S31x512_S1x512_11_0, P 11⟩,
    ⟨Rect.unit ![10, 0] ![1, 512] inb_S31x512_S1x512_10_0, P 10⟩,
    ⟨Rect.unit ![9, 0] ![1, 512] inb_S31x512_S1x512_9_0, P 9⟩,
    ⟨Rect.unit ![8, 0] ![1, 512] inb_S31x512_S1x512_8_0, P 8⟩,
    ⟨Rect.unit ![7, 0] ![1, 512] inb_S31x512_S1x512_7_0, P 7⟩,
    ⟨Rect.unit ![6, 0] ![1, 512] inb_S31x512_S1x512_6_0, P 6⟩,
    ⟨Rect.unit ![5, 0] ![1, 512] inb_S31x512_S1x512_5_0, P 5⟩,
    ⟨Rect.unit ![4, 0] ![1, 512] inb_S31x512_S1x512_4_0, P 4⟩,
    ⟨Rect.unit ![3, 0] ![1, 512] inb_S31x512_S1x512_3_0, P 3⟩,
    ⟨Rect.unit ![2, 0] ![1, 512] inb_S31x512_S1x512_2_0, P 2⟩,
    ⟨Rect.unit ![1, 0] ![1, 512] inb_S31x512_S1x512_1_0, P 1⟩,
    ⟨Rect.unit ![0, 0] ![1, 512] inb_S31x512_S1x512_0_0, P 0⟩]
abbrev list3 (P : Fin 3 → Vec Ideal S1x512 .f32) : List (View.Piece (Elt Ideal) S3x512 .f32) :=
  [⟨Rect.unit ![2, 0] ![1, 512] inb_S3x512_S1x512_2_0, P 2⟩, ⟨Rect.unit ![1, 0] ![1, 512] inb_S3x512_S1x512_1_0, P 1⟩,
    ⟨Rect.unit ![0, 0] ![1, 512] inb_S3x512_S1x512_0_0, P 0⟩]

theorem canon31 (P : Fin 31 → Vec Ideal S1x512 .f32) (L' : List (View.Piece (Elt Ideal) S31x512 .f32)) (j : Fin 31) (c : Fin 512) :
    View.canon (list31 P ++ L') (ix2 j c) = P j (ix2 0 c) := by
  have h (k : Fin 31) (x : S1x512.Idx) : P k x = P ((Rect.unit (s := S31x512) ![k.val, 0] ![1, 512] (inb31 k)).emb x 0)
      (ix2 0 ((Rect.unit (s := S31x512) ![k.val, 0] ![1, 512] (inb31 k)).emb x 1)) := by
    obtain ⟨i, c, rfl⟩ : ∃ i c, x = ix2 i c := ⟨_, _, eq_ix2 x⟩
    obtain rfl : i = 0 := Subsingleton.elim _ _
    rw [emb31 k c]
    rfl
  refine View.canon_append_of_piecesOf (fun y : S31x512.Idx => P (y 0) (ix2 0 (y 1))) L' (list31 P) ?_ _ ?_
  · exact ⟨h 30, h 29, h 28, h 27, h 26, h 25, h 24, h 23, h 22, h 21, h 20, h 19, h 18, h 17, h 16, h 15, h 14, h 13, h 12, h 11, h 10, h 9, h 8, h 7, h 6, h 5, h 4, h 3, h 2, h 1, h 0, trivial⟩
  · exact View.cover_of_tiledBy (list31 P) ![1, 512] (by sl_kernel_rfl) (ix2 j c)

theorem canon3 (P : Fin 3 → Vec Ideal S1x512 .f32) (L' : List (View.Piece (Elt Ideal) S3x512 .f32)) (j : Fin 3) (c : Fin 512) :
    View.canon (list3 P ++ L') (ix2 j c) = P j (ix2 0 c) := by
  have h (k : Fin 3) (x : S1x512.Idx) : P k x = P ((Rect.unit (s := S3x512) ![k.val, 0] ![1, 512] (inb3 k)).emb x 0)
      (ix2 0 ((Rect.unit (s := S3x512) ![k.val, 0] ![1, 512] (inb3 k)).emb x 1)) := by
    obtain ⟨i, c, rfl⟩ : ∃ i c, x = ix2 i c := ⟨_, _, eq_ix2 x⟩
    obtain rfl : i = 0 := Subsingleton.elim _ _
    rw [emb3 k c]
    rfl
  refine View.canon_append_of_piecesOf (fun y : S3x512.Idx => P (y 0) (ix2 0 (y 1))) L' (list3 P) ?_ _ ?_
  · exact ⟨h 2, h 1, h 0, trivial⟩
  · exact View.cover_of_tiledBy (list3 P) ![1, 512] (by sl_kernel_rfl) (ix2 j c)

/-! ## What a grid point leaves in its eight output blocks -/

section
variable (m : (ℓ : Loc nD τ sig) → Buf (Elt Ideal) ℓ) (d : Dev nD) (t : Fin cfg0.N)

/-- The mixers' gradient and the rows `z` of the extended block. -/
abbrev pD : FVec Ideal S544x1024 .f32 := k0_pay8 (grid0.coords t) (iblk m d 0 t) (iblk m d 1 t) (iblk m d 9 t)
abbrev pZ : FVec Ideal S576x2560 .f32 := k0_pay9 (grid0.coords t) (iblk m d 4 t) (iblk m d 3 t) (iblk m d 5 t)
/-- The gated row that the long convolution runs over. -/
abbrev pH : FVec Ideal S576x512 .f32 := k0_pay12 (grid0.coords t) (iblk m d 4 t) (iblk m d 3 t) (iblk m d 5 t)
/-- The gradient of the long convolution, in three parts. -/
abbrev pR : FVec Ideal S544x1 .f32 := k0_pay21 (iblk m d 6 t) (iblk m d 7 t)
abbrev pU : FVec Ideal S544x512 .f32 := v107 (pD m d t) (iblk m d 6 t) (iblk m d 7 t) (iblk m d 11 t) (iblk m d 12 t)
abbrev pT : FVec Ideal S544x512 .f32 := v114 (pD m d t) (iblk m d 6 t) (iblk m d 7 t) (iblk m d 11 t) (iblk m d 12 t)
/-- The rows of the long convolution, and the gradient of the normalised ones. -/
abbrev bV (p : Fin 544) (c : Fin 512) : EReal := ve (iblk m d 6 t) (iblk m d 7 t) p c
abbrev bN (p : Fin 544) (c : Fin 512) : EReal := dlne (pD m d t) (iblk m d 6 t) (iblk m d 7 t) (iblk m d 11 t) (iblk m d 12 t) p c
abbrev bC (p : Fin 544) (c : Fin 512) : EReal := dcve (pD m d t) (iblk m d 6 t) (iblk m d 7 t) (iblk m d 11 t) (iblk m d 12 t) p c
/-- The incoming gradients, the activations and their gain. -/
abbrev bG (p : Fin 512) (k : Fin 1024) : EReal := (iblk m d 0 t : Vec Ideal S512x1024 .f32) (ix2 p k)
abbrev bX (p : Fin 512) (k : Fin 1024) : EReal := (iblk m d 2 t : Vec Ideal S512x1024 .f32) (ix2 p k)
abbrev bM (k : Fin 1024) : EReal := (iblk m d 14 t : Vec Ideal S1x1024 .f32) (ix2 0 k)
abbrev bQ (p : Fin 544) (c : Fin 512) : EReal := dqe (pD m d t) (pZ m d t) p c

/-- The point's extended rows, read off sequences of rows: `C` and `Q` are the convolutions' gradients, `Z` the rows `z`. -/
structure At (C Q : ℕ → Fin 512 → EReal) (Z : ℕ → Fin 2560 → EReal) : Prop where
  hC : ∀ p c, bC m d t p c = C p c
  hQ : ∀ p c, bQ m d t p c = Q p c
  hZ : ∀ (e : Fin 576) n, e.val < 544 → pZ m d t (ix2 e n) = Z e n

variable {m d t} {C Q : ℕ → Fin 512 → EReal} {Z : ℕ → Fin 2560 → EReal} (hA : At m d t C Q Z)

/-- The gradient of the rows `z` of the block. -/
abbrev bDz (m : (ℓ : Loc nD τ sig) → Buf (Elt Ideal) ℓ) (d : Dev nD) (t : Fin cfg0.N) (C Q : ℕ → Fin 512 → EReal)
    (Z : ℕ → Fin 2560 → EReal) (p : Fin 512) : Fin 2560 → EReal :=
  OddMath.dz (Z (p + 32)) (fun n => pD m d t (ix2 (⟨p, by omega⟩ : Fin 544) n))
    (fun c => OddMath.dconv 31 (fun j => (iblk m d 10 t : Vec Ideal S31x512 .f32) (ix2 j c)) (fun s => C s c) p)
    (fun c => OddMath.dconv 3 (fun j => (iblk m d 13 t : Vec Ideal S3x512 .f32) (ix2 j c)) (fun s => Q s c) p)
    (OddMath.short (fun j c => (iblk m d 13 t : Vec Ideal S3x512 .f32) (ix2 j c)) Z p)
/-- The gradient of the normalised activations of the block. -/
abbrev bDn (m : (ℓ : Loc nD τ sig) → Buf (Elt Ideal) ℓ) (d : Dev nD) (t : Fin cfg0.N) (C Q : ℕ → Fin 512 → EReal)
    (Z : ℕ → Fin 2560 → EReal) (p : Fin 512) (k : Fin 1024) : EReal :=
  ∑ n, bDz m d t C Q Z p n * (iblk m d 8 t : Vec Ideal S2560x1024 .bf16) (ix2 n k)

include hA

theorem hC32 (p : Fin 544) (c : Fin 512) : k0_pay32 (pR m d t) (pU m d t) (pT m d t) (ix2 p c) = C p c :=
  (dcvp_apply ..).trans (hA.hC p c)

theorem dz_apply (p : Fin 512) (n : Fin 2560) :
    dzp (pR m d t) (pU m d t) (pT m d t) (iblk m d 10 t)
      (k0_pay10 (grid0.coords t) (iblk m d 4 t) (iblk m d 3 t) (iblk m d 5 t))
      (k0_pay11 (grid0.coords t) (iblk m d 4 t) (iblk m d 3 t) (iblk m d 5 t)) (pD m d t) (pZ m d t) (iblk m d 13 t) (ix2 p n)
      = bDz m d t C Q Z p n :=
  dzp_apply _ _ (hC32 hA) hA.hQ hA.hZ (fun _ _ => pay10_apply ..) (fun _ _ => pay11_apply ..) p n

theorem after16 (p : Fin 512) (n : Fin 2560) : (dats m 0 d).after 16 t (ix2 p n) = bDz m d t C Q Z p n := by
  rw [Gen.after0_16]
  by_cases h0 : t.val % 16 = 0
  · rw [Gen.outsAt0_A m d t h0]; frame_out
    exact dz_apply hA p n
  · rw [Gen.outsAt0_B m d t h0]; frame_out
    exact dz_apply hA p n

/-- The payload that holds the gradient of the normalised activations. -/
abbrev pN (m : (ℓ : Loc nD τ sig) → Buf (Elt Ideal) ℓ) (d : Dev nD) (t : Fin cfg0.N) : FVec Ideal S512x1024 .f32 :=
  k0_pay109 (dca (pR m d t) (pU m d t) (pT m d t) (iblk m d 10 t) (k0_pay10 (grid0.coords t) (iblk m d 4 t) (iblk m d 3 t) (iblk m d 5 t)))
    (dcg (pR m d t) (pU m d t) (pT m d t) (iblk m d 10 t) (k0_pay10 (grid0.coords t) (iblk m d 4 t) (iblk m d 3 t) (iblk m d 5 t))
      (k0_pay11 (grid0.coords t) (iblk m d 4 t) (iblk m d 3 t) (iblk m d 5 t)))
    (k0_pay95 (pZ m d t)) (k0_pay96 (pZ m d t)) (k0_pay101 (pD m d t) (pZ m d t)) (ddbg (pD m d t) (pZ m d t) (iblk m d 13 t))
    (k0_pay103 (pD m d t) (pZ m d t)) (k0_pay105 (pD m d t) (pZ m d t) (tap3 (iblk m d 13 t) 0 inb_S3x512_S1x512_0_0))
    (tap3 (iblk m d 13 t) 1 inb_S3x512_S1x512_1_0) (tap3 (iblk m d 13 t) 2 inb_S3x512_S1x512_2_0) (iblk m d 8 t)

theorem pN_apply (p : Fin 512) (k : Fin 1024) : pN m d t (ix2 p k) = bDn m d t C Q Z p k :=
  (pay109_apply ..).trans (Finset.sum_congr rfl fun n _ => congrArg (· * _) (dz_apply hA p n))

omit hA in
/-- The gradient of the activations, and what a point adds to their gain's, from any array `x` that holds `B`. -/
theorem dx_apply {x : FVec Ideal S512x1024 .f32} {B : Fin 512 → Fin 1024 → EReal} (hx : ∀ p k, x (ix2 p k) = B p k)
    (g h : Vec Ideal S512x1024 .f32) (w : Vec Ideal S1x1024 .f32) (p : Fin 512) (k : Fin 1024) : k0_pay113 g x h w (ix2 p k)
      = g (ix2 p k) + FfnMath.dunit (fun k => h (ix2 p k)) (fun k => B p k * w (ix2 0 k)) k :=
  (pay113_apply ..).trans (congrArg (fun q => _ + FfnMath.dunit _ q k) (funext fun k => congrArg (· * _) (hx p k)))

omit hA in
theorem dg_apply {x : FVec Ideal S512x1024 .f32} {B : Fin 512 → Fin 1024 → EReal} (hx : ∀ p k, x (ix2 p k) = B p k)
    (h : Vec Ideal S512x1024 .f32) (a : Vec Ideal S1x1024 .f32) (k : Fin 1024) : k0_pay1 (k0_pay112 x h) (k0_pay114 a) (ix2 0 k)
      = a (ix2 0 k) + ∑ p, B p k * FfnMath.unit (fun k => h (ix2 p k)) k :=
  (pay1_apply ..).trans (congrArg (_ + ·) (Finset.sum_congr rfl fun p _ => congrArg (· * _) (hx p k)))

theorem after15 (p : Fin 512) (k : Fin 1024) : (dats m 0 d).after 15 t (ix2 p k)
    = bG m d t p k + FfnMath.dunit (bX m d t p) (fun k => bDn m d t C Q Z p k * bM m d t k) k := by
  have e := dx_apply (pN_apply hA) (iblk m d 0 t) (iblk m d 2 t) (iblk m d 14 t) p k
  rw [Gen.after0_15]
  by_cases h0 : t.val % 16 = 0
  · rw [Gen.outsAt0_A m d t h0]; frame_out
    exact e
  · rw [Gen.outsAt0_B m d t h0]; frame_out
    exact e

/-! What the accumulated results hold: at the first point a sum over the block, at any other that sum on top of what the
point before left. -/

/-- The terms that a point adds. -/
abbrev term17 (C : ℕ → Fin 512 → EReal) (Z : ℕ → Fin 2560 → EReal) (j : Fin 31) (c : Fin 512) : EReal :=
  ∑ p : Fin 512, C p c * OddMath.glu (Z (p + 2 + j)) c
abbrev term21 (Q : ℕ → Fin 512 → EReal) (Z : ℕ → Fin 2560 → EReal) (j : Fin 3) (c : Fin 512) : EReal :=
  ∑ p : Fin 512, Q p c * OddMath.prod (Z (p + 30 + j)) c

theorem row17 (a : Vec Ideal S1x512 .f32) (j : Fin 31) (c : Fin 512) :
    dcwRow (pR m d t) (pU m d t) (pT m d t) (pH m d t) a j (ix2 0 c) = a (ix2 0 c) + term17 C Z j c := by
  refine (dcwRow_apply ..).trans (congrArg (_ + ·) (Finset.sum_congr rfl fun p _ => ?_))
  refine congr (congrArg HMul.hMul (hC32 hA _ c)) ((pay12_apply ..).trans ?_)
  exact congrArg (OddMath.glu · c) (funext fun n => hA.hZ ⟨p + 2 + j, by omega⟩ n (by simp only []; omega))

/-- The three rows of the gradient of the short convolution's taps, over the rows `a`. -/
abbrev ddwRow (m : (ℓ : Loc nD τ sig) → Buf (Elt Ideal) ℓ) (d : Dev nD) (t : Fin cfg0.N) (a : Fin 3 → Vec Ideal S1x512 .f32) :
    Fin 3 → Vec Ideal S1x512 .f32 :=
  ![k0_pay104 (pD m d t) (pZ m d t) (a 0), k0_pay106 (k0_pay98 (pZ m d t)) (k0_pay101 (pD m d t) (pZ m d t)) (a 1),
    k0_pay107 (k0_pay97 (pZ m d t)) (k0_pay101 (pD m d t) (pZ m d t)) (a 2)]

theorem row21 (a : Fin 3 → Vec Ideal S1x512 .f32) (j : Fin 3) (c : Fin 512) :
    ddwRow m d t a j (ix2 0 c) = a j (ix2 0 c) + term21 Q Z j c := by
  have e := fun j => ddw_apply (pD m d t) (pZ m d t) (a j) c
  have h : ∀ j : Fin 3, (∑ p : Fin 512, dqe (pD m d t) (pZ m d t) ⟨p, by omega⟩ c
      * OddMath.prod (fun n => pZ m d t (ix2 (⟨p + 30 + j, by omega⟩ : Fin 576) n)) c) = term21 Q Z j c := fun j =>
    Finset.sum_congr rfl fun p _ => congr (congrArg HMul.hMul (hA.hQ ⟨p, by omega⟩ c))
      (congrArg (OddMath.prod · c) (funext fun n => hA.hZ ⟨p + 30 + j, by omega⟩ n (by simp only []; omega)))
  fin_cases j
  · exact (e 0).1.trans (congrArg (_ + ·) (h 0))
  · exact (e 1).2.1.trans (congrArg (_ + ·) (h 1))
  · exact (e 2).2.2.trans (congrArg (_ + ·) (h 2))

theorem outs17_A (h0 : t.val % 16 = 0) (j : Fin 31) (c : Fin 512) :
    (Gen.outsAt0 m d t.val t.isLt).2.2.1 (ix2 j c) = term17 C Z j c := by
  rw [Gen.outsAt0_A m d t h0]; frame_open
  simp (disch := decide) only [↓View.readCov_skip, ↓View.readCov_cons_toLoadRect, ↓View.readCov_fill]
  frame_out
  refine (canon31 (fun k => dcwRow (pR m d t) (pU m d t) (pT m d t) (pH m d t) (row31 (k0_pay2 (F := Ideal)) k) k) [_] j c).trans ?_
  refine (row17 hA ..).trans ?_
  rw [row31_apply, show (k0_pay2 : FVec Ideal S31x512 .f32) (ix2 j c) = 0 by unfold_payloads; pointwise, zero_add]

theorem outs17_B (h0 : ¬t.val % 16 = 0) (j : Fin 31) (c : Fin 512) : (Gen.outsAt0 m d t.val t.isLt).2.2.1 (ix2 j c)
    = (Gen.outsAt0 m d (t.val - 1) (by omega)).2.2.1 (ix2 j c) + term17 C Z j c := by
  rw [Gen.outsAt0_B m d t h0]; frame_out
  refine (canon31 (fun k => dcwRow (pR m d t) (pU m d t) (pT m d t) (pH m d t)
    (row31 (Gen.outsAt0 m d (t.val - 1) (by omega)).2.2.1 k) k) [] j c).trans ?_
  refine (row17 hA ..).trans ?_
  rw [row31_apply]

theorem outs21_A (h0 : t.val % 16 = 0) (j : Fin 3) (c : Fin 512) :
    (Gen.outsAt0 m d t.val t.isLt).2.2.2.2.2.2.1 (ix2 j c) = term21 Q Z j c := by
  rw [Gen.outsAt0_A m d t h0]; frame_open
  simp (disch := decide) only [↓View.readCov_skip, ↓View.readCov_cons_toLoadRect, ↓View.readCov_fill]
  frame_out
  refine (canon3 (ddwRow m d t (row3 (k0_pay6 (F := Ideal)))) [_] j c).trans ?_
  refine (row21 hA ..).trans ?_
  rw [row3_apply, show (k0_pay6 : FVec Ideal S3x512 .f32) (ix2 j c) = 0 by unfold_payloads; pointwise, zero_add]

theorem outs21_B (h0 : ¬t.val % 16 = 0) (j : Fin 3) (c : Fin 512) : (Gen.outsAt0 m d t.val t.isLt).2.2.2.2.2.2.1 (ix2 j c)
    = (Gen.outsAt0 m d (t.val - 1) (by omega)).2.2.2.2.2.2.1 (ix2 j c) + term21 Q Z j c := by
  rw [Gen.outsAt0_B m d t h0]; frame_out
  refine (canon3 (ddwRow m d t (row3 (Gen.outsAt0 m d (t.val - 1) (by omega)).2.2.2.2.2.2.1)) [] j c).trans ?_
  refine (row21 hA ..).trans ?_
  rw [row3_apply]

/-- What a point adds to the gradient of the long convolution's shift. -/
theorem add18 (a : Vec Ideal S1x512 .f32) (c : Fin 512) :
    k0_pay33 (pR m d t) (pU m d t) (pT m d t) a (ix2 0 c) = a (ix2 0 c) + ∑ p : Fin 512, C p c :=
  (pay33_apply ..).trans (congrArg (_ + ·) (Finset.sum_congr rfl fun p _ => hA.hC ⟨p, by omega⟩ c))

theorem outs18_A (h0 : t.val % 16 = 0) (c : Fin 512) : (Gen.outsAt0 m d t.val t.isLt).2.2.2.1 (ix2 0 c) = ∑ p : Fin 512, C p c := by
  rw [Gen.outsAt0_A m d t h0]; frame_out
  refine (add18 hA ..).trans ?_
  rw [show (k0_pay3 : FVec Ideal S1x512 .f32) (ix2 0 c) = 0 by unfold_payloads; pointwise, zero_add]

theorem outs18_B (h0 : ¬t.val % 16 = 0) (c : Fin 512) : (Gen.outsAt0 m d t.val t.isLt).2.2.2.1 (ix2 0 c)
    = (Gen.outsAt0 m d (t.val - 1) (by omega)).2.2.2.1 (ix2 0 c) + ∑ p : Fin 512, C p c := by
  rw [Gen.outsAt0_B m d t h0]; frame_out
  exact add18 hA ..

/-- What a point adds to the gradient of the activations' gain. -/
abbrev term22 (m : (ℓ : Loc nD τ sig) → Buf (Elt Ideal) ℓ) (d : Dev nD) (t : Fin cfg0.N) (C Q : ℕ → Fin 512 → EReal)
    (Z : ℕ → Fin 2560 → EReal) (k : Fin 1024) : EReal := ∑ p, bDn m d t C Q Z p k * FfnMath.unit (bX m d t p) k

theorem outs22_A (h0 : t.val % 16 = 0) (k : Fin 1024) : (Gen.outsAt0 m d t.val t.isLt).2.2.2.2.2.2.2 (ix2 0 k)
    = term22 m d t C Q Z k := by
  rw [Gen.outsAt0_A m d t h0]; frame_out
  refine (dg_apply (pN_apply hA) (iblk m d 2 t) (k0_pay7 (F := Ideal)) k).trans ?_
  rw [show (k0_pay7 : FVec Ideal S1x1024 .f32) (ix2 0 k) = 0 by unfold_payloads; pointwise, zero_add]

theorem outs22_B (h0 : ¬t.val % 16 = 0) (k : Fin 1024) : (Gen.outsAt0 m d t.val t.isLt).2.2.2.2.2.2.2 (ix2 0 k)
    = (Gen.outsAt0 m d (t.val - 1) (by omega)).2.2.2.2.2.2.2 (ix2 0 k)
      + term22 m d t C Q Z k := by
  rw [Gen.outsAt0_B m d t h0]; frame_out
  exact dg_apply (pN_apply hA) (iblk m d 2 t) _ k
end

section
variable (m : (ℓ : Loc nD τ sig) → Buf (Elt Ideal) ℓ) (d : Dev nD) (t : Fin cfg0.N)

/-! The normalisation's gain and shift. -/

abbrev term19 (c : Fin 512) : EReal := ∑ p : Fin 512, bN m d t ⟨p, by omega⟩ c * OddMath.hat (bV m d t ⟨p, by omega⟩) c
abbrev term20 (c : Fin 512) : EReal := ∑ p : Fin 512, bN m d t ⟨p, by omega⟩ c

theorem outs19_A (h0 : t.val % 16 = 0) (c : Fin 512) : (Gen.outsAt0 m d t.val t.isLt).2.2.2.2.1 (ix2 0 c) = term19 m d t c := by
  rw [Gen.outsAt0_A m d t h0]; frame_out
  refine (pay27_apply ..).trans ?_
  rw [show (k0_pay4 : FVec Ideal S1x512 .f32) (ix2 0 c) = 0 by unfold_payloads; pointwise, zero_add]

theorem outs19_B (h0 : ¬t.val % 16 = 0) (c : Fin 512) : (Gen.outsAt0 m d t.val t.isLt).2.2.2.2.1 (ix2 0 c)
    = (Gen.outsAt0 m d (t.val - 1) (by omega)).2.2.2.2.1 (ix2 0 c) + term19 m d t c := by
  rw [Gen.outsAt0_B m d t h0]; frame_out
  exact pay27_apply ..

theorem outs20_A (h0 : t.val % 16 = 0) (c : Fin 512) : (Gen.outsAt0 m d t.val t.isLt).2.2.2.2.2.1 (ix2 0 c) = term20 m d t c := by
  rw [Gen.outsAt0_A m d t h0]; frame_out
  refine (pay28_apply ..).trans ?_
  rw [show (k0_pay5 : FVec Ideal S1x512 .f32) (ix2 0 c) = 0 by unfold_payloads; pointwise, zero_add]

theorem outs20_B (h0 : ¬t.val % 16 = 0) (c : Fin 512) : (Gen.outsAt0 m d t.val t.isLt).2.2.2.2.2.1 (ix2 0 c)
    = (Gen.outsAt0 m d (t.val - 1) (by omega)).2.2.2.2.2.1 (ix2 0 c) + term20 m d t c := by
  rw [Gen.outsAt0_B m d t h0]; frame_out
  exact pay28_apply ..
end

end Cert.OddBwdIdeal.Blocks

end
-- ==== Proof.OddBwdArrays.lean ====
/-
  What the eight result arrays of the odd layer's backward call hold after the run, as functions of the arrays that its region
  starts from.
-/
module

public import proofs.«01_k».proof.Proof.OddBwdBlocks

@[expose] public section

set_option maxRecDepth 16384

noncomputable section

namespace Cert.OddBwdIdeal.Arrays

open Idealize.ShloMosaic Idealize.ShloMosaic.TcCoe Idealize.SL.Sem Cert.OddBwdIdeal Cert.OddBwdIdeal.Gen Cert.OddBwdIdeal.Rows
  Cert.OddBwdIdeal.Blocks

variable (m : (ℓ : Loc nD τ sig) → Buf (Elt Ideal) ℓ) (d : Dev nD)

/-! ## The arrays at the start of the region -/

/-- The incoming gradients and the activations, by token and feature. -/
abbrev adh (i : Fin 8192) (k : Fin 1024) : EReal := (V m d main_arg9 : Vec Ideal S8192x1024 .f32) (ix2 i k)
abbrev ah (i : Fin 8192) (k : Fin 1024) : EReal := (V m d main_arg0 : Vec Ideal S8192x1024 .f32) (ix2 i k)
/-- The tokens' rows of 2560 numbers, and the long convolution's rows. -/
abbrev az (i : Fin 8192) (n : Fin 2560) : EReal := (V m d main_v17 : Vec Ideal S8192x2560 .bf16) (ix2 i n)
abbrev av (i : Fin 8192) (c : Fin 512) : EReal := (V m d main_v249 : Vec Ideal S8192x512 .f32) (ix2 i c)
/-- The first weight by hidden number and feature, the second as it is. -/
abbrev ai (n : Fin 2560) (k : Fin 1024) : EReal := (V m d main_v1 : Vec Ideal S2560x1024 .bf16) (ix2 n k)
abbrev ao (n : Fin 1024) (k : Fin 1024) : EReal := (V m d main_v2 : Vec Ideal S1024x1024 .bf16) (ix2 n k)
/-- The taps of the long convolution, the gain and shift of its normalisation, the taps of the short convolution, and the
    gain of the first normalisation. -/
abbrev acw (j : Fin 31) (c : Fin 512) : EReal := (V m d main_arg3 : Vec Ideal S31x512 .f32) (ix2 j c)
abbrev alg (c : Fin 512) : EReal := (V m d main_arg5 : Vec Ideal S1x512 .f32) (ix2 0 c)
abbrev alb (c : Fin 512) : EReal := (V m d main_arg6 : Vec Ideal S1x512 .f32) (ix2 0 c)
abbrev adw (j : Fin 3) (c : Fin 512) : EReal := (V m d main_arg7 : Vec Ideal S3x512 .f32) (ix2 j c)
abbrev ag (k : Fin 1024) : EReal := (V m d main_arg8 : Vec Ideal S1x1024 .f32) (ix2 0 k)

/-- The gradient of the mixers' rows. -/
abbrev ad (i : Fin 8192) : Fin 1024 → EReal := OddMath.dmix (adh m d i) (ao m d)

/-! ## The blocks of the arrays -/

/-- The row of an array that row `p` of block `t` is. -/
abbrev row (t : Fin cfg0.N) (p : Fin 512) : Fin 8192 := ⟨512 * t.val + p.val, by have := lt_of_lt_of_eq t.isLt N_0; omega⟩

theorem e0 : ∀ t : Fin cfg0.N, win0_0.index t = ![t.val, 0] := (by decide +kernel : ∀ t : Fin grid0.N, _)
/-- The 32 rows after the block, or the last 32 rows at the last point. -/
theorem e1 : ∀ t : Fin cfg0.N, win0_1.index t = ![min (16 * (t.val + 1)) 255, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
/-- The 32 rows before the block, or the first 32 rows at the first point. -/
theorem e4 : ∀ t : Fin cfg0.N, win0_4.index t = ![16 * t.val - 1, 0] := (by decide +kernel : ∀ t : Fin grid0.N, _)
theorem e5 : ∀ t : Fin cfg0.N, win0_5.index t = ![min (16 * (t.val + 1)) 255, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![min (16 * (t.val + 1)) 255, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)
theorem e12 : ∀ t : Fin cfg0.N, win0_12.index t = ![0, 0] := (by decide +kernel : ∀ t : Fin grid0.N, _)
theorem e13 : ∀ t : Fin cfg0.N, win0_13.index t = ![0, 0] := (by decide +kernel : ∀ t : Fin grid0.N, _)
theorem e14 : ∀ t : Fin cfg0.N, win0_14.index t = ![0, 0] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![t.val, 0] := (by decide +kernel : ∀ t : Fin grid0.N, _)

/-- The body zeroes the rows before the block at the first point only, and those after it at the last only. -/
theorem before : ∀ t : Fin cfg0.N, Scalar.cmpi CmpIPredicate.sgt (BitVec.ofNat 32 (grid0.coords t 0).val) 0#32
    = if t.val = 0 then 0#1 else 1#1 := (by decide +kernel : ∀ t : Fin grid0.N, _)
theorem behind : ∀ t : Fin cfg0.N, Scalar.cmpi CmpIPredicate.slt (BitVec.ofNat 32 (grid0.coords t 0).val) 15#32
    = if t.val = 15 then 0#1 else 1#1 := (by decide +kernel : ∀ t : Fin grid0.N, _)

section
variable (t : Fin cfg0.N)

theorem b0 (p : Fin 512) (k : Fin 1024) : bG m d t p k = adh m d (row t p) k := by
  unfold bG adh
  blk_simp [iblk]
  refine congrArg _ ?_
  blk_ext [e0]
theorem b1 (h : t.val ≠ 15) (q : Fin 32) (k : Fin 1024) : (iblk m d 1 t : Vec Ideal S32x1024 .f32) (ix2 q k)
    = adh m d ⟨512 * t.val + 512 + q.val, by have := lt_of_lt_of_eq t.isLt N_0; omega⟩ k := by
  have ht := lt_of_lt_of_eq t.isLt N_0
  unfold adh
  blk_simp [iblk]
  refine congrArg _ ?_
  blk_ext [e1]
theorem b2 (p : Fin 512) (k : Fin 1024) : bX m d t p k = ah m d (row t p) k := by
  unfold bX ah
  blk_simp [iblk]
  refine congrArg _ ?_
  blk_ext [e2]
theorem b3 (p : Fin 512) (n : Fin 2560) : (iblk m d 3 t : Vec Ideal S512x2560 .bf16) (ix2 p n) = az m d (row t p) n := by
  unfold az
  blk_simp [iblk]
  refine congrArg _ ?_
  blk_ext [e3]
theorem b4 (h : t.val ≠ 0) (q : Fin 32) (n : Fin 2560) : (iblk m d 4 t : Vec Ideal S32x2560 .bf16) (ix2 q n)
    = az m d ⟨512 * t.val + q.val - 32, by have := lt_of_lt_of_eq t.isLt N_0; omega⟩ n := by
  unfold az
  blk_simp [iblk]
  refine congrArg _ ?_
  blk_ext [e4]
theorem b5 (h : t.val ≠ 15) (q : Fin 32) (n : Fin 2560) : (iblk m d 5 t : Vec Ideal S32x2560 .bf16) (ix2 q n)
    = az m d ⟨512 * t.val + 512 + q.val, by have := lt_of_lt_of_eq t.isLt N_0; omega⟩ n := by
  have ht := lt_of_lt_of_eq t.isLt N_0
  unfold az
  blk_simp [iblk]
  refine congrArg _ ?_
  blk_ext [e5]
theorem b6 (p : Fin 512) (c : Fin 512) : (iblk m d 6 t : Vec Ideal S512x512 .f32) (ix2 p c) = av m d (row t p) c := by
  unfold av
  blk_simp [iblk]
  refine congrArg _ ?_
  blk_ext [e6]
theorem b7 (h : t.val ≠ 15) (q : Fin 32) (c : Fin 512) : (iblk m d 7 t : Vec Ideal S32x512 .f32) (ix2 q c)
    = av m d ⟨512 * t.val + 512 + q.val, by have := lt_of_lt_of_eq t.isLt N_0; omega⟩ c := by
  have ht := lt_of_lt_of_eq t.isLt N_0
  unfold av
  blk_simp [iblk]
  refine congrArg _ ?_
  blk_ext [e7]
theorem b8 (n : Fin 2560) (k : Fin 1024) : (iblk m d 8 t : Vec Ideal S2560x1024 .bf16) (ix2 n k) = ai m d n k := by
  unfold ai
  blk_simp [iblk]
  refine congrArg _ ?_
  blk_ext [e8]
theorem b9 (n k : Fin 1024) : (iblk m d 9 t : Vec Ideal S1024x1024 .bf16) (ix2 n k) = ao m d n k := by
  unfold ao
  blk_simp [iblk]
  refine congrArg _ ?_
  blk_ext [e9]
theorem b10 (j : Fin 31) (c : Fin 512) : (iblk m d 10 t : Vec Ideal S31x512 .f32) (ix2 j c) = acw m d j c := by
  unfold acw
  blk_simp [iblk]
  refine congrArg _ ?_
  blk_ext [e10]
theorem b11 (c : Fin 512) : (iblk m d 11 t : Vec Ideal S1x512 .f32) (ix2 0 c) = alg m d c := by
  unfold alg
  blk_simp [iblk]
  refine congrArg _ ?_
  blk_ext [e11]
theorem b12 (c : Fin 512) : (iblk m d 12 t : Vec Ideal S1x512 .f32) (ix2 0 c) = alb m d c := by
  unfold alb
  blk_simp [iblk]
  refine congrArg _ ?_
  blk_ext [e12]
theorem b13 (j : Fin 3) (c : Fin 512) : (iblk m d 13 t : Vec Ideal S3x512 .f32) (ix2 j c) = adw m d j c := by
  unfold adw
  blk_simp [iblk]
  refine congrArg _ ?_
  blk_ext [e13]
theorem b14 (k : Fin 1024) : bM m d t k = ag m d k := by
  unfold bM ag
  blk_simp [iblk]
  refine congrArg _ ?_
  blk_ext [e14]

/-! ## The extended rows of a block -/

/-- Row `p` of block `t`, extended by the 32 tokens behind it, of the incoming gradients and of the mixers' gradient. -/
theorem dhe_eq (p : Fin 544) (k : Fin 1024) :
    dhe (grid0.coords t) (iblk m d 0 t) (iblk m d 1 t) p k = OddMath.tail (adh m d) (512 * t.val + p.val) k := by
  have ht := lt_of_lt_of_eq t.isLt N_0
  unfold dhe
  by_cases hp : p.val < 512
  · rw [dif_pos hp, OddMath.tail_of_lt (by omega)]
    exact b0 m d t ⟨p, hp⟩ k
  · rw [dif_neg hp, behind]
    by_cases h : t.val = 15
    · rw [if_pos h, OddMath.tail_of_le (by omega)]
      rfl
    · rw [if_neg h, OddMath.tail_of_lt (by omega)]
      refine (b1 m d t h ⟨p - 512, by omega⟩ k).trans (congrArg (adh m d · k) (Fin.ext ?_))
      simp only []; omega

theorem pD_eq (p : Fin 544) : (fun n => pD m d t (ix2 p n)) = OddMath.tail (ad m d) (512 * t.val + p.val) := by
  funext n
  refine (pay8_apply ..).trans ((Finset.sum_congr rfl fun k _ => congr (congrArg HMul.hMul (dhe_eq m d t p k)) (b9 m d t n k)).trans ?_)
  by_cases h : 512 * t.val + p.val < 8192
  · simp only [OddMath.tail_of_lt h]
    rfl
  · simp only [OddMath.tail_of_le (not_lt.mp h), zero_mul, Finset.sum_const_zero]

/-- Row `e` of block `t`, extended by 32 tokens on both sides, stands at place `512 t + e` of the padded rows. -/
theorem pZ_eq (e : Fin 576) (h : 512 * t.val + e.val < 8224) : (fun n => pZ m d t (ix2 e n)) = OddMath.pad (az m d) (512 * t.val + e.val) := by
  have ht := lt_of_lt_of_eq t.isLt N_0
  funext n
  refine (pay9_apply ..).trans ?_
  unfold ze
  by_cases he : e.val < 32
  · rw [dif_pos he, before]
    by_cases h0 : t.val = 0
    · rw [if_pos h0, OddMath.pad_lt (by omega)]
      rfl
    · rw [if_neg h0, OddMath.pad_token ⟨512 * t.val + e.val - 32, by omega⟩ (by simp only []; omega)]
      exact b4 m d t h0 ⟨e, he⟩ n
  · rw [dif_neg he]
    by_cases h1 : e.val - 32 < 512
    · rw [dif_pos h1, OddMath.pad_token (row t ⟨e.val - 32, h1⟩) (by simp only []; omega)]
      exact b3 m d t ⟨e - 32, h1⟩ n
    · rw [dif_neg h1, OddMath.pad_token ⟨512 * t.val + 512 + (e.val - 32 - 512), by omega⟩ (by simp only []; omega)]
      exact b5 m d t (by omega) ⟨e - 32 - 512, by omega⟩ n

theorem bV_eq (p : Fin 544) (h : 512 * t.val + p.val < 8192) : bV m d t p = av m d ⟨512 * t.val + p.val, h⟩ := by
  have ht := lt_of_lt_of_eq t.isLt N_0
  funext c
  by_cases hp : p.val < 512
  · exact (dif_pos hp).trans (b6 m d t ⟨p, hp⟩ c)
  · refine (dif_neg hp).trans ((b7 m d t (by omega) ⟨p - 512, by omega⟩ c).trans (congrArg (av m d · c) (Fin.ext ?_)))
    simp only []; omega
end

theorem b11_fun (t : Fin cfg0.N) : (fun c => (iblk m d 11 t : Vec Ideal S1x512 .f32) (ix2 0 c)) = alg m d := funext fun c => b11 m d t c
theorem b12_fun (t : Fin cfg0.N) : (fun c => (iblk m d 12 t : Vec Ideal S1x512 .f32) (ix2 0 c)) = alb m d := funext fun c => b12 m d t c
theorem b13_fun (t : Fin cfg0.N) : (fun (j : Fin 3) (c : Fin 512) => (iblk m d 13 t : Vec Ideal S3x512 .f32) (ix2 j c)) = adw m d :=
  funext fun j => funext fun c => b13 m d t j c

/-- The gradients of the two convolutions. -/
abbrev aC : Fin 8192 → Fin 512 → EReal := OddMath.tokC (av m d) (ad m d) (alg m d) (alb m d)
abbrev aQ : Fin 8192 → Fin 512 → EReal := OddMath.tokQ (az m d) (ad m d)

/-- The sequences from block `t` on. -/
abbrev sC (t : Fin cfg0.N) (s : ℕ) : Fin 512 → EReal := OddMath.tail (aC m d) (512 * t.val + s)
abbrev sQ (t : Fin cfg0.N) (s : ℕ) : Fin 512 → EReal := OddMath.tail (aQ m d) (512 * t.val + s)
abbrev sZ (t : Fin cfg0.N) (s : ℕ) : Fin 2560 → EReal := OddMath.pad (az m d) (512 * t.val + s)

theorem at' (t : Fin cfg0.N) : At m d t (sC m d t) (sQ m d t) (sZ m d t) where
  hC p c := by
    show OddMath.dcv (bV m d t p) _ _ (fun n => pD m d t (ix2 p n)) c = _
    rw [pD_eq]
    by_cases h : 512 * t.val + p.val < 8192
    · rw [bV_eq m d t p h, b11_fun, b12_fun]
      unfold sC
      rw [OddMath.tail_of_lt h, OddMath.tail_of_lt h]
      rfl
    · unfold sC
      rw [OddMath.tail_of_le (not_lt.mp h), OddMath.tail_of_le (not_lt.mp h), OddMath.dcv_zero]
  hQ p c := by
    show OddMath.dq (fun n => pZ m d t (ix2 (⟨p + 32, by omega⟩ : Fin 576) n)) (fun n => pD m d t (ix2 p n)) c = _
    rw [pD_eq]
    by_cases h : 512 * t.val + p.val < 8192
    · rw [pZ_eq m d t ⟨p + 32, by omega⟩ (by simp only []; omega), OddMath.pad_token ⟨512 * t.val + p.val, h⟩ (by simp only []; omega)]
      unfold sQ
      rw [OddMath.tail_of_lt h, OddMath.tail_of_lt h]
      rfl
    · unfold sQ
      rw [OddMath.tail_of_le (not_lt.mp h), OddMath.tail_of_le (not_lt.mp h), OddMath.dq_zero]
  hZ e n he := congrFun (pZ_eq m d t e (by have := lt_of_lt_of_eq t.isLt N_0; omega)) n

/-! ## The result arrays -/

/-- The gradients of a token's row of 2560 numbers and of its normalised activations. -/
abbrev aZ : Fin 8192 → Fin 2560 → EReal := OddMath.tokZ (az m d) (av m d) (ad m d) (acw m d) (adw m d) (alg m d) (alb m d)
abbrev aN : Fin 8192 → Fin 1024 → EReal := OddMath.tokN (az m d) (av m d) (ad m d) (acw m d) (adw m d) (alg m d) (alb m d) (ai m d)

section
variable (t : Fin cfg0.N) (p : Fin 512)

theorem bDz_row : bDz m d t (sC m d t) (sQ m d t) (sZ m d t) p = aZ m d (row t p) := by
  unfold bDz aZ OddMath.tokZ
  rw [pD_eq, b13_fun]
  have e1 : OddMath.tail (ad m d) (512 * t.val + p.val) = ad m d (row t p) := OddMath.tail_token (ad m d) (row t p)
  have e2 : OddMath.pad (az m d) (512 * t.val + (p.val + 32)) = az m d (row t p) :=
    OddMath.pad_token (row t p) (by simp only []; omega)
  have e3 : OddMath.short (adw m d) (sZ m d t) p = OddMath.short (adw m d) (OddMath.pad (az m d)) (row t p) := OddMath.short_shift ..
  have e4 : (fun c => OddMath.dconv 31 (fun j => (iblk m d 10 t : Vec Ideal S31x512 .f32) (ix2 j c)) (fun s => sC m d t s c) p)
      = OddMath.tokH (av m d) (ad m d) (acw m d) (alg m d) (alb m d) (row t p) := funext fun c => by
    rw [show (fun j => (iblk m d 10 t : Vec Ideal S31x512 .f32) (ix2 j c)) = (acw m d · c) from funext fun j => b10 m d t j c]
    exact OddMath.dconv_shift _ (fun s => OddMath.tail (aC m d) s c) _ _
  have e5 : (fun c => OddMath.dconv 3 (fun j => (iblk m d 13 t : Vec Ideal S3x512 .f32) (ix2 j c)) (fun s => sQ m d t s c) p)
      = OddMath.tokP (az m d) (ad m d) (adw m d) (row t p) := funext fun c => by
    rw [show (fun j => (iblk m d 13 t : Vec Ideal S3x512 .f32) (ix2 j c)) = (adw m d · c) from funext fun j => b13 m d t j c]
    exact OddMath.dconv_shift _ (fun s => OddMath.tail (aQ m d) s c) _ _
  rw [e4, e5, e3]
  show OddMath.dz (OddMath.pad (az m d) (512 * t.val + (p.val + 32))) (OddMath.tail (ad m d) (512 * t.val + p.val)) _ _ _ = _
  rw [e1, e2]

theorem bDn_row (k : Fin 1024) : bDn m d t (sC m d t) (sQ m d t) (sZ m d t) p k = aN m d (row t p) k := by
  unfold bDn aN OddMath.tokN
  rw [bDz_row]
  exact Finset.sum_congr rfl fun n _ => congrArg (_ * ·) (b8 m d t n k)

theorem bX_row : bX m d t p = ah m d (row t p) := funext fun k => b2 m d t p k

abbrev out15 : Buf (Elt Ideal) ((d : Thread nD τ).loc main_v250_0) := fun i : S8192x1024.Idx =>
  OddMath.tokX (az m d) (av m d) (ad m d) (acw m d) (adw m d) (alg m d) (alb m d) (ah m d) (adh m d) (ag m d) (ai m d) (i 0) (i 1)
abbrev out16 : Buf (Elt Ideal) ((d : Thread nD τ).loc main_v250_1) := fun i : S8192x2560.Idx => aZ m d (i 0) (i 1)

theorem point15 (k : Fin 1024) : (dats m 0 d).after 15 t (ix2 p k) = out15 m d (ix2 (row t p) k) := by
  rw [after15 (at' m d t), b0, bX_row]
  refine congrArg (_ + FfnMath.dunit _ · k) (funext fun k => ?_)
  rw [bDn_row, b14]
  rfl

theorem point16 (n : Fin 2560) : (dats m 0 d).after 16 t (ix2 p n) = out16 m d (ix2 (row t p) n) := by
  rw [after16 (at' m d t), bDz_row]
  rfl
end

theorem arr15 : (dats m 0 d).arrAt 15 cfg0.N = out15 m d := by
  refine (dats m 0 d).arrAt_eq_of_covers 15 _ (by decide +kernel) fun t hf y => ?_
  blk_simp
  have hy : ((cfg0.win 15).blk t).view.emb y = ix2 (row t ((show S512x1024.Idx from y) 0)) ((show S512x1024.Idx from y) 1) := by
    blk_ext [e15]
  exact (congrArg _ (eq_ix2 (show S512x1024.Idx from y))).trans ((point15 m d t _ _).trans (congrArg (out15 m d) hy.symm))

theorem arr16 : (dats m 0 d).arrAt 16 cfg0.N = out16 m d := by
  refine (dats m 0 d).arrAt_eq_of_covers 16 _ (by decide +kernel) fun t hf y => ?_
  blk_simp
  have hy : ((cfg0.win 16).blk t).view.emb y = ix2 (row t ((show S512x2560.Idx from y) 0)) ((show S512x2560.Idx from y) 1) := by
    blk_ext [e16]
  exact (congrArg _ (eq_ix2 (show S512x2560.Idx from y))).trans ((point16 m d t _ _).trans (congrArg (out16 m d) hy.symm))

/-! ## The accumulated results -/

abbrev tLast : Fin cfg0.N := ⟨15, by decide⟩

theorem reset {t : Fin cfg0.N} (h : ¬t.val = 0) : ¬t.val % 16 = 0 := by
  have := lt_of_lt_of_eq t.isLt N_0
  omega

/-- A number that the points accumulate: a sum over all tokens, if each point adds the terms of its block's rows. -/
theorem acc (f : (n : ℕ) → n < cfg0.N → EReal) (g : Fin 8192 → EReal)
    (hA : ∀ t : Fin cfg0.N, t.val % 16 = 0 → f t.val t.isLt = ∑ p : Fin 512, g (row t p))
    (hB : ∀ t : Fin cfg0.N, ¬t.val % 16 = 0 → f t.val t.isLt = f (t.val - 1) (by omega) + ∑ p : Fin 512, g (row t p)) :
    f tLast.val tLast.isLt = ∑ i, g i := by
  refine (Pipeline.eq_sum_fin_of_reset_step_apply_last (fun n h (_ : Fin 1) => f n h) 16 (fun _ => 0)
    (fun t _ => ∑ p : Fin 512, g (row t p)) (fun t h _ => (hA t h).trans (zero_add _).symm) (fun t h _ => hB t h) (le_of_eq N_0)
    tLast (by decide) 0).trans ?_
  rw [zero_add]
  refine Fin.sum_mul_add_congr (S := 16) (n := 512) fun t p hl => congrArg g (Fin.ext ?_)
  simp only [row]
  omega

theorem sC_row (t : Fin cfg0.N) (p : Fin 512) : sC m d t p = aC m d (row t p) := OddMath.tail_token (aC m d) (row t p)
theorem sQ_row (t : Fin cfg0.N) (p : Fin 512) : sQ m d t p = aQ m d (row t p) := OddMath.tail_token (aQ m d) (row t p)

theorem term17_eq (t : Fin cfg0.N) (j : Fin 31) (c : Fin 512) : term17 (sC m d t) (sZ m d t) j c
    = ∑ p : Fin 512, aC m d (row t p) c * OddMath.glu (OddMath.pad (az m d) ((row t p).val + 2 + j)) c :=
  Finset.sum_congr rfl fun p _ => congr (congrArg HMul.hMul (congrFun (sC_row m d t p) c))
    (congrArg (fun s => OddMath.glu (OddMath.pad (az m d) s) c) (by simp only [row]; omega))
theorem term18_eq (t : Fin cfg0.N) (c : Fin 512) : ∑ p : Fin 512, sC m d t p c = ∑ p : Fin 512, aC m d (row t p) c :=
  Finset.sum_congr rfl fun p _ => congrFun (sC_row m d t p) c
theorem bN_row (t : Fin cfg0.N) (p : Fin 512) (c : Fin 512) : bN m d t ⟨p, by omega⟩ c
    = OddMath.dln (av m d (row t p)) (alg m d) (alb m d) (ad m d (row t p)) c := by
  show OddMath.dln (bV m d t ⟨p, by omega⟩) _ _ (fun n => pD m d t (ix2 (⟨p, by omega⟩ : Fin 544) n)) c = _
  rw [pD_eq, bV_eq m d t ⟨p, by omega⟩ (row t p).isLt, b11_fun, b12_fun]
  exact congrArg (OddMath.dln _ _ _ · c) (OddMath.tail_token (ad m d) (row t p))
theorem term19_eq (t : Fin cfg0.N) (c : Fin 512) : term19 m d t c
    = ∑ p : Fin 512, OddMath.dln (av m d (row t p)) (alg m d) (alb m d) (ad m d (row t p)) c * OddMath.hat (av m d (row t p)) c :=
  Finset.sum_congr rfl fun p _ => congr (congrArg HMul.hMul (bN_row m d t p c))
    (congrArg (OddMath.hat · c) (bV_eq m d t ⟨p, by omega⟩ (row t p).isLt))
theorem term20_eq (t : Fin cfg0.N) (c : Fin 512) : term20 m d t c
    = ∑ p : Fin 512, OddMath.dln (av m d (row t p)) (alg m d) (alb m d) (ad m d (row t p)) c :=
  Finset.sum_congr rfl fun p _ => bN_row m d t p c
theorem term21_eq (t : Fin cfg0.N) (j : Fin 3) (c : Fin 512) : term21 (sQ m d t) (sZ m d t) j c
    = ∑ p : Fin 512, aQ m d (row t p) c * OddMath.prod (OddMath.pad (az m d) ((row t p).val + 30 + j)) c :=
  Finset.sum_congr rfl fun p _ => congr (congrArg HMul.hMul (congrFun (sQ_row m d t p) c))
    (congrArg (fun s => OddMath.prod (OddMath.pad (az m d) s) c) (by simp only [row]; omega))
theorem term22_eq (t : Fin cfg0.N) (k : Fin 1024) : term22 m d t (sC m d t) (sQ m d t) (sZ m d t) k
    = ∑ p : Fin 512, aN m d (row t p) k * FfnMath.unit (ah m d (row t p)) k :=
  Finset.sum_congr rfl fun p _ => congr (congrArg HMul.hMul (bDn_row m d t p k)) (congrArg (FfnMath.unit · k) (bX_row m d t p))

abbrev out17 : Buf (Elt Ideal) ((d : Thread nD τ).loc main_v250_2) := fun i : S31x512.Idx =>
  OddMath.sumCw (az m d) (av m d) (ad m d) (alg m d) (alb m d) (i 0) (i 1)
abbrev out18 : Buf (Elt Ideal) ((d : Thread nD τ).loc main_v250_3) := fun i : S1x512.Idx =>
  OddMath.sumCb (av m d) (ad m d) (alg m d) (alb m d) (i 1)
abbrev out19 : Buf (Elt Ideal) ((d : Thread nD τ).loc main_v250_4) := fun i : S1x512.Idx =>
  OddMath.sumLg (av m d) (ad m d) (alg m d) (alb m d) (i 1)
abbrev out20 : Buf (Elt Ideal) ((d : Thread nD τ).loc main_v250_5) := fun i : S1x512.Idx =>
  OddMath.sumLb (av m d) (ad m d) (alg m d) (alb m d) (i 1)
abbrev out21 : Buf (Elt Ideal) ((d : Thread nD τ).loc main_v250_6) := fun i : S3x512.Idx =>
  OddMath.sumDw (az m d) (ad m d) (i 0) (i 1)
abbrev out22 : Buf (Elt Ideal) ((d : Thread nD τ).loc main_v250_7) := fun i : S1x1024.Idx =>
  OddMath.sumG (az m d) (av m d) (ad m d) (acw m d) (adw m d) (alg m d) (alb m d) (ah m d) (ai m d) (i 1)

/-- An index of an array of one row. -/
theorem eq_row {n : ℕ} (j : (⟨2, ![1, n]⟩ : Shape).Idx) : j = ix2 0 (j 1) :=
  (eq_ix2 j).trans (congrArg (ix2 · (j 1)) (Subsingleton.elim (α := Fin 1) _ _))

theorem last17 (j : S31x512.Idx) : (dats m 0 d).after 17 tLast j = out17 m d j := by
  rw [Gen.after0_17]
  refine (congrArg _ (eq_ix2 j)).trans (acc (fun n h => (Gen.outsAt0 m d n h).2.2.1 (ix2 (j 0) (j 1))) _
    (fun t h => (outs17_A (at' m d t) h _ _).trans (term17_eq m d t _ _))
    (fun t h => (outs17_B (at' m d t) h _ _).trans (congrArg (_ + ·) (term17_eq m d t _ _))))
theorem last18 (j : S1x512.Idx) : (dats m 0 d).after 18 tLast j = out18 m d j := by
  rw [Gen.after0_18]
  refine (congrArg _ (eq_row j)).trans (acc (fun n h => (Gen.outsAt0 m d n h).2.2.2.1 (ix2 0 (j 1))) _
    (fun t h => (outs18_A (at' m d t) h _).trans (term18_eq m d t _))
    (fun t h => (outs18_B (at' m d t) h _).trans (congrArg (_ + ·) (term18_eq m d t _))))
theorem last19 (j : S1x512.Idx) : (dats m 0 d).after 19 tLast j = out19 m d j := by
  rw [Gen.after0_19]
  refine (congrArg _ (eq_row j)).trans (acc (fun n h => (Gen.outsAt0 m d n h).2.2.2.2.1 (ix2 0 (j 1))) _
    (fun t h => (outs19_A m d t h _).trans (term19_eq m d t _))
    (fun t h => (outs19_B m d t h _).trans (congrArg (_ + ·) (term19_eq m d t _))))
theorem last20 (j : S1x512.Idx) : (dats m 0 d).after 20 tLast j = out20 m d j := by
  rw [Gen.after0_20]
  refine (congrArg _ (eq_row j)).trans (acc (fun n h => (Gen.outsAt0 m d n h).2.2.2.2.2.1 (ix2 0 (j 1))) _
    (fun t h => (outs20_A m d t h _).trans (term20_eq m d t _))
    (fun t h => (outs20_B m d t h _).trans (congrArg (_ + ·) (term20_eq m d t _))))
theorem last21 (j : S3x512.Idx) : (dats m 0 d).after 21 tLast j = out21 m d j := by
  rw [Gen.after0_21]
  refine (congrArg _ (eq_ix2 j)).trans (acc (fun n h => (Gen.outsAt0 m d n h).2.2.2.2.2.2.1 (ix2 (j 0) (j 1))) _
    (fun t h => (outs21_A (at' m d t) h _ _).trans (term21_eq m d t _ _))
    (fun t h => (outs21_B (at' m d t) h _ _).trans (congrArg (_ + ·) (term21_eq m d t _ _))))
theorem last22 (j : S1x1024.Idx) : (dats m 0 d).after 22 tLast j = out22 m d j := by
  rw [Gen.after0_22]
  refine (congrArg _ (eq_row j)).trans (acc (fun n h => (Gen.outsAt0 m d n h).2.2.2.2.2.2.2 (ix2 0 (j 1))) _
    (fun t h => (outs22_A (at' m d t) h _).trans (term22_eq m d t _))
    (fun t h => (outs22_B (at' m d t) h _).trans (congrArg (_ + ·) (term22_eq m d t _))))

theorem arr17 : (dats m 0 d).arrAt 17 cfg0.N = out17 m d :=
  (dats m 0 d).arrAt_eq_of_after_last 17 tLast (by decide +kernel) (out17 m d) fun j => last17 m d j
theorem arr18 : (dats m 0 d).arrAt 18 cfg0.N = out18 m d :=
  (dats m 0 d).arrAt_eq_of_after_last 18 tLast (by decide +kernel) (out18 m d) fun j => last18 m d j
theorem arr19 : (dats m 0 d).arrAt 19 cfg0.N = out19 m d :=
  (dats m 0 d).arrAt_eq_of_after_last 19 tLast (by decide +kernel) (out19 m d) fun j => last19 m d j
theorem arr20 : (dats m 0 d).arrAt 20 cfg0.N = out20 m d :=
  (dats m 0 d).arrAt_eq_of_after_last 20 tLast (by decide +kernel) (out20 m d) fun j => last20 m d j
theorem arr21 : (dats m 0 d).arrAt 21 cfg0.N = out21 m d :=
  (dats m 0 d).arrAt_eq_of_after_last 21 tLast (by decide +kernel) (out21 m d) fun j => last21 m d j
theorem arr22 : (dats m 0 d).arrAt 22 cfg0.N = out22 m d :=
  (dats m 0 d).arrAt_eq_of_after_last 22 tLast (by decide +kernel) (out22 m d) fun j => last22 m d j

end Cert.OddBwdIdeal.Arrays

end
-- ==== Proof.OddBwdHost.lean ====
/-
  The arrays that the region of the odd layer's backward call starts from, as functions of the program's arguments: the weights
  laid out for the kernel, and the forward pass's rows.
-/
module

public import proofs.«01_k».proof.Proof.OddBwdArrays

@[expose] public section

set_option maxRecDepth 16384

noncomputable section

namespace Cert.OddBwdIdeal.Arrays

open Idealize.ShloMosaic Idealize.ShloMosaic.TcCoe Idealize.SL.Sem Cert.OddBwdIdeal Cert.OddBwdIdeal.Gen

variable (m : (ℓ : Loc nD τ sig) → Buf (Elt Ideal) ℓ) (d : Dev nD)

abbrev y0 : Vec Ideal S8192x1024 .f32 := m ((d : Thread nD τ).loc main_arg0)
abbrev y1 : Vec Ideal S1024x2560 .f32 := m ((d : Thread nD τ).loc main_arg1)
abbrev y2 : Vec Ideal S1024x1024 .f32 := m ((d : Thread nD τ).loc main_arg2)
abbrev y3 : Vec Ideal S31x512 .f32 := m ((d : Thread nD τ).loc main_arg3)
abbrev y4 : Vec Ideal S1x512 .f32 := m ((d : Thread nD τ).loc main_arg4)
abbrev y5 : Vec Ideal S1x512 .f32 := m ((d : Thread nD τ).loc main_arg5)
abbrev y6 : Vec Ideal S1x512 .f32 := m ((d : Thread nD τ).loc main_arg6)
abbrev y7 : Vec Ideal S3x512 .f32 := m ((d : Thread nD τ).loc main_arg7)
abbrev y8 : Vec Ideal S1x1024 .f32 := m ((d : Thread nD τ).loc main_arg8)
abbrev y9 : Vec Ideal S8192x1024 .f32 := m ((d : Thread nD τ).loc main_arg9)

theorem ah_fun : ah m d = fun i k => y0 m d (ix2 i k) := by
  funext i k; unfold ah; rw [V_main_arg0]
theorem acw_fun : acw m d = fun j c => y3 m d (ix2 j c) := by
  funext j c; unfold acw; rw [V_main_arg3]
theorem alg_fun : alg m d = fun c => y5 m d (ix2 0 c) := by
  funext c; unfold alg; rw [V_main_arg5]
theorem alb_fun : alb m d = fun c => y6 m d (ix2 0 c) := by
  funext c; unfold alb; rw [V_main_arg6]
theorem adw_fun : adw m d = fun j c => y7 m d (ix2 j c) := by
  funext j c; unfold adw; rw [V_main_arg7]
theorem ag_fun : ag m d = fun k => y8 m d (ix2 0 k) := by
  funext k; unfold ag; rw [V_main_arg8]
theorem adh_fun : adh m d = fun i k => y9 m d (ix2 i k) := by
  funext i k; unfold adh; rw [V_main_arg9]
theorem ai_fun : ai m d = fun n k => y1 m d (ix2 k n) := by
  funext n k; unfold ai
  dsimp only [V, hostOps0]; after_results
  pointwise
theorem ao_fun : ao m d = fun n k => y2 m d (ix2 n k) := by
  funext n k; unfold ao
  dsimp only [V, hostOps0]; after_results
  pointwise

/-- The tokens' rows of 2560 numbers, by the forward pass. -/
abbrev hz (i : Fin 8192) : Fin 2560 → EReal :=
  OddMath.inner (fun k => y0 m d (ix2 i k)) (fun k => y8 m d (ix2 0 k)) (fun n k => y1 m d (ix2 k n))

theorem az_fun : az m d = hz m d := by
  funext i n; unfold az
  dsimp only [V, hostOps0]; after_results
  pointwise [hz, OddMath.inner, FfnMath.unit, FfnMath.inv, FfnMath.msq, y0, y8, y1]

/-- A gated row that is read where there is a token, and zero before the first. -/
theorem dite_glu (z : Fin 8192 → Fin 2560 → EReal) (c : Fin 512) {P : Prop} [Decidable P] {r s : ℕ} {hr : ¬P → r < 8192}
    (h1 : P → s < 32) (h2 : ¬P → s = r + 32) :
    (if h : P then 0 else OddMath.glu (z ⟨r, hr h⟩) c) = OddMath.glu (OddMath.pad z s) c := by
  by_cases h : P
  · rw [dif_pos h, OddMath.pad_lt (h1 h)]
    exact (OddMath.glu_zero c).symm
  · rw [dif_neg h, OddMath.pad_token ⟨r, hr h⟩ (h2 h)]

theorem token_glu (z : Fin 8192 → Fin 2560 → EReal) (i : Fin 8192) (c : Fin 512) {s : ℕ} (h : s = i + 32) :
    OddMath.glu (z i) c = OddMath.glu (OddMath.pad z s) c := by
  rw [OddMath.pad_token i h]

/-- The 31 taps, one by one. -/
theorem conv31 (w : Fin 31 → EReal) (x : ℕ → EReal) (s : ℕ) : OddMath.conv 31 w x s =
    w 0 * x (s + 0) + w 1 * x (s + 1) + w 2 * x (s + 2) + w 3 * x (s + 3) + w 4 * x (s + 4) + w 5 * x (s + 5) + w 6 * x (s + 6) +
    w 7 * x (s + 7) + w 8 * x (s + 8) + w 9 * x (s + 9) + w 10 * x (s + 10) + w 11 * x (s + 11) + w 12 * x (s + 12) +
    w 13 * x (s + 13) + w 14 * x (s + 14) + w 15 * x (s + 15) + w 16 * x (s + 16) + w 17 * x (s + 17) + w 18 * x (s + 18) +
    w 19 * x (s + 19) + w 20 * x (s + 20) + w 21 * x (s + 21) + w 22 * x (s + 22) + w 23 * x (s + 23) + w 24 * x (s + 24) +
    w 25 * x (s + 25) + w 26 * x (s + 26) + w 27 * x (s + 27) + w 28 * x (s + 28) + w 29 * x (s + 29) + w 30 * x (s + 30) := by
  unfold OddMath.conv
  simp only [Fin.sum_univ_castSucc, Finset.univ_eq_empty, Finset.sum_empty, zero_add]
  rfl

/-- The long convolution's rows, by the forward pass. -/
abbrev hv (i : Fin 8192) : Fin 512 → EReal :=
  OddMath.long (fun j c => y3 m d (ix2 j c)) (fun c => y4 m d (ix2 0 c)) (OddMath.pad (hz m d)) i

theorem av_fun : av m d = hv m d := by
  funext i c; unfold av
  dsimp only [V, hostOps0]; after_results
  pointwise
  unfold hv OddMath.long
  refine congrArg (· + _) (Eq.trans ?_ (conv31 _ _ _).symm)
  beta_reduce
  refine congr (congrArg HAdd.hAdd ?_) (congrArg (HMul.hMul _) (token_glu (hz m d) i c ?_))
  iterate 29 refine congr (congrArg HAdd.hAdd ?_) (congrArg (HMul.hMul _) (dite_glu (hz m d) c ?_ ?_))
  refine congrArg (HMul.hMul _) (dite_glu (hz m d) c ?_ ?_)
  all_goals omega

end Cert.OddBwdIdeal.Arrays

end
-- ==== Proof.OddGradRef.lean ====
/-
  What the reference of the odd layer's backward pass computes, entry by entry: the forward values it needs, and the
  gradients of each token's rows before the convolutions' transposes.
-/
module

public import proofs.«01_k».proof.Proof.OddGradMath
public import proofs.«01_k».proof.Proof.LossMath
public import proofs.«01_k».proof.Proof.Gen.OddGradIdeal.Run
public import proofs.«01_k».proof.Proof.Gen.OddGradIdeal.Read
public import Idealize.ShloMosaic.Lib.Pointwise
public import Idealize.ShloMosaic.Lib.IdealHost

@[expose] public section

set_option maxRecDepth 16384

noncomputable section

namespace Cert.OddGradIdeal.Entries

open Idealize.ShloMosaic Cert.OddGradIdeal Cert.OddGradIdeal.Read

variable (x0 : Vec Ideal S8192x1024 .f32) (x1 : Vec Ideal S1024x2560 .f32) (x2 : Vec Ideal S1024x1024 .f32)
  (x3 : Vec Ideal S31x512 .f32) (x4 x5 x6 : Vec Ideal S1x512 .f32) (x7 : Vec Ideal S3x512 .f32) (x8 : Vec Ideal S1x1024 .f32)
  (x9 : Vec Ideal S8192x1024 .f32)

/-- A token's row of 2560 numbers, the long convolution's row, and the gradient of the mixers. -/
abbrev rZ (i : Fin 8192) : Fin 2560 → EReal :=
  OddMath.inner (fun k => x0 (ix2 i k)) (fun k => x8 (ix2 0 k)) (fun n k => x1 (ix2 k n))
abbrev rL (i : Fin 8192) : Fin 512 → EReal :=
  OddMath.long (fun j c => x3 (ix2 j c)) (fun c => x4 (ix2 0 c)) (OddMath.pad (rZ x0 x1 x8)) i
abbrev rD (i : Fin 8192) : Fin 1024 → EReal := OddMath.dmix (fun k => x9 (ix2 i k)) (fun n k => x2 (ix2 n k))

theorem v15_apply (i : Fin 8192) (k : Fin 1024) :
    val_main_v15 (F := Ideal) x0 x8 (ix2 i k) = FfnMath.unit (fun k => x0 (ix2 i k)) k * x8 (ix2 0 k) := by
  unfold val_main_v15 val_main_v13 val_main_v12 val_main_v8 val_main_v7 val_main_v5 val_main_v3 val_main_v2
    val_main_v1 val_main_cst_0 val_main_v4 val_main_cst_1 val_main_v6 val_main_cst_2 val_main_v14
  pointwise [FfnMath.unit, FfnMath.inv, FfnMath.msq]

theorem v17_apply (i : Fin 8192) (n : Fin 2560) :
    val_main_v17 (F := Ideal) x0 x1 x8 (ix2 i n) = rZ x0 x1 x8 i n := by
  unfold val_main_v17 val_main_v16 val_main_v0 val_main_cst
  pointwise [v15_apply, rZ, OddMath.inner]

/-! ## The long convolution -/

theorem v25_apply (i : Fin 8192) (c : Fin 512) :
    val_main_v25 (F := Ideal) x0 x1 x8 (ix2 i c) = FfnMath.sigm (rZ x0 x1 x8 i ⟨512 + c, by omega⟩) := by
  unfold val_main_v25 val_main_v24 val_main_cst_5 val_main_v23 val_main_v22 val_main_cst_4 val_main_v21 val_main_v20
    val_main_v19
  pointwise [v17_apply, FfnMath.sigm]

theorem v29_apply (i : Fin 8192) (c : Fin 512) :
    val_main_v29 (F := Ideal) x0 x1 x8 (ix2 i c) = OddMath.glu (rZ x0 x1 x8 i) c := by
  unfold val_main_v29 val_main_v18
  pointwise [v17_apply, v25_apply, OddMath.glu]

/-- The gated rows after 30 rows of zeros. -/
theorem v31_apply (s : Fin 8222) (c : Fin 512) :
    val_main_v31 (F := Ideal) x0 x1 x8 (ix2 s c) = OddMath.glu (OddMath.pad (rZ x0 x1 x8) (s + 2)) c := by
  unfold val_main_v31 val_main_v30 val_main_cst_7
  pointwise [v29_apply]
  by_cases h : s.val < 30
  · rw [dif_pos h, OddMath.pad_lt (by omega)]
    exact (OddMath.glu_zero c).symm
  · rw [dif_neg h, OddMath.pad_token ⟨s - 30, by omega⟩ (by simp only []; omega)]

theorem v252_apply (i : Fin 8192) (c : Fin 512) :
    val_main_v252 (F := Ideal) x0 x1 x3 x4 x8 (ix2 i c) = rL x0 x1 x3 x4 x8 i c := by
  have e := fun s => v31_apply x0 x1 x8 s c
  unfold val_main_v252 val_main_v250 val_main_v243 val_main_v236 val_main_v229 val_main_v222 val_main_v215
    val_main_v208 val_main_v201 val_main_v194 val_main_v187 val_main_v180 val_main_v173 val_main_v166 val_main_v159
    val_main_v152 val_main_v145 val_main_v138 val_main_v131 val_main_v124 val_main_v117 val_main_v110 val_main_v103
    val_main_v96 val_main_v89 val_main_v82 val_main_v75 val_main_v68 val_main_v61 val_main_v54 val_main_v47
    val_main_v40 val_main_v39 val_main_cst_9 val_main_v38 val_main_v37 val_main_v36 val_main_v34 val_main_v33
    val_main_v35 val_main_v46 val_main_v45 val_main_v44 val_main_v42 val_main_v41 val_main_v43 val_main_v53
    val_main_v52 val_main_v51 val_main_v49 val_main_v48 val_main_v50 val_main_v60 val_main_v59 val_main_v58
    val_main_v56 val_main_v55 val_main_v57 val_main_v67 val_main_v66 val_main_v65 val_main_v63 val_main_v62
    val_main_v64 val_main_v74 val_main_v73 val_main_v72 val_main_v70 val_main_v69 val_main_v71 val_main_v81
    val_main_v80 val_main_v79 val_main_v77 val_main_v76 val_main_v78 val_main_v88 val_main_v87 val_main_v86
    val_main_v84 val_main_v83 val_main_v85 val_main_v95 val_main_v94 val_main_v93 val_main_v91 val_main_v90
    val_main_v92 val_main_v102 val_main_v101 val_main_v100 val_main_v98 val_main_v97 val_main_v99 val_main_v109
    val_main_v108 val_main_v107 val_main_v105 val_main_v104 val_main_v106 val_main_v116 val_main_v115 val_main_v114
    val_main_v112 val_main_v111 val_main_v113 val_main_v123 val_main_v122 val_main_v121 val_main_v119 val_main_v118
    val_main_v120 val_main_v130 val_main_v129 val_main_v128 val_main_v126 val_main_v125 val_main_v127 val_main_v137
    val_main_v136 val_main_v135 val_main_v133 val_main_v132 val_main_v134 val_main_v144 val_main_v143 val_main_v142
    val_main_v140 val_main_v139 val_main_v141 val_main_v151 val_main_v150 val_main_v149 val_main_v147 val_main_v146
    val_main_v148 val_main_v158 val_main_v157 val_main_v156 val_main_v154 val_main_v153 val_main_v155 val_main_v165
    val_main_v164 val_main_v163 val_main_v161 val_main_v160 val_main_v162 val_main_v172 val_main_v171 val_main_v170
    val_main_v168 val_main_v167 val_main_v169 val_main_v179 val_main_v178 val_main_v177 val_main_v175 val_main_v174
    val_main_v176 val_main_v186 val_main_v185 val_main_v184 val_main_v182 val_main_v181 val_main_v183 val_main_v193
    val_main_v192 val_main_v191 val_main_v189 val_main_v188 val_main_v190 val_main_v200 val_main_v199 val_main_v198
    val_main_v196 val_main_v195 val_main_v197 val_main_v207 val_main_v206 val_main_v205 val_main_v203 val_main_v202
    val_main_v204 val_main_v214 val_main_v213 val_main_v212 val_main_v210 val_main_v209 val_main_v211 val_main_v221
    val_main_v220 val_main_v219 val_main_v217 val_main_v216 val_main_v218 val_main_v228 val_main_v227 val_main_v226
    val_main_v224 val_main_v223 val_main_v225 val_main_v235 val_main_v234 val_main_v233 val_main_v231 val_main_v230
    val_main_v232 val_main_v242 val_main_v241 val_main_v240 val_main_v238 val_main_v237 val_main_v239 val_main_v249
    val_main_v248 val_main_v247 val_main_v245 val_main_v244 val_main_v246 val_main_v251
  revert e
  generalize val_main_v31 (F := Ideal) x0 x1 x8 = z
  unfold rL OddMath.long
  obtain ⟨F, hF⟩ : ∃ F : ℕ → EReal, F = fun s => OddMath.glu (OddMath.pad (rZ x0 x1 x8) s) c := ⟨_, rfl⟩
  intro e
  have e : ∀ s : Fin 8222, z (ix2 s c) = F (s + 2) := fun s => (e s).trans (congrFun hF.symm _)
  rw [← hF]
  pointwise [e]
  refine congrArg (· + _) ?_
  simp only [OddMath.conv, Fin.sum_univ_castSucc, Finset.univ_eq_empty, Finset.sum_empty, zero_add]
  iterate 30 refine congr (congrArg HAdd.hAdd ?_) (congrArg (HMul.hMul _) (congrArg F ?_))
  refine congrArg (HMul.hMul _) (congrArg F ?_)
  all_goals (simp only [Fin.val_castSucc, Fin.val_last]; try omega)

/-! ## The normalisation and the mixers -/

theorem v256_apply (i : Fin 8192) :
    val_main_v256 (F := Ideal) x0 x1 x3 x4 x8 (ix2 i 0) = OddMath.mean (rL x0 x1 x3 x4 x8 i) := by
  unfold val_main_v256 val_main_v254 val_main_v253 val_main_cst_10 val_main_v255 val_main_cst_11
  pointwise [v252_apply, OddMath.mean]

theorem v258_apply (i : Fin 8192) (c : Fin 512) :
    val_main_v258 (F := Ideal) x0 x1 x3 x4 x8 (ix2 i c) = rL x0 x1 x3 x4 x8 i c - OddMath.mean (rL x0 x1 x3 x4 x8 i) := by
  unfold val_main_v258 val_main_v257
  pointwise [v252_apply, v256_apply]

theorem v267_apply (i : Fin 8192) (c : Fin 512) :
    val_main_v267 (F := Ideal) x0 x1 x3 x4 x8 (ix2 i c) = rL x0 x1 x3 x4 x8 i c - OddMath.mean (rL x0 x1 x3 x4 x8 i) := by
  unfold val_main_v267 val_main_v266
  pointwise [v252_apply, v256_apply]

theorem v261_apply (i : Fin 8192) (c : Fin 512) :
    val_main_v261 (F := Ideal) x0 x1 x3 x4 x8 (ix2 i c) = LossMath.two * (rL x0 x1 x3 x4 x8 i c - OddMath.mean (rL x0 x1 x3 x4 x8 i)) := by
  unfold val_main_v261 val_main_v260 val_main_cst_12
  pointwise [v258_apply, LossMath.two]

theorem v269_apply (i : Fin 8192) :
    val_main_v269 (F := Ideal) x0 x1 x3 x4 x8 (ix2 i 0) = OddMath.var (rL x0 x1 x3 x4 x8 i) := by
  unfold val_main_v269 val_main_v265 val_main_v263 val_main_v262 val_main_v259 val_main_cst_13 val_main_v264
    val_main_cst_14 val_main_v268 val_main_cst_15
  pointwise [v258_apply, OddMath.var]

theorem v270_apply (i : Fin 8192) :
    val_main_v270 (F := Ideal) x0 x1 x3 x4 x8 (ix2 i 0) = Ideal.rsqrt (OddMath.var (rL x0 x1 x3 x4 x8 i)) := by
  unfold val_main_v270
  pointwise [v269_apply]

theorem v273_apply (i : Fin 8192) :
    val_main_v273 (F := Ideal) x0 x1 x3 x4 x8 (ix2 i 0) = FfnMath.mhalf * Ideal.div (Ideal.rsqrt (OddMath.var (rL x0 x1 x3 x4 x8 i))) (OddMath.var (rL x0 x1 x3 x4 x8 i)) := by
  unfold val_main_v273 val_main_v272 val_main_cst_16 val_main_v271
  pointwise [v269_apply, v270_apply, FfnMath.mhalf]

theorem v275_apply (i : Fin 8192) (c : Fin 512) :
    val_main_v275 (F := Ideal) x0 x1 x3 x4 x8 (ix2 i c) = OddMath.hat (rL x0 x1 x3 x4 x8 i) c := by
  unfold val_main_v275 val_main_v274
  pointwise [v267_apply, v270_apply, OddMath.hat]

theorem v279_apply (i : Fin 8192) (c : Fin 512) :
    val_main_v279 (F := Ideal) x0 x1 x3 x4 x5 x6 x8 (ix2 i c) = OddMath.ln (rL x0 x1 x3 x4 x8 i) (fun c => x5 (ix2 0 c)) (fun c => x6 (ix2 0 c)) c := by
  unfold val_main_v279 val_main_v277 val_main_v276 val_main_v278
  pointwise [v275_apply, OddMath.hat, OddMath.ln]

theorem v280_2_apply (i : Fin 8192) (c : Fin 512) :
    val_main_v280_2 (F := Ideal) x0 x1 x3 x4 x5 x6 x8 (ix2 i c) = FfnMath.sigm (OddMath.ln (rL x0 x1 x3 x4 x8 i) (fun c => x5 (ix2 0 c)) (fun c => x6 (ix2 0 c)) c) := by
  unfold val_main_v280_2 val_main_call0_v4 val_main_call0_cst_0 val_main_call0_v3 val_main_call0_v2 val_main_call0_cst
    val_main_call0_v1 val_main_call0_v0
  pointwise [v279_apply, FfnMath.sigm]

/-- The products after two rows of zeros. -/
theorem v286_apply (s : Fin 8194) (c : Fin 512) :
    val_main_v286 (F := Ideal) x0 x1 x8 (ix2 s c) = OddMath.prod (OddMath.pad (rZ x0 x1 x8) (s + 30)) c := by
  unfold val_main_v286 val_main_v285 val_main_cst_17 val_main_v284 val_main_v282 val_main_v283
  pointwise [v17_apply]
  by_cases h : s.val < 2
  · rw [dif_pos h, OddMath.pad_lt (by omega)]
    exact (OddMath.prod_zero c).symm
  · rw [dif_neg h, OddMath.pad_token ⟨s - 2, by omega⟩ (by simp only []; omega)]
    rfl

theorem v309_apply (i : Fin 8192) (c : Fin 512) :
    val_main_v309 (F := Ideal) x0 x1 x7 x8 (ix2 i c) = OddMath.short (fun j c => x7 (ix2 j c)) (OddMath.pad (rZ x0 x1 x8)) i c := by
  unfold val_main_v309 val_main_v302 val_main_v295 val_main_v294 val_main_cst_19 val_main_v293 val_main_v292
    val_main_v291 val_main_v289 val_main_v288 val_main_v290 val_main_v301 val_main_v300 val_main_v299 val_main_v297
    val_main_v296 val_main_v298 val_main_v308 val_main_v307 val_main_v306 val_main_v304 val_main_v303 val_main_v305
  pointwise [v286_apply]
  rw [OddMath.short_eq, show 1 + i.val + 30 = i.val + 31 by omega,
    show 2 + i.val + 30 = i.val + 32 by omega]

/-! ## The gradients, token by token -/

theorem v315_apply (i : Fin 8192) (n : Fin 1024) :
    val_main_v315 (F := Ideal) x2 x9 (ix2 i n) = rD x2 x9 i n := by
  unfold val_main_v315 val_main_v314
  pointwise [rD, OddMath.dmix]

theorem v318_apply (i : Fin 8192) (c : Fin 512) :
    val_main_v318 (F := Ideal) x0 x1 x2 x8 x9 (ix2 i c) = OddMath.tokQ (rZ x0 x1 x8) (rD x2 x9) i c := by
  unfold val_main_v318 val_main_v281 val_main_v317
  pointwise [v17_apply, v315_apply, OddMath.tokQ, OddMath.dq]
  exact mul_comm _ _

end Cert.OddGradIdeal.Entries

end
-- ==== Proof.OddGradTokens.lean ====
/-
  What the reference of the odd layer's backward pass computes, entry by entry, on real arguments: its eight results.
-/
module

public import proofs.«01_k».proof.Proof.OddGradRef

@[expose] public section

set_option maxRecDepth 16384

noncomputable section

namespace Cert.OddGradIdeal.Entries

open Idealize.ShloMosaic Cert.OddGradIdeal Cert.OddGradIdeal.Read

variable {x0 : Vec Ideal S8192x1024 .f32} {x1 : Vec Ideal S1024x2560 .f32} {x2 : Vec Ideal S1024x1024 .f32}
  {x3 : Vec Ideal S31x512 .f32} {x4 x5 x6 : Vec Ideal S1x512 .f32} {x7 : Vec Ideal S3x512 .f32} {x8 : Vec Ideal S1x1024 .f32}
  {x9 : Vec Ideal S8192x1024 .f32}

/-! ## Real arguments -/

variable (x0 x1 x2 x3 x4 x5 x6 x7 x8 x9) in
/-- All entries of the arguments are real numbers. -/
structure Reals : Prop where
  r0 : ∀ i, FfnMath.IsReal (x0 i)
  r1 : ∀ i, FfnMath.IsReal (x1 i)
  r2 : ∀ i, FfnMath.IsReal (x2 i)
  r3 : ∀ i, FfnMath.IsReal (x3 i)
  r4 : ∀ i, FfnMath.IsReal (x4 i)
  r5 : ∀ i, FfnMath.IsReal (x5 i)
  r6 : ∀ i, FfnMath.IsReal (x6 i)
  r7 : ∀ i, FfnMath.IsReal (x7 i)
  r8 : ∀ i, FfnMath.IsReal (x8 i)
  r9 : ∀ i, FfnMath.IsReal (x9 i)

section
variable (hR : Reals x0 x1 x2 x3 x4 x5 x6 x7 x8 x9)
include hR

theorem Reals.real_z (i : Fin 8192) (n : Fin 2560) : FfnMath.IsReal (rZ x0 x1 x8 i n) :=
  .sum fun _ => ((FfnMath.IsReal.unit (fun _ => hR.r0 _) _).mul (hR.r8 _)).mul (hR.r1 _)
theorem Reals.real_v (i : Fin 8192) (c : Fin 512) : FfnMath.IsReal (rL x0 x1 x3 x4 x8 i c) :=
  .add (.sum fun _ => (hR.r3 _).mul ((OddMath.real_pad hR.real_z _ _).mul (.sigm (OddMath.real_pad hR.real_z _ _)))) (hR.r4 _)
theorem Reals.real_d (i : Fin 8192) (n : Fin 1024) : FfnMath.IsReal (rD x2 x9 i n) :=
  .sum fun _ => (hR.r9 _).mul (hR.r2 _)
theorem Reals.real_ln (i : Fin 8192) (c : Fin 512) :
    FfnMath.IsReal (OddMath.ln (rL x0 x1 x3 x4 x8 i) (fun c => x5 (ix2 0 c)) (fun c => x6 (ix2 0 c)) c) :=
  OddMath.IsReal.ln (hR.real_v i) (fun _ => hR.r5 _) (fun _ => hR.r6 _) c
theorem Reals.real_dln (i : Fin 8192) (c : Fin 512) :
    FfnMath.IsReal (OddMath.dln (rL x0 x1 x3 x4 x8 i) (fun c => x5 (ix2 0 c)) (fun c => x6 (ix2 0 c)) (rD x2 x9 i) c) :=
  OddMath.IsReal.dln (hR.real_v i) (fun _ => hR.r5 _) (fun _ => hR.r6 _) (hR.real_d i) c
theorem Reals.real_n (i : Fin 8192) (k : Fin 1024) : FfnMath.IsReal (OddMath.tokN (rZ x0 x1 x8) (rL x0 x1 x3 x4 x8) (rD x2 x9) (fun j c => x3 (ix2 j c)) (fun j c => x7 (ix2 j c)) (fun c => x5 (ix2 0 c)) (fun c => x6 (ix2 0 c)) (fun n k => x1 (ix2 k n)) i k) :=
  .sum fun n => (OddMath.real_tokZ hR.real_z hR.real_v hR.real_d (fun _ _ => hR.r3 _) (fun _ _ => hR.r7 _) (fun _ => hR.r5 _)
    (fun _ => hR.r6 _) i n).mul (hR.r1 _)
end

/-! ## The results -/

/-- The transpose of the short convolution. -/
theorem v352_apply (i : Fin 8192) (c : Fin 512) :
    val_main_v352 (F := Ideal) x0 x1 x2 x7 x8 x9 (ix2 i c) =
      OddMath.tokP (rZ x0 x1 x8) (rD x2 x9) (fun j c => x7 (ix2 j c)) i c := by
  have e := fun i => v318_apply x0 x1 x2 x8 x9 i c
  unfold val_main_v352 val_main_v347 val_main_v336 val_main_v326 val_main_v321 val_main_v320 val_main_v306
    val_main_v304 val_main_v303 val_main_cst_22 val_main_v335 val_main_v330 val_main_v329 val_main_v299 val_main_v297
    val_main_v296 val_main_cst_26 val_main_v346 val_main_v341 val_main_v340 val_main_v291 val_main_v289 val_main_v288
    val_main_cst_30
  revert e
  generalize val_main_v318 (F := Ideal) x0 x1 x2 x8 x9 = q
  unfold OddMath.tokP
  obtain ⟨C, hC⟩ : ∃ C, C = OddMath.tokQ (rZ x0 x1 x8) (rD x2 x9) := ⟨_, rfl⟩
  rw [← hC]
  intro e
  pointwise [e]
  rw [OddMath.dconv_rev]
  simp only [Fin.sum_univ_castSucc, Finset.univ_eq_empty, Finset.sum_empty, zero_add]
  iterate 2 refine congr (congrArg HAdd.hAdd ?_) (OddMath.dite_tail C _ c ?_ ?_ ?_)
  refine congrArg (HMul.hMul _) (congrFun (OddMath.tail_token C i).symm c)
  all_goals (simp only [Fin.val_castSucc, Fin.val_last]; omega)

/-- The gradient of the short convolution's taps. -/
theorem v350_apply (j : Fin 3) (c : Fin 512) :
    val_main_v350 (F := Ideal) x0 x1 x2 x8 x9 (ix2 j c) =
      OddMath.sumDw (rZ x0 x1 x8) (rD x2 x9) j c := by
  have e := fun i => v318_apply x0 x1 x2 x8 x9 i c
  have e' := fun i => v286_apply x0 x1 x8 i c
  unfold val_main_v350 val_main_v339 val_main_v328 val_main_v327 val_main_v325 val_main_v324 val_main_v323
    val_main_v322 val_main_v305 val_main_cst_20 val_main_cst_21 val_main_cst_23 val_main_v338 val_main_v337
    val_main_v334 val_main_v333 val_main_v332 val_main_v331 val_main_v298 val_main_cst_24 val_main_cst_25
    val_main_cst_27 val_main_v349 val_main_v348 val_main_v345 val_main_v344 val_main_v343 val_main_v342 val_main_v290
    val_main_cst_28 val_main_cst_29 val_main_cst_31
  revert e e'
  generalize val_main_v318 (F := Ideal) x0 x1 x2 x8 x9 = q
  generalize val_main_v286 (F := Ideal) x0 x1 x8 = z
  unfold OddMath.sumDw
  generalize OddMath.tokQ (rZ x0 x1 x8) (rD x2 x9) = C
  intro e e'
  pointwise [e, e']
  fin_cases j
  all_goals simp [Nat.add_comm, Nat.add_left_comm]

/-- The gradient of the normalised long convolution. -/
theorem v360_apply (hR : Reals x0 x1 x2 x3 x4 x5 x6 x7 x8 x9) (i : Fin 8192) (c : Fin 512) :
    val_main_v360 (F := Ideal) x0 x1 x2 x3 x4 x5 x6 x8 x9 (ix2 i c) =
      OddMath.dln ((rL x0 x1 x3 x4 x8) i) (fun c => x5 (ix2 0 c)) (fun c => x6 (ix2 0 c)) ((rD x2 x9) i) c := by
  unfold val_main_v360 val_main_call1_v1 val_main_call1_v2 val_main_call1_v0 val_main_v316 val_main_v280_1
    val_main_call0_v7 val_main_call0_v6 val_main_call0_cst_1
  pointwise [v279_apply, v280_2_apply, v315_apply]
  exact OddMath.dsilu_eq (hR.real_d i _) (hR.real_ln i c)

theorem v367_apply (hR : Reals x0 x1 x2 x3 x4 x5 x6 x7 x8 x9) (i : Fin 8192) (c : Fin 512) :
    val_main_v367 (F := Ideal) x0 x1 x2 x3 x4 x5 x6 x8 x9 (ix2 i c) =
      OddMath.dln ((rL x0 x1 x3 x4 x8) i) (fun c => x5 (ix2 0 c)) (fun c => x6 (ix2 0 c)) ((rD x2 x9) i) c * x5 (ix2 0 c) := by
  have e := v360_apply hR i c
  unfold val_main_v367 val_main_v366
  pointwise [e]

theorem v362_apply (hR : Reals x0 x1 x2 x3 x4 x5 x6 x7 x8 x9) (c : Fin 512) :
    val_main_v362 (F := Ideal) x0 x1 x2 x3 x4 x5 x6 x8 x9 (ix2 0 c) =
      OddMath.sumLb (rL x0 x1 x3 x4 x8) (rD x2 x9) (fun c => x5 (ix2 0 c)) (fun c => x6 (ix2 0 c)) c := by
  have e := fun i => v360_apply hR i c
  unfold val_main_v362 val_main_v361 val_main_cst_35
  pointwise [e, OddMath.sumLb]

theorem v365_apply (hR : Reals x0 x1 x2 x3 x4 x5 x6 x7 x8 x9) (c : Fin 512) :
    val_main_v365 (F := Ideal) x0 x1 x2 x3 x4 x5 x6 x8 x9 (ix2 0 c) =
      OddMath.sumLg (rL x0 x1 x3 x4 x8) (rD x2 x9) (fun c => x5 (ix2 0 c)) (fun c => x6 (ix2 0 c)) c := by
  have e := fun i => v360_apply hR i c
  unfold val_main_v365 val_main_v364 val_main_v363 val_main_cst_36
  pointwise [e, v275_apply, OddMath.sumLg]
  exact Finset.sum_congr rfl fun i _ => mul_comm _ _

/-- The part of the normalisation's gradient that comes through the variance. -/
theorem v380_apply (hR : Reals x0 x1 x2 x3 x4 x5 x6 x7 x8 x9) (i : Fin 8192) (c : Fin 512) :
    val_main_v380 (F := Ideal) x0 x1 x2 x3 x4 x5 x6 x8 x9 (ix2 i c) =
      Ideal.div ((∑ k, ((rL x0 x1 x3 x4 x8) i k - OddMath.mean ((rL x0 x1 x3 x4 x8) i)) * (OddMath.dln ((rL x0 x1 x3 x4 x8) i) (fun c => x5 (ix2 0 c)) (fun c => x6 (ix2 0 c)) ((rD x2 x9) i) k * x5 (ix2 0 k)))
        * (FfnMath.mhalf * Ideal.div (Ideal.rsqrt (OddMath.var ((rL x0 x1 x3 x4 x8) i))) (OddMath.var ((rL x0 x1 x3 x4 x8) i)))) OddMath.half := by
  have e := v367_apply hR
  unfold val_main_v380 val_main_v379 val_main_v378 val_main_v373 val_main_v370 val_main_v369 val_main_v368
    val_main_cst_37 val_main_v377 val_main_cst_39 val_main_cst_40
  pointwise [e, v267_apply, v273_apply, OddMath.half]
  rw [Fin.sum_univ_one]
  exact congrArg (fun a => Ideal.div (_ * a) _) (v273_apply x0 x1 x3 x4 x8 i)

/-- The gradient of the long convolution. -/
theorem v391_apply (hR : Reals x0 x1 x2 x3 x4 x5 x6 x7 x8 x9) (i : Fin 8192) (c : Fin 512) :
    val_main_v391 (F := Ideal) x0 x1 x2 x3 x4 x5 x6 x8 x9 (ix2 i c) =
      OddMath.tokC (rL x0 x1 x3 x4 x8) (rD x2 x9) (fun c => x5 (ix2 0 c)) (fun c => x6 (ix2 0 c)) i c := by
  have e := v367_apply hR
  have e' := v380_apply hR
  unfold val_main_v391 val_main_v385 val_main_v390 val_main_v389 val_main_v388 val_main_v386 val_main_v376
    val_main_v375 val_main_v374 val_main_v372 val_main_v371 val_main_cst_38 val_main_v384 val_main_v383 val_main_v382
    val_main_v381 val_main_cst_41 val_main_v387 val_main_cst_42 val_main_cst_43
  pointwise [e, e', v261_apply, v270_apply]
  simp only [Fin.sum_univ_one]
  exact OddMath.dhat_eq (hR.real_v i) (fun k => (hR.real_dln i k).mul (hR.r5 (ix2 0 k))) LossMath.two_eq rfl rfl c

theorem v393_apply (hR : Reals x0 x1 x2 x3 x4 x5 x6 x7 x8 x9) (c : Fin 512) :
    val_main_v393 (F := Ideal) x0 x1 x2 x3 x4 x5 x6 x8 x9 (ix2 0 c) =
      OddMath.sumCb (rL x0 x1 x3 x4 x8) (rD x2 x9) (fun c => x5 (ix2 0 c)) (fun c => x6 (ix2 0 c)) c := by
  have e := fun i => v391_apply hR i c
  unfold val_main_v393 val_main_v392 val_main_cst_44
  pointwise [e, OddMath.sumCb]

/-- The transpose of the long convolution. -/
theorem v734_apply (hR : Reals x0 x1 x2 x3 x4 x5 x6 x7 x8 x9) (i : Fin 8192) (c : Fin 512) :
    val_main_v734 (F := Ideal) x0 x1 x2 x3 x4 x5 x6 x8 x9 (ix2 i c) =
      OddMath.tokH (rL x0 x1 x3 x4 x8) (rD x2 x9) (fun j c => x3 (ix2 j c)) (fun c => x5 (ix2 0 c)) (fun c => x6 (ix2 0 c)) i c := by
  have e := fun i => v391_apply hR i c
  unfold val_main_v734 val_main_v729 val_main_v718 val_main_v707 val_main_v696 val_main_v685 val_main_v674
    val_main_v663 val_main_v652 val_main_v641 val_main_v630 val_main_v619 val_main_v608 val_main_v597 val_main_v586
    val_main_v575 val_main_v564 val_main_v553 val_main_v542 val_main_v531 val_main_v520 val_main_v509 val_main_v498
    val_main_v487 val_main_v476 val_main_v465 val_main_v454 val_main_v443 val_main_v432 val_main_v421 val_main_v410
    val_main_v400 val_main_v395 val_main_v394 val_main_v247 val_main_v245 val_main_v244 val_main_cst_47 val_main_v409
    val_main_v404 val_main_v403 val_main_v240 val_main_v238 val_main_v237 val_main_cst_51 val_main_v420 val_main_v415
    val_main_v414 val_main_v233 val_main_v231 val_main_v230 val_main_cst_55 val_main_v431 val_main_v426 val_main_v425
    val_main_v226 val_main_v224 val_main_v223 val_main_cst_59 val_main_v442 val_main_v437 val_main_v436 val_main_v219
    val_main_v217 val_main_v216 val_main_cst_63 val_main_v453 val_main_v448 val_main_v447 val_main_v212 val_main_v210
    val_main_v209 val_main_cst_67 val_main_v464 val_main_v459 val_main_v458 val_main_v205 val_main_v203 val_main_v202
    val_main_cst_71 val_main_v475 val_main_v470 val_main_v469 val_main_v198 val_main_v196 val_main_v195
    val_main_cst_75 val_main_v486 val_main_v481 val_main_v480 val_main_v191 val_main_v189 val_main_v188
    val_main_cst_79 val_main_v497 val_main_v492 val_main_v491 val_main_v184 val_main_v182 val_main_v181
    val_main_cst_83 val_main_v508 val_main_v503 val_main_v502 val_main_v177 val_main_v175 val_main_v174
    val_main_cst_87 val_main_v519 val_main_v514 val_main_v513 val_main_v170 val_main_v168 val_main_v167
    val_main_cst_91 val_main_v530 val_main_v525 val_main_v524 val_main_v163 val_main_v161 val_main_v160
    val_main_cst_95 val_main_v541 val_main_v536 val_main_v535 val_main_v156 val_main_v154 val_main_v153
    val_main_cst_99 val_main_v552 val_main_v547 val_main_v546 val_main_v149 val_main_v147 val_main_v146
    val_main_cst_103 val_main_v563 val_main_v558 val_main_v557 val_main_v142 val_main_v140 val_main_v139
    val_main_cst_107 val_main_v574 val_main_v569 val_main_v568 val_main_v135 val_main_v133 val_main_v132
    val_main_cst_111 val_main_v585 val_main_v580 val_main_v579 val_main_v128 val_main_v126 val_main_v125
    val_main_cst_115 val_main_v596 val_main_v591 val_main_v590 val_main_v121 val_main_v119 val_main_v118
    val_main_cst_119 val_main_v607 val_main_v602 val_main_v601 val_main_v114 val_main_v112 val_main_v111
    val_main_cst_123 val_main_v618 val_main_v613 val_main_v612 val_main_v107 val_main_v105 val_main_v104
    val_main_cst_127 val_main_v629 val_main_v624 val_main_v623 val_main_v100 val_main_v98 val_main_v97
    val_main_cst_131 val_main_v640 val_main_v635 val_main_v634 val_main_v93 val_main_v91 val_main_v90 val_main_cst_135
    val_main_v651 val_main_v646 val_main_v645 val_main_v86 val_main_v84 val_main_v83 val_main_cst_139 val_main_v662
    val_main_v657 val_main_v656 val_main_v79 val_main_v77 val_main_v76 val_main_cst_143 val_main_v673 val_main_v668
    val_main_v667 val_main_v72 val_main_v70 val_main_v69 val_main_cst_147 val_main_v684 val_main_v679 val_main_v678
    val_main_v65 val_main_v63 val_main_v62 val_main_cst_151 val_main_v695 val_main_v690 val_main_v689 val_main_v58
    val_main_v56 val_main_v55 val_main_cst_155 val_main_v706 val_main_v701 val_main_v700 val_main_v51 val_main_v49
    val_main_v48 val_main_cst_159 val_main_v717 val_main_v712 val_main_v711 val_main_v44 val_main_v42 val_main_v41
    val_main_cst_163 val_main_v728 val_main_v723 val_main_v722 val_main_v36 val_main_v34 val_main_v33 val_main_cst_167
  revert e
  generalize val_main_v391 (F := Ideal) x0 x1 x2 x3 x4 x5 x6 x8 x9 = q
  unfold OddMath.tokH
  obtain ⟨C, hC⟩ : ∃ C, C = OddMath.tokC (rL x0 x1 x3 x4 x8) (rD x2 x9) (fun c => x5 (ix2 0 c)) (fun c => x6 (ix2 0 c)) := ⟨_, rfl⟩
  rw [← hC]
  intro e
  pointwise [e]
  rw [OddMath.dconv_rev]
  simp only [Fin.sum_univ_castSucc, Finset.univ_eq_empty, Finset.sum_empty, zero_add]
  iterate 30 refine congr (congrArg HAdd.hAdd ?_) (OddMath.dite_tail C _ c ?_ ?_ ?_)
  refine congrArg (HMul.hMul _) (congrFun (OddMath.tail_token C i).symm c)
  all_goals (simp only [Fin.val_castSucc, Fin.val_last]; omega)

/-- The gradient of the long convolution's taps. -/
theorem v732_apply (hR : Reals x0 x1 x2 x3 x4 x5 x6 x7 x8 x9) (j : Fin 31) (c : Fin 512) :
    val_main_v732 (F := Ideal) x0 x1 x2 x3 x4 x5 x6 x8 x9 (ix2 j c) =
      OddMath.sumCw (rZ x0 x1 x8) (rL x0 x1 x3 x4 x8) (rD x2 x9) (fun c => x5 (ix2 0 c)) (fun c => x6 (ix2 0 c)) j c := by
  have e := fun i => v391_apply hR i c
  have e' := fun i => v31_apply x0 x1 x8 i c
  unfold val_main_v732 val_main_v721 val_main_v710 val_main_v699 val_main_v688 val_main_v677 val_main_v666
    val_main_v655 val_main_v644 val_main_v633 val_main_v622 val_main_v611 val_main_v600 val_main_v589 val_main_v578
    val_main_v567 val_main_v556 val_main_v545 val_main_v534 val_main_v523 val_main_v512 val_main_v501 val_main_v490
    val_main_v479 val_main_v468 val_main_v457 val_main_v446 val_main_v435 val_main_v424 val_main_v413 val_main_v402
    val_main_v401 val_main_v399 val_main_v398 val_main_v397 val_main_v396 val_main_v246 val_main_cst_45
    val_main_cst_46 val_main_cst_48 val_main_v412 val_main_v411 val_main_v408 val_main_v407 val_main_v406
    val_main_v405 val_main_v239 val_main_cst_49 val_main_cst_50 val_main_cst_52 val_main_v423 val_main_v422
    val_main_v419 val_main_v418 val_main_v417 val_main_v416 val_main_v232 val_main_cst_53 val_main_cst_54
    val_main_cst_56 val_main_v434 val_main_v433 val_main_v430 val_main_v429 val_main_v428 val_main_v427 val_main_v225
    val_main_cst_57 val_main_cst_58 val_main_cst_60 val_main_v445 val_main_v444 val_main_v441 val_main_v440
    val_main_v439 val_main_v438 val_main_v218 val_main_cst_61 val_main_cst_62 val_main_cst_64 val_main_v456
    val_main_v455 val_main_v452 val_main_v451 val_main_v450 val_main_v449 val_main_v211 val_main_cst_65
    val_main_cst_66 val_main_cst_68 val_main_v467 val_main_v466 val_main_v463 val_main_v462 val_main_v461
    val_main_v460 val_main_v204 val_main_cst_69 val_main_cst_70 val_main_cst_72 val_main_v478 val_main_v477
    val_main_v474 val_main_v473 val_main_v472 val_main_v471 val_main_v197 val_main_cst_73 val_main_cst_74
    val_main_cst_76 val_main_v489 val_main_v488 val_main_v485 val_main_v484 val_main_v483 val_main_v482 val_main_v190
    val_main_cst_77 val_main_cst_78 val_main_cst_80 val_main_v500 val_main_v499 val_main_v496 val_main_v495
    val_main_v494 val_main_v493 val_main_v183 val_main_cst_81 val_main_cst_82 val_main_cst_84 val_main_v511
    val_main_v510 val_main_v507 val_main_v506 val_main_v505 val_main_v504 val_main_v176 val_main_cst_85
    val_main_cst_86 val_main_cst_88 val_main_v522 val_main_v521 val_main_v518 val_main_v517 val_main_v516
    val_main_v515 val_main_v169 val_main_cst_89 val_main_cst_90 val_main_cst_92 val_main_v533 val_main_v532
    val_main_v529 val_main_v528 val_main_v527 val_main_v526 val_main_v162 val_main_cst_93 val_main_cst_94
    val_main_cst_96 val_main_v544 val_main_v543 val_main_v540 val_main_v539 val_main_v538 val_main_v537 val_main_v155
    val_main_cst_97 val_main_cst_98 val_main_cst_100 val_main_v555 val_main_v554 val_main_v551 val_main_v550
    val_main_v549 val_main_v548 val_main_v148 val_main_cst_101 val_main_cst_102 val_main_cst_104 val_main_v566
    val_main_v565 val_main_v562 val_main_v561 val_main_v560 val_main_v559 val_main_v141 val_main_cst_105
    val_main_cst_106 val_main_cst_108 val_main_v577 val_main_v576 val_main_v573 val_main_v572 val_main_v571
    val_main_v570 val_main_v134 val_main_cst_109 val_main_cst_110 val_main_cst_112 val_main_v588 val_main_v587
    val_main_v584 val_main_v583 val_main_v582 val_main_v581 val_main_v127 val_main_cst_113 val_main_cst_114
    val_main_cst_116 val_main_v599 val_main_v598 val_main_v595 val_main_v594 val_main_v593 val_main_v592 val_main_v120
    val_main_cst_117 val_main_cst_118 val_main_cst_120 val_main_v610 val_main_v609 val_main_v606 val_main_v605
    val_main_v604 val_main_v603 val_main_v113 val_main_cst_121 val_main_cst_122 val_main_cst_124 val_main_v621
    val_main_v620 val_main_v617 val_main_v616 val_main_v615 val_main_v614 val_main_v106 val_main_cst_125
    val_main_cst_126 val_main_cst_128 val_main_v632 val_main_v631 val_main_v628 val_main_v627 val_main_v626
    val_main_v625 val_main_v99 val_main_cst_129 val_main_cst_130 val_main_cst_132 val_main_v643 val_main_v642
    val_main_v639 val_main_v638 val_main_v637 val_main_v636 val_main_v92 val_main_cst_133 val_main_cst_134
    val_main_cst_136 val_main_v654 val_main_v653 val_main_v650 val_main_v649 val_main_v648 val_main_v647 val_main_v85
    val_main_cst_137 val_main_cst_138 val_main_cst_140 val_main_v665 val_main_v664 val_main_v661 val_main_v660
    val_main_v659 val_main_v658 val_main_v78 val_main_cst_141 val_main_cst_142 val_main_cst_144 val_main_v676
    val_main_v675 val_main_v672 val_main_v671 val_main_v670 val_main_v669 val_main_v71 val_main_cst_145
    val_main_cst_146 val_main_cst_148 val_main_v687 val_main_v686 val_main_v683 val_main_v682 val_main_v681
    val_main_v680 val_main_v64 val_main_cst_149 val_main_cst_150 val_main_cst_152 val_main_v698 val_main_v697
    val_main_v694 val_main_v693 val_main_v692 val_main_v691 val_main_v57 val_main_cst_153 val_main_cst_154
    val_main_cst_156 val_main_v709 val_main_v708 val_main_v705 val_main_v704 val_main_v703 val_main_v702 val_main_v50
    val_main_cst_157 val_main_cst_158 val_main_cst_160 val_main_v720 val_main_v719 val_main_v716 val_main_v715
    val_main_v714 val_main_v713 val_main_v43 val_main_cst_161 val_main_cst_162 val_main_cst_164 val_main_v731
    val_main_v730 val_main_v727 val_main_v726 val_main_v725 val_main_v724 val_main_v35 val_main_cst_165
    val_main_cst_166 val_main_cst_168
  revert e e'
  generalize val_main_v391 (F := Ideal) x0 x1 x2 x3 x4 x5 x6 x8 x9 = q
  generalize val_main_v31 (F := Ideal) x0 x1 x8 = z
  unfold OddMath.sumCw
  generalize OddMath.tokC (rL x0 x1 x3 x4 x8) (rD x2 x9) (fun c => x5 (ix2 0 c)) (fun c => x6 (ix2 0 c)) = C
  intro e e'
  pointwise [e, e']
  obtain ⟨S, hS⟩ : ∃ S : ℕ → EReal, S = fun j => ∑ i : Fin 8192, C i c * OddMath.glu (OddMath.pad (rZ x0 x1 x8) (j + i + 2)) c := ⟨_, rfl⟩
  have h0 : ∑ i : Fin 8192, C i c * OddMath.glu (OddMath.pad (rZ x0 x1 x8) (i + 2)) c = S 0 := by
    rw [hS]; simp only [zero_add]
  have hj : ∑ i : Fin 8192, C i c * OddMath.glu (OddMath.pad (rZ x0 x1 x8) (i + 2 + j)) c = S j := by
    rw [hS]; exact Finset.sum_congr rfl fun i _ => by rw [show i.val + 2 + j.val = j + i + 2 by omega]
  have hk (k : ℕ) : ∑ i : Fin 8192, C i c * OddMath.glu (OddMath.pad (rZ x0 x1 x8) (k + i + 2)) c = S k := by rw [hS]
  rw [hj]
  simp only [hk, h0, Finset.univ_unique, Finset.sum_singleton]
  clear hj hk h0 hS e e'
  fin_cases j
  all_goals simp

/-- The gradient of the tokens' rows. -/
theorem v741_apply (hR : Reals x0 x1 x2 x3 x4 x5 x6 x7 x8 x9) (i : Fin 8192) (n : Fin 2560) :
    val_main_v741 (F := Ideal) x0 x1 x2 x3 x4 x5 x6 x7 x8 x9 (ix2 i n) =
      OddMath.tokZ (rZ x0 x1 x8) (rL x0 x1 x3 x4 x8) (rD x2 x9) (fun j c => x3 (ix2 j c)) (fun j c => x7 (ix2 j c)) (fun c => x5 (ix2 0 c)) (fun c => x6 (ix2 0 c)) i n := by
  have e := v734_apply hR
  unfold val_main_v741 val_main_v739 val_main_v359 val_main_v357 val_main_v355 val_main_v353 val_main_v282
    val_main_cst_32 val_main_v356 val_main_v354 val_main_v283 val_main_cst_33 val_main_v358 val_main_v319
    val_main_v317 val_main_cst_34 val_main_v738 val_main_v737 val_main_v735 val_main_v18 val_main_v28 val_main_v27
    val_main_v26 val_main_cst_6 val_main_cst_169 val_main_v740 val_main_v736 val_main_cst_170
  pointwise [e, v352_apply, v309_apply, v17_apply, v25_apply, v315_apply]
  unfold OddMath.tokZ OddMath.dz
  refine Eq.trans ?_ (OddMath.five_sum _ _ _ _ _ n)
  refine congr (congrArg HAdd.hAdd (congr (congrArg HAdd.hAdd (congrArg (· + _) (congrArg (· + _) ?_))) ?_)) rfl
  · exact dite_congr rfl (fun _ => mul_comm _ _) fun _ => rfl
  · refine dite_congr rfl (fun _ => ?_) fun _ => rfl
    rw [mul_comm (rZ x0 x1 x8 i _), mul_assoc, mul_assoc, mul_assoc]

theorem v742_apply (hR : Reals x0 x1 x2 x3 x4 x5 x6 x7 x8 x9) (i : Fin 8192) (k : Fin 1024) :
    val_main_v742 (F := Ideal) x0 x1 x2 x3 x4 x5 x6 x7 x8 x9 (ix2 i k) =
      OddMath.tokN (rZ x0 x1 x8) (rL x0 x1 x3 x4 x8) (rD x2 x9) (fun j c => x3 (ix2 j c)) (fun j c => x7 (ix2 j c)) (fun c => x5 (ix2 0 c)) (fun c => x6 (ix2 0 c)) (fun n k => x1 (ix2 k n)) i k := by
  have e := v741_apply hR
  unfold val_main_v742
  pointwise [e, OddMath.tokN]

theorem v763_apply (hR : Reals x0 x1 x2 x3 x4 x5 x6 x7 x8 x9) (i : Fin 8192) (n : Fin 2560) :
    val_main_v763 (F := Ideal) x0 x1 x2 x3 x4 x5 x6 x7 x8 x9 (ix2 i n) =
      OddMath.tokZ (rZ x0 x1 x8) (rL x0 x1 x3 x4 x8) (rD x2 x9) (fun j c => x3 (ix2 j c)) (fun j c => x7 (ix2 j c)) (fun c => x5 (ix2 0 c)) (fun c => x6 (ix2 0 c)) i n := by
  have e := v741_apply hR
  unfold val_main_v763
  pointwise [e]

theorem v745_apply (hR : Reals x0 x1 x2 x3 x4 x5 x6 x7 x8 x9) (k : Fin 1024) :
    val_main_v745 (F := Ideal) x0 x1 x2 x3 x4 x5 x6 x7 x8 x9 (ix2 0 k) =
      OddMath.sumG (rZ x0 x1 x8) (rL x0 x1 x3 x4 x8) (rD x2 x9) (fun j c => x3 (ix2 j c)) (fun j c => x7 (ix2 j c)) (fun c => x5 (ix2 0 c)) (fun c => x6 (ix2 0 c)) (fun i k => x0 (ix2 i k)) (fun n k => x1 (ix2 k n)) k := by
  have e := v742_apply hR
  unfold val_main_v745 val_main_v744 val_main_v743 val_main_v13 val_main_v12 val_main_v8 val_main_v7 val_main_v5
    val_main_v3 val_main_v2 val_main_v1 val_main_cst_0 val_main_v4 val_main_cst_1 val_main_v6 val_main_cst_2
    val_main_cst_171
  pointwise [e, OddMath.sumG, FfnMath.unit, FfnMath.inv, FfnMath.msq]
  exact Finset.sum_congr rfl fun i _ => mul_comm _ _

theorem v747_apply (hR : Reals x0 x1 x2 x3 x4 x5 x6 x7 x8 x9) (i : Fin 8192) (k : Fin 1024) :
    val_main_v747 (F := Ideal) x0 x1 x2 x3 x4 x5 x6 x7 x8 x9 (ix2 i k) =
      OddMath.tokN (rZ x0 x1 x8) (rL x0 x1 x3 x4 x8) (rD x2 x9) (fun j c => x3 (ix2 j c)) (fun j c => x7 (ix2 j c)) (fun c => x5 (ix2 0 c)) (fun c => x6 (ix2 0 c)) (fun n k => x1 (ix2 k n)) i k * x8 (ix2 0 k) := by
  have e := v742_apply hR
  unfold val_main_v747 val_main_v746
  pointwise [e]

theorem v758_apply (hR : Reals x0 x1 x2 x3 x4 x5 x6 x7 x8 x9) (i : Fin 8192) (k : Fin 1024) :
    val_main_v758 (F := Ideal) x0 x1 x2 x3 x4 x5 x6 x7 x8 x9 (ix2 i k) =
      Ideal.div ((∑ j, x0 (ix2 i j) * (OddMath.tokN (rZ x0 x1 x8) (rL x0 x1 x3 x4 x8) (rD x2 x9) (fun j c => x3 (ix2 j c)) (fun j c => x7 (ix2 j c)) (fun c => x5 (ix2 0 c)) (fun c => x6 (ix2 0 c)) (fun n k => x1 (ix2 k n)) i j * x8 (ix2 0 j))) * (FfnMath.mhalf
        * Ideal.div (FfnMath.inv (fun k => x0 (ix2 i k))) (FfnMath.msq (fun k => x0 (ix2 i k))))) FfnMath.width := by
  have e := v747_apply hR
  unfold val_main_v758 val_main_v757 val_main_v756 val_main_v754 val_main_v750 val_main_v749 val_main_v748
    val_main_cst_172 val_main_v11 val_main_v10 val_main_cst_3 val_main_v9 val_main_v8 val_main_v7 val_main_v5
    val_main_v3 val_main_v2 val_main_v1 val_main_cst_0 val_main_v4 val_main_cst_1 val_main_v6 val_main_cst_2
    val_main_v755 val_main_cst_173 val_main_cst_174
  pointwise [e, FfnMath.inv, FfnMath.msq, FfnMath.mhalf, FfnMath.width]
  rw [Fin.sum_univ_one]

theorem v762_apply (hR : Reals x0 x1 x2 x3 x4 x5 x6 x7 x8 x9) (i : Fin 8192) (k : Fin 1024) :
    val_main_v762 (F := Ideal) x0 x1 x2 x3 x4 x5 x6 x7 x8 x9 (ix2 i k) =
      OddMath.tokX (rZ x0 x1 x8) (rL x0 x1 x3 x4 x8) (rD x2 x9) (fun j c => x3 (ix2 j c)) (fun j c => x7 (ix2 j c)) (fun c => x5 (ix2 0 c)) (fun c => x6 (ix2 0 c)) (fun i k => x0 (ix2 i k)) (fun i k => x9 (ix2 i k)) (fun k => x8 (ix2 0 k)) (fun n k => x1 (ix2 k n)) i k := by
  have e := v747_apply hR
  have e' := v758_apply hR
  have e8 : ∀ i, val_main_v8 (F := Ideal) x0 (ix2 i 0) = FfnMath.inv (fun k => x0 (ix2 i k)) := fun i => by
    unfold val_main_v8 val_main_v7 val_main_v5 val_main_v3 val_main_v2 val_main_v1 val_main_cst_0 val_main_v4
      val_main_cst_1 val_main_v6 val_main_cst_2
    pointwise [FfnMath.inv, FfnMath.msq]
  unfold val_main_v762 val_main_v760 val_main_v753 val_main_v752 val_main_v751 val_main_v759 val_main_v761
  pointwise [e, e', e8]
  exact FfnMath.dunit_eq (hR.r9 _) (fun k => hR.r0 _) (fun k => (hR.real_n i k).mul (hR.r8 _)) rfl k

end Cert.OddGradIdeal.Entries

end
-- ==== Proof.OddBwdClaim.lean ====
/-
  The odd layer's backward call: the frame of the reference, and the kernel's eight results equal to the reference's.
-/
module

public import proofs.«01_k».proof.Defs
public import proofs.«01_k».proof.Proof.OddBwdHost
public import proofs.«01_k».proof.Proof.OddGradTokens
public import proofs.«01_k».proof.Proof.FfnPre

@[expose] public section

set_option maxRecDepth 16384

noncomputable section

namespace Cert.OddBwdClaim

open Idealize.ShloMosaic Idealize.ShloMosaic.TcCoe Idealize.SL.Sem Cert.OddBwdIdeal Cert.OddBwdIdeal.Arrays
open Cert.OddGradIdeal.Entries (rD Reals)
open Cert.OddGradIdeal.Read

variable (m : (ℓ : Loc nD τ sig) → Buf (Elt Ideal) ℓ) (d : Dev nD)

/-- The precondition: every argument is an array of real numbers. -/
theorem reals [Cert.Pre_odd_finite.Facts] (h : Cert.Pre_OddBwdIdeal_odd_finite m) :
    Reals (y0 m d) (y1 m d) (y2 m d) (y3 m d) (y4 m d) (y5 m d) (y6 m d) (y7 m d) (y8 m d) (y9 m d) :=
  have h := h d
  ⟨FfnPre.real_of h.1, FfnPre.real_of h.2.1, FfnPre.real_of h.2.2.1, FfnPre.real_of h.2.2.2.1, FfnPre.real_of h.2.2.2.2.1,
    FfnPre.real_of h.2.2.2.2.2.1, FfnPre.real_of h.2.2.2.2.2.2.1, FfnPre.real_of h.2.2.2.2.2.2.2.1,
    FfnPre.real_of h.2.2.2.2.2.2.2.2.1, FfnPre.real_of h.2.2.2.2.2.2.2.2.2⟩

theorem ad_fun : ad m d = rD (y2 m d) (y9 m d) := by
  funext i; unfold ad rD; rw [adh_fun, ao_fun]

/-! ## The eight results -/

variable {m d} (h : Reals (y0 m d) (y1 m d) (y2 m d) (y3 m d) (y4 m d) (y5 m d) (y6 m d) (y7 m d) (y8 m d) (y9 m d))
include h

theorem eq15 : out15 m d = val_main_v762 (F := Ideal) (y0 m d) (y1 m d) (y2 m d) (y3 m d) (y4 m d) (y5 m d) (y6 m d) (y7 m d) (y8 m d) (y9 m d) := by
  funext j
  obtain ⟨i, k, rfl⟩ : ∃ i k, j = ix2 i k := ⟨_, _, eq_ix2 (show S8192x1024.Idx from j)⟩
  refine Eq.trans ?_ (Cert.OddGradIdeal.Entries.v762_apply h i k).symm
  show OddMath.tokX (az m d) (av m d) (ad m d) (acw m d) (adw m d) (alg m d) (alb m d) (ah m d) (adh m d) (ag m d) (ai m d) i k = _
  rw [az_fun, av_fun, ad_fun, acw_fun, adw_fun, alg_fun, alb_fun, ah_fun, adh_fun, ag_fun, ai_fun]

theorem eq16 : out16 m d = val_main_v763 (F := Ideal) (y0 m d) (y1 m d) (y2 m d) (y3 m d) (y4 m d) (y5 m d) (y6 m d) (y7 m d) (y8 m d) (y9 m d) := by
  funext j
  obtain ⟨i, n, rfl⟩ : ∃ i n, j = ix2 i n := ⟨_, _, eq_ix2 (show S8192x2560.Idx from j)⟩
  refine Eq.trans ?_ (Cert.OddGradIdeal.Entries.v763_apply h i n).symm
  show OddMath.tokZ (az m d) (av m d) (ad m d) (acw m d) (adw m d) (alg m d) (alb m d) i n = _
  rw [az_fun, av_fun, ad_fun, acw_fun, adw_fun, alg_fun, alb_fun]

theorem eq17 : out17 m d = val_main_v732 (F := Ideal) (y0 m d) (y1 m d) (y2 m d) (y3 m d) (y4 m d) (y5 m d) (y6 m d) (y8 m d) (y9 m d) := by
  funext j
  obtain ⟨i, c, rfl⟩ : ∃ i c, j = ix2 i c := ⟨_, _, eq_ix2 (show S31x512.Idx from j)⟩
  refine Eq.trans ?_ (Cert.OddGradIdeal.Entries.v732_apply h i c).symm
  show OddMath.sumCw (az m d) (av m d) (ad m d) (alg m d) (alb m d) i c = _
  rw [az_fun, av_fun, ad_fun, alg_fun, alb_fun]

theorem eq18 : out18 m d = val_main_v393 (F := Ideal) (y0 m d) (y1 m d) (y2 m d) (y3 m d) (y4 m d) (y5 m d) (y6 m d) (y8 m d) (y9 m d) := by
  funext j
  obtain ⟨c, rfl⟩ : ∃ c, j = ix2 0 c := ⟨_, eq_row j⟩
  refine Eq.trans ?_ (Cert.OddGradIdeal.Entries.v393_apply h c).symm
  show OddMath.sumCb (av m d) (ad m d) (alg m d) (alb m d) c = _
  rw [av_fun, ad_fun, alg_fun, alb_fun]

theorem eq19 : out19 m d = val_main_v365 (F := Ideal) (y0 m d) (y1 m d) (y2 m d) (y3 m d) (y4 m d) (y5 m d) (y6 m d) (y8 m d) (y9 m d) := by
  funext j
  obtain ⟨c, rfl⟩ : ∃ c, j = ix2 0 c := ⟨_, eq_row j⟩
  refine Eq.trans ?_ (Cert.OddGradIdeal.Entries.v365_apply h c).symm
  show OddMath.sumLg (av m d) (ad m d) (alg m d) (alb m d) c = _
  rw [av_fun, ad_fun, alg_fun, alb_fun]

theorem eq20 : out20 m d = val_main_v362 (F := Ideal) (y0 m d) (y1 m d) (y2 m d) (y3 m d) (y4 m d) (y5 m d) (y6 m d) (y8 m d) (y9 m d) := by
  funext j
  obtain ⟨c, rfl⟩ : ∃ c, j = ix2 0 c := ⟨_, eq_row j⟩
  refine Eq.trans ?_ (Cert.OddGradIdeal.Entries.v362_apply h c).symm
  show OddMath.sumLb (av m d) (ad m d) (alg m d) (alb m d) c = _
  rw [av_fun, ad_fun, alg_fun, alb_fun]

omit h in
theorem eq21 : out21 m d = val_main_v350 (F := Ideal) (y0 m d) (y1 m d) (y2 m d) (y8 m d) (y9 m d) := by
  funext j
  obtain ⟨i, c, rfl⟩ : ∃ i c, j = ix2 i c := ⟨_, _, eq_ix2 (show S3x512.Idx from j)⟩
  refine Eq.trans ?_ (Cert.OddGradIdeal.Entries.v350_apply i c).symm
  show OddMath.sumDw (az m d) (ad m d) i c = _
  rw [az_fun, ad_fun]

theorem eq22 : out22 m d = val_main_v745 (F := Ideal) (y0 m d) (y1 m d) (y2 m d) (y3 m d) (y4 m d) (y5 m d) (y6 m d) (y7 m d) (y8 m d) (y9 m d) := by
  funext j
  obtain ⟨k, rfl⟩ : ∃ k, j = ix2 0 k := ⟨_, eq_row j⟩
  refine Eq.trans ?_ (Cert.OddGradIdeal.Entries.v745_apply h k).symm
  show OddMath.sumG (az m d) (av m d) (ad m d) (acw m d) (adw m d) (alg m d) (alb m d) (ah m d) (ai m d) k = _
  rw [az_fun, av_fun, ad_fun, acw_fun, adw_fun, alg_fun, alb_fun, ah_fun, ai_fun]

omit h

/-! ## The claims -/

/-- The reference runs and leaves its arguments as they were; it has no semaphore. -/
theorem frame_ref [Cert.OddGradIdeal.Facts] : Cert.quiescent_OddGradIdeal := fun m ρ _ =>
  (θ_run Cert.OddGradIdeal.defs _ _).mono (fun r h => ⟨fun c => (h c).2.2.2.2.2.2.2.2, sem_eq_zero_of_no_sems (by decide) r.2⟩)
    (Cert.OddGradIdeal.Value.run (F := Ideal) m ρ)

/-- The kernel and the reference leave the same eight arrays, for arguments that are real numbers. -/
theorem algebraic [Cert.Pre_odd_finite.Facts] : Cert.algebraic_OddBwdIdeal_OddGradIdeal_pre_odd_finite := by
  intro m ρ m' ρ' hpre hag
  refine ⟨fun c => out15 m c, fun c => out16 m c, fun c => out17 m c, fun c => out18 m c, fun c => out19 m c, fun c => out20 m c,
    fun c => out21 m c, fun c => out22 m c, ?_, ?_⟩
  · refine (θ_run Cert.OddBwdIdeal.defs _ _).mono (fun r h c => ?_) (Cert.OddBwdIdeal.Value.run_blocks m ρ)
    obtain ⟨h0, h1, h2, h3, h4, h5, h6, h7, hargs⟩ := h c
    exact ⟨h0.trans (arr15 m c), h1.trans (arr16 m c), h2.trans (arr17 m c), h3.trans (arr18 m c), h4.trans (arr19 m c),
      h5.trans (arr20 m c), h6.trans (arr21 m c), h7.trans (arr22 m c), hargs⟩
  · refine (θ_run Cert.OddGradIdeal.defs _ _).mono (fun r h c => ?_) (Cert.OddGradIdeal.Value.run (F := Ideal) m' ρ')
    obtain ⟨h0, h1, h2, h3, h4, h5, h6, h7, hargs⟩ := h c
    obtain ⟨a0, a1, a2, a3, a4, a5, a6, a7, a8, a9⟩ := hag c
    have hr := reals m c hpre
    replace a0 : StableHlo.launchContents m' c (Proc.devRef .tc Cert.OddGradIdeal.main_arg0) = y0 m c := a0
    replace a1 : StableHlo.launchContents m' c (Proc.devRef .tc Cert.OddGradIdeal.main_arg1) = y1 m c := a1
    replace a2 : StableHlo.launchContents m' c (Proc.devRef .tc Cert.OddGradIdeal.main_arg2) = y2 m c := a2
    replace a3 : StableHlo.launchContents m' c (Proc.devRef .tc Cert.OddGradIdeal.main_arg3) = y3 m c := a3
    replace a4 : StableHlo.launchContents m' c (Proc.devRef .tc Cert.OddGradIdeal.main_arg4) = y4 m c := a4
    replace a5 : StableHlo.launchContents m' c (Proc.devRef .tc Cert.OddGradIdeal.main_arg5) = y5 m c := a5
    replace a6 : StableHlo.launchContents m' c (Proc.devRef .tc Cert.OddGradIdeal.main_arg6) = y6 m c := a6
    replace a7 : StableHlo.launchContents m' c (Proc.devRef .tc Cert.OddGradIdeal.main_arg7) = y7 m c := a7
    replace a8 : StableHlo.launchContents m' c (Proc.devRef .tc Cert.OddGradIdeal.main_arg8) = y8 m c := a8
    replace a9 : StableHlo.launchContents m' c (Proc.devRef .tc Cert.OddGradIdeal.main_arg9) = y9 m c := a9
    refine ⟨(h0.trans (val_main_v762_eq _)).trans ?_, (h1.trans (val_main_v763_eq _)).trans ?_,
      (h2.trans (val_main_v732_eq _)).trans ?_, (h3.trans (val_main_v393_eq _)).trans ?_,
      (h4.trans (val_main_v365_eq _)).trans ?_, (h5.trans (val_main_v362_eq _)).trans ?_,
      (h6.trans (val_main_v350_eq _)).trans ?_, (h7.trans (val_main_v745_eq _)).trans ?_, hargs⟩
    · rw [a0, a1, a2, a3, a4, a5, a6, a7, a8, a9]; exact (eq15 hr).symm
    · rw [a0, a1, a2, a3, a4, a5, a6, a7, a8, a9]; exact (eq16 hr).symm
    · rw [a0, a1, a2, a3, a4, a5, a6, a8, a9]; exact (eq17 hr).symm
    · rw [a0, a1, a2, a3, a4, a5, a6, a8, a9]; exact (eq18 hr).symm
    · rw [a0, a1, a2, a3, a4, a5, a6, a8, a9]; exact (eq19 hr).symm
    · rw [a0, a1, a2, a3, a4, a5, a6, a8, a9]; exact (eq20 hr).symm
    · rw [a0, a1, a2, a8, a9]; exact (eq21 (m := m) (d := c)).symm
    · rw [a0, a1, a2, a3, a4, a5, a6, a7, a8, a9]; exact (eq22 hr).symm

end Cert.OddBwdClaim

end
-- ==== Proof.FwdArrays.lean ====
/-
  The feed-forward block forward, without the loss: what the four result arrays hold after the run. A grid point computes what
  one of the call with the loss computes before the loss, so the entries of its blocks are read by that call's lemmas.
-/
module

public import proofs.«01_k».proof.Proof.LossBlocks
public import proofs.«01_k».proof.Proof.Gen.FfnFwdIdeal.Value

@[expose] public section

set_option maxRecDepth 16384

noncomputable section

namespace Cert.FfnFwdIdeal.Arrays

open Idealize.ShloMosaic Idealize.ShloMosaic.TcCoe Idealize.SL.Sem Cert.FfnFwdIdeal Cert.FfnFwdIdeal.Gen
open Cert.FfnLossIdeal.Blocks (stateV stateV_apply wLo wHi gateLo gateHi upLo upHi halves_apply)

variable (m : (ℓ : Loc nD τ sig) → Buf (Elt Ideal) ℓ) (d : Dev nD)

/-! ## The arguments, and the arrays that the region starts from -/

abbrev y0 : Vec Ideal S8192x1024 .f32 := m ((d : Thread nD τ).loc main_arg0)
abbrev y1 : Vec Ideal S1x1024 .f32 := m ((d : Thread nD τ).loc main_arg1)
abbrev y2 : Vec Ideal S1024x2816 .f32 := m ((d : Thread nD τ).loc main_arg2)
abbrev y3 : Vec Ideal S1024x2816 .f32 := m ((d : Thread nD τ).loc main_arg3)
abbrev y4 : Vec Ideal S2816x1024 .f32 := m ((d : Thread nD τ).loc main_arg4)

/-- The activations' rows, the gain, and the weights by hidden unit and feature, from the arguments. -/
abbrev yh (i : Fin 8192) (k : Fin 1024) : EReal := y0 m d (ix2 i k)
abbrev yg (k : Fin 1024) : EReal := y1 m d (ix2 0 k)
abbrev ywg (n : Fin 2816) (k : Fin 1024) : EReal := y2 m d (ix2 k n)
abbrev ywu (n : Fin 2816) (k : Fin 1024) : EReal := y3 m d (ix2 k n)
abbrev ywd (n : Fin 2816) (k : Fin 1024) : EReal := y4 m d (ix2 n k)

theorem v1_apply (n : Fin 2816) (k : Fin 1024) : (V m d main_v1 : Vec Ideal S2816x1024 .bf16) (ix2 n k) = ywg m d n k := by
  dsimp only [V, hostOps0]; after_results
  pointwise
theorem v3_apply (n : Fin 2816) (k : Fin 1024) : (V m d main_v3 : Vec Ideal S2816x1024 .bf16) (ix2 n k) = ywu m d n k := by
  dsimp only [V, hostOps0]; after_results
  pointwise
theorem v4_apply (n : Fin 2816) (k : Fin 1024) : (V m d main_v4 : Vec Ideal S2816x1024 .bf16) (ix2 n k) = ywd m d n k := by
  dsimp only [V, hostOps0]; after_results
  pointwise

/-! ## The blocks -/

/-- The row of an array that row `p` of block `t` is. -/
abbrev row (t : Fin cfg0.N) (p : Fin 256) : Fin 8192 := ⟨256 * t.val + p.val, by have := lt_of_lt_of_eq t.isLt N_0; omega⟩

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![t.val, 0] := (by decide +kernel : ∀ t : Fin grid0.N, _)
theorem e8 : ∀ t : Fin cfg0.N, win0_8.index t = ![t.val, 0] := (by decide +kernel : ∀ t : Fin grid0.N, _)

section
variable (t : Fin cfg0.N) (p : Fin 256)

/-- The blocks of the five inputs at point `t`. -/
abbrev bh : Vec Ideal S256x1024 .f32 := iblk m d 0 t
abbrev bg : Vec Ideal S1x1024 .f32 := iblk m d 1 t
abbrev bwg : Vec Ideal S2816x1024 .bf16 := iblk m d 2 t
abbrev bwu : Vec Ideal S2816x1024 .bf16 := iblk m d 3 t
abbrev bwd : Vec Ideal S2816x1024 .bf16 := iblk m d 4 t

theorem bh_row : (fun k => bh m d t (ix2 p k)) = yh m d (row t p) := by
  funext k
  refine Eq.trans ?_ (congrFun (V_main_arg0 m d) (ix2 (row t p) k))
  blk_simp [iblk]
  refine congrArg _ ?_
  blk_ext [e0]
theorem bg_fun : (fun k => bg m d t (ix2 0 k)) = yg m d := by
  funext k
  refine Eq.trans ?_ (congrFun (V_main_arg1 m d) (ix2 0 k))
  blk_simp [iblk]
  refine congrArg _ ?_
  blk_ext [e1]
theorem bwg_fun : (fun n k => bwg m d t (ix2 n k)) = ywg m d := by
  funext n k
  refine Eq.trans ?_ (v1_apply m d n k)
  blk_simp [iblk]
  refine congrArg _ ?_
  blk_ext [e2]
theorem bwu_fun : (fun n k => bwu m d t (ix2 n k)) = ywu m d := by
  funext n k
  refine Eq.trans ?_ (v3_apply m d n k)
  blk_simp [iblk]
  refine congrArg _ ?_
  blk_ext [e3]
theorem bwd_fun : (fun n k => bwd m d t (ix2 n k)) = ywd m d := by
  funext n k
  refine Eq.trans ?_ (v4_apply m d n k)
  blk_simp [iblk]
  refine congrArg _ ?_
  blk_ext [e4]
end

/-! ## The four results -/

/-- The rows after the block. -/
abbrev out5 : Buf (Elt Ideal) ((d : Thread nD τ).loc main_v5_0) := fun i : S8192x1024.Idx =>
  LossMath.state (yh m d (i 0)) (yg m d) (ywg m d) (ywu m d) (ywd m d) (i 1)
/-- The normalised activations. -/
abbrev out6 : Buf (Elt Ideal) ((d : Thread nD τ).loc main_v5_1) := fun i : S8192x1024.Idx =>
  FfnMath.unit (yh m d (i 0)) (i 1) * yg m d (i 1)
/-- `gate` and `up`. -/
abbrev out7 : Buf (Elt Ideal) ((d : Thread nD τ).loc main_v5_2) := fun i : S8192x2816.Idx =>
  FfnMath.hidden (yh m d (i 0)) (yg m d) (ywg m d) (i 1)
abbrev out8 : Buf (Elt Ideal) ((d : Thread nD τ).loc main_v5_3) := fun i : S8192x2816.Idx =>
  FfnMath.hidden (yh m d (i 0)) (yg m d) (ywu m d) (i 1)

section
variable (t : Fin cfg0.N) (p : Fin 256)

theorem point5 (k : Fin 1024) : (dats m 0 d).after 5 t (ix2 p k) = out5 m d (ix2 (row t p) k) := by
  rw [Gen.after0_5]; unfold outsAt0; frame_out
  refine (stateV_apply (bh m d t) (bg m d t) (bwg m d t) (bwu m d t) (bwd m d t) p k).trans ?_
  rw [bh_row, bg_fun, bwg_fun, bwu_fun, bwd_fun]
  rfl
theorem point6 (k : Fin 1024) : (dats m 0 d).after 6 t (ix2 p k) = out6 m d (ix2 (row t p) k) := by
  rw [Gen.after0_6]; unfold outsAt0; frame_out
  refine (Cert.FfnLossIdeal.Blocks.pay3_apply (bh m d t) (bg m d t) p k).trans ?_
  exact congr (congrArg HMul.hMul (congrArg (FfnMath.unit · k) (bh_row m d t p))) (congrFun (bg_fun m d t) k)
theorem point7 (n : Fin 2816) : (dats m 0 d).after 7 t (ix2 p n) = out7 m d (ix2 (row t p) n) := by
  rw [Gen.after0_7]; unfold outsAt0; frame_out
  refine (halves_apply _ _ _ p (fun n => gateHi (bh m d t) (bg m d t) (bwg m d t) p n)
    (fun n => gateLo (bh m d t) (bg m d t) (bwg m d t) p n) n).trans ?_
  show FfnMath.hidden _ _ _ n = _
  rw [bh_row, bg_fun, bwg_fun]
  rfl
theorem point8 (n : Fin 2816) : (dats m 0 d).after 8 t (ix2 p n) = out8 m d (ix2 (row t p) n) := by
  rw [Gen.after0_8]; unfold outsAt0; frame_out
  refine (halves_apply _ _ _ p (fun n => upHi (bh m d t) (bg m d t) (bwu m d t) p n)
    (fun n => upLo (bh m d t) (bg m d t) (bwu m d t) p n) n).trans ?_
  show FfnMath.hidden _ _ _ n = _
  rw [bh_row, bg_fun, bwu_fun]
  rfl
end

theorem arr5 : (dats m 0 d).arrAt 5 cfg0.N = out5 m d := by
  refine (dats m 0 d).arrAt_eq_of_covers 5 _ (by decide +kernel) fun t hf y => ?_
  blk_simp
  have hy : ((cfg0.win 5).blk t).view.emb y = ix2 (row t ((show S256x1024.Idx from y) 0)) ((show S256x1024.Idx from y) 1) := by
    blk_ext [e5]
  exact (congrArg _ (eq_ix2 (show S256x1024.Idx from y))).trans ((point5 m d t _ _).trans (congrArg (out5 m d) hy.symm))

theorem arr6 : (dats m 0 d).arrAt 6 cfg0.N = out6 m d := by
  refine (dats m 0 d).arrAt_eq_of_covers 6 _ (by decide +kernel) fun t hf y => ?_
  blk_simp
  have hy : ((cfg0.win 6).blk t).view.emb y = ix2 (row t ((show S256x1024.Idx from y) 0)) ((show S256x1024.Idx from y) 1) := by
    blk_ext [e6]
  exact (congrArg _ (eq_ix2 (show S256x1024.Idx from y))).trans ((point6 m d t _ _).trans (congrArg (out6 m d) hy.symm))

theorem arr7 : (dats m 0 d).arrAt 7 cfg0.N = out7 m d := by
  refine (dats m 0 d).arrAt_eq_of_covers 7 _ (by decide +kernel) fun t hf y => ?_
  blk_simp
  have hy : ((cfg0.win 7).blk t).view.emb y = ix2 (row t ((show S256x2816.Idx from y) 0)) ((show S256x2816.Idx from y) 1) := by
    blk_ext [e7]
  exact (congrArg _ (eq_ix2 (show S256x2816.Idx from y))).trans ((point7 m d t _ _).trans (congrArg (out7 m d) hy.symm))

theorem arr8 : (dats m 0 d).arrAt 8 cfg0.N = out8 m d := by
  refine (dats m 0 d).arrAt_eq_of_covers 8 _ (by decide +kernel) fun t hf y => ?_
  blk_simp
  have hy : ((cfg0.win 8).blk t).view.emb y = ix2 (row t ((show S256x2816.Idx from y) 0)) ((show S256x2816.Idx from y) 1) := by
    blk_ext [e8]
  exact (congrArg _ (eq_ix2 (show S256x2816.Idx from y))).trans ((point8 m d t _ _).trans (congrArg (out8 m d) hy.symm))

end Cert.FfnFwdIdeal.Arrays

end
-- ==== Proof.FwdClaim.lean ====
/-
  The feed-forward block forward, without the loss: the frame of the reference, and the kernel's four results equal to the
  reference's.
-/
module

public import proofs.«01_k».proof.Defs
public import proofs.«01_k».proof.Proof.FwdArrays
public import proofs.«01_k».proof.Proof.LossRef
public import proofs.«01_k».proof.Proof.Gen.FwdRefIdeal.Run
public import proofs.«01_k».proof.Proof.Gen.FwdRefIdeal.Read

@[expose] public section

set_option maxRecDepth 16384

noncomputable section

namespace Cert.FwdClaim

open Idealize.ShloMosaic Idealize.ShloMosaic.TcCoe Idealize.SL.Sem Cert.FfnFwdIdeal Cert.FfnFwdIdeal.Arrays
open Cert.FwdRefIdeal.Read

variable (m : (ℓ : Loc nD τ sig) → Buf (Elt Ideal) ℓ) (d : Dev nD)

/-! ## The four results: the reference's block is the one that the loss's reference starts with -/

theorem eq5 : out5 m d = val_main_v29 (F := Ideal) (y0 m d) (y1 m d) (y2 m d) (y3 m d) (y4 m d) := by
  funext j
  obtain ⟨i, k, rfl⟩ : ∃ i k, j = ix2 i k := ⟨_, _, eq_ix2 (show S8192x1024.Idx from j)⟩
  exact (Cert.LossRefIdeal.Entries.v17_apply (y0 m d) (y1 m d) (y2 m d) (y3 m d) (y4 m d) i k).symm

theorem eq6 : out6 m d = val_main_v30 (F := Ideal) (y0 m d) (y1 m d) := by
  funext j
  obtain ⟨i, k, rfl⟩ : ∃ i k, j = ix2 i k := ⟨_, _, eq_ix2 (show S8192x1024.Idx from j)⟩
  exact (Cert.LossRefIdeal.Entries.v79_apply (y0 m d) (y1 m d) i k).symm

theorem eq7 : out7 m d = val_main_v32 (F := Ideal) (y0 m d) (y1 m d) (y2 m d) := by
  funext j
  obtain ⟨i, n, rfl⟩ : ∃ i n, j = ix2 i n := ⟨_, _, eq_ix2 (show S8192x2816.Idx from j)⟩
  exact (Cert.LossRefIdeal.Entries.v81_apply (y0 m d) (y1 m d) (y2 m d) i n).symm

theorem eq8 : out8 m d = val_main_v34 (F := Ideal) (y0 m d) (y1 m d) (y3 m d) := by
  funext j
  obtain ⟨i, n, rfl⟩ : ∃ i n, j = ix2 i n := ⟨_, _, eq_ix2 (show S8192x2816.Idx from j)⟩
  exact (Cert.LossRefIdeal.Entries.v83_apply (y0 m d) (y1 m d) (y3 m d) i n).symm

/-! ## The claims -/

/-- The reference runs and leaves its arguments as they were; it has no semaphore. -/
theorem frame_ref [Cert.FwdRefIdeal.Facts] : Cert.quiescent_FwdRefIdeal := fun m ρ _ =>
  (θ_run Cert.FwdRefIdeal.defs _ _).mono (fun r h => ⟨fun c => (h c).2.2.2.2, sem_eq_zero_of_no_sems (by decide) r.2⟩)
    (Cert.FwdRefIdeal.Value.run (F := Ideal) m ρ)

/-- The kernel and the reference leave the same four arrays, whatever the arguments. -/
theorem algebraic : Cert.algebraic_FfnFwdIdeal_FwdRefIdeal := by
  intro m ρ m' ρ' hpre hag
  refine ⟨fun c => out5 m c, fun c => out6 m c, fun c => out7 m c, fun c => out8 m c, ?_, ?_⟩
  · refine (θ_run Cert.FfnFwdIdeal.defs _ _).mono (fun r h c => ?_) (Cert.FfnFwdIdeal.Value.run_blocks m ρ)
    obtain ⟨h0, h1, h2, h3, hargs⟩ := h c
    exact ⟨h0.trans (arr5 m c), h1.trans (arr6 m c), h2.trans (arr7 m c), h3.trans (arr8 m c), hargs⟩
  · refine (θ_run Cert.FwdRefIdeal.defs _ _).mono (fun r h c => ?_) (Cert.FwdRefIdeal.Value.run (F := Ideal) m' ρ')
    obtain ⟨h0, h1, h2, h3, hargs⟩ := h c
    obtain ⟨a0, a1, a2, a3, a4⟩ := hag c
    refine ⟨(h0.trans (val_main_v29_eq _ _ _ _ _)).trans ?_, (h1.trans (val_main_v30_eq _ _)).trans ?_,
      (h2.trans (val_main_v32_eq _ _ _)).trans ?_, (h3.trans (val_main_v34_eq _ _ _)).trans ?_, hargs⟩
    · rw [a0, a1, a2, a3, a4]; exact (eq5 m c).symm
    · rw [a0, a1]; exact (eq6 m c).symm
    · rw [a0, a1, a2]; exact (eq7 m c).symm
    · rw [a0, a1, a3]; exact (eq8 m c).symm

end Cert.FwdClaim

end
-- ==== Proof.lean ====
module

public import proofs.«01_k».proof.Defs
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnGradIdeal
public import proofs.«01_k».proof.Proof.Gen.Pre_finite
public import proofs.«01_k».proof.Proof.Gen.FfnBwdIdeal.Value
public import proofs.«01_k».proof.Proof.Gen.FfnGradIdeal.Run
public import proofs.«01_k».proof.Proof.Gen.FfnGradIdeal.Read
public import proofs.«01_k».proof.Proof.Gen.DwHid
public import proofs.«01_k».proof.Proof.Gen.DwHid.Skeleton
public import proofs.«01_k».proof.Proof.Gen.DwHid.Launch
public import proofs.«01_k».proof.Proof.Gen.DwHid.Points
public import proofs.«01_k».proof.Proof.Gen.DwHid.Frame
public import proofs.«01_k».proof.Proof.Gen.DwHidIdeal
public import proofs.«01_k».proof.Proof.Gen.DwHidIdeal.Skeleton
public import proofs.«01_k».proof.Proof.Gen.DwHidIdeal.Launch
public import proofs.«01_k».proof.Proof.Gen.DwHidIdeal.Points
public import proofs.«01_k».proof.Proof.Gen.DwHidIdeal.Frame
public import proofs.«01_k».proof.Proof.Gen.DwHidIdeal.Value
public import proofs.«01_k».proof.Proof.Gen.DwHidGradIdeal
public import proofs.«01_k».proof.Proof.Gen.DwHidGradIdeal.Run
public import proofs.«01_k».proof.Proof.Gen.DwHidGradIdeal.Read
public import proofs.«01_k».proof.Proof.Gen.DwDown
public import proofs.«01_k».proof.Proof.Gen.DwDown.Skeleton
public import proofs.«01_k».proof.Proof.Gen.DwDown.Launch
public import proofs.«01_k».proof.Proof.Gen.DwDown.Points
public import proofs.«01_k».proof.Proof.Gen.DwDown.Frame
public import proofs.«01_k».proof.Proof.Gen.DwDownIdeal
public import proofs.«01_k».proof.Proof.Gen.DwDownIdeal.Skeleton
public import proofs.«01_k».proof.Proof.Gen.DwDownIdeal.Launch
public import proofs.«01_k».proof.Proof.Gen.DwDownIdeal.Points
public import proofs.«01_k».proof.Proof.Gen.DwDownIdeal.Frame
public import proofs.«01_k».proof.Proof.Gen.DwDownIdeal.Value
public import proofs.«01_k».proof.Proof.Gen.DwDownGradIdeal
public import proofs.«01_k».proof.Proof.Gen.DwDownGradIdeal.Run
public import proofs.«01_k».proof.Proof.Gen.DwDownGradIdeal.Read
public import proofs.«01_k».proof.Proof.Gen.DwIn
public import proofs.«01_k».proof.Proof.Gen.DwIn.Skeleton
public import proofs.«01_k».proof.Proof.Gen.DwIn.Launch
public import proofs.«01_k».proof.Proof.Gen.DwIn.Points
public import proofs.«01_k».proof.Proof.Gen.DwIn.Frame
public import proofs.«01_k».proof.Proof.Gen.DwInIdeal
public import proofs.«01_k».proof.Proof.Gen.DwInIdeal.Skeleton
public import proofs.«01_k».proof.Proof.Gen.DwInIdeal.Launch
public import proofs.«01_k».proof.Proof.Gen.DwInIdeal.Points
public import proofs.«01_k».proof.Proof.Gen.DwInIdeal.Frame
public import proofs.«01_k».proof.Proof.Gen.DwInIdeal.Value
public import proofs.«01_k».proof.Proof.Gen.DwInGradIdeal
public import proofs.«01_k».proof.Proof.Gen.DwInGradIdeal.Run
public import proofs.«01_k».proof.Proof.Gen.DwInGradIdeal.Read
public import proofs.«01_k».proof.Proof.Gen.DwOut
public import proofs.«01_k».proof.Proof.Gen.DwOut.Skeleton
public import proofs.«01_k».proof.Proof.Gen.DwOut.Launch
public import proofs.«01_k».proof.Proof.Gen.DwOut.Points
public import proofs.«01_k».proof.Proof.Gen.DwOut.Frame
public import proofs.«01_k».proof.Proof.Gen.DwOutIdeal
public import proofs.«01_k».proof.Proof.Gen.DwOutIdeal.Skeleton
public import proofs.«01_k».proof.Proof.Gen.DwOutIdeal.Launch
public import proofs.«01_k».proof.Proof.Gen.DwOutIdeal.Points
public import proofs.«01_k».proof.Proof.Gen.DwOutIdeal.Frame
public import proofs.«01_k».proof.Proof.Gen.DwOutIdeal.Value
public import proofs.«01_k».proof.Proof.Gen.DwOutGradIdeal
public import proofs.«01_k».proof.Proof.Gen.DwOutGradIdeal.Run
public import proofs.«01_k».proof.Proof.Gen.DwOutGradIdeal.Read
public import proofs.«01_k».proof.Proof.Gen.FfnLoss
public import proofs.«01_k».proof.Proof.Gen.FfnLoss.Skeleton
public import proofs.«01_k».proof.Proof.Gen.FfnLoss.Launch
public import proofs.«01_k».proof.Proof.Gen.FfnLoss.Points
public import proofs.«01_k».proof.Proof.Gen.FfnLoss.Frame
public import proofs.«01_k».proof.Proof.Gen.FfnLossIdeal
public import proofs.«01_k».proof.Proof.Gen.FfnLossIdeal.Skeleton
public import proofs.«01_k».proof.Proof.Gen.FfnLossIdeal.Launch
public import proofs.«01_k».proof.Proof.Gen.FfnLossIdeal.Points
public import proofs.«01_k».proof.Proof.Gen.FfnLossIdeal.Frame
public import proofs.«01_k».proof.Proof.Gen.FfnLossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.OddFwd
public import proofs.«01_k».proof.Proof.Gen.OddFwd.Skeleton
public import proofs.«01_k».proof.Proof.Gen.OddFwd.Launch
public import proofs.«01_k».proof.Proof.Gen.OddFwd.Points
public import proofs.«01_k».proof.Proof.Gen.OddFwd.Frame
public import proofs.«01_k».proof.Proof.Gen.OddFwdIdeal
public import proofs.«01_k».proof.Proof.Gen.OddFwdIdeal.Skeleton
public import proofs.«01_k».proof.Proof.Gen.OddFwdIdeal.Launch
public import proofs.«01_k».proof.Proof.Gen.OddFwdIdeal.Points
public import proofs.«01_k».proof.Proof.Gen.OddFwdIdeal.Frame
public import proofs.«01_k».proof.Proof.Gen.OddFwdIdeal.Value
public import proofs.«01_k».proof.Proof.Gen.OddRefIdeal
public import proofs.«01_k».proof.Proof.Gen.OddRefIdeal.Run
public import proofs.«01_k».proof.Proof.Gen.OddRefIdeal.Read
public import proofs.«01_k».proof.Proof.Gen.OddBwd
public import proofs.«01_k».proof.Proof.Gen.OddBwd.Skeleton
public import proofs.«01_k».proof.Proof.Gen.OddBwd.Launch
public import proofs.«01_k».proof.Proof.Gen.OddBwd.Points
public import proofs.«01_k».proof.Proof.Gen.OddBwd.Frame
public import proofs.«01_k».proof.Proof.Gen.OddBwdIdeal
public import proofs.«01_k».proof.Proof.Gen.OddBwdIdeal.Skeleton
public import proofs.«01_k».proof.Proof.Gen.OddBwdIdeal.Launch
public import proofs.«01_k».proof.Proof.Gen.OddBwdIdeal.Points
public import proofs.«01_k».proof.Proof.Gen.OddBwdIdeal.Frame
public import proofs.«01_k».proof.Proof.Gen.OddBwdIdeal.Value
public import proofs.«01_k».proof.Proof.Gen.OddGradIdeal
public import proofs.«01_k».proof.Proof.Gen.OddGradIdeal.Run
public import proofs.«01_k».proof.Proof.Gen.OddGradIdeal.Read
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.Pre_odd_finite
public import proofs.«01_k».proof.Proof.Gen.Pre_loss_finite
public import proofs.«01_k».proof.Proof.FfnClaim
public import proofs.«01_k».proof.Proof.DwHidClaim
public import proofs.«01_k».proof.Proof.DwDownClaim
public import proofs.«01_k».proof.Proof.DwInClaim
public import proofs.«01_k».proof.Proof.DwOutClaim
public import proofs.«01_k».proof.Proof.LossClaim
public import proofs.«01_k».proof.Proof.OddClaim
public import proofs.«01_k».proof.Proof.OddBwdClaim
public import proofs.«01_k».proof.Proof.FwdClaim
public import Idealize.ShloMosaic.Adequacy
public import Idealize.ShloMosaic.Init

@[expose] public section

noncomputable section

namespace Cert.Proof

open Idealize.ShloMosaic Idealize.SL.Sem Cert.FfnBwd

theorem claim : Cert.Claim := ⟨Cert.FfnBwd.Gen.facts, Cert.FfnBwdIdeal.Gen.facts, Cert.FfnGradIdeal.Gen.facts,
    Cert.DwHid.Gen.facts, Cert.DwHidIdeal.Gen.facts, Cert.DwHidGradIdeal.Gen.facts,
    Cert.DwDown.Gen.facts, Cert.DwDownIdeal.Gen.facts, Cert.DwDownGradIdeal.Gen.facts,
    Cert.DwIn.Gen.facts, Cert.DwInIdeal.Gen.facts, Cert.DwInGradIdeal.Gen.facts,
    Cert.DwOut.Gen.facts, Cert.DwOutIdeal.Gen.facts, Cert.DwOutGradIdeal.Gen.facts,
    Cert.FfnLoss.Gen.facts, Cert.FfnLossIdeal.Gen.facts, Cert.LossRefIdeal.Gen.facts,
    Cert.OddFwd.Gen.facts, Cert.OddFwdIdeal.Gen.facts, Cert.OddRefIdeal.Gen.facts,
    Cert.OddBwd.Gen.facts, Cert.OddBwdIdeal.Gen.facts, Cert.OddGradIdeal.Gen.facts,
    Cert.FfnFwd.Gen.facts, Cert.FfnFwdIdeal.Gen.facts, Cert.FwdRefIdeal.Gen.facts,
    Cert.Pre_finite.Gen.facts, Cert.Pre_loss_finite.Gen.facts, Cert.Pre_odd_finite.Gen.facts,
    fun m ρ _ => Cert.FfnBwd.Gen.frame m ρ, fun m ρ _ => Cert.FfnBwdIdeal.Gen.frame m ρ, fun m ρ _ => Cert.FfnBwdIdeal.Gen.frame m ρ,
    FfnClaim.frame_grad, fun m ρ _ => FfnClaim.frame_grad m ρ trivial,
    fun m ρ _ => Cert.DwHid.Gen.frame m ρ, fun m ρ _ => Cert.DwHidIdeal.Gen.frame m ρ, DwHidClaim.frame_grad,
    fun m ρ _ => Cert.DwDown.Gen.frame m ρ, fun m ρ _ => Cert.DwDownIdeal.Gen.frame m ρ, DwDownClaim.frame_grad,
    fun m ρ _ => Cert.DwIn.Gen.frame m ρ, fun m ρ _ => Cert.DwInIdeal.Gen.frame m ρ, DwInClaim.frame_grad,
    fun m ρ _ => Cert.DwOut.Gen.frame m ρ, fun m ρ _ => Cert.DwOutIdeal.Gen.frame m ρ, DwOutClaim.frame_grad,
    fun m ρ _ => Cert.FfnLoss.Gen.frame m ρ, fun m ρ _ => Cert.FfnLossIdeal.Gen.frame m ρ, fun m ρ _ => Cert.FfnLossIdeal.Gen.frame m ρ,
    LossClaim.frame_ref, fun m ρ _ => LossClaim.frame_ref m ρ trivial,
    fun m ρ _ => Cert.OddFwd.Gen.frame m ρ, fun m ρ _ => Cert.OddFwdIdeal.Gen.frame m ρ, OddClaim.frame_ref,
    fun m ρ _ => Cert.OddBwd.Gen.frame m ρ, fun m ρ _ => Cert.OddBwdIdeal.Gen.frame m ρ, fun m ρ _ => Cert.OddBwdIdeal.Gen.frame m ρ,
    OddBwdClaim.frame_ref, fun m ρ _ => OddBwdClaim.frame_ref m ρ trivial,
    fun m ρ _ => Cert.FfnFwd.Gen.frame m ρ, fun m ρ _ => Cert.FfnFwdIdeal.Gen.frame m ρ, FwdClaim.frame_ref,
    trivial, FfnClaim.algebraic, trivial, DwHidClaim.algebraic, trivial, DwDownClaim.algebraic, trivial, DwInClaim.algebraic, trivial, DwOutClaim.algebraic,
    trivial, LossClaim.algebraic, trivial, OddClaim.algebraic, trivial, OddBwdClaim.algebraic, trivial, FwdClaim.algebraic⟩

end Cert.Proof

end
